-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13)
      ∧ r.2.mem ((c.tc : Thread Cert.Kernel9.nD Cert.Kernel9.τ).loc Cert.Kernel9.main_arg14) = m ((c.tc : Thread Cert.Kernel9.nD Cert.Kernel9.τ).loc Cert.Kernel9.main_arg14)
      ∧ r.2.mem ((c.tc : Thread Cert.Kernel9.nD Cert.Kernel9.τ).loc Cert.Kernel9.main_arg15) = m ((c.tc : Thread Cert.Kernel9.nD Cert.Kernel9.τ).loc Cert.Kernel9.main_arg15))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
      ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
      ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13)
      ∧ r.2.mem ((c.tc : Thread Cert.Reference9Ideal.nD Cert.Reference9Ideal.τ).loc Cert.Reference9Ideal.main_arg14) = m ((c.tc : Thread Cert.Reference9Ideal.nD Cert.Reference9Ideal.τ).loc Cert.Reference9Ideal.main_arg14)
      ∧ r.2.mem ((c.tc : Thread Cert.Reference9Ideal.nD Cert.Reference9Ideal.τ).loc Cert.Reference9Ideal.main_arg15) = m ((c.tc : Thread Cert.Reference9Ideal.nD Cert.Reference9Ideal.τ).loc Cert.Reference9Ideal.main_arg15))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11)
      ∧ r.2.mem ((c.tc : Thread Cert.Kernel10.nD Cert.Kernel10.τ).loc Cert.Kernel10.main_arg12) = m ((c.tc : Thread Cert.Kernel10.nD Cert.Kernel10.τ).loc Cert.Kernel10.main_arg12)
      ∧ r.2.mem ((c.tc : Thread Cert.Kernel10.nD Cert.Kernel10.τ).loc Cert.Kernel10.main_arg13) = m ((c.tc : Thread Cert.Kernel10.nD Cert.Kernel10.τ).loc Cert.Kernel10.main_arg13)
      ∧ r.2.mem ((c.tc : Thread Cert.Kernel10.nD Cert.Kernel10.τ).loc Cert.Kernel10.main_arg14) = m ((c.tc : Thread Cert.Kernel10.nD Cert.Kernel10.τ).loc Cert.Kernel10.main_arg14)
      ∧ r.2.mem ((c.tc : Thread Cert.Kernel10.nD Cert.Kernel10.τ).loc Cert.Kernel10.main_arg15) = m ((c.tc : Thread Cert.Kernel10.nD Cert.Kernel10.τ).loc Cert.Kernel10.main_arg15))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
      ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
      ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13)
      ∧ r.2.mem ((c.tc : Thread Cert.Reference10Ideal.nD Cert.Reference10Ideal.τ).loc Cert.Reference10Ideal.main_arg14) = m ((c.tc : Thread Cert.Reference10Ideal.nD Cert.Reference10Ideal.τ).loc Cert.Reference10Ideal.main_arg14)
      ∧ r.2.mem ((c.tc : Thread Cert.Reference10Ideal.nD Cert.Reference10Ideal.τ).loc Cert.Reference10Ideal.main_arg15) = m ((c.tc : Thread Cert.Reference10Ideal.nD Cert.Reference10Ideal.τ).loc Cert.Reference10Ideal.main_arg15))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11)
      ∧ r.2.mem ((c.tc : Thread Cert.Kernel11.nD Cert.Kernel11.τ).loc Cert.Kernel11.main_arg12) = m ((c.tc : Thread Cert.Kernel11.nD Cert.Kernel11.τ).loc Cert.Kernel11.main_arg12)
      ∧ r.2.mem ((c.tc : Thread Cert.Kernel11.nD Cert.Kernel11.τ).loc Cert.Kernel11.main_arg13) = m ((c.tc : Thread Cert.Kernel11.nD Cert.Kernel11.τ).loc Cert.Kernel11.main_arg13)
      ∧ r.2.mem ((c.tc : Thread Cert.Kernel11.nD Cert.Kernel11.τ).loc Cert.Kernel11.main_arg14) = m ((c.tc : Thread Cert.Kernel11.nD Cert.Kernel11.τ).loc Cert.Kernel11.main_arg14)
      ∧ r.2.mem ((c.tc : Thread Cert.Kernel11.nD Cert.Kernel11.τ).loc Cert.Kernel11.main_arg15) = m ((c.tc : Thread Cert.Kernel11.nD Cert.Kernel11.τ).loc Cert.Kernel11.main_arg15))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
      ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
      ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
      ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
      ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11)
      ∧ r.2.mem ((c.tc : Thread Cert.Reference11Ideal.nD Cert.Reference11Ideal.τ).loc Cert.Reference11Ideal.main_arg12) = m ((c.tc : Thread Cert.Reference11Ideal.nD Cert.Reference11Ideal.τ).loc Cert.Reference11Ideal.main_arg12)
      ∧ r.2.mem ((c.tc : Thread Cert.Reference11Ideal.nD Cert.Reference11Ideal.τ).loc Cert.Reference11Ideal.main_arg13) = m ((c.tc : Thread Cert.Reference11Ideal.nD Cert.Reference11Ideal.τ).loc Cert.Reference11Ideal.main_arg13)
      ∧ r.2.mem ((c.tc : Thread Cert.Reference11Ideal.nD Cert.Reference11Ideal.τ).loc Cert.Reference11Ideal.main_arg14) = m ((c.tc : Thread Cert.Reference11Ideal.nD Cert.Reference11Ideal.τ).loc Cert.Reference11Ideal.main_arg14)
      ∧ r.2.mem ((c.tc : Thread Cert.Reference11Ideal.nD Cert.Reference11Ideal.τ).loc Cert.Reference11Ideal.main_arg15) = m ((c.tc : Thread Cert.Reference11Ideal.nD Cert.Reference11Ideal.τ).loc Cert.Reference11Ideal.main_arg15))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9)
      ∧ r.2.mem ((c.tc : Thread Cert.Kernel16.nD Cert.Kernel16.τ).loc Cert.Kernel16.main_arg10) = m ((c.tc : Thread Cert.Kernel16.nD Cert.Kernel16.τ).loc Cert.Kernel16.main_arg10)
      ∧ r.2.mem ((c.tc : Thread Cert.Kernel16.nD Cert.Kernel16.τ).loc Cert.Kernel16.main_arg11) = m ((c.tc : Thread Cert.Kernel16.nD Cert.Kernel16.τ).loc Cert.Kernel16.main_arg11)
      ∧ r.2.mem ((c.tc : Thread Cert.Kernel16.nD Cert.Kernel16.τ).loc Cert.Kernel16.main_arg12) = m ((c.tc : Thread Cert.Kernel16.nD Cert.Kernel16.τ).loc Cert.Kernel16.main_arg12)
      ∧ r.2.mem ((c.tc : Thread Cert.Kernel16.nD Cert.Kernel16.τ).loc Cert.Kernel16.main_arg13) = m ((c.tc : Thread Cert.Kernel16.nD Cert.Kernel16.τ).loc Cert.Kernel16.main_arg13)
      ∧ r.2.mem ((c.tc : Thread Cert.Kernel16.nD Cert.Kernel16.τ).loc Cert.Kernel16.main_arg14) = m ((c.tc : Thread Cert.Kernel16.nD Cert.Kernel16.τ).loc Cert.Kernel16.main_arg14)
      ∧ r.2.mem ((c.tc : Thread Cert.Kernel16.nD Cert.Kernel16.τ).loc Cert.Kernel16.main_arg15) = m ((c.tc : Thread Cert.Kernel16.nD Cert.Kernel16.τ).loc Cert.Kernel16.main_arg15)
      ∧ r.2.mem ((c.tc : Thread Cert.Kernel16.nD Cert.Kernel16.τ).loc Cert.Kernel16.main_arg16) = m ((c.tc : Thread Cert.Kernel16.nD Cert.Kernel16.τ).loc Cert.Kernel16.main_arg16)
      ∧ r.2.mem ((c.tc : Thread Cert.Kernel16.nD Cert.Kernel16.τ).loc Cert.Kernel16.main_arg17) = m ((c.tc : Thread Cert.Kernel16.nD Cert.Kernel16.τ).loc Cert.Kernel16.main_arg17)
      ∧ r.2.mem ((c.tc : Thread Cert.Kernel16.nD Cert.Kernel16.τ).loc Cert.Kernel16.main_arg18) = m ((c.tc : Thread Cert.Kernel16.nD Cert.Kernel16.τ).loc Cert.Kernel16.main_arg18))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
      ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
      ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11)
      ∧ r.2.mem ((c.tc : Thread Cert.Kernel16Ideal.nD Cert.Kernel16Ideal.τ).loc Cert.Kernel16Ideal.main_arg12) = m ((c.tc : Thread Cert.Kernel16Ideal.nD Cert.Kernel16Ideal.τ).loc Cert.Kernel16Ideal.main_arg12)
      ∧ r.2.mem ((c.tc : Thread Cert.Kernel16Ideal.nD Cert.Kernel16Ideal.τ).loc Cert.Kernel16Ideal.main_arg13) = m ((c.tc : Thread Cert.Kernel16Ideal.nD Cert.Kernel16Ideal.τ).loc Cert.Kernel16Ideal.main_arg13)
      ∧ r.2.mem ((c.tc : Thread Cert.Kernel16Ideal.nD Cert.Kernel16Ideal.τ).loc Cert.Kernel16Ideal.main_arg14) = m ((c.tc : Thread Cert.Kernel16Ideal.nD Cert.Kernel16Ideal.τ).loc Cert.Kernel16Ideal.main_arg14)
      ∧ r.2.mem ((c.tc : Thread Cert.Kernel16Ideal.nD Cert.Kernel16Ideal.τ).loc Cert.Kernel16Ideal.main_arg15) = m ((c.tc : Thread Cert.Kernel16Ideal.nD Cert.Kernel16Ideal.τ).loc Cert.Kernel16Ideal.main_arg15)
      ∧ r.2.mem ((c.tc : Thread Cert.Kernel16Ideal.nD Cert.Kernel16Ideal.τ).loc Cert.Kernel16Ideal.main_arg16) = m ((c.tc : Thread Cert.Kernel16Ideal.nD Cert.Kernel16Ideal.τ).loc Cert.Kernel16Ideal.main_arg16)
      ∧ r.2.mem ((c.tc : Thread Cert.Kernel16Ideal.nD Cert.Kernel16Ideal.τ).loc Cert.Kernel16Ideal.main_arg17) = m ((c.tc : Thread Cert.Kernel16Ideal.nD Cert.Kernel16Ideal.τ).loc Cert.Kernel16Ideal.main_arg17)
      ∧ r.2.mem ((c.tc : Thread Cert.Kernel16Ideal.nD Cert.Kernel16Ideal.τ).loc Cert.Kernel16Ideal.main_arg18) = m ((c.tc : Thread Cert.Kernel16Ideal.nD Cert.Kernel16Ideal.τ).loc Cert.Kernel16Ideal.main_arg18))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)) (v6 : (c : Dev Cert.KernelIdeal.nD) → Buf (Elt Ideal) ((c.tc : Thread Cert.KernelIdeal.nD Cert.KernelIdeal.τ).loc Cert.KernelIdeal.main_v9_6)) (v7 : (c : Dev Cert.KernelIdeal.nD) → Buf (Elt Ideal) ((c.tc : Thread Cert.KernelIdeal.nD Cert.KernelIdeal.τ).loc Cert.KernelIdeal.main_v9_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_v9_6) = v6 c
          ∧ r.2.mem ((c.tc : Thread Cert.KernelIdeal.nD Cert.KernelIdeal.τ).loc Cert.KernelIdeal.main_v9_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_v57) = v5 c
          ∧ r.2.mem ((c.tc : Thread Cert.ReferenceIdeal.nD Cert.ReferenceIdeal.τ).loc Cert.ReferenceIdeal.main_v81) = v6 c
          ∧ r.2.mem ((c.tc : Thread Cert.ReferenceIdeal.nD Cert.ReferenceIdeal.τ).loc Cert.ReferenceIdeal.main_v103) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v18) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v31_0)) (v1 : (c : Dev Cert.Kernel6Ideal.nD) → Buf (Elt Ideal) ((c.tc : Thread Cert.Kernel6Ideal.nD Cert.Kernel6Ideal.τ).loc Cert.Kernel6Ideal.main_v31_1)) (v2 : (c : Dev Cert.Kernel6Ideal.nD) → Buf (Elt Ideal) ((c.tc : Thread Cert.Kernel6Ideal.nD Cert.Kernel6Ideal.τ).loc Cert.Kernel6Ideal.main_v31_2)) (v3 : (c : Dev Cert.Kernel6Ideal.nD) → Buf (Elt Ideal) ((c.tc : Thread Cert.Kernel6Ideal.nD Cert.Kernel6Ideal.τ).loc Cert.Kernel6Ideal.main_v31_3)) (v4 : (c : Dev Cert.Kernel6Ideal.nD) → Buf (Elt Ideal) ((c.tc : Thread Cert.Kernel6Ideal.nD Cert.Kernel6Ideal.τ).loc Cert.Kernel6Ideal.main_v31_4)) (v5 : (c : Dev Cert.Kernel6Ideal.nD) → Buf (Elt Ideal) ((c.tc : Thread Cert.Kernel6Ideal.nD Cert.Kernel6Ideal.τ).loc Cert.Kernel6Ideal.main_v31_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v31_0) = v0 c
          ∧ r.2.mem ((c.tc : Thread Cert.Kernel6Ideal.nD Cert.Kernel6Ideal.τ).loc Cert.Kernel6Ideal.main_v31_1) = v1 c
          ∧ r.2.mem ((c.tc : Thread Cert.Kernel6Ideal.nD Cert.Kernel6Ideal.τ).loc Cert.Kernel6Ideal.main_v31_2) = v2 c
          ∧ r.2.mem ((c.tc : Thread Cert.Kernel6Ideal.nD Cert.Kernel6Ideal.τ).loc Cert.Kernel6Ideal.main_v31_3) = v3 c
          ∧ r.2.mem ((c.tc : Thread Cert.Kernel6Ideal.nD Cert.Kernel6Ideal.τ).loc Cert.Kernel6Ideal.main_v31_4) = v4 c
          ∧ r.2.mem ((c.tc : Thread Cert.Kernel6Ideal.nD Cert.Kernel6Ideal.τ).loc Cert.Kernel6Ideal.main_v31_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v79) = v0 c
          ∧ r.2.mem ((c.tc : Thread Cert.Reference6Ideal.nD Cert.Reference6Ideal.τ).loc Cert.Reference6Ideal.main_v78) = v1 c
          ∧ r.2.mem ((c.tc : Thread Cert.Reference6Ideal.nD Cert.Reference6Ideal.τ).loc Cert.Reference6Ideal.main_v45) = v2 c
          ∧ r.2.mem ((c.tc : Thread Cert.Reference6Ideal.nD Cert.Reference6Ideal.τ).loc Cert.Reference6Ideal.main_v82) = v3 c
          ∧ r.2.mem ((c.tc : Thread Cert.Reference6Ideal.nD Cert.Reference6Ideal.τ).loc Cert.Reference6Ideal.main_v85) = v4 c
          ∧ r.2.mem ((c.tc : Thread Cert.Reference6Ideal.nD Cert.Reference6Ideal.τ).loc Cert.Reference6Ideal.main_v86) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v12_1)) (v1 : (c : Dev Cert.Kernel7Ideal.nD) → Buf (Elt Ideal) ((c.tc : Thread Cert.Kernel7Ideal.nD Cert.Kernel7Ideal.τ).loc Cert.Kernel7Ideal.main_v12_2)) (v2 : (c : Dev Cert.Kernel7Ideal.nD) → Buf (Elt Ideal) ((c.tc : Thread Cert.Kernel7Ideal.nD Cert.Kernel7Ideal.τ).loc Cert.Kernel7Ideal.main_v12_3)) (v3 : (c : Dev Cert.Kernel7Ideal.nD) → Buf (Elt Ideal) ((c.tc : Thread Cert.Kernel7Ideal.nD Cert.Kernel7Ideal.τ).loc Cert.Kernel7Ideal.main_v12_5)) (v4 : (c : Dev Cert.Kernel7Ideal.nD) → Buf (Elt Ideal) ((c.tc : Thread Cert.Kernel7Ideal.nD Cert.Kernel7Ideal.τ).loc Cert.Kernel7Ideal.main_v12_6)) (v5 : (c : Dev Cert.Kernel7Ideal.nD) → Buf (Elt Ideal) ((c.tc : Thread Cert.Kernel7Ideal.nD Cert.Kernel7Ideal.τ).loc Cert.Kernel7Ideal.main_v12_7)) (v6 : (c : Dev Cert.Kernel7Ideal.nD) → Buf (Elt Ideal) ((c.tc : Thread Cert.Kernel7Ideal.nD Cert.Kernel7Ideal.τ).loc Cert.Kernel7Ideal.main_v12_9)) (v7 : (c : Dev Cert.Kernel7Ideal.nD) → Buf (Elt Ideal) ((c.tc : Thread Cert.Kernel7Ideal.nD Cert.Kernel7Ideal.τ).loc Cert.Kernel7Ideal.main_v12_10)) (v8 : (c : Dev Cert.Kernel7Ideal.nD) → Buf (Elt Ideal) ((c.tc : Thread Cert.Kernel7Ideal.nD Cert.Kernel7Ideal.τ).loc Cert.Kernel7Ideal.main_v12_11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12_1) = v0 c
          ∧ r.2.mem ((c.tc : Thread Cert.Kernel7Ideal.nD Cert.Kernel7Ideal.τ).loc Cert.Kernel7Ideal.main_v12_2) = v1 c
          ∧ r.2.mem ((c.tc : Thread Cert.Kernel7Ideal.nD Cert.Kernel7Ideal.τ).loc Cert.Kernel7Ideal.main_v12_3) = v2 c
          ∧ r.2.mem ((c.tc : Thread Cert.Kernel7Ideal.nD Cert.Kernel7Ideal.τ).loc Cert.Kernel7Ideal.main_v12_5) = v3 c
          ∧ r.2.mem ((c.tc : Thread Cert.Kernel7Ideal.nD Cert.Kernel7Ideal.τ).loc Cert.Kernel7Ideal.main_v12_6) = v4 c
          ∧ r.2.mem ((c.tc : Thread Cert.Kernel7Ideal.nD Cert.Kernel7Ideal.τ).loc Cert.Kernel7Ideal.main_v12_7) = v5 c
          ∧ r.2.mem ((c.tc : Thread Cert.Kernel7Ideal.nD Cert.Kernel7Ideal.τ).loc Cert.Kernel7Ideal.main_v12_9) = v6 c
          ∧ r.2.mem ((c.tc : Thread Cert.Kernel7Ideal.nD Cert.Kernel7Ideal.τ).loc Cert.Kernel7Ideal.main_v12_10) = v7 c
          ∧ r.2.mem ((c.tc : Thread Cert.Kernel7Ideal.nD Cert.Kernel7Ideal.τ).loc Cert.Kernel7Ideal.main_v12_11) = v8 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_v51) = v3 c
          ∧ r.2.mem ((c.tc : Thread Cert.Reference7Ideal.nD Cert.Reference7Ideal.τ).loc Cert.Reference7Ideal.main_v52) = v4 c
          ∧ r.2.mem ((c.tc : Thread Cert.Reference7Ideal.nD Cert.Reference7Ideal.τ).loc Cert.Reference7Ideal.main_v53) = v5 c
          ∧ r.2.mem ((c.tc : Thread Cert.Reference7Ideal.nD Cert.Reference7Ideal.τ).loc Cert.Reference7Ideal.main_v78) = v6 c
          ∧ r.2.mem ((c.tc : Thread Cert.Reference7Ideal.nD Cert.Reference7Ideal.τ).loc Cert.Reference7Ideal.main_v79) = v7 c
          ∧ r.2.mem ((c.tc : Thread Cert.Reference7Ideal.nD Cert.Reference7Ideal.τ).loc Cert.Reference7Ideal.main_v80) = v8 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v8_1)) (v1 : (c : Dev Cert.Kernel8Ideal.nD) → Buf (Elt Ideal) ((c.tc : Thread Cert.Kernel8Ideal.nD Cert.Kernel8Ideal.τ).loc Cert.Kernel8Ideal.main_v8_2)) (v2 : (c : Dev Cert.Kernel8Ideal.nD) → Buf (Elt Ideal) ((c.tc : Thread Cert.Kernel8Ideal.nD Cert.Kernel8Ideal.τ).loc Cert.Kernel8Ideal.main_v8_3)) (v3 : (c : Dev Cert.Kernel8Ideal.nD) → Buf (Elt Ideal) ((c.tc : Thread Cert.Kernel8Ideal.nD Cert.Kernel8Ideal.τ).loc Cert.Kernel8Ideal.main_v8_5)) (v4 : (c : Dev Cert.Kernel8Ideal.nD) → Buf (Elt Ideal) ((c.tc : Thread Cert.Kernel8Ideal.nD Cert.Kernel8Ideal.τ).loc Cert.Kernel8Ideal.main_v8_6)) (v5 : (c : Dev Cert.Kernel8Ideal.nD) → Buf (Elt Ideal) ((c.tc : Thread Cert.Kernel8Ideal.nD Cert.Kernel8Ideal.τ).loc Cert.Kernel8Ideal.main_v8_7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_1) = v0 c
          ∧ r.2.mem ((c.tc : Thread Cert.Kernel8Ideal.nD Cert.Kernel8Ideal.τ).loc Cert.Kernel8Ideal.main_v8_2) = v1 c
          ∧ r.2.mem ((c.tc : Thread Cert.Kernel8Ideal.nD Cert.Kernel8Ideal.τ).loc Cert.Kernel8Ideal.main_v8_3) = v2 c
          ∧ r.2.mem ((c.tc : Thread Cert.Kernel8Ideal.nD Cert.Kernel8Ideal.τ).loc Cert.Kernel8Ideal.main_v8_5) = v3 c
          ∧ r.2.mem ((c.tc : Thread Cert.Kernel8Ideal.nD Cert.Kernel8Ideal.τ).loc Cert.Kernel8Ideal.main_v8_6) = v4 c
          ∧ r.2.mem ((c.tc : Thread Cert.Kernel8Ideal.nD Cert.Kernel8Ideal.τ).loc Cert.Kernel8Ideal.main_v8_7) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_v51) = v3 c
          ∧ r.2.mem ((c.tc : Thread Cert.Reference8Ideal.nD Cert.Reference8Ideal.τ).loc Cert.Reference8Ideal.main_v52) = v4 c
          ∧ r.2.mem ((c.tc : Thread Cert.Reference8Ideal.nD Cert.Reference8Ideal.τ).loc Cert.Reference8Ideal.main_v53) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)
      ∧ m' ((c.tc : Thread Cert.Reference9Ideal.nD Cert.Reference9Ideal.τ).loc Cert.Reference9Ideal.main_arg14) = m ((c.tc : Thread Cert.Kernel9Ideal.nD Cert.Kernel9Ideal.τ).loc Cert.Kernel9Ideal.main_arg14)
      ∧ m' ((c.tc : Thread Cert.Reference9Ideal.nD Cert.Reference9Ideal.τ).loc Cert.Reference9Ideal.main_arg15) = m ((c.tc : Thread Cert.Kernel9Ideal.nD Cert.Kernel9Ideal.τ).loc Cert.Kernel9Ideal.main_arg15)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)) (v5 : (c : Dev Cert.Kernel9Ideal.nD) → Buf (Elt Ideal) ((c.tc : Thread Cert.Kernel9Ideal.nD Cert.Kernel9Ideal.τ).loc Cert.Kernel9Ideal.main_v0_5)) (v6 : (c : Dev Cert.Kernel9Ideal.nD) → Buf (Elt Ideal) ((c.tc : Thread Cert.Kernel9Ideal.nD Cert.Kernel9Ideal.τ).loc Cert.Kernel9Ideal.main_v0_6)) (v7 : (c : Dev Cert.Kernel9Ideal.nD) → Buf (Elt Ideal) ((c.tc : Thread Cert.Kernel9Ideal.nD Cert.Kernel9Ideal.τ).loc Cert.Kernel9Ideal.main_v0_7)) (v8 : (c : Dev Cert.Kernel9Ideal.nD) → Buf (Elt Ideal) ((c.tc : Thread Cert.Kernel9Ideal.nD Cert.Kernel9Ideal.τ).loc Cert.Kernel9Ideal.main_v0_8)) (v9 : (c : Dev Cert.Kernel9Ideal.nD) → Buf (Elt Ideal) ((c.tc : Thread Cert.Kernel9Ideal.nD Cert.Kernel9Ideal.τ).loc Cert.Kernel9Ideal.main_v0_9)) (v10 : (c : Dev Cert.Kernel9Ideal.nD) → Buf (Elt Ideal) ((c.tc : Thread Cert.Kernel9Ideal.nD Cert.Kernel9Ideal.τ).loc Cert.Kernel9Ideal.main_v0_10)) (v11 : (c : Dev Cert.Kernel9Ideal.nD) → Buf (Elt Ideal) ((c.tc : Thread Cert.Kernel9Ideal.nD Cert.Kernel9Ideal.τ).loc Cert.Kernel9Ideal.main_v0_11)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_v0_5) = v5 c
          ∧ r.2.mem ((c.tc : Thread Cert.Kernel9Ideal.nD Cert.Kernel9Ideal.τ).loc Cert.Kernel9Ideal.main_v0_6) = v6 c
          ∧ r.2.mem ((c.tc : Thread Cert.Kernel9Ideal.nD Cert.Kernel9Ideal.τ).loc Cert.Kernel9Ideal.main_v0_7) = v7 c
          ∧ r.2.mem ((c.tc : Thread Cert.Kernel9Ideal.nD Cert.Kernel9Ideal.τ).loc Cert.Kernel9Ideal.main_v0_8) = v8 c
          ∧ r.2.mem ((c.tc : Thread Cert.Kernel9Ideal.nD Cert.Kernel9Ideal.τ).loc Cert.Kernel9Ideal.main_v0_9) = v9 c
          ∧ r.2.mem ((c.tc : Thread Cert.Kernel9Ideal.nD Cert.Kernel9Ideal.τ).loc Cert.Kernel9Ideal.main_v0_10) = v10 c
          ∧ r.2.mem ((c.tc : Thread Cert.Kernel9Ideal.nD Cert.Kernel9Ideal.τ).loc Cert.Kernel9Ideal.main_v0_11) = v11 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
          ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
          ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v47) = v1 c
          ∧ r.2.mem ((c.tc : Thread Cert.Reference9Ideal.nD Cert.Reference9Ideal.τ).loc Cert.Reference9Ideal.main_v71) = v2 c
          ∧ r.2.mem ((c.tc : Thread Cert.Reference9Ideal.nD Cert.Reference9Ideal.τ).loc Cert.Reference9Ideal.main_v95) = v3 c
          ∧ r.2.mem ((c.tc : Thread Cert.Reference9Ideal.nD Cert.Reference9Ideal.τ).loc Cert.Reference9Ideal.main_v4) = v4 c
          ∧ r.2.mem ((c.tc : Thread Cert.Reference9Ideal.nD Cert.Reference9Ideal.τ).loc Cert.Reference9Ideal.main_v28) = v5 c
          ∧ r.2.mem ((c.tc : Thread Cert.Reference9Ideal.nD Cert.Reference9Ideal.τ).loc Cert.Reference9Ideal.main_v52) = v6 c
          ∧ r.2.mem ((c.tc : Thread Cert.Reference9Ideal.nD Cert.Reference9Ideal.τ).loc Cert.Reference9Ideal.main_v76) = v7 c
          ∧ r.2.mem ((c.tc : Thread Cert.Reference9Ideal.nD Cert.Reference9Ideal.τ).loc Cert.Reference9Ideal.main_v10) = v8 c
          ∧ r.2.mem ((c.tc : Thread Cert.Reference9Ideal.nD Cert.Reference9Ideal.τ).loc Cert.Reference9Ideal.main_v34) = v9 c
          ∧ r.2.mem ((c.tc : Thread Cert.Reference9Ideal.nD Cert.Reference9Ideal.τ).loc Cert.Reference9Ideal.main_v58) = v10 c
          ∧ r.2.mem ((c.tc : Thread Cert.Reference9Ideal.nD Cert.Reference9Ideal.τ).loc Cert.Reference9Ideal.main_v82) = v11 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13)
          ∧ r.2.mem ((c.tc : Thread Cert.Reference9Ideal.nD Cert.Reference9Ideal.τ).loc Cert.Reference9Ideal.main_arg14) = m' ((c.tc : Thread Cert.Reference9Ideal.nD Cert.Reference9Ideal.τ).loc Cert.Reference9Ideal.main_arg14)
          ∧ r.2.mem ((c.tc : Thread Cert.Reference9Ideal.nD Cert.Reference9Ideal.τ).loc Cert.Reference9Ideal.main_arg15) = m' ((c.tc : Thread Cert.Reference9Ideal.nD Cert.Reference9Ideal.τ).loc Cert.Reference9Ideal.main_arg15))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)
      ∧ m' ((c.tc : Thread Cert.Reference10Ideal.nD Cert.Reference10Ideal.τ).loc Cert.Reference10Ideal.main_arg12) = m ((c.tc : Thread Cert.Kernel10Ideal.nD Cert.Kernel10Ideal.τ).loc Cert.Kernel10Ideal.main_arg12)
      ∧ m' ((c.tc : Thread Cert.Reference10Ideal.nD Cert.Reference10Ideal.τ).loc Cert.Reference10Ideal.main_arg13) = m ((c.tc : Thread Cert.Kernel10Ideal.nD Cert.Kernel10Ideal.τ).loc Cert.Kernel10Ideal.main_arg13)
      ∧ m' ((c.tc : Thread Cert.Reference10Ideal.nD Cert.Reference10Ideal.τ).loc Cert.Reference10Ideal.main_arg14) = m ((c.tc : Thread Cert.Kernel10Ideal.nD Cert.Kernel10Ideal.τ).loc Cert.Kernel10Ideal.main_arg14)
      ∧ m' ((c.tc : Thread Cert.Reference10Ideal.nD Cert.Reference10Ideal.τ).loc Cert.Reference10Ideal.main_arg15) = m ((c.tc : Thread Cert.Kernel10Ideal.nD Cert.Kernel10Ideal.τ).loc Cert.Kernel10Ideal.main_arg15)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)) (v5 : (c : Dev Cert.Kernel10Ideal.nD) → Buf (Elt Ideal) ((c.tc : Thread Cert.Kernel10Ideal.nD Cert.Kernel10Ideal.τ).loc Cert.Kernel10Ideal.main_v0_5)) (v6 : (c : Dev Cert.Kernel10Ideal.nD) → Buf (Elt Ideal) ((c.tc : Thread Cert.Kernel10Ideal.nD Cert.Kernel10Ideal.τ).loc Cert.Kernel10Ideal.main_v0_6)) (v7 : (c : Dev Cert.Kernel10Ideal.nD) → Buf (Elt Ideal) ((c.tc : Thread Cert.Kernel10Ideal.nD Cert.Kernel10Ideal.τ).loc Cert.Kernel10Ideal.main_v0_7)) (v8 : (c : Dev Cert.Kernel10Ideal.nD) → Buf (Elt Ideal) ((c.tc : Thread Cert.Kernel10Ideal.nD Cert.Kernel10Ideal.τ).loc Cert.Kernel10Ideal.main_v0_8)) (v9 : (c : Dev Cert.Kernel10Ideal.nD) → Buf (Elt Ideal) ((c.tc : Thread Cert.Kernel10Ideal.nD Cert.Kernel10Ideal.τ).loc Cert.Kernel10Ideal.main_v0_9)) (v10 : (c : Dev Cert.Kernel10Ideal.nD) → Buf (Elt Ideal) ((c.tc : Thread Cert.Kernel10Ideal.nD Cert.Kernel10Ideal.τ).loc Cert.Kernel10Ideal.main_v0_10)) (v11 : (c : Dev Cert.Kernel10Ideal.nD) → Buf (Elt Ideal) ((c.tc : Thread Cert.Kernel10Ideal.nD Cert.Kernel10Ideal.τ).loc Cert.Kernel10Ideal.main_v0_11)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_v0_5) = v5 c
          ∧ r.2.mem ((c.tc : Thread Cert.Kernel10Ideal.nD Cert.Kernel10Ideal.τ).loc Cert.Kernel10Ideal.main_v0_6) = v6 c
          ∧ r.2.mem ((c.tc : Thread Cert.Kernel10Ideal.nD Cert.Kernel10Ideal.τ).loc Cert.Kernel10Ideal.main_v0_7) = v7 c
          ∧ r.2.mem ((c.tc : Thread Cert.Kernel10Ideal.nD Cert.Kernel10Ideal.τ).loc Cert.Kernel10Ideal.main_v0_8) = v8 c
          ∧ r.2.mem ((c.tc : Thread Cert.Kernel10Ideal.nD Cert.Kernel10Ideal.τ).loc Cert.Kernel10Ideal.main_v0_9) = v9 c
          ∧ r.2.mem ((c.tc : Thread Cert.Kernel10Ideal.nD Cert.Kernel10Ideal.τ).loc Cert.Kernel10Ideal.main_v0_10) = v10 c
          ∧ r.2.mem ((c.tc : Thread Cert.Kernel10Ideal.nD Cert.Kernel10Ideal.τ).loc Cert.Kernel10Ideal.main_v0_11) = v11 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
          ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
          ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
          ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
          ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v47) = v1 c
          ∧ r.2.mem ((c.tc : Thread Cert.Reference10Ideal.nD Cert.Reference10Ideal.τ).loc Cert.Reference10Ideal.main_v71) = v2 c
          ∧ r.2.mem ((c.tc : Thread Cert.Reference10Ideal.nD Cert.Reference10Ideal.τ).loc Cert.Reference10Ideal.main_v95) = v3 c
          ∧ r.2.mem ((c.tc : Thread Cert.Reference10Ideal.nD Cert.Reference10Ideal.τ).loc Cert.Reference10Ideal.main_v4) = v4 c
          ∧ r.2.mem ((c.tc : Thread Cert.Reference10Ideal.nD Cert.Reference10Ideal.τ).loc Cert.Reference10Ideal.main_v28) = v5 c
          ∧ r.2.mem ((c.tc : Thread Cert.Reference10Ideal.nD Cert.Reference10Ideal.τ).loc Cert.Reference10Ideal.main_v52) = v6 c
          ∧ r.2.mem ((c.tc : Thread Cert.Reference10Ideal.nD Cert.Reference10Ideal.τ).loc Cert.Reference10Ideal.main_v76) = v7 c
          ∧ r.2.mem ((c.tc : Thread Cert.Reference10Ideal.nD Cert.Reference10Ideal.τ).loc Cert.Reference10Ideal.main_v10) = v8 c
          ∧ r.2.mem ((c.tc : Thread Cert.Reference10Ideal.nD Cert.Reference10Ideal.τ).loc Cert.Reference10Ideal.main_v34) = v9 c
          ∧ r.2.mem ((c.tc : Thread Cert.Reference10Ideal.nD Cert.Reference10Ideal.τ).loc Cert.Reference10Ideal.main_v58) = v10 c
          ∧ r.2.mem ((c.tc : Thread Cert.Reference10Ideal.nD Cert.Reference10Ideal.τ).loc Cert.Reference10Ideal.main_v82) = v11 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11)
          ∧ r.2.mem ((c.tc : Thread Cert.Reference10Ideal.nD Cert.Reference10Ideal.τ).loc Cert.Reference10Ideal.main_arg12) = m' ((c.tc : Thread Cert.Reference10Ideal.nD Cert.Reference10Ideal.τ).loc Cert.Reference10Ideal.main_arg12)
          ∧ r.2.mem ((c.tc : Thread Cert.Reference10Ideal.nD Cert.Reference10Ideal.τ).loc Cert.Reference10Ideal.main_arg13) = m' ((c.tc : Thread Cert.Reference10Ideal.nD Cert.Reference10Ideal.τ).loc Cert.Reference10Ideal.main_arg13)
          ∧ r.2.mem ((c.tc : Thread Cert.Reference10Ideal.nD Cert.Reference10Ideal.τ).loc Cert.Reference10Ideal.main_arg14) = m' ((c.tc : Thread Cert.Reference10Ideal.nD Cert.Reference10Ideal.τ).loc Cert.Reference10Ideal.main_arg14)
          ∧ r.2.mem ((c.tc : Thread Cert.Reference10Ideal.nD Cert.Reference10Ideal.τ).loc Cert.Reference10Ideal.main_arg15) = m' ((c.tc : Thread Cert.Reference10Ideal.nD Cert.Reference10Ideal.τ).loc Cert.Reference10Ideal.main_arg15))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)
      ∧ m' ((c.tc : Thread Cert.Reference11Ideal.nD Cert.Reference11Ideal.τ).loc Cert.Reference11Ideal.main_arg12) = m ((c.tc : Thread Cert.Kernel11Ideal.nD Cert.Kernel11Ideal.τ).loc Cert.Kernel11Ideal.main_arg12)
      ∧ m' ((c.tc : Thread Cert.Reference11Ideal.nD Cert.Reference11Ideal.τ).loc Cert.Reference11Ideal.main_arg13) = m ((c.tc : Thread Cert.Kernel11Ideal.nD Cert.Kernel11Ideal.τ).loc Cert.Kernel11Ideal.main_arg13)
      ∧ m' ((c.tc : Thread Cert.Reference11Ideal.nD Cert.Reference11Ideal.τ).loc Cert.Reference11Ideal.main_arg14) = m ((c.tc : Thread Cert.Kernel11Ideal.nD Cert.Kernel11Ideal.τ).loc Cert.Kernel11Ideal.main_arg14)
      ∧ m' ((c.tc : Thread Cert.Reference11Ideal.nD Cert.Reference11Ideal.τ).loc Cert.Reference11Ideal.main_arg15) = m ((c.tc : Thread Cert.Kernel11Ideal.nD Cert.Kernel11Ideal.τ).loc Cert.Kernel11Ideal.main_arg15)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)) (v6 : (c : Dev Cert.Kernel11Ideal.nD) → Buf (Elt Ideal) ((c.tc : Thread Cert.Kernel11Ideal.nD Cert.Kernel11Ideal.τ).loc Cert.Kernel11Ideal.main_v0_6)) (v7 : (c : Dev Cert.Kernel11Ideal.nD) → Buf (Elt Ideal) ((c.tc : Thread Cert.Kernel11Ideal.nD Cert.Kernel11Ideal.τ).loc Cert.Kernel11Ideal.main_v0_7)) (v8 : (c : Dev Cert.Kernel11Ideal.nD) → Buf (Elt Ideal) ((c.tc : Thread Cert.Kernel11Ideal.nD Cert.Kernel11Ideal.τ).loc Cert.Kernel11Ideal.main_v0_8)) (v9 : (c : Dev Cert.Kernel11Ideal.nD) → Buf (Elt Ideal) ((c.tc : Thread Cert.Kernel11Ideal.nD Cert.Kernel11Ideal.τ).loc Cert.Kernel11Ideal.main_v0_9)) (v10 : (c : Dev Cert.Kernel11Ideal.nD) → Buf (Elt Ideal) ((c.tc : Thread Cert.Kernel11Ideal.nD Cert.Kernel11Ideal.τ).loc Cert.Kernel11Ideal.main_v0_10)) (v11 : (c : Dev Cert.Kernel11Ideal.nD) → Buf (Elt Ideal) ((c.tc : Thread Cert.Kernel11Ideal.nD Cert.Kernel11Ideal.τ).loc Cert.Kernel11Ideal.main_v0_11)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_v0_6) = v6 c
          ∧ r.2.mem ((c.tc : Thread Cert.Kernel11Ideal.nD Cert.Kernel11Ideal.τ).loc Cert.Kernel11Ideal.main_v0_7) = v7 c
          ∧ r.2.mem ((c.tc : Thread Cert.Kernel11Ideal.nD Cert.Kernel11Ideal.τ).loc Cert.Kernel11Ideal.main_v0_8) = v8 c
          ∧ r.2.mem ((c.tc : Thread Cert.Kernel11Ideal.nD Cert.Kernel11Ideal.τ).loc Cert.Kernel11Ideal.main_v0_9) = v9 c
          ∧ r.2.mem ((c.tc : Thread Cert.Kernel11Ideal.nD Cert.Kernel11Ideal.τ).loc Cert.Kernel11Ideal.main_v0_10) = v10 c
          ∧ r.2.mem ((c.tc : Thread Cert.Kernel11Ideal.nD Cert.Kernel11Ideal.τ).loc Cert.Kernel11Ideal.main_v0_11) = v11 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
          ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
          ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
          ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
          ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v47) = v1 c
          ∧ r.2.mem ((c.tc : Thread Cert.Reference11Ideal.nD Cert.Reference11Ideal.τ).loc Cert.Reference11Ideal.main_v71) = v2 c
          ∧ r.2.mem ((c.tc : Thread Cert.Reference11Ideal.nD Cert.Reference11Ideal.τ).loc Cert.Reference11Ideal.main_v95) = v3 c
          ∧ r.2.mem ((c.tc : Thread Cert.Reference11Ideal.nD Cert.Reference11Ideal.τ).loc Cert.Reference11Ideal.main_v4) = v4 c
          ∧ r.2.mem ((c.tc : Thread Cert.Reference11Ideal.nD Cert.Reference11Ideal.τ).loc Cert.Reference11Ideal.main_v28) = v5 c
          ∧ r.2.mem ((c.tc : Thread Cert.Reference11Ideal.nD Cert.Reference11Ideal.τ).loc Cert.Reference11Ideal.main_v52) = v6 c
          ∧ r.2.mem ((c.tc : Thread Cert.Reference11Ideal.nD Cert.Reference11Ideal.τ).loc Cert.Reference11Ideal.main_v76) = v7 c
          ∧ r.2.mem ((c.tc : Thread Cert.Reference11Ideal.nD Cert.Reference11Ideal.τ).loc Cert.Reference11Ideal.main_v10) = v8 c
          ∧ r.2.mem ((c.tc : Thread Cert.Reference11Ideal.nD Cert.Reference11Ideal.τ).loc Cert.Reference11Ideal.main_v34) = v9 c
          ∧ r.2.mem ((c.tc : Thread Cert.Reference11Ideal.nD Cert.Reference11Ideal.τ).loc Cert.Reference11Ideal.main_v58) = v10 c
          ∧ r.2.mem ((c.tc : Thread Cert.Reference11Ideal.nD Cert.Reference11Ideal.τ).loc Cert.Reference11Ideal.main_v82) = v11 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11)
          ∧ r.2.mem ((c.tc : Thread Cert.Reference11Ideal.nD Cert.Reference11Ideal.τ).loc Cert.Reference11Ideal.main_arg12) = m' ((c.tc : Thread Cert.Reference11Ideal.nD Cert.Reference11Ideal.τ).loc Cert.Reference11Ideal.main_arg12)
          ∧ r.2.mem ((c.tc : Thread Cert.Reference11Ideal.nD Cert.Reference11Ideal.τ).loc Cert.Reference11Ideal.main_arg13) = m' ((c.tc : Thread Cert.Reference11Ideal.nD Cert.Reference11Ideal.τ).loc Cert.Reference11Ideal.main_arg13)
          ∧ r.2.mem ((c.tc : Thread Cert.Reference11Ideal.nD Cert.Reference11Ideal.τ).loc Cert.Reference11Ideal.main_arg14) = m' ((c.tc : Thread Cert.Reference11Ideal.nD Cert.Reference11Ideal.τ).loc Cert.Reference11Ideal.main_arg14)
          ∧ r.2.mem ((c.tc : Thread Cert.Reference11Ideal.nD Cert.Reference11Ideal.τ).loc Cert.Reference11Ideal.main_arg15) = m' ((c.tc : Thread Cert.Reference11Ideal.nD Cert.Reference11Ideal.τ).loc Cert.Reference11Ideal.main_arg15))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v16_0)) (v1 : (c : Dev Cert.Kernel12Ideal.nD) → Buf (Elt Ideal) ((c.tc : Thread Cert.Kernel12Ideal.nD Cert.Kernel12Ideal.τ).loc Cert.Kernel12Ideal.main_v16_1)) (v2 : (c : Dev Cert.Kernel12Ideal.nD) → Buf (Elt Ideal) ((c.tc : Thread Cert.Kernel12Ideal.nD Cert.Kernel12Ideal.τ).loc Cert.Kernel12Ideal.main_v16_2)) (v3 : (c : Dev Cert.Kernel12Ideal.nD) → Buf (Elt Ideal) ((c.tc : Thread Cert.Kernel12Ideal.nD Cert.Kernel12Ideal.τ).loc Cert.Kernel12Ideal.main_v16_3)) (v4 : (c : Dev Cert.Kernel12Ideal.nD) → Buf (Elt Ideal) ((c.tc : Thread Cert.Kernel12Ideal.nD Cert.Kernel12Ideal.τ).loc Cert.Kernel12Ideal.main_v16_4)) (v5 : (c : Dev Cert.Kernel12Ideal.nD) → Buf (Elt Ideal) ((c.tc : Thread Cert.Kernel12Ideal.nD Cert.Kernel12Ideal.τ).loc Cert.Kernel12Ideal.main_v16_5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v16_0) = v0 c
          ∧ r.2.mem ((c.tc : Thread Cert.Kernel12Ideal.nD Cert.Kernel12Ideal.τ).loc Cert.Kernel12Ideal.main_v16_1) = v1 c
          ∧ r.2.mem ((c.tc : Thread Cert.Kernel12Ideal.nD Cert.Kernel12Ideal.τ).loc Cert.Kernel12Ideal.main_v16_2) = v2 c
          ∧ r.2.mem ((c.tc : Thread Cert.Kernel12Ideal.nD Cert.Kernel12Ideal.τ).loc Cert.Kernel12Ideal.main_v16_3) = v3 c
          ∧ r.2.mem ((c.tc : Thread Cert.Kernel12Ideal.nD Cert.Kernel12Ideal.τ).loc Cert.Kernel12Ideal.main_v16_4) = v4 c
          ∧ r.2.mem ((c.tc : Thread Cert.Kernel12Ideal.nD Cert.Kernel12Ideal.τ).loc Cert.Kernel12Ideal.main_v16_5) = v5 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v49) = v0 c
          ∧ r.2.mem ((c.tc : Thread Cert.Reference12Ideal.nD Cert.Reference12Ideal.τ).loc Cert.Reference12Ideal.main_v51) = v1 c
          ∧ r.2.mem ((c.tc : Thread Cert.Reference12Ideal.nD Cert.Reference12Ideal.τ).loc Cert.Reference12Ideal.main_v53) = v2 c
          ∧ r.2.mem ((c.tc : Thread Cert.Reference12Ideal.nD Cert.Reference12Ideal.τ).loc Cert.Reference12Ideal.main_v55) = v3 c
          ∧ r.2.mem ((c.tc : Thread Cert.Reference12Ideal.nD Cert.Reference12Ideal.τ).loc Cert.Reference12Ideal.main_v57) = v4 c
          ∧ r.2.mem ((c.tc : Thread Cert.Reference12Ideal.nD Cert.Reference12Ideal.τ).loc Cert.Reference12Ideal.main_v59) = v5 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)) →
    ∃ (v0 : (c : Dev Cert.Kernel13Ideal.nD) → Buf (Elt Ideal) ((c.tc : Thread Cert.Kernel13Ideal.nD Cert.Kernel13Ideal.τ).loc Cert.Kernel13Ideal.main_v16_0)) (v1 : (c : Dev Cert.Kernel13Ideal.nD) → Buf (Elt Ideal) ((c.tc : Thread Cert.Kernel13Ideal.nD Cert.Kernel13Ideal.τ).loc Cert.Kernel13Ideal.main_v16_1)) (v2 : (c : Dev Cert.Kernel13Ideal.nD) → Buf (Elt Ideal) ((c.tc : Thread Cert.Kernel13Ideal.nD Cert.Kernel13Ideal.τ).loc Cert.Kernel13Ideal.main_v16_2)) (v3 : (c : Dev Cert.Kernel13Ideal.nD) → Buf (Elt Ideal) ((c.tc : Thread Cert.Kernel13Ideal.nD Cert.Kernel13Ideal.τ).loc Cert.Kernel13Ideal.main_v16_3)) (v4 : (c : Dev Cert.Kernel13Ideal.nD) → Buf (Elt Ideal) ((c.tc : Thread Cert.Kernel13Ideal.nD Cert.Kernel13Ideal.τ).loc Cert.Kernel13Ideal.main_v16_4)) (v5 : (c : Dev Cert.Kernel13Ideal.nD) → Buf (Elt Ideal) ((c.tc : Thread Cert.Kernel13Ideal.nD Cert.Kernel13Ideal.τ).loc Cert.Kernel13Ideal.main_v16_5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v16_0) = v0 c
          ∧ r.2.mem ((c.tc : Thread Cert.Kernel13Ideal.nD Cert.Kernel13Ideal.τ).loc Cert.Kernel13Ideal.main_v16_1) = v1 c
          ∧ r.2.mem ((c.tc : Thread Cert.Kernel13Ideal.nD Cert.Kernel13Ideal.τ).loc Cert.Kernel13Ideal.main_v16_2) = v2 c
          ∧ r.2.mem ((c.tc : Thread Cert.Kernel13Ideal.nD Cert.Kernel13Ideal.τ).loc Cert.Kernel13Ideal.main_v16_3) = v3 c
          ∧ r.2.mem ((c.tc : Thread Cert.Kernel13Ideal.nD Cert.Kernel13Ideal.τ).loc Cert.Kernel13Ideal.main_v16_4) = v4 c
          ∧ r.2.mem ((c.tc : Thread Cert.Kernel13Ideal.nD Cert.Kernel13Ideal.τ).loc Cert.Kernel13Ideal.main_v16_5) = v5 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v49) = v0 c
          ∧ r.2.mem ((c.tc : Thread Cert.Reference13Ideal.nD Cert.Reference13Ideal.τ).loc Cert.Reference13Ideal.main_v51) = v1 c
          ∧ r.2.mem ((c.tc : Thread Cert.Reference13Ideal.nD Cert.Reference13Ideal.τ).loc Cert.Reference13Ideal.main_v53) = v2 c
          ∧ r.2.mem ((c.tc : Thread Cert.Reference13Ideal.nD Cert.Reference13Ideal.τ).loc Cert.Reference13Ideal.main_v55) = v3 c
          ∧ r.2.mem ((c.tc : Thread Cert.Reference13Ideal.nD Cert.Reference13Ideal.τ).loc Cert.Reference13Ideal.main_v57) = v4 c
          ∧ r.2.mem ((c.tc : Thread Cert.Reference13Ideal.nD Cert.Reference13Ideal.τ).loc Cert.Reference13Ideal.main_v59) = v5 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v8_1)) (v1 : (c : Dev Cert.Kernel14Ideal.nD) → Buf (Elt Ideal) ((c.tc : Thread Cert.Kernel14Ideal.nD Cert.Kernel14Ideal.τ).loc Cert.Kernel14Ideal.main_v8_2)) (v2 : (c : Dev Cert.Kernel14Ideal.nD) → Buf (Elt Ideal) ((c.tc : Thread Cert.Kernel14Ideal.nD Cert.Kernel14Ideal.τ).loc Cert.Kernel14Ideal.main_v8_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8_1) = v0 c
          ∧ r.2.mem ((c.tc : Thread Cert.Kernel14Ideal.nD Cert.Kernel14Ideal.τ).loc Cert.Kernel14Ideal.main_v8_2) = v1 c
          ∧ r.2.mem ((c.tc : Thread Cert.Kernel14Ideal.nD Cert.Kernel14Ideal.τ).loc Cert.Kernel14Ideal.main_v8_3) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v25) = v0 c
          ∧ r.2.mem ((c.tc : Thread Cert.Reference14Ideal.nD Cert.Reference14Ideal.τ).loc Cert.Reference14Ideal.main_v27) = v1 c
          ∧ r.2.mem ((c.tc : Thread Cert.Reference14Ideal.nD Cert.Reference14Ideal.τ).loc Cert.Reference14Ideal.main_v29) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
-- ==== Kernel.lean ====
abbrev S2048x1024 : Shape := ⟨2, ![2048, 1024]⟩
abbrev S1x1024 : Shape := ⟨2, ![1, 1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4x2x512x1024 : Shape := ⟨4, ![4, 2, 512, 1024]⟩
abbrev S4x1x512x1024 : Shape := ⟨4, ![4, 1, 512, 1024]⟩
abbrev S4x512x1024 : Shape := ⟨3, ![4, 512, 1024]⟩
abbrev S2048x4096 : Shape := ⟨2, ![2048, 4096]⟩
abbrev S1x128 : Shape := ⟨2, ![1, 128]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S256x512 : Shape := ⟨2, ![256, 512]⟩
abbrev S1x512x1024 : Shape := ⟨3, ![1, 512, 1024]⟩
abbrev S512x1024 : Shape := ⟨2, ![512, 1024]⟩
abbrev S1x256x1024 : Shape := ⟨3, ![1, 256, 1024]⟩
abbrev S1 : Shape := ⟨1, ![1]⟩
abbrev S1x1x1 : Shape := ⟨3, ![1, 1, 1]⟩
abbrev S1x1 : Shape := ⟨2, ![1, 1]⟩
abbrev S1024 : Shape := ⟨1, ![1024]⟩

abbrev nBuf : Space → Nat
  | .hbm => 23
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S1024x4096, .bf16⟩
  | .hbm, ⟨7, _⟩ => ⟨S1024x4x1024, .bf16⟩
  | .hbm, ⟨8, _⟩ => ⟨S4x1024x1024, .bf16⟩
  | .hbm, ⟨9, _⟩ => ⟨S4096x1024, .bf16⟩
  | .hbm, ⟨10, _⟩ => ⟨S4x2x512x1024, .bf16⟩
  | .hbm, ⟨11, _⟩ => ⟨S4x1x512x1024, .bf16⟩
  | .hbm, ⟨12, _⟩ => ⟨S4x512x1024, .bf16⟩
  | .hbm, ⟨13, _⟩ => ⟨S4x1x512x1024, .bf16⟩
  | .hbm, ⟨14, _⟩ => ⟨S4x512x1024, .bf16⟩
  | .hbm, ⟨15, _⟩ => ⟨S2048x1024, .f32⟩
  | .hbm, ⟨16, _⟩ => ⟨S2048x4096, .bf16⟩
  | .hbm, ⟨17, _⟩ => ⟨S2048x1024, .bf16⟩
  | .hbm, ⟨18, _⟩ => ⟨S2048x1024, .bf16⟩
  | .hbm, ⟨19, _⟩ => ⟨S2048x4096, .bf16⟩
  | .hbm, ⟨20, _⟩ => ⟨S1x1024, .f32⟩
  | .hbm, ⟨21, _⟩ => ⟨S1x1024, .f32⟩
  | .hbm, ⟨22, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S4x1024x1024, .bf16⟩
  | .local _ .vmem, ⟨7, _⟩ => ⟨S4x512x1024, .bf16⟩
  | .local _ .vmem, ⟨8, _⟩ => ⟨S4x512x1024, .bf16⟩
  | .local _ .vmem, ⟨9, _⟩ => ⟨S256x1024, .f32⟩
  | .local _ .vmem, ⟨10, _⟩ => ⟨S256x1024, .f32⟩
  | .local _ .vmem, ⟨11, _⟩ => ⟨S256x4096, .bf16⟩
  | .local _ .vmem, ⟨12, _⟩ => ⟨S256x4096, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x4096, .bf16⟩
  | .local _ .vmem, ⟨18, _⟩ => ⟨S256x4096, .bf16⟩
  | .local _ .vmem, ⟨19, _⟩ => ⟨S1x1024, .f32⟩
  | .local _ .vmem, ⟨20, _⟩ => ⟨S1x1024, .f32⟩
  | .local _ .vmem, ⟨21, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v9_5 : Ref sig .tc := ⟨.hbm, 20, rfl⟩
abbrev main_v9_6 : Ref sig .tc := ⟨.hbm, 21, rfl⟩
abbrev main_v9_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S2048x1024 : Shape := ⟨2, ![2048, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S1024 : Shape := ⟨1, ![1024]⟩
abbrev S1x128 : Shape := ⟨2, ![1, 128]⟩

abbrev nBuf : Space → Nat
  | .hbm => 140
  | .vmem => 0
  | .smem => 0
  | _ => 0

abbrev hbmTy0_0 (i : Nat) : BufTy := match i % 128 with
  | 0 => ⟨S2048x1024, .f32⟩
  | 1 => ⟨S2048x1024, .f32⟩
  | 2 => ⟨S1x1024, .f32⟩
  | 3 => ⟨S1x1024, .f32⟩
  | 4 => ⟨S1024x4096, .f32⟩
  | 5 => ⟨S4096x1024, .f32⟩
  | 6 => ⟨S2048x1024, .f32⟩
  | 7 => ⟨S_, .f32⟩
  | 8 => ⟨S2048, .f32⟩
  | 9 => ⟨S2048x1, .f32⟩
  | 10 => ⟨S_, .f32⟩
  | 11 => ⟨S2048x1, .f32⟩
  | 12 => ⟨S2048x1, .f32⟩
  | 13 => ⟨S_, .f32⟩
  | 14 => ⟨S2048x1, .f32⟩
  | 15 => ⟨S2048x1, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x1024, .f32⟩
  | 22 => ⟨S2048x1024, .f32⟩
  | 23 => ⟨S2048x1024, .f32⟩
  | 24 => ⟨S2048x1024, .f32⟩
  | 25 => ⟨S2048x4096, .f32⟩
  | 26 => ⟨S_, .f32⟩
  | 27 => ⟨S2048x4096, .f32⟩
  | 28 => ⟨S2048x4096, .f32⟩
  | 29 => ⟨S_, .f32⟩
  | 30 => ⟨S2048x4096, .f32⟩
  | 31 => ⟨S2048x4096, .i1⟩
  | 32 => ⟨S_, .f32⟩
  | 33 => ⟨S2048x4096, .f32⟩
  | 34 => ⟨S2048x4096, .f32⟩
  | 35 => ⟨S_, .f32⟩
  | 36 => ⟨S2048x4096, .f32⟩
  | 37 => ⟨S2048x4096, .f32⟩
  | 38 => ⟨S2048x1024, .f32⟩
  | 39 => ⟨S2048x1024, .f32⟩
  | 40 => ⟨S_, .f32⟩
  | 41 => ⟨S2048, .f32⟩
  | 42 => ⟨S2048x1, .f32⟩
  | 43 => ⟨S_, .f32⟩
  | 44 => ⟨S2048x1, .f32⟩
  | 45 => ⟨S2048x1, .f32⟩
  | 46 => ⟨S_, .f32⟩
  | 47 => ⟨S2048x1, .f32⟩
  | 48 => ⟨S2048x1, .f32⟩
  | 49 => ⟨S2048x1, .f32⟩
  | 50 => ⟨S2048x1, .f32⟩
  | 51 => ⟨S_, .f32⟩
  | 52 => ⟨S2048x1, .f32⟩
  | 53 => ⟨S2048x1, .f32⟩
  | 54 => ⟨S2048x1024, .f32⟩
  | 55 => ⟨S2048x1024, .f32⟩
  | 56 => ⟨S2048x1024, .f32⟩
  | 57 => ⟨S2048x1024, .f32⟩
  | 58 => ⟨S2048x1024, .f32⟩
  | 59 => ⟨S2048x1024, .f32⟩
  | 60 => ⟨S2048x1024, .f32⟩
  | 61 => ⟨S_, .f32⟩
  | 62 => ⟨S2048x1024, .f32⟩
  | 63 => ⟨S2048x1024, .f32⟩
  | 64 => ⟨S_, .f32⟩
  | 65 => ⟨S2048, .f32⟩
  | 66 => ⟨S_, .f32⟩
  | 67 => ⟨S2048, .f32⟩
  | 68 => ⟨S2048, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S2048, .f32⟩
  | 77 => ⟨S_, .f32⟩
  | 78 => ⟨S2048, .f32⟩
  | 79 => ⟨S2048, .f32⟩
  | 80 => ⟨S2048x1024, .f32⟩
  | 81 => ⟨S2048x1024, .f32⟩
  | 82 => ⟨S2048x1024, .f32⟩
  | 83 => ⟨S_, .f32⟩
  | 84 => ⟨S1024, .f32⟩
  | 85 => ⟨S1x1024, .f32⟩
  | 86 => ⟨S2048x1024, .f32⟩
  | 87 => ⟨S2048x1024, .f32⟩
  | 88 => ⟨S2048x1024, .f32⟩
  | 89 => ⟨S_, .f32⟩
  | 90 => ⟨S2048, .f32⟩
  | 91 => ⟨S2048x1, .f32⟩
  | 92 => ⟨S2048x1024, .f32⟩
  | 93 => ⟨S2048x1024, .f32⟩
  | 94 => ⟨S2048x1, .f32⟩
  | 95 => ⟨S_, .f32⟩
  | 96 => ⟨S2048x1, .f32⟩
  | 97 => ⟨S2048x1, .f32⟩
  | 98 => ⟨S_, .f32⟩
  | 99 => ⟨S2048, .f32⟩
  | 100 => ⟨S2048x1024, .f32⟩
  | 101 => ⟨S2048x1024, .f32⟩
  | 102 => ⟨S2048x1024, .f32⟩
  | 103 => ⟨S2048x1024, .f32⟩
  | 104 => ⟨S2048x1024, .f32⟩
  | 105 => ⟨S2048x4096, .f32⟩
  | 106 => ⟨S2048x4096, .f32⟩
  | 107 => ⟨S_, .f32⟩
  | 108 => ⟨S2048x4096, .f32⟩
  | 109 => ⟨S2048x4096, .f32⟩
  | 110 => ⟨S2048x1024, .f32⟩
  | 111 => ⟨S2048x1024, .f32⟩
  | 112 => ⟨S_, .f32⟩
  | 113 => ⟨S1024, .f32⟩
  | 114 => ⟨S1x1024, .f32⟩
  | 115 => ⟨S2048x1024, .f32⟩
  | 116 => ⟨S2048x1024, .f32⟩
  | 117 => ⟨S2048x1024, .f32⟩
  | 118 => ⟨S_, .f32⟩
  | 119 => ⟨S2048, .f32⟩
  | 120 => ⟨S2048x1, .f32⟩
  | 121 => ⟨S2048x1024, .f32⟩
  | 122 => ⟨S2048x1024, .f32⟩
  | 123 => ⟨S2048x1, .f32⟩
  | 124 => ⟨S_, .f32⟩
  | 125 => ⟨S2048x1, .f32⟩
  | 126 => ⟨S2048x1, .f32⟩
  | 127 => ⟨S_, .f32⟩
  | _ => ⟨S2048x1024, .f32⟩

abbrev hbmTy0_1 (i : Nat) : BufTy := match i % 128 with
  | 0 => ⟨S2048, .f32⟩
  | 1 => ⟨S2048x1024, .f32⟩
  | 2 => ⟨S2048x1024, .f32⟩
  | 3 => ⟨S2048x1024, .f32⟩
  | 4 => ⟨S2048x1024, .f32⟩
  | 5 => ⟨S2048x1024, .f32⟩
  | 6 => ⟨S2048x1024, .f32⟩
  | 7 => ⟨S2048x4096, .bf16⟩
  | 8 => ⟨S2048x1024, .bf16⟩
  | 9 => ⟨S2048x1024, .bf16⟩
  | 10 => ⟨S2048x4096, .bf16⟩
  | 11 => ⟨S1x128, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_cst_15 : Ref sig .tc := ⟨.hbm, 73, rfl⟩
abbrev main_cst_16 : Ref sig .tc := ⟨.hbm, 74, rfl⟩
abbrev main_v49 : Ref sig .tc := ⟨.hbm, 75, rfl⟩
abbrev main_v50 : Ref sig .tc := ⟨.hbm, 76, rfl⟩
abbrev main_cst_17 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_18 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_19 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_20 : Ref sig .tc := ⟨.hbm, 95, rfl⟩
abbrev main_v66 : Ref sig .tc := ⟨.hbm, 96, rfl⟩
abbrev main_v67 : Ref sig .tc := ⟨.hbm, 97, rfl⟩
abbrev main_cst_21 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_22 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_23 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_24 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_25 : Ref sig .tc := ⟨.hbm, 124, rfl⟩
abbrev main_v90 : Ref sig .tc := ⟨.hbm, 125, rfl⟩
abbrev main_v91 : Ref sig .tc := ⟨.hbm, 126, rfl⟩
abbrev main_cst_26 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩

abbrev nD : Nat := 1
abbrev τ : Topo := Topo.v7x

variable {F : FTy → Type} [FloatOps F]
-- ==== Kernel2.lean ====
abbrev S2048x1024 : Shape := ⟨2, ![2048, 1024]⟩
abbrev S1024x4096 : Shape := ⟨2, ![1024, 4096]⟩
abbrev S2048x4096 : Shape := ⟨2, ![2048, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S2048x1024, .bf16⟩
  | .hbm, ⟨4, _⟩ => ⟨S2048x4096, .bf16⟩
  | .hbm, ⟨5, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .bf16⟩
  | .local _ .vmem, ⟨4, _⟩ => ⟨S1x1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2048x1024 : Shape := ⟨2, ![2048, 1024]⟩
abbrev S1024x4096 : Shape := ⟨2, ![1024, 4096]⟩
abbrev S2048x4096 : Shape := ⟨2, ![2048, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S2048x4096, .f32⟩
  | .hbm, ⟨4, _⟩ => ⟨S4096x1024, .f32⟩
  | .hbm, ⟨5, _⟩ => ⟨S1024x4096, .f32⟩
  | .hbm, ⟨6, _⟩ => ⟨S1024x4x1024, .f32⟩
  | .hbm, ⟨7, _⟩ => ⟨S4x1024x1024, .f32⟩
  | .hbm, ⟨8, _⟩ => ⟨S4x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S2048x4096 : Shape := ⟨2, ![2048, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S2048x4096, .bf16⟩
  | .hbm, ⟨4, _⟩ => ⟨S2048x1024, .bf16⟩
  | .hbm, ⟨5, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x4096 : Shape := ⟨2, ![2048, 4096]⟩
abbrev S4096x1024 : Shape := ⟨2, ![4096, 1024]⟩
abbrev S2048x1024 : Shape := ⟨2, ![2048, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S2048x1024, .f32⟩
  | .hbm, ⟨4, _⟩ => ⟨S1024x4096, .f32⟩
  | .hbm, ⟨5, _⟩ => ⟨S4096x1024, .f32⟩
  | .hbm, ⟨6, _⟩ => ⟨S4096x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S2048x1024 : Shape := ⟨2, ![2048, 1024]⟩
abbrev S1x1024 : Shape := ⟨2, ![1, 1024]⟩
abbrev S1024x4624 : Shape := ⟨2, ![1024, 4624]⟩
abbrev S4624x1024 : Shape := ⟨2, ![4624, 1024]⟩
abbrev S4x1156x1024 : Shape := ⟨3, ![4, 1156, 1024]⟩
abbrev S2048x2688 : Shape := ⟨2, ![2048, 2688]⟩
abbrev S2048x2048 : Shape := ⟨2, ![2048, 2048]⟩
abbrev S256x1024 : Shape := ⟨2, ![256, 1024]⟩
abbrev S256x2688 : Shape := ⟨2, ![256, 2688]⟩
abbrev S256x2048 : Shape := ⟨2, ![256, 2048]⟩
abbrev S1x1156x1024 : Shape := ⟨3, ![1, 1156, 1024]⟩
abbrev S1156x1024 : Shape := ⟨2, ![1156, 1024]⟩
abbrev S256 : Shape := ⟨1, ![256]⟩
abbrev S256x1 : Shape := ⟨2, ![256, 1]⟩
abbrev S1536x1024 : Shape := ⟨2, ![1536, 1024]⟩
abbrev S256x1536 : Shape := ⟨2, ![256, 1536]⟩
abbrev S1024x1024 : Shape := ⟨2, ![1024, 1024]⟩
abbrev S128x1024 : Shape := ⟨2, ![128, 1024]⟩
abbrev S256x128 : Shape := ⟨2, ![256, 128]⟩

abbrev nBuf : Space → Nat
  | .hbm => 9
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4624, .f32⟩
  | .hbm, ⟨3, _⟩ => ⟨S1024x4624, .bf16⟩
  | .hbm, ⟨4, _⟩ => ⟨S4624x1024, .bf16⟩
  | .hbm, ⟨5, _⟩ => ⟨S4x1156x1024, .bf16⟩
  | .hbm, ⟨6, _⟩ => ⟨S2048x2688, .f32⟩
  | .hbm, ⟨7, _⟩ => ⟨S2048x2048, .f32⟩
  | .hbm, ⟨8, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1156x1024, .bf16⟩
  | .local _ .vmem, ⟨4, _⟩ => ⟨S256x2688, .f32⟩
  | .local _ .vmem, ⟨5, _⟩ => ⟨S256x2688, .f32⟩
  | .local _ .vmem, ⟨6, _⟩ => ⟨S256x2048, .f32⟩
  | .local _ .vmem, ⟨7, _⟩ => ⟨S256x2048, .f32⟩
  | .local _ .vmem, ⟨8, _⟩ => ⟨S256x1024, .bf16⟩
  | .local _ .vmem, ⟨9, _⟩ => ⟨S256x1024, .bf16⟩
  | .local _ .vmem, ⟨10, _⟩ => ⟨S4624x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1156x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S2048x1024 : Shape := ⟨2, ![2048, 1024]⟩
abbrev S1x1024 : Shape := ⟨2, ![1, 1024]⟩
abbrev S1024x4624 : Shape := ⟨2, ![1024, 4624]⟩
abbrev S_ : Shape := ⟨0, ![]⟩
abbrev S2048 : Shape := ⟨1, ![2048]⟩
abbrev S2048x1 : Shape := ⟨2, ![2048, 1]⟩
abbrev S2048x4624 : Shape := ⟨2, ![2048, 4624]⟩
abbrev S2048x1536 : Shape := ⟨2, ![2048, 1536]⟩
abbrev S2048x128 : Shape := ⟨2, ![2048, 128]⟩
abbrev S2048x2688 : Shape := ⟨2, ![2048, 2688]⟩
abbrev S2048x2048 : Shape := ⟨2, ![2048, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4624, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x4624, .f32⟩
  | .hbm, ⟨19, _⟩ => ⟨S2048x1536, .f32⟩
  | .hbm, ⟨20, _⟩ => ⟨S2048x1024, .f32⟩
  | .hbm, ⟨21, _⟩ => ⟨S2048x128, .f32⟩
  | .hbm, ⟨22, _⟩ => ⟨S2048x2688, .f32⟩
  | .hbm, ⟨23, _⟩ => ⟨S2048x2048, .f32⟩
  | .hbm, ⟨24, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel5.lean ====
abbrev S2048x1024 : Shape := ⟨2, ![2048, 1024]⟩
abbrev S1x1024 : Shape := ⟨2, ![1, 1024]⟩
abbrev S1024x4624 : Shape := ⟨2, ![1024, 4624]⟩
abbrev S2048x1536 : Shape := ⟨2, ![2048, 1536]⟩
abbrev S2048x16 : Shape := ⟨2, ![2048, 16]⟩
abbrev S2048x2048 : Shape := ⟨2, ![2048, 2048]⟩
abbrev S_ : Shape := ⟨0, ![]⟩
abbrev S2048x128 : Shape := ⟨2, ![2048, 128]⟩
abbrev S2048x2688 : Shape := ⟨2, ![2048, 2688]⟩
abbrev S4624x1024 : Shape := ⟨2, ![4624, 1024]⟩
abbrev S4x1156x1024 : Shape := ⟨3, ![4, 1156, 1024]⟩
abbrev S256x2688 : Shape := ⟨2, ![256, 2688]⟩
abbrev S256x2048 : Shape := ⟨2, ![256, 2048]⟩
abbrev S256x1024 : Shape := ⟨2, ![256, 1024]⟩
abbrev S1x1156x1024 : Shape := ⟨3, ![1, 1156, 1024]⟩
abbrev S1156x1024 : Shape := ⟨2, ![1156, 1024]⟩
abbrev S256x1536 : Shape := ⟨2, ![256, 1536]⟩
abbrev S1536x1024 : Shape := ⟨2, ![1536, 1024]⟩
abbrev S1024x1024 : Shape := ⟨2, ![1024, 1024]⟩
abbrev S256x128 : Shape := ⟨2, ![256, 128]⟩
abbrev S128x1024 : Shape := ⟨2, ![128, 1024]⟩
abbrev S256 : Shape := ⟨1, ![256]⟩
abbrev S256x1 : Shape := ⟨2, ![256, 1]⟩
abbrev S1024 : Shape := ⟨1, ![1024]⟩

abbrev nBuf : Space → Nat
  | .hbm => 19
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024x4624, .f32⟩
  | .hbm, ⟨4, _⟩ => ⟨S2048x1536, .f32⟩
  | .hbm, ⟨5, _⟩ => ⟨S2048x1024, .f32⟩
  | .hbm, ⟨6, _⟩ => ⟨S2048x16, .f32⟩
  | .hbm, ⟨7, _⟩ => ⟨S2048x2048, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x2688, .f32⟩
  | .hbm, ⟨12, _⟩ => ⟨S2048x2688, .bf16⟩
  | .hbm, ⟨13, _⟩ => ⟨S2048x2048, .bf16⟩
  | .hbm, ⟨14, _⟩ => ⟨S1024x4624, .bf16⟩
  | .hbm, ⟨15, _⟩ => ⟨S4624x1024, .bf16⟩
  | .hbm, ⟨16, _⟩ => ⟨S4x1156x1024, .bf16⟩
  | .hbm, ⟨17, _⟩ => ⟨S2048x1024, .f32⟩
  | .hbm, ⟨18, _⟩ => ⟨S1x1024, .f32⟩
  | .local _ .vmem, ⟨0, _⟩ => ⟨S256x2688, .bf16⟩
  | .local _ .vmem, ⟨1, _⟩ => ⟨S256x2688, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S4x1156x1024, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S4624x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1156x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S2048x1024 : Shape := ⟨2, ![2048, 1024]⟩
abbrev S1x1024 : Shape := ⟨2, ![1, 1024]⟩
abbrev S1024x4624 : Shape := ⟨2, ![1024, 4624]⟩
abbrev S2048x1536 : Shape := ⟨2, ![2048, 1536]⟩
abbrev S2048x16 : Shape := ⟨2, ![2048, 16]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S2048x4624 : Shape := ⟨2, ![2048, 4624]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024x4624, .f32⟩
  | .hbm, ⟨4, _⟩ => ⟨S2048x1536, .f32⟩
  | .hbm, ⟨5, _⟩ => ⟨S2048x1024, .f32⟩
  | .hbm, ⟨6, _⟩ => ⟨S2048x16, .f32⟩
  | .hbm, ⟨7, _⟩ => ⟨S2048x2048, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x4624, .f32⟩
  | .hbm, ⟨28, _⟩ => ⟨S2048x1536, .f32⟩
  | .hbm, ⟨29, _⟩ => ⟨S2048x16, .f32⟩
  | .hbm, ⟨30, _⟩ => ⟨S2048x1024, .f32⟩
  | .hbm, ⟨31, _⟩ => ⟨S2048x2048, .f32⟩
  | .hbm, ⟨32, _⟩ => ⟨S2048x4624, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel6.lean ====
abbrev S2048x1024 : Shape := ⟨2, ![2048, 1024]⟩
abbrev S2048x2048 : Shape := ⟨2, ![2048, 2048]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S2048x512 : Shape := ⟨2, ![2048, 512]⟩
abbrev S512x4x256 : Shape := ⟨3, ![512, 4, 256]⟩
abbrev S4x512x256 : Shape := ⟨3, ![4, 512, 256]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024 : Shape := ⟨1, ![1024]⟩
abbrev S256x512 : Shape := ⟨2, ![256, 512]⟩
abbrev S256x256 : Shape := ⟨2, ![256, 256]⟩
abbrev S1x512x256 : Shape := ⟨3, ![1, 512, 256]⟩
abbrev S512x256 : Shape := ⟨2, ![512, 256]⟩

abbrev nBuf : Space → Nat
  | .hbm => 48
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x512, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x512, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .bf16⟩
  | .hbm, ⟨34, _⟩ => ⟨S2048x1024, .bf16⟩
  | .hbm, ⟨35, _⟩ => ⟨S512x1024, .bf16⟩
  | .hbm, ⟨36, _⟩ => ⟨S512x4x256, .bf16⟩
  | .hbm, ⟨37, _⟩ => ⟨S4x512x256, .bf16⟩
  | .hbm, ⟨38, _⟩ => ⟨S512x1024, .bf16⟩
  | .hbm, ⟨39, _⟩ => ⟨S512x4x256, .bf16⟩
  | .hbm, ⟨40, _⟩ => ⟨S4x512x256, .bf16⟩
  | .hbm, ⟨41, _⟩ => ⟨S1024x1024, .bf16⟩
  | .hbm, ⟨42, _⟩ => ⟨S2048x2048, .bf16⟩
  | .hbm, ⟨43, _⟩ => ⟨S2048x1024, .f32⟩
  | .hbm, ⟨44, _⟩ => ⟨S1x1024, .f32⟩
  | .hbm, ⟨45, _⟩ => ⟨S4x512x256, .bf16⟩
  | .hbm, ⟨46, _⟩ => ⟨S4x512x256, .bf16⟩
  | .hbm, ⟨47, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S256x1024, .bf16⟩
  | .local _ .vmem, ⟨9, _⟩ => ⟨S256x1024, .bf16⟩
  | .local _ .vmem, ⟨10, _⟩ => ⟨S4x512x256, .bf16⟩
  | .local _ .vmem, ⟨11, _⟩ => ⟨S4x512x256, .bf16⟩
  | .local _ .vmem, ⟨12, _⟩ => ⟨S1024x1024, .bf16⟩
  | .local _ .vmem, ⟨13, _⟩ => ⟨S1x1024, .f32⟩
  | .local _ .vmem, ⟨14, _⟩ => ⟨S256x2048, .bf16⟩
  | .local _ .vmem, ⟨15, _⟩ => ⟨S256x2048, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S4x512x256, .bf16⟩
  | .local _ .vmem, ⟨20, _⟩ => ⟨S4x512x256, .bf16⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | .local _ .vmem, ⟨24, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31_0 : Ref sig .tc := ⟨.hbm, 42, rfl⟩
abbrev main_v31_1 : Ref sig .tc := ⟨.hbm, 43, rfl⟩
abbrev main_v31_2 : Ref sig .tc := ⟨.hbm, 44, rfl⟩
abbrev main_v31_3 : Ref sig .tc := ⟨.hbm, 45, rfl⟩
abbrev main_v31_4 : Ref sig .tc := ⟨.hbm, 46, rfl⟩
abbrev main_v31_5 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v266 : BitVec 1 := Scalar.cmpi .eq arg0 c7_i32
  let v267 : BitVec 32 := Scalar.extui v266
  let c0_i32_163 : BitVec 32 := 0#32
  let v268 : BitVec 1 := Scalar.cmpi .ne v267 c0_i32_163
  v268

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x512x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference6Ideal.lean ====
abbrev S2048x1024 : Shape := ⟨2, ![2048, 1024]⟩
abbrev S2048x2048 : Shape := ⟨2, ![2048, 2048]⟩
abbrev S512x1024 : Shape := ⟨2, ![512, 1024]⟩
abbrev S1024x1024 : Shape := ⟨2, ![1024, 1024]⟩
abbrev S1x1024 : Shape := ⟨2, ![1, 1024]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 108
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S1x1024, .f32⟩
  | .hbm, ⟨7, _⟩ => ⟨S2048x512, .f32⟩
  | .hbm, ⟨8, _⟩ => ⟨S2048x512, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S2048x1, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S2048x1024, .f32⟩
  | .hbm, ⟨71, _⟩ => ⟨S2048x1024, .f32⟩
  | .hbm, ⟨72, _⟩ => ⟨S2048x1, .f32⟩
  | .hbm, ⟨73, _⟩ => ⟨S_, .f32⟩
  | .hbm, ⟨74, _⟩ => ⟨S2048x1, .f32⟩
  | .hbm, ⟨75, _⟩ => ⟨S2048x1, .f32⟩
  | .hbm, ⟨76, _⟩ => ⟨S_, .f32⟩
  | .hbm, ⟨77, _⟩ => ⟨S2048, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S1024x1024, .f32⟩
  | .hbm, ⟨84, _⟩ => ⟨S1024x1024, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S1024x512, .f32⟩
  | .hbm, ⟨89, _⟩ => ⟨S512x1024, .f32⟩
  | .hbm, ⟨90, _⟩ => ⟨S2048x512, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S1024x512, .f32⟩
  | .hbm, ⟨95, _⟩ => ⟨S512x1024, .f32⟩
  | .hbm, ⟨96, _⟩ => ⟨S2048x512, .f32⟩
  | .hbm, ⟨97, _⟩ => ⟨S2048x1024, .f32⟩
  | .hbm, ⟨98, _⟩ => ⟨S2048x2048, .f32⟩
  | .hbm, ⟨99, _⟩ => ⟨S2048x1024, .f32⟩
  | .hbm, ⟨100, _⟩ => ⟨S2048x2048, .bf16⟩
  | .hbm, ⟨101, _⟩ => ⟨S512x4x256, .f32⟩
  | .hbm, ⟨102, _⟩ => ⟨S4x512x256, .f32⟩
  | .hbm, ⟨103, _⟩ => ⟨S4x512x256, .bf16⟩
  | .hbm, ⟨104, _⟩ => ⟨S512x4x256, .f32⟩
  | .hbm, ⟨105, _⟩ => ⟨S4x512x256, .f32⟩
  | .hbm, ⟨106, _⟩ => ⟨S4x512x256, .bf16⟩
  | .hbm, ⟨107, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩

abbrev nD : Nat := 1
abbrev τ : Topo := Topo.v7x

variable {F : FTy → Type} [FloatOps F]
-- ==== Kernel7.lean ====
abbrev S1x512x256 : Shape := ⟨3, ![1, 512, 256]⟩
abbrev S1x256x1024 : Shape := ⟨3, ![1, 256, 1024]⟩
abbrev S512x256 : Shape := ⟨2, ![512, 256]⟩
abbrev S256x1024 : Shape := ⟨2, ![256, 1024]⟩
abbrev S64x256 : Shape := ⟨2, ![64, 256]⟩
abbrev S32x1024 : Shape := ⟨2, ![32, 1024]⟩

abbrev nBuf : Space → Nat
  | .hbm => 36
  | .vmem => 48
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S1x512x256, .f32⟩
  | .hbm, ⟨4, _⟩ => ⟨S1x512x256, .f32⟩
  | .hbm, ⟨5, _⟩ => ⟨S1x512x256, .f32⟩
  | .hbm, ⟨6, _⟩ => ⟨S1x512x256, .f32⟩
  | .hbm, ⟨7, _⟩ => ⟨S1x512x256, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S512x256, .f32⟩
  | .hbm, ⟨13, _⟩ => ⟨S512x256, .f32⟩
  | .hbm, ⟨14, _⟩ => ⟨S256x1024, .f32⟩
  | .hbm, ⟨15, _⟩ => ⟨S512x256, .f32⟩
  | .hbm, ⟨16, _⟩ => ⟨S512x256, .f32⟩
  | .hbm, ⟨17, _⟩ => ⟨S256x1024, .f32⟩
  | .hbm, ⟨18, _⟩ => ⟨S512x256, .f32⟩
  | .hbm, ⟨19, _⟩ => ⟨S512x256, .f32⟩
  | .hbm, ⟨20, _⟩ => ⟨S256x1024, .f32⟩
  | .hbm, ⟨21, _⟩ => ⟨S512x256, .f32⟩
  | .hbm, ⟨22, _⟩ => ⟨S512x256, .f32⟩
  | .hbm, ⟨23, _⟩ => ⟨S256x1024, .f32⟩
  | .hbm, ⟨24, _⟩ => ⟨S512x256, .f32⟩
  | .hbm, ⟨25, _⟩ => ⟨S512x256, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S512x256, .f32⟩
  | .hbm, ⟨31, _⟩ => ⟨S512x256, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S256x1024, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | .local _ .vmem, ⟨16, _⟩ => ⟨S32x1024, .f32⟩
  | .local _ .vmem, ⟨17, _⟩ => ⟨S32x1024, .f32⟩
  | .local _ .vmem, ⟨18, _⟩ => ⟨S32x1024, .f32⟩
  | .local _ .vmem, ⟨19, _⟩ => ⟨S32x1024, .f32⟩
  | .local _ .vmem, ⟨20, _⟩ => ⟨S32x1024, .f32⟩
  | .local _ .vmem, ⟨21, _⟩ => ⟨S32x1024, .f32⟩
  | .local _ .vmem, ⟨22, _⟩ => ⟨S32x1024, .f32⟩
  | .local _ .vmem, ⟨23, _⟩ => ⟨S32x1024, .f32⟩
  | .local _ .vmem, ⟨24, _⟩ => ⟨S64x256, .f32⟩
  | .local _ .vmem, ⟨25, _⟩ => ⟨S64x256, .f32⟩
  | .local _ .vmem, ⟨26, _⟩ => ⟨S64x256, .f32⟩
  | .local _ .vmem, ⟨27, _⟩ => ⟨S64x256, .f32⟩
  | .local _ .vmem, ⟨28, _⟩ => ⟨S64x256, .f32⟩
  | .local _ .vmem, ⟨29, _⟩ => ⟨S64x256, .f32⟩
  | .local _ .vmem, ⟨30, _⟩ => ⟨S64x256, .f32⟩
  | .local _ .vmem, ⟨31, _⟩ => ⟨S64x256, .f32⟩
  | .local _ .vmem, ⟨32, _⟩ => ⟨S64x256, .f32⟩
  | .local _ .vmem, ⟨33, _⟩ => ⟨S64x256, .f32⟩
  | .local _ .vmem, ⟨34, _⟩ => ⟨S64x256, .f32⟩
  | .local _ .vmem, ⟨35, _⟩ => ⟨S64x256, .f32⟩
  | .local _ .vmem, ⟨36, _⟩ => ⟨S64x256, .f32⟩
  | .local _ .vmem, ⟨37, _⟩ => ⟨S64x256, .f32⟩
  | .local _ .vmem, ⟨38, _⟩ => ⟨S64x256, .f32⟩
  | .local _ .vmem, ⟨39, _⟩ => ⟨S64x256, .f32⟩
  | .local _ .vmem, ⟨40, _⟩ => ⟨S32x1024, .f32⟩
  | .local _ .vmem, ⟨41, _⟩ => ⟨S32x1024, .f32⟩
  | .local _ .vmem, ⟨42, _⟩ => ⟨S32x1024, .f32⟩
  | .local _ .vmem, ⟨43, _⟩ => ⟨S32x1024, .f32⟩
  | .local _ .vmem, ⟨44, _⟩ => ⟨S32x1024, .f32⟩
  | .local _ .vmem, ⟨45, _⟩ => ⟨S32x1024, .f32⟩
  | .local _ .vmem, ⟨46, _⟩ => ⟨S32x1024, .f32⟩
  | .local _ .vmem, ⟨47, _⟩ => ⟨S32x1024, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v12_6 : Ref sig .tc := ⟨.hbm, 30, rfl⟩
abbrev main_v12_7 : Ref sig .tc := ⟨.hbm, 31, rfl⟩
abbrev main_v12_8 : Ref sig .tc := ⟨.hbm, 32, rfl⟩
abbrev main_v12_9 : Ref sig .tc := ⟨.hbm, 33, rfl⟩
abbrev main_v12_10 : Ref sig .tc := ⟨.hbm, 34, rfl⟩
abbrev main_v12_11 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S32x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S32x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Kernel7Ideal.lean ====
abbrev S1x512x256 : Shape := ⟨3, ![1, 512, 256]⟩
abbrev S1x256x1024 : Shape := ⟨3, ![1, 256, 1024]⟩
abbrev S512x256 : Shape := ⟨2, ![512, 256]⟩
abbrev S256x1024 : Shape := ⟨2, ![256, 1024]⟩
abbrev S64x256 : Shape := ⟨2, ![64, 256]⟩
abbrev S32x1024 : Shape := ⟨2, ![32, 1024]⟩

abbrev nBuf : Space → Nat
  | .hbm => 36
  | .vmem => 48
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S1x512x256, .f32⟩
  | .hbm, ⟨4, _⟩ => ⟨S1x512x256, .f32⟩
  | .hbm, ⟨5, _⟩ => ⟨S1x512x256, .f32⟩
  | .hbm, ⟨6, _⟩ => ⟨S1x512x256, .f32⟩
  | .hbm, ⟨7, _⟩ => ⟨S1x512x256, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S512x256, .f32⟩
  | .hbm, ⟨13, _⟩ => ⟨S512x256, .f32⟩
  | .hbm, ⟨14, _⟩ => ⟨S256x1024, .f32⟩
  | .hbm, ⟨15, _⟩ => ⟨S512x256, .f32⟩
  | .hbm, ⟨16, _⟩ => ⟨S512x256, .f32⟩
  | .hbm, ⟨17, _⟩ => ⟨S256x1024, .f32⟩
  | .hbm, ⟨18, _⟩ => ⟨S512x256, .f32⟩
  | .hbm, ⟨19, _⟩ => ⟨S512x256, .f32⟩
  | .hbm, ⟨20, _⟩ => ⟨S256x1024, .f32⟩
  | .hbm, ⟨21, _⟩ => ⟨S512x256, .f32⟩
  | .hbm, ⟨22, _⟩ => ⟨S512x256, .f32⟩
  | .hbm, ⟨23, _⟩ => ⟨S256x1024, .f32⟩
  | .hbm, ⟨24, _⟩ => ⟨S512x256, .f32⟩
  | .hbm, ⟨25, _⟩ => ⟨S512x256, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S512x256, .f32⟩
  | .hbm, ⟨31, _⟩ => ⟨S512x256, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S256x1024, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | .local _ .vmem, ⟨16, _⟩ => ⟨S32x1024, .f32⟩
  | .local _ .vmem, ⟨17, _⟩ => ⟨S32x1024, .f32⟩
  | .local _ .vmem, ⟨18, _⟩ => ⟨S32x1024, .f32⟩
  | .local _ .vmem, ⟨19, _⟩ => ⟨S32x1024, .f32⟩
  | .local _ .vmem, ⟨20, _⟩ => ⟨S32x1024, .f32⟩
  | .local _ .vmem, ⟨21, _⟩ => ⟨S32x1024, .f32⟩
  | .local _ .vmem, ⟨22, _⟩ => ⟨S32x1024, .f32⟩
  | .local _ .vmem, ⟨23, _⟩ => ⟨S32x1024, .f32⟩
  | .local _ .vmem, ⟨24, _⟩ => ⟨S64x256, .f32⟩
  | .local _ .vmem, ⟨25, _⟩ => ⟨S64x256, .f32⟩
  | .local _ .vmem, ⟨26, _⟩ => ⟨S64x256, .f32⟩
  | .local _ .vmem, ⟨27, _⟩ => ⟨S64x256, .f32⟩
  | .local _ .vmem, ⟨28, _⟩ => ⟨S64x256, .f32⟩
  | .local _ .vmem, ⟨29, _⟩ => ⟨S64x256, .f32⟩
  | .local _ .vmem, ⟨30, _⟩ => ⟨S64x256, .f32⟩
  | .local _ .vmem, ⟨31, _⟩ => ⟨S64x256, .f32⟩
  | .local _ .vmem, ⟨32, _⟩ => ⟨S64x256, .f32⟩
  | .local _ .vmem, ⟨33, _⟩ => ⟨S64x256, .f32⟩
  | .local _ .vmem, ⟨34, _⟩ => ⟨S64x256, .f32⟩
  | .local _ .vmem, ⟨35, _⟩ => ⟨S64x256, .f32⟩
  | .local _ .vmem, ⟨36, _⟩ => ⟨S64x256, .f32⟩
  | .local _ .vmem, ⟨37, _⟩ => ⟨S64x256, .f32⟩
  | .local _ .vmem, ⟨38, _⟩ => ⟨S64x256, .f32⟩
  | .local _ .vmem, ⟨39, _⟩ => ⟨S64x256, .f32⟩
  | .local _ .vmem, ⟨40, _⟩ => ⟨S32x1024, .f32⟩
  | .local _ .vmem, ⟨41, _⟩ => ⟨S32x1024, .f32⟩
  | .local _ .vmem, ⟨42, _⟩ => ⟨S32x1024, .f32⟩
  | .local _ .vmem, ⟨43, _⟩ => ⟨S32x1024, .f32⟩
  | .local _ .vmem, ⟨44, _⟩ => ⟨S32x1024, .f32⟩
  | .local _ .vmem, ⟨45, _⟩ => ⟨S32x1024, .f32⟩
  | .local _ .vmem, ⟨46, _⟩ => ⟨S32x1024, .f32⟩
  | .local _ .vmem, ⟨47, _⟩ => ⟨S32x1024, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v12_6 : Ref sig .tc := ⟨.hbm, 30, rfl⟩
abbrev main_v12_7 : Ref sig .tc := ⟨.hbm, 31, rfl⟩
abbrev main_v12_8 : Ref sig .tc := ⟨.hbm, 32, rfl⟩
abbrev main_v12_9 : Ref sig .tc := ⟨.hbm, 33, rfl⟩
abbrev main_v12_10 : Ref sig .tc := ⟨.hbm, 34, rfl⟩
abbrev main_v12_11 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S32x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S32x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference7Ideal.lean ====
abbrev S1x512x256 : Shape := ⟨3, ![1, 512, 256]⟩
abbrev S1x256x1024 : Shape := ⟨3, ![1, 256, 1024]⟩
abbrev S_ : Shape := ⟨0, ![]⟩
abbrev S512x256 : Shape := ⟨2, ![512, 256]⟩
abbrev S256x1024 : Shape := ⟨2, ![256, 1024]⟩

abbrev nBuf : Space → Nat
  | .hbm => 120
  | .vmem => 0
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S1x512x256, .f32⟩
  | .hbm, ⟨4, _⟩ => ⟨S1x512x256, .f32⟩
  | .hbm, ⟨5, _⟩ => ⟨S1x512x256, .f32⟩
  | .hbm, ⟨6, _⟩ => ⟨S1x512x256, .f32⟩
  | .hbm, ⟨7, _⟩ => ⟨S1x512x256, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x512x256, .f32⟩
  | .hbm, ⟨14, _⟩ => ⟨S1x512x256, .f32⟩
  | .hbm, ⟨15, _⟩ => ⟨S_, .f32⟩
  | .hbm, ⟨16, _⟩ => ⟨S1x512x256, .f32⟩
  | .hbm, ⟨17, _⟩ => ⟨S1x512x256, .f32⟩
  | .hbm, ⟨18, _⟩ => ⟨S1x512x256, .f32⟩
  | .hbm, ⟨19, _⟩ => ⟨S_, .f32⟩
  | .hbm, ⟨20, _⟩ => ⟨S1x512x256, .f32⟩
  | .hbm, ⟨21, _⟩ => ⟨S1x512x256, .f32⟩
  | .hbm, ⟨22, _⟩ => ⟨S1x512x256, .f32⟩
  | .hbm, ⟨23, _⟩ => ⟨S_, .f32⟩
  | .hbm, ⟨24, _⟩ => ⟨S1x512x256, .f32⟩
  | .hbm, ⟨25, _⟩ => ⟨S1x512x256, .f32⟩
  | .hbm, ⟨26, _⟩ => ⟨S1x512x256, .f32⟩
  | .hbm, ⟨27, _⟩ => ⟨S_, .f32⟩
  | .hbm, ⟨28, _⟩ => ⟨S1x512x256, .f32⟩
  | .hbm, ⟨29, _⟩ => ⟨S1x512x256, .f32⟩
  | .hbm, ⟨30, _⟩ => ⟨S_, .f32⟩
  | .hbm, ⟨31, _⟩ => ⟨S1x512x256, .f32⟩
  | .hbm, ⟨32, _⟩ => ⟨S1x512x256, .f32⟩
  | .hbm, ⟨33, _⟩ => ⟨S1x512x256, .f32⟩
  | .hbm, ⟨34, _⟩ => ⟨S_, .f32⟩
  | .hbm, ⟨35, _⟩ => ⟨S1x512x256, .f32⟩
  | .hbm, ⟨36, _⟩ => ⟨S1x512x256, .f32⟩
  | .hbm, ⟨37, _⟩ => ⟨S1x512x256, .f32⟩
  | .hbm, ⟨38, _⟩ => ⟨S_, .f32⟩
  | .hbm, ⟨39, _⟩ => ⟨S1x512x256, .f32⟩
  | .hbm, ⟨40, _⟩ => ⟨S1x512x256, .f32⟩
  | .hbm, ⟨41, _⟩ => ⟨S1x512x256, .f32⟩
  | .hbm, ⟨42, _⟩ => ⟨S_, .f32⟩
  | .hbm, ⟨43, _⟩ => ⟨S1x512x256, .f32⟩
  | .hbm, ⟨44, _⟩ => ⟨S1x512x256, .f32⟩
  | .hbm, ⟨45, _⟩ => ⟨S512x256, .f32⟩
  | .hbm, ⟨46, _⟩ => ⟨S512x256, .f32⟩
  | .hbm, ⟨47, _⟩ => ⟨S512x256, .f32⟩
  | .hbm, ⟨48, _⟩ => ⟨S_, .f32⟩
  | .hbm, ⟨49, _⟩ => ⟨S1x512x256, .f32⟩
  | .hbm, ⟨50, _⟩ => ⟨S1x512x256, .f32⟩
  | .hbm, ⟨51, _⟩ => ⟨S_, .f32⟩
  | .hbm, ⟨52, _⟩ => ⟨S1x512x256, .f32⟩
  | .hbm, ⟨53, _⟩ => ⟨S1x512x256, .f32⟩
  | .hbm, ⟨54, _⟩ => ⟨S1x512x256, .f32⟩
  | .hbm, ⟨55, _⟩ => ⟨S_, .f32⟩
  | .hbm, ⟨56, _⟩ => ⟨S1x512x256, .f32⟩
  | .hbm, ⟨57, _⟩ => ⟨S1x512x256, .f32⟩
  | .hbm, ⟨58, _⟩ => ⟨S1x512x256, .f32⟩
  | .hbm, ⟨59, _⟩ => ⟨S_, .f32⟩
  | .hbm, ⟨60, _⟩ => ⟨S1x512x256, .f32⟩
  | .hbm, ⟨61, _⟩ => ⟨S1x512x256, .f32⟩
  | .hbm, ⟨62, _⟩ => ⟨S1x512x256, .f32⟩
  | .hbm, ⟨63, _⟩ => ⟨S_, .f32⟩
  | .hbm, ⟨64, _⟩ => ⟨S1x512x256, .f32⟩
  | .hbm, ⟨65, _⟩ => ⟨S1x512x256, .f32⟩
  | .hbm, ⟨66, _⟩ => ⟨S_, .f32⟩
  | .hbm, ⟨67, _⟩ => ⟨S1x512x256, .f32⟩
  | .hbm, ⟨68, _⟩ => ⟨S1x512x256, .f32⟩
  | .hbm, ⟨69, _⟩ => ⟨S1x512x256, .f32⟩
  | .hbm, ⟨70, _⟩ => ⟨S_, .f32⟩
  | .hbm, ⟨71, _⟩ => ⟨S1x512x256, .f32⟩
  | .hbm, ⟨72, _⟩ => ⟨S1x512x256, .f32⟩
  | .hbm, ⟨73, _⟩ => ⟨S1x512x256, .f32⟩
  | .hbm, ⟨74, _⟩ => ⟨S_, .f32⟩
  | .hbm, ⟨75, _⟩ => ⟨S1x512x256, .f32⟩
  | .hbm, ⟨76, _⟩ => ⟨S1x512x256, .f32⟩
  | .hbm, ⟨77, _⟩ => ⟨S1x512x256, .f32⟩
  | .hbm, ⟨78, _⟩ => ⟨S_, .f32⟩
  | .hbm, ⟨79, _⟩ => ⟨S1x512x256, .f32⟩
  | .hbm, ⟨80, _⟩ => ⟨S1x512x256, .f32⟩
  | .hbm, ⟨81, _⟩ => ⟨S512x256, .f32⟩
  | .hbm, ⟨82, _⟩ => ⟨S512x256, .f32⟩
  | .hbm, ⟨83, _⟩ => ⟨S512x256, .f32⟩
  | .hbm, ⟨84, _⟩ => ⟨S_, .f32⟩
  | .hbm, ⟨85, _⟩ => ⟨S1x256x1024, .f32⟩
  | .hbm, ⟨86, _⟩ => ⟨S1x256x1024, .f32⟩
  | .hbm, ⟨87, _⟩ => ⟨S_, .f32⟩
  | .hbm, ⟨88, _⟩ => ⟨S1x256x1024, .f32⟩
  | .hbm, ⟨89, _⟩ => ⟨S1x256x1024, .f32⟩
  | .hbm, ⟨90, _⟩ => ⟨S1x256x1024, .f32⟩
  | .hbm, ⟨91, _⟩ => ⟨S_, .f32⟩
  | .hbm, ⟨92, _⟩ => ⟨S1x256x1024, .f32⟩
  | .hbm, ⟨93, _⟩ => ⟨S1x256x1024, .f32⟩
  | .hbm, ⟨94, _⟩ => ⟨S1x256x1024, .f32⟩
  | .hbm, ⟨95, _⟩ => ⟨S_, .f32⟩
  | .hbm, ⟨96, _⟩ => ⟨S1x256x1024, .f32⟩
  | .hbm, ⟨97, _⟩ => ⟨S1x256x1024, .f32⟩
  | .hbm, ⟨98, _⟩ => ⟨S1x256x1024, .f32⟩
  | .hbm, ⟨99, _⟩ => ⟨S_, .f32⟩
  | .hbm, ⟨100, _⟩ => ⟨S1x256x1024, .f32⟩
  | .hbm, ⟨101, _⟩ => ⟨S1x256x1024, .f32⟩
  | .hbm, ⟨102, _⟩ => ⟨S_, .f32⟩
  | .hbm, ⟨103, _⟩ => ⟨S1x256x1024, .f32⟩
  | .hbm, ⟨104, _⟩ => ⟨S1x256x1024, .f32⟩
  | .hbm, ⟨105, _⟩ => ⟨S1x256x1024, .f32⟩
  | .hbm, ⟨106, _⟩ => ⟨S_, .f32⟩
  | .hbm, ⟨107, _⟩ => ⟨S1x256x1024, .f32⟩
  | .hbm, ⟨108, _⟩ => ⟨S1x256x1024, .f32⟩
  | .hbm, ⟨109, _⟩ => ⟨S1x256x1024, .f32⟩
  | .hbm, ⟨110, _⟩ => ⟨S_, .f32⟩
  | .hbm, ⟨111, _⟩ => ⟨S1x256x1024, .f32⟩
  | .hbm, ⟨112, _⟩ => ⟨S1x256x1024, .f32⟩
  | .hbm, ⟨113, _⟩ => ⟨S1x256x1024, .f32⟩
  | .hbm, ⟨114, _⟩ => ⟨S_, .f32⟩
  | .hbm, ⟨115, _⟩ => ⟨S1x256x1024, .f32⟩
  | .hbm, ⟨116, _⟩ => ⟨S1x256x1024, .f32⟩
  | .hbm, ⟨117, _⟩ => ⟨S256x1024, .f32⟩
  | .hbm, ⟨118, _⟩ => ⟨S256x1024, .f32⟩
  | .hbm, ⟨119, _⟩ => ⟨S256x1024, .f32⟩
  | _, _ => ⟨S1x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_8 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_10 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_12 : Ref sig .tc := ⟨.hbm, 63, rfl⟩
abbrev main_v38 : Ref sig .tc := ⟨.hbm, 64, rfl⟩
abbrev main_v39 : Ref sig .tc := ⟨.hbm, 65, rfl⟩
abbrev main_cst_13 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_14 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_15 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_16 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_17 : Ref sig .tc := ⟨.hbm, 84, rfl⟩
abbrev main_v54 : Ref sig .tc := ⟨.hbm, 85, rfl⟩
abbrev main_v55 : Ref sig .tc := ⟨.hbm, 86, rfl⟩
abbrev main_cst_18 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_19 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_20 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_21 : Ref sig .tc := ⟨.hbm, 99, rfl⟩
abbrev main_v65 : Ref sig .tc := ⟨.hbm, 100, rfl⟩
abbrev main_v66 : Ref sig .tc := ⟨.hbm, 101, rfl⟩
abbrev main_cst_22 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_23 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_24 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_25 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩

abbrev nD : Nat := 1
abbrev τ : Topo := Topo.v7x

variable {F : FTy → Type} [FloatOps F]
-- ==== Kernel8.lean ====
abbrev S1x1024x1024 : Shape := ⟨3, ![1, 1024, 1024]⟩
abbrev S1024x1024 : Shape := ⟨2, ![1024, 1024]⟩
abbrev S128x1024 : Shape := ⟨2, ![128, 1024]⟩

abbrev nBuf : Space → Nat
  | .hbm => 24
  | .vmem => 32
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v8_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference8Ideal.lean ====
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 80
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S_, .f32⟩
  | .hbm, ⟨9, _⟩ => ⟨S1x1024x1024, .f32⟩
  | .hbm, ⟨10, _⟩ => ⟨S1x1024x1024, .f32⟩
  | .hbm, ⟨11, _⟩ => ⟨S_, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S_, .f32⟩
  | .hbm, ⟨16, _⟩ => ⟨S1x1024x1024, .f32⟩
  | .hbm, ⟨17, _⟩ => ⟨S1x1024x1024, .f32⟩
  | .hbm, ⟨18, _⟩ => ⟨S1x1024x1024, .f32⟩
  | .hbm, ⟨19, _⟩ => ⟨S_, .f32⟩
  | .hbm, ⟨20, _⟩ => ⟨S1x1024x1024, .f32⟩
  | .hbm, ⟨21, _⟩ => ⟨S1x1024x1024, .f32⟩
  | .hbm, ⟨22, _⟩ => ⟨S1x1024x1024, .f32⟩
  | .hbm, ⟨23, _⟩ => ⟨S_, .f32⟩
  | .hbm, ⟨24, _⟩ => ⟨S1x1024x1024, .f32⟩
  | .hbm, ⟨25, _⟩ => ⟨S1x1024x1024, .f32⟩
  | .hbm, ⟨26, _⟩ => ⟨S_, .f32⟩
  | .hbm, ⟨27, _⟩ => ⟨S1x1024x1024, .f32⟩
  | .hbm, ⟨28, _⟩ => ⟨S1x1024x1024, .f32⟩
  | .hbm, ⟨29, _⟩ => ⟨S1x1024x1024, .f32⟩
  | .hbm, ⟨30, _⟩ => ⟨S_, .f32⟩
  | .hbm, ⟨31, _⟩ => ⟨S1x1024x1024, .f32⟩
  | .hbm, ⟨32, _⟩ => ⟨S1x1024x1024, .f32⟩
  | .hbm, ⟨33, _⟩ => ⟨S1x1024x1024, .f32⟩
  | .hbm, ⟨34, _⟩ => ⟨S_, .f32⟩
  | .hbm, ⟨35, _⟩ => ⟨S1x1024x1024, .f32⟩
  | .hbm, ⟨36, _⟩ => ⟨S1x1024x1024, .f32⟩
  | .hbm, ⟨37, _⟩ => ⟨S1x1024x1024, .f32⟩
  | .hbm, ⟨38, _⟩ => ⟨S_, .f32⟩
  | .hbm, ⟨39, _⟩ => ⟨S1x1024x1024, .f32⟩
  | .hbm, ⟨40, _⟩ => ⟨S1x1024x1024, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S1x1024x1024, .f32⟩
  | .hbm, ⟨46, _⟩ => ⟨S1x1024x1024, .f32⟩
  | .hbm, ⟨47, _⟩ => ⟨S_, .f32⟩
  | .hbm, ⟨48, _⟩ => ⟨S1x1024x1024, .f32⟩
  | .hbm, ⟨49, _⟩ => ⟨S1x1024x1024, .f32⟩
  | .hbm, ⟨50, _⟩ => ⟨S1x1024x1024, .f32⟩
  | .hbm, ⟨51, _⟩ => ⟨S_, .f32⟩
  | .hbm, ⟨52, _⟩ => ⟨S1x1024x1024, .f32⟩
  | .hbm, ⟨53, _⟩ => ⟨S1x1024x1024, .f32⟩
  | .hbm, ⟨54, _⟩ => ⟨S1x1024x1024, .f32⟩
  | .hbm, ⟨55, _⟩ => ⟨S_, .f32⟩
  | .hbm, ⟨56, _⟩ => ⟨S1x1024x1024, .f32⟩
  | .hbm, ⟨57, _⟩ => ⟨S1x1024x1024, .f32⟩
  | .hbm, ⟨58, _⟩ => ⟨S1x1024x1024, .f32⟩
  | .hbm, ⟨59, _⟩ => ⟨S_, .f32⟩
  | .hbm, ⟨60, _⟩ => ⟨S1x1024x1024, .f32⟩
  | .hbm, ⟨61, _⟩ => ⟨S1x1024x1024, .f32⟩
  | .hbm, ⟨62, _⟩ => ⟨S_, .f32⟩
  | .hbm, ⟨63, _⟩ => ⟨S1x1024x1024, .f32⟩
  | .hbm, ⟨64, _⟩ => ⟨S1x1024x1024, .f32⟩
  | .hbm, ⟨65, _⟩ => ⟨S1x1024x1024, .f32⟩
  | .hbm, ⟨66, _⟩ => ⟨S_, .f32⟩
  | .hbm, ⟨67, _⟩ => ⟨S1x1024x1024, .f32⟩
  | .hbm, ⟨68, _⟩ => ⟨S1x1024x1024, .f32⟩
  | .hbm, ⟨69, _⟩ => ⟨S1x1024x1024, .f32⟩
  | .hbm, ⟨70, _⟩ => ⟨S_, .f32⟩
  | .hbm, ⟨71, _⟩ => ⟨S1x1024x1024, .f32⟩
  | .hbm, ⟨72, _⟩ => ⟨S1x1024x1024, .f32⟩
  | .hbm, ⟨73, _⟩ => ⟨S1x1024x1024, .f32⟩
  | .hbm, ⟨74, _⟩ => ⟨S_, .f32⟩
  | .hbm, ⟨75, _⟩ => ⟨S1x1024x1024, .f32⟩
  | .hbm, ⟨76, _⟩ => ⟨S1x1024x1024, .f32⟩
  | .hbm, ⟨77, _⟩ => ⟨S1024x1024, .f32⟩
  | .hbm, ⟨78, _⟩ => ⟨S1024x1024, .f32⟩
  | .hbm, ⟨79, _⟩ => ⟨S1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_12 : Ref sig .tc := ⟨.hbm, 59, rfl⟩
abbrev main_v38 : Ref sig .tc := ⟨.hbm, 60, rfl⟩
abbrev main_v39 : Ref sig .tc := ⟨.hbm, 61, rfl⟩
abbrev main_cst_13 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_14 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_15 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_16 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]
-- ==== Kernel9.lean ====
abbrev S1x1024 : Shape := ⟨2, ![1, 1024]⟩
abbrev S1x256 : Shape := ⟨2, ![1, 256]⟩
abbrev S1x128 : Shape := ⟨2, ![1, 128]⟩
abbrev S1x512 : Shape := ⟨2, ![1, 512]⟩

abbrev nBuf : Space → Nat
  | .hbm => 28
  | .vmem => 28
  | .smem => 0
  | _ => 0

abbrev bufTy : (tb : Table) → Fin (tcTables nBuf tb) → BufTy
  | .hbm, ⟨0, _⟩ => ⟨S1x1024, .f32⟩
  | .hbm, ⟨1, _⟩ => ⟨S1x256, .f32⟩
  | .hbm, ⟨2, _⟩ => ⟨S1x128, .f32⟩
  | .hbm, ⟨3, _⟩ => ⟨S1x512, .f32⟩
  | .hbm, ⟨4, _⟩ => ⟨S1x1024, .f32⟩
  | .hbm, ⟨5, _⟩ => ⟨S1x256, .f32⟩
  | .hbm, ⟨6, _⟩ => ⟨S1x128, .f32⟩
  | .hbm, ⟨7, _⟩ => ⟨S1x512, .f32⟩
  | .hbm, ⟨8, _⟩ => ⟨S1x1024, .f32⟩
  | .hbm, ⟨9, _⟩ => ⟨S1x256, .f32⟩
  | .hbm, ⟨10, _⟩ => ⟨S1x128, .f32⟩
  | .hbm, ⟨11, _⟩ => ⟨S1x512, .f32⟩
  | .hbm, ⟨12, _⟩ => ⟨S1x1024, .f32⟩
  | .hbm, ⟨13, _⟩ => ⟨S1x256, .f32⟩
  | .hbm, ⟨14, _⟩ => ⟨S1x128, .f32⟩
  | .hbm, ⟨15, _⟩ => ⟨S1x512, .f32⟩
  | .hbm, ⟨16, _⟩ => ⟨S1x1024, .f32⟩
  | .hbm, ⟨17, _⟩ => ⟨S1x256, .f32⟩
  | .hbm, ⟨18, _⟩ => ⟨S1x128, .f32⟩
  | .hbm, ⟨19, _⟩ => ⟨S1x512, .f32⟩
  | .hbm, ⟨20, _⟩ => ⟨S1x1024, .f32⟩
  | .hbm, ⟨21, _⟩ => ⟨S1x256, .f32⟩
  | .hbm, ⟨22, _⟩ => ⟨S1x128, .f32⟩
  | .hbm, ⟨23, _⟩ => ⟨S1x512, .f32⟩
  | .hbm, ⟨24, _⟩ => ⟨S1x1024, .f32⟩
  | .hbm, ⟨25, _⟩ => ⟨S1x256, .f32⟩
  | .hbm, ⟨26, _⟩ => ⟨S1x128, .f32⟩
  | .hbm, ⟨27, _⟩ => ⟨S1x512, .f32⟩
  | .local _ .vmem, ⟨0, _⟩ => ⟨S1x1024, .f32⟩
  | .local _ .vmem, ⟨1, _⟩ => ⟨S1x256, .f32⟩
  | .local _ .vmem, ⟨2, _⟩ => ⟨S1x128, .f32⟩
  | .local _ .vmem, ⟨3, _⟩ => ⟨S1x512, .f32⟩
  | .local _ .vmem, ⟨4, _⟩ => ⟨S1x1024, .f32⟩
  | .local _ .vmem, ⟨5, _⟩ => ⟨S1x256, .f32⟩
  | .local _ .vmem, ⟨6, _⟩ => ⟨S1x128, .f32⟩
  | .local _ .vmem, ⟨7, _⟩ => ⟨S1x512, .f32⟩
  | .local _ .vmem, ⟨8, _⟩ => ⟨S1x1024, .f32⟩
  | .local _ .vmem, ⟨9, _⟩ => ⟨S1x256, .f32⟩
  | .local _ .vmem, ⟨10, _⟩ => ⟨S1x128, .f32⟩
  | .local _ .vmem, ⟨11, _⟩ => ⟨S1x512, .f32⟩
  | .local _ .vmem, ⟨12, _⟩ => ⟨S1x1024, .f32⟩
  | .local _ .vmem, ⟨13, _⟩ => ⟨S1x256, .f32⟩
  | .local _ .vmem, ⟨14, _⟩ => ⟨S1x128, .f32⟩
  | .local _ .vmem, ⟨15, _⟩ => ⟨S1x512, .f32⟩
  | .local _ .vmem, ⟨16, _⟩ => ⟨S1x1024, .f32⟩
  | .local _ .vmem, ⟨17, _⟩ => ⟨S1x256, .f32⟩
  | .local _ .vmem, ⟨18, _⟩ => ⟨S1x128, .f32⟩
  | .local _ .vmem, ⟨19, _⟩ => ⟨S1x512, .f32⟩
  | .local _ .vmem, ⟨20, _⟩ => ⟨S1x1024, .f32⟩
  | .local _ .vmem, ⟨21, _⟩ => ⟨S1x256, .f32⟩
  | .local _ .vmem, ⟨22, _⟩ => ⟨S1x128, .f32⟩
  | .local _ .vmem, ⟨23, _⟩ => ⟨S1x512, .f32⟩
  | .local _ .vmem, ⟨24, _⟩ => ⟨S1x1024, .f32⟩
  | .local _ .vmem, ⟨25, _⟩ => ⟨S1x256, .f32⟩
  | .local _ .vmem, ⟨26, _⟩ => ⟨S1x128, .f32⟩
  | .local _ .vmem, ⟨27, _⟩ => ⟨S1x512, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Kernel9Ideal.lean ====
abbrev S1x1024 : Shape := ⟨2, ![1, 1024]⟩
abbrev S1x256 : Shape := ⟨2, ![1, 256]⟩
abbrev S1x128 : Shape := ⟨2, ![1, 128]⟩
abbrev S1x512 : Shape := ⟨2, ![1, 512]⟩

abbrev nBuf : Space → Nat
  | .hbm => 28
  | .vmem => 28
  | .smem => 0
  | _ => 0

abbrev bufTy : (tb : Table) → Fin (tcTables nBuf tb) → BufTy
  | .hbm, ⟨0, _⟩ => ⟨S1x1024, .f32⟩
  | .hbm, ⟨1, _⟩ => ⟨S1x256, .f32⟩
  | .hbm, ⟨2, _⟩ => ⟨S1x128, .f32⟩
  | .hbm, ⟨3, _⟩ => ⟨S1x512, .f32⟩
  | .hbm, ⟨4, _⟩ => ⟨S1x1024, .f32⟩
  | .hbm, ⟨5, _⟩ => ⟨S1x256, .f32⟩
  | .hbm, ⟨6, _⟩ => ⟨S1x128, .f32⟩
  | .hbm, ⟨7, _⟩ => ⟨S1x512, .f32⟩
  | .hbm, ⟨8, _⟩ => ⟨S1x1024, .f32⟩
  | .hbm, ⟨9, _⟩ => ⟨S1x256, .f32⟩
  | .hbm, ⟨10, _⟩ => ⟨S1x128, .f32⟩
  | .hbm, ⟨11, _⟩ => ⟨S1x512, .f32⟩
  | .hbm, ⟨12, _⟩ => ⟨S1x1024, .f32⟩
  | .hbm, ⟨13, _⟩ => ⟨S1x256, .f32⟩
  | .hbm, ⟨14, _⟩ => ⟨S1x128, .f32⟩
  | .hbm, ⟨15, _⟩ => ⟨S1x512, .f32⟩
  | .hbm, ⟨16, _⟩ => ⟨S1x1024, .f32⟩
  | .hbm, ⟨17, _⟩ => ⟨S1x256, .f32⟩
  | .hbm, ⟨18, _⟩ => ⟨S1x128, .f32⟩
  | .hbm, ⟨19, _⟩ => ⟨S1x512, .f32⟩
  | .hbm, ⟨20, _⟩ => ⟨S1x1024, .f32⟩
  | .hbm, ⟨21, _⟩ => ⟨S1x256, .f32⟩
  | .hbm, ⟨22, _⟩ => ⟨S1x128, .f32⟩
  | .hbm, ⟨23, _⟩ => ⟨S1x512, .f32⟩
  | .hbm, ⟨24, _⟩ => ⟨S1x1024, .f32⟩
  | .hbm, ⟨25, _⟩ => ⟨S1x256, .f32⟩
  | .hbm, ⟨26, _⟩ => ⟨S1x128, .f32⟩
  | .hbm, ⟨27, _⟩ => ⟨S1x512, .f32⟩
  | .local _ .vmem, ⟨0, _⟩ => ⟨S1x1024, .f32⟩
  | .local _ .vmem, ⟨1, _⟩ => ⟨S1x256, .f32⟩
  | .local _ .vmem, ⟨2, _⟩ => ⟨S1x128, .f32⟩
  | .local _ .vmem, ⟨3, _⟩ => ⟨S1x512, .f32⟩
  | .local _ .vmem, ⟨4, _⟩ => ⟨S1x1024, .f32⟩
  | .local _ .vmem, ⟨5, _⟩ => ⟨S1x256, .f32⟩
  | .local _ .vmem, ⟨6, _⟩ => ⟨S1x128, .f32⟩
  | .local _ .vmem, ⟨7, _⟩ => ⟨S1x512, .f32⟩
  | .local _ .vmem, ⟨8, _⟩ => ⟨S1x1024, .f32⟩
  | .local _ .vmem, ⟨9, _⟩ => ⟨S1x256, .f32⟩
  | .local _ .vmem, ⟨10, _⟩ => ⟨S1x128, .f32⟩
  | .local _ .vmem, ⟨11, _⟩ => ⟨S1x512, .f32⟩
  | .local _ .vmem, ⟨12, _⟩ => ⟨S1x1024, .f32⟩
  | .local _ .vmem, ⟨13, _⟩ => ⟨S1x256, .f32⟩
  | .local _ .vmem, ⟨14, _⟩ => ⟨S1x128, .f32⟩
  | .local _ .vmem, ⟨15, _⟩ => ⟨S1x512, .f32⟩
  | .local _ .vmem, ⟨16, _⟩ => ⟨S1x1024, .f32⟩
  | .local _ .vmem, ⟨17, _⟩ => ⟨S1x256, .f32⟩
  | .local _ .vmem, ⟨18, _⟩ => ⟨S1x128, .f32⟩
  | .local _ .vmem, ⟨19, _⟩ => ⟨S1x512, .f32⟩
  | .local _ .vmem, ⟨20, _⟩ => ⟨S1x1024, .f32⟩
  | .local _ .vmem, ⟨21, _⟩ => ⟨S1x256, .f32⟩
  | .local _ .vmem, ⟨22, _⟩ => ⟨S1x128, .f32⟩
  | .local _ .vmem, ⟨23, _⟩ => ⟨S1x512, .f32⟩
  | .local _ .vmem, ⟨24, _⟩ => ⟨S1x1024, .f32⟩
  | .local _ .vmem, ⟨25, _⟩ => ⟨S1x256, .f32⟩
  | .local _ .vmem, ⟨26, _⟩ => ⟨S1x128, .f32⟩
  | .local _ .vmem, ⟨27, _⟩ => ⟨S1x512, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Reference9Ideal.lean ====
abbrev S1x1024 : Shape := ⟨2, ![1, 1024]⟩
abbrev S1x256 : Shape := ⟨2, ![1, 256]⟩
abbrev S1x128 : Shape := ⟨2, ![1, 128]⟩
abbrev S1x512 : Shape := ⟨2, ![1, 512]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x1024, .f32⟩
  | 1 => ⟨S1x256, .f32⟩
  | 2 => ⟨S1x128, .f32⟩
  | 3 => ⟨S1x512, .f32⟩
  | 4 => ⟨S1x1024, .f32⟩
  | 5 => ⟨S1x256, .f32⟩
  | 6 => ⟨S1x128, .f32⟩
  | 7 => ⟨S1x512, .f32⟩
  | 8 => ⟨S1x1024, .f32⟩
  | 9 => ⟨S1x256, .f32⟩
  | 10 => ⟨S1x128, .f32⟩
  | 11 => ⟨S1x512, .f32⟩
  | 12 => ⟨S1x1024, .f32⟩
  | 13 => ⟨S1x256, .f32⟩
  | 14 => ⟨S1x128, .f32⟩
  | 15 => ⟨S1x512, .f32⟩
  | 16 => ⟨S_, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S_, .f32⟩
  | 50 => ⟨S1x256, .f32⟩
  | 51 => ⟨S1x256, .f32⟩
  | 52 => ⟨S_, .f32⟩
  | 53 => ⟨S1x256, .f32⟩
  | 54 => ⟨S1x256, .f32⟩
  | 55 => ⟨S1x256, .f32⟩
  | 56 => ⟨S_, .f32⟩
  | 57 => ⟨S1x256, .f32⟩
  | 58 => ⟨S1x256, .f32⟩
  | 59 => ⟨S1x256, .f32⟩
  | 60 => ⟨S_, .f32⟩
  | 61 => ⟨S1x256, .f32⟩
  | 62 => ⟨S1x256, .f32⟩
  | 63 => ⟨S1x256, .f32⟩
  | 64 => ⟨S_, .f32⟩
  | 65 => ⟨S1x256, .f32⟩
  | 66 => ⟨S1x256, .f32⟩
  | 67 => ⟨S_, .f32⟩
  | 68 => ⟨S1x256, .f32⟩
  | 69 => ⟨S1x256, .f32⟩
  | 70 => ⟨S1x256, .f32⟩
  | 71 => ⟨S_, .f32⟩
  | 72 => ⟨S1x256, .f32⟩
  | 73 => ⟨S1x256, .f32⟩
  | 74 => ⟨S1x256, .f32⟩
  | 75 => ⟨S_, .f32⟩
  | 76 => ⟨S1x256, .f32⟩
  | 77 => ⟨S1x256, .f32⟩
  | 78 => ⟨S1x256, .f32⟩
  | 79 => ⟨S_, .f32⟩
  | 80 => ⟨S1x256, .f32⟩
  | 81 => ⟨S1x256, .f32⟩
  | 82 => ⟨S_, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S1x128, .f32⟩
  | 93 => ⟨S_, .f32⟩
  | 94 => ⟨S1x128, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S_, .f32⟩
  | 105 => ⟨S1x128, .f32⟩
  | 106 => ⟨S1x128, .f32⟩
  | 107 => ⟨S1x128, .f32⟩
  | 108 => ⟨S_, .f32⟩
  | 109 => ⟨S1x128, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S_, .f32⟩
  | 116 => ⟨S1x512, .f32⟩
  | 117 => ⟨S1x512, .f32⟩
  | 118 => ⟨S_, .f32⟩
  | 119 => ⟨S1x512, .f32⟩
  | 120 => ⟨S1x512, .f32⟩
  | 121 => ⟨S1x512, .f32⟩
  | 122 => ⟨S_, .f32⟩
  | 123 => ⟨S1x512, .f32⟩
  | 124 => ⟨S1x512, .f32⟩
  | 125 => ⟨S1x512, .f32⟩
  | 126 => ⟨S_, .f32⟩
  | 127 => ⟨S1x512, .f32⟩
  | _ => ⟨S1x1024, .f32⟩

abbrev hbmTy0_1 (i : Nat) : BufTy := match i % 128 with
  | 0 => ⟨S1x512, .f32⟩
  | 1 => ⟨S1x512, .f32⟩
  | 2 => ⟨S_, .f32⟩
  | 3 => ⟨S1x512, .f32⟩
  | 4 => ⟨S1x512, .f32⟩
  | 5 => ⟨S_, .f32⟩
  | 6 => ⟨S1x512, .f32⟩
  | 7 => ⟨S1x512, .f32⟩
  | 8 => ⟨S1x512, .f32⟩
  | 9 => ⟨S_, .f32⟩
  | 10 => ⟨S1x512, .f32⟩
  | 11 => ⟨S1x512, .f32⟩
  | 12 => ⟨S1x512, .f32⟩
  | 13 => ⟨S_, .f32⟩
  | 14 => ⟨S1x512, .f32⟩
  | 15 => ⟨S1x512, .f32⟩
  | 16 => ⟨S1x512, .f32⟩
  | 17 => ⟨S_, .f32⟩
  | 18 => ⟨S1x512, .f32⟩
  | 19 => ⟨S1x512, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel10.lean ====
abbrev S1x8 : Shape := ⟨2, ![1, 8]⟩
abbrev S1x512 : Shape := ⟨2, ![1, 512]⟩
abbrev S1x1024 : Shape := ⟨2, ![1, 1024]⟩

abbrev nBuf : Space → Nat
  | .hbm => 28
  | .vmem => 28
  | .smem => 0
  | _ => 0

abbrev bufTy : (tb : Table) → Fin (tcTables nBuf tb) → BufTy
  | .hbm, ⟨0, _⟩ => ⟨S1x8, .f32⟩
  | .hbm, ⟨1, _⟩ => ⟨S1x512, .f32⟩
  | .hbm, ⟨2, _⟩ => ⟨S1x512, .f32⟩
  | .hbm, ⟨3, _⟩ => ⟨S1x1024, .f32⟩
  | .hbm, ⟨4, _⟩ => ⟨S1x8, .f32⟩
  | .hbm, ⟨5, _⟩ => ⟨S1x512, .f32⟩
  | .hbm, ⟨6, _⟩ => ⟨S1x512, .f32⟩
  | .hbm, ⟨7, _⟩ => ⟨S1x1024, .f32⟩
  | .hbm, ⟨8, _⟩ => ⟨S1x8, .f32⟩
  | .hbm, ⟨9, _⟩ => ⟨S1x512, .f32⟩
  | .hbm, ⟨10, _⟩ => ⟨S1x512, .f32⟩
  | .hbm, ⟨11, _⟩ => ⟨S1x1024, .f32⟩
  | .hbm, ⟨12, _⟩ => ⟨S1x8, .f32⟩
  | .hbm, ⟨13, _⟩ => ⟨S1x512, .f32⟩
  | .hbm, ⟨14, _⟩ => ⟨S1x512, .f32⟩
  | .hbm, ⟨15, _⟩ => ⟨S1x1024, .f32⟩
  | .hbm, ⟨16, _⟩ => ⟨S1x8, .f32⟩
  | .hbm, ⟨17, _⟩ => ⟨S1x512, .f32⟩
  | .hbm, ⟨18, _⟩ => ⟨S1x512, .f32⟩
  | .hbm, ⟨19, _⟩ => ⟨S1x1024, .f32⟩
  | .hbm, ⟨20, _⟩ => ⟨S1x8, .f32⟩
  | .hbm, ⟨21, _⟩ => ⟨S1x512, .f32⟩
  | .hbm, ⟨22, _⟩ => ⟨S1x512, .f32⟩
  | .hbm, ⟨23, _⟩ => ⟨S1x1024, .f32⟩
  | .hbm, ⟨24, _⟩ => ⟨S1x8, .f32⟩
  | .hbm, ⟨25, _⟩ => ⟨S1x512, .f32⟩
  | .hbm, ⟨26, _⟩ => ⟨S1x512, .f32⟩
  | .hbm, ⟨27, _⟩ => ⟨S1x1024, .f32⟩
  | .local _ .vmem, ⟨0, _⟩ => ⟨S1x8, .f32⟩
  | .local _ .vmem, ⟨1, _⟩ => ⟨S1x512, .f32⟩
  | .local _ .vmem, ⟨2, _⟩ => ⟨S1x512, .f32⟩
  | .local _ .vmem, ⟨3, _⟩ => ⟨S1x1024, .f32⟩
  | .local _ .vmem, ⟨4, _⟩ => ⟨S1x8, .f32⟩
  | .local _ .vmem, ⟨5, _⟩ => ⟨S1x512, .f32⟩
  | .local _ .vmem, ⟨6, _⟩ => ⟨S1x512, .f32⟩
  | .local _ .vmem, ⟨7, _⟩ => ⟨S1x1024, .f32⟩
  | .local _ .vmem, ⟨8, _⟩ => ⟨S1x8, .f32⟩
  | .local _ .vmem, ⟨9, _⟩ => ⟨S1x512, .f32⟩
  | .local _ .vmem, ⟨10, _⟩ => ⟨S1x512, .f32⟩
  | .local _ .vmem, ⟨11, _⟩ => ⟨S1x1024, .f32⟩
  | .local _ .vmem, ⟨12, _⟩ => ⟨S1x8, .f32⟩
  | .local _ .vmem, ⟨13, _⟩ => ⟨S1x512, .f32⟩
  | .local _ .vmem, ⟨14, _⟩ => ⟨S1x512, .f32⟩
  | .local _ .vmem, ⟨15, _⟩ => ⟨S1x1024, .f32⟩
  | .local _ .vmem, ⟨16, _⟩ => ⟨S1x8, .f32⟩
  | .local _ .vmem, ⟨17, _⟩ => ⟨S1x512, .f32⟩
  | .local _ .vmem, ⟨18, _⟩ => ⟨S1x512, .f32⟩
  | .local _ .vmem, ⟨19, _⟩ => ⟨S1x1024, .f32⟩
  | .local _ .vmem, ⟨20, _⟩ => ⟨S1x8, .f32⟩
  | .local _ .vmem, ⟨21, _⟩ => ⟨S1x512, .f32⟩
  | .local _ .vmem, ⟨22, _⟩ => ⟨S1x512, .f32⟩
  | .local _ .vmem, ⟨23, _⟩ => ⟨S1x1024, .f32⟩
  | .local _ .vmem, ⟨24, _⟩ => ⟨S1x8, .f32⟩
  | .local _ .vmem, ⟨25, _⟩ => ⟨S1x512, .f32⟩
  | .local _ .vmem, ⟨26, _⟩ => ⟨S1x512, .f32⟩
  | .local _ .vmem, ⟨27, _⟩ => ⟨S1x1024, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x8 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Kernel10Ideal.lean ====
abbrev S1x8 : Shape := ⟨2, ![1, 8]⟩
abbrev S1x512 : Shape := ⟨2, ![1, 512]⟩
abbrev S1x1024 : Shape := ⟨2, ![1, 1024]⟩

abbrev nBuf : Space → Nat
  | .hbm => 28
  | .vmem => 28
  | .smem => 0
  | _ => 0

abbrev bufTy : (tb : Table) → Fin (tcTables nBuf tb) → BufTy
  | .hbm, ⟨0, _⟩ => ⟨S1x8, .f32⟩
  | .hbm, ⟨1, _⟩ => ⟨S1x512, .f32⟩
  | .hbm, ⟨2, _⟩ => ⟨S1x512, .f32⟩
  | .hbm, ⟨3, _⟩ => ⟨S1x1024, .f32⟩
  | .hbm, ⟨4, _⟩ => ⟨S1x8, .f32⟩
  | .hbm, ⟨5, _⟩ => ⟨S1x512, .f32⟩
  | .hbm, ⟨6, _⟩ => ⟨S1x512, .f32⟩
  | .hbm, ⟨7, _⟩ => ⟨S1x1024, .f32⟩
  | .hbm, ⟨8, _⟩ => ⟨S1x8, .f32⟩
  | .hbm, ⟨9, _⟩ => ⟨S1x512, .f32⟩
  | .hbm, ⟨10, _⟩ => ⟨S1x512, .f32⟩
  | .hbm, ⟨11, _⟩ => ⟨S1x1024, .f32⟩
  | .hbm, ⟨12, _⟩ => ⟨S1x8, .f32⟩
  | .hbm, ⟨13, _⟩ => ⟨S1x512, .f32⟩
  | .hbm, ⟨14, _⟩ => ⟨S1x512, .f32⟩
  | .hbm, ⟨15, _⟩ => ⟨S1x1024, .f32⟩
  | .hbm, ⟨16, _⟩ => ⟨S1x8, .f32⟩
  | .hbm, ⟨17, _⟩ => ⟨S1x512, .f32⟩
  | .hbm, ⟨18, _⟩ => ⟨S1x512, .f32⟩
  | .hbm, ⟨19, _⟩ => ⟨S1x1024, .f32⟩
  | .hbm, ⟨20, _⟩ => ⟨S1x8, .f32⟩
  | .hbm, ⟨21, _⟩ => ⟨S1x512, .f32⟩
  | .hbm, ⟨22, _⟩ => ⟨S1x512, .f32⟩
  | .hbm, ⟨23, _⟩ => ⟨S1x1024, .f32⟩
  | .hbm, ⟨24, _⟩ => ⟨S1x8, .f32⟩
  | .hbm, ⟨25, _⟩ => ⟨S1x512, .f32⟩
  | .hbm, ⟨26, _⟩ => ⟨S1x512, .f32⟩
  | .hbm, ⟨27, _⟩ => ⟨S1x1024, .f32⟩
  | .local _ .vmem, ⟨0, _⟩ => ⟨S1x8, .f32⟩
  | .local _ .vmem, ⟨1, _⟩ => ⟨S1x512, .f32⟩
  | .local _ .vmem, ⟨2, _⟩ => ⟨S1x512, .f32⟩
  | .local _ .vmem, ⟨3, _⟩ => ⟨S1x1024, .f32⟩
  | .local _ .vmem, ⟨4, _⟩ => ⟨S1x8, .f32⟩
  | .local _ .vmem, ⟨5, _⟩ => ⟨S1x512, .f32⟩
  | .local _ .vmem, ⟨6, _⟩ => ⟨S1x512, .f32⟩
  | .local _ .vmem, ⟨7, _⟩ => ⟨S1x1024, .f32⟩
  | .local _ .vmem, ⟨8, _⟩ => ⟨S1x8, .f32⟩
  | .local _ .vmem, ⟨9, _⟩ => ⟨S1x512, .f32⟩
  | .local _ .vmem, ⟨10, _⟩ => ⟨S1x512, .f32⟩
  | .local _ .vmem, ⟨11, _⟩ => ⟨S1x1024, .f32⟩
  | .local _ .vmem, ⟨12, _⟩ => ⟨S1x8, .f32⟩
  | .local _ .vmem, ⟨13, _⟩ => ⟨S1x512, .f32⟩
  | .local _ .vmem, ⟨14, _⟩ => ⟨S1x512, .f32⟩
  | .local _ .vmem, ⟨15, _⟩ => ⟨S1x1024, .f32⟩
  | .local _ .vmem, ⟨16, _⟩ => ⟨S1x8, .f32⟩
  | .local _ .vmem, ⟨17, _⟩ => ⟨S1x512, .f32⟩
  | .local _ .vmem, ⟨18, _⟩ => ⟨S1x512, .f32⟩
  | .local _ .vmem, ⟨19, _⟩ => ⟨S1x1024, .f32⟩
  | .local _ .vmem, ⟨20, _⟩ => ⟨S1x8, .f32⟩
  | .local _ .vmem, ⟨21, _⟩ => ⟨S1x512, .f32⟩
  | .local _ .vmem, ⟨22, _⟩ => ⟨S1x512, .f32⟩
  | .local _ .vmem, ⟨23, _⟩ => ⟨S1x1024, .f32⟩
  | .local _ .vmem, ⟨24, _⟩ => ⟨S1x8, .f32⟩
  | .local _ .vmem, ⟨25, _⟩ => ⟨S1x512, .f32⟩
  | .local _ .vmem, ⟨26, _⟩ => ⟨S1x512, .f32⟩
  | .local _ .vmem, ⟨27, _⟩ => ⟨S1x1024, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x8 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Reference10Ideal.lean ====
abbrev S1x8 : Shape := ⟨2, ![1, 8]⟩
abbrev S1x512 : Shape := ⟨2, ![1, 512]⟩
abbrev S1x1024 : Shape := ⟨2, ![1, 1024]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x8, .f32⟩
  | 1 => ⟨S1x512, .f32⟩
  | 2 => ⟨S1x512, .f32⟩
  | 3 => ⟨S1x1024, .f32⟩
  | 4 => ⟨S1x8, .f32⟩
  | 5 => ⟨S1x512, .f32⟩
  | 6 => ⟨S1x512, .f32⟩
  | 7 => ⟨S1x1024, .f32⟩
  | 8 => ⟨S1x8, .f32⟩
  | 9 => ⟨S1x512, .f32⟩
  | 10 => ⟨S1x512, .f32⟩
  | 11 => ⟨S1x1024, .f32⟩
  | 12 => ⟨S1x8, .f32⟩
  | 13 => ⟨S1x512, .f32⟩
  | 14 => ⟨S1x512, .f32⟩
  | 15 => ⟨S1x1024, .f32⟩
  | 16 => ⟨S_, .f32⟩
  | 17 => ⟨S1x8, .f32⟩
  | 18 => ⟨S1x8, .f32⟩
  | 19 => ⟨S_, .f32⟩
  | 20 => ⟨S1x8, .f32⟩
  | 21 => ⟨S1x8, .f32⟩
  | 22 => ⟨S1x8, .f32⟩
  | 23 => ⟨S_, .f32⟩
  | 24 => ⟨S1x8, .f32⟩
  | 25 => ⟨S1x8, .f32⟩
  | 26 => ⟨S1x8, .f32⟩
  | 27 => ⟨S_, .f32⟩
  | 28 => ⟨S1x8, .f32⟩
  | 29 => ⟨S1x8, .f32⟩
  | 30 => ⟨S1x8, .f32⟩
  | 31 => ⟨S_, .f32⟩
  | 32 => ⟨S1x8, .f32⟩
  | 33 => ⟨S1x8, .f32⟩
  | 34 => ⟨S_, .f32⟩
  | 35 => ⟨S1x8, .f32⟩
  | 36 => ⟨S1x8, .f32⟩
  | 37 => ⟨S1x8, .f32⟩
  | 38 => ⟨S_, .f32⟩
  | 39 => ⟨S1x8, .f32⟩
  | 40 => ⟨S1x8, .f32⟩
  | 41 => ⟨S1x8, .f32⟩
  | 42 => ⟨S_, .f32⟩
  | 43 => ⟨S1x8, .f32⟩
  | 44 => ⟨S1x8, .f32⟩
  | 45 => ⟨S1x8, .f32⟩
  | 46 => ⟨S_, .f32⟩
  | 47 => ⟨S1x8, .f32⟩
  | 48 => ⟨S1x8, .f32⟩
  | 49 => ⟨S_, .f32⟩
  | 50 => ⟨S1x512, .f32⟩
  | 51 => ⟨S1x512, .f32⟩
  | 52 => ⟨S_, .f32⟩
  | 53 => ⟨S1x512, .f32⟩
  | 54 => ⟨S1x512, .f32⟩
  | 55 => ⟨S1x512, .f32⟩
  | 56 => ⟨S_, .f32⟩
  | 57 => ⟨S1x512, .f32⟩
  | 58 => ⟨S1x512, .f32⟩
  | 59 => ⟨S1x512, .f32⟩
  | 60 => ⟨S_, .f32⟩
  | 61 => ⟨S1x512, .f32⟩
  | 62 => ⟨S1x512, .f32⟩
  | 63 => ⟨S1x512, .f32⟩
  | 64 => ⟨S_, .f32⟩
  | 65 => ⟨S1x512, .f32⟩
  | 66 => ⟨S1x512, .f32⟩
  | 67 => ⟨S_, .f32⟩
  | 68 => ⟨S1x512, .f32⟩
  | 69 => ⟨S1x512, .f32⟩
  | 70 => ⟨S1x512, .f32⟩
  | 71 => ⟨S_, .f32⟩
  | 72 => ⟨S1x512, .f32⟩
  | 73 => ⟨S1x512, .f32⟩
  | 74 => ⟨S1x512, .f32⟩
  | 75 => ⟨S_, .f32⟩
  | 76 => ⟨S1x512, .f32⟩
  | 77 => ⟨S1x512, .f32⟩
  | 78 => ⟨S1x512, .f32⟩
  | 79 => ⟨S_, .f32⟩
  | 80 => ⟨S1x512, .f32⟩
  | 81 => ⟨S1x512, .f32⟩
  | 82 => ⟨S_, .f32⟩
  | 83 => ⟨S1x512, .f32⟩
  | 84 => ⟨S1x512, .f32⟩
  | 85 => ⟨S_, .f32⟩
  | 86 => ⟨S1x512, .f32⟩
  | 87 => ⟨S1x512, .f32⟩
  | 88 => ⟨S1x512, .f32⟩
  | 89 => ⟨S_, .f32⟩
  | 90 => ⟨S1x512, .f32⟩
  | 91 => ⟨S1x512, .f32⟩
  | 92 => ⟨S1x512, .f32⟩
  | 93 => ⟨S_, .f32⟩
  | 94 => ⟨S1x512, .f32⟩
  | 95 => ⟨S1x512, .f32⟩
  | 96 => ⟨S1x512, .f32⟩
  | 97 => ⟨S_, .f32⟩
  | 98 => ⟨S1x512, .f32⟩
  | 99 => ⟨S1x512, .f32⟩
  | 100 => ⟨S_, .f32⟩
  | 101 => ⟨S1x512, .f32⟩
  | 102 => ⟨S1x512, .f32⟩
  | 103 => ⟨S1x512, .f32⟩
  | 104 => ⟨S_, .f32⟩
  | 105 => ⟨S1x512, .f32⟩
  | 106 => ⟨S1x512, .f32⟩
  | 107 => ⟨S1x512, .f32⟩
  | 108 => ⟨S_, .f32⟩
  | 109 => ⟨S1x512, .f32⟩
  | 110 => ⟨S1x512, .f32⟩
  | 111 => ⟨S1x512, .f32⟩
  | 112 => ⟨S_, .f32⟩
  | 113 => ⟨S1x512, .f32⟩
  | 114 => ⟨S1x512, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S1x8, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | _ => ⟨S1x8, .f32⟩

abbrev hbmTy (i : Nat) : BufTy := match i / 128 with
  | 0 => hbmTy0_0 i
  | 1 => hbmTy0_1 i
  | _ => ⟨S1x8, .f32⟩

abbrev bufTy : (tb : Table) → Fin (tcTables nBuf tb) → BufTy
  | .hbm, ⟨i, _⟩ => hbmTy i
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel11.lean ====
abbrev S1x1024 : Shape := ⟨2, ![1, 1024]⟩
abbrev S1x16x64 : Shape := ⟨3, ![1, 16, 64]⟩
abbrev S1x4x128 : Shape := ⟨3, ![1, 4, 128]⟩

abbrev nBuf : Space → Nat
  | .hbm => 28
  | .vmem => 28
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x16x64, .f32⟩
  | .hbm, ⟨3, _⟩ => ⟨S1x4x128, .f32⟩
  | .hbm, ⟨4, _⟩ => ⟨S1x1024, .f32⟩
  | .hbm, ⟨5, _⟩ => ⟨S1x1024, .f32⟩
  | .hbm, ⟨6, _⟩ => ⟨S1x16x64, .f32⟩
  | .hbm, ⟨7, _⟩ => ⟨S1x4x128, .f32⟩
  | .hbm, ⟨8, _⟩ => ⟨S1x1024, .f32⟩
  | .hbm, ⟨9, _⟩ => ⟨S1x1024, .f32⟩
  | .hbm, ⟨10, _⟩ => ⟨S1x16x64, .f32⟩
  | .hbm, ⟨11, _⟩ => ⟨S1x4x128, .f32⟩
  | .hbm, ⟨12, _⟩ => ⟨S1x1024, .f32⟩
  | .hbm, ⟨13, _⟩ => ⟨S1x1024, .f32⟩
  | .hbm, ⟨14, _⟩ => ⟨S1x16x64, .f32⟩
  | .hbm, ⟨15, _⟩ => ⟨S1x4x128, .f32⟩
  | .hbm, ⟨16, _⟩ => ⟨S1x1024, .f32⟩
  | .hbm, ⟨17, _⟩ => ⟨S1x1024, .f32⟩
  | .hbm, ⟨18, _⟩ => ⟨S1x16x64, .f32⟩
  | .hbm, ⟨19, _⟩ => ⟨S1x4x128, .f32⟩
  | .hbm, ⟨20, _⟩ => ⟨S1x1024, .f32⟩
  | .hbm, ⟨21, _⟩ => ⟨S1x1024, .f32⟩
  | .hbm, ⟨22, _⟩ => ⟨S1x16x64, .f32⟩
  | .hbm, ⟨23, _⟩ => ⟨S1x4x128, .f32⟩
  | .hbm, ⟨24, _⟩ => ⟨S1x1024, .f32⟩
  | .hbm, ⟨25, _⟩ => ⟨S1x1024, .f32⟩
  | .hbm, ⟨26, _⟩ => ⟨S1x16x64, .f32⟩
  | .hbm, ⟨27, _⟩ => ⟨S1x4x128, .f32⟩
  | .local _ .vmem, ⟨0, _⟩ => ⟨S1x1024, .f32⟩
  | .local _ .vmem, ⟨1, _⟩ => ⟨S1x1024, .f32⟩
  | .local _ .vmem, ⟨2, _⟩ => ⟨S1x16x64, .f32⟩
  | .local _ .vmem, ⟨3, _⟩ => ⟨S1x4x128, .f32⟩
  | .local _ .vmem, ⟨4, _⟩ => ⟨S1x1024, .f32⟩
  | .local _ .vmem, ⟨5, _⟩ => ⟨S1x1024, .f32⟩
  | .local _ .vmem, ⟨6, _⟩ => ⟨S1x16x64, .f32⟩
  | .local _ .vmem, ⟨7, _⟩ => ⟨S1x4x128, .f32⟩
  | .local _ .vmem, ⟨8, _⟩ => ⟨S1x1024, .f32⟩
  | .local _ .vmem, ⟨9, _⟩ => ⟨S1x1024, .f32⟩
  | .local _ .vmem, ⟨10, _⟩ => ⟨S1x16x64, .f32⟩
  | .local _ .vmem, ⟨11, _⟩ => ⟨S1x4x128, .f32⟩
  | .local _ .vmem, ⟨12, _⟩ => ⟨S1x1024, .f32⟩
  | .local _ .vmem, ⟨13, _⟩ => ⟨S1x1024, .f32⟩
  | .local _ .vmem, ⟨14, _⟩ => ⟨S1x16x64, .f32⟩
  | .local _ .vmem, ⟨15, _⟩ => ⟨S1x4x128, .f32⟩
  | .local _ .vmem, ⟨16, _⟩ => ⟨S1x1024, .f32⟩
  | .local _ .vmem, ⟨17, _⟩ => ⟨S1x1024, .f32⟩
  | .local _ .vmem, ⟨18, _⟩ => ⟨S1x16x64, .f32⟩
  | .local _ .vmem, ⟨19, _⟩ => ⟨S1x4x128, .f32⟩
  | .local _ .vmem, ⟨20, _⟩ => ⟨S1x1024, .f32⟩
  | .local _ .vmem, ⟨21, _⟩ => ⟨S1x1024, .f32⟩
  | .local _ .vmem, ⟨22, _⟩ => ⟨S1x16x64, .f32⟩
  | .local _ .vmem, ⟨23, _⟩ => ⟨S1x4x128, .f32⟩
  | .local _ .vmem, ⟨24, _⟩ => ⟨S1x1024, .f32⟩
  | .local _ .vmem, ⟨25, _⟩ => ⟨S1x1024, .f32⟩
  | .local _ .vmem, ⟨26, _⟩ => ⟨S1x16x64, .f32⟩
  | .local _ .vmem, ⟨27, _⟩ => ⟨S1x4x128, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x16x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x4x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x16x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x4x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x16x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x4x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x16x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x4x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x16x64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x4x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Reference11Ideal.lean ====
abbrev S1x1024 : Shape := ⟨2, ![1, 1024]⟩
abbrev S1x16x64 : Shape := ⟨3, ![1, 16, 64]⟩
abbrev S1x4x128 : Shape := ⟨3, ![1, 4, 128]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x1024, .f32⟩
  | 1 => ⟨S1x1024, .f32⟩
  | 2 => ⟨S1x16x64, .f32⟩
  | 3 => ⟨S1x4x128, .f32⟩
  | 4 => ⟨S1x1024, .f32⟩
  | 5 => ⟨S1x1024, .f32⟩
  | 6 => ⟨S1x16x64, .f32⟩
  | 7 => ⟨S1x4x128, .f32⟩
  | 8 => ⟨S1x1024, .f32⟩
  | 9 => ⟨S1x1024, .f32⟩
  | 10 => ⟨S1x16x64, .f32⟩
  | 11 => ⟨S1x4x128, .f32⟩
  | 12 => ⟨S1x1024, .f32⟩
  | 13 => ⟨S1x1024, .f32⟩
  | 14 => ⟨S1x16x64, .f32⟩
  | 15 => ⟨S1x4x128, .f32⟩
  | 16 => ⟨S_, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S_, .f32⟩
  | 53 => ⟨S1x1024, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x16x64, .f32⟩
  | 84 => ⟨S1x16x64, .f32⟩
  | 85 => ⟨S_, .f32⟩
  | 86 => ⟨S1x16x64, .f32⟩
  | 87 => ⟨S1x16x64, .f32⟩
  | 88 => ⟨S1x16x64, .f32⟩
  | 89 => ⟨S_, .f32⟩
  | 90 => ⟨S1x16x64, .f32⟩
  | 91 => ⟨S1x16x64, .f32⟩
  | 92 => ⟨S1x16x64, .f32⟩
  | 93 => ⟨S_, .f32⟩
  | 94 => ⟨S1x16x64, .f32⟩
  | 95 => ⟨S1x16x64, .f32⟩
  | 96 => ⟨S1x16x64, .f32⟩
  | 97 => ⟨S_, .f32⟩
  | 98 => ⟨S1x16x64, .f32⟩
  | 99 => ⟨S1x16x64, .f32⟩
  | 100 => ⟨S_, .f32⟩
  | 101 => ⟨S1x16x64, .f32⟩
  | 102 => ⟨S1x16x64, .f32⟩
  | 103 => ⟨S1x16x64, .f32⟩
  | 104 => ⟨S_, .f32⟩
  | 105 => ⟨S1x16x64, .f32⟩
  | 106 => ⟨S1x16x64, .f32⟩
  | 107 => ⟨S1x16x64, .f32⟩
  | 108 => ⟨S_, .f32⟩
  | 109 => ⟨S1x16x64, .f32⟩
  | 110 => ⟨S1x16x64, .f32⟩
  | 111 => ⟨S1x16x64, .f32⟩
  | 112 => ⟨S_, .f32⟩
  | 113 => ⟨S1x16x64, .f32⟩
  | 114 => ⟨S1x16x64, .f32⟩
  | 115 => ⟨S_, .f32⟩
  | 116 => ⟨S1x4x128, .f32⟩
  | 117 => ⟨S1x4x128, .f32⟩
  | 118 => ⟨S_, .f32⟩
  | 119 => ⟨S1x4x128, .f32⟩
  | 120 => ⟨S1x4x128, .f32⟩
  | 121 => ⟨S1x4x128, .f32⟩
  | 122 => ⟨S_, .f32⟩
  | 123 => ⟨S1x4x128, .f32⟩
  | 124 => ⟨S1x4x128, .f32⟩
  | 125 => ⟨S1x4x128, .f32⟩
  | 126 => ⟨S_, .f32⟩
  | 127 => ⟨S1x4x128, .f32⟩
  | _ => ⟨S1x1024, .f32⟩

abbrev hbmTy0_1 (i : Nat) : BufTy := match i % 128 with
  | 0 => ⟨S1x4x128, .f32⟩
  | 1 => ⟨S1x4x128, .f32⟩
  | 2 => ⟨S_, .f32⟩
  | 3 => ⟨S1x4x128, .f32⟩
  | 4 => ⟨S1x4x128, .f32⟩
  | 5 => ⟨S_, .f32⟩
  | 6 => ⟨S1x4x128, .f32⟩
  | 7 => ⟨S1x4x128, .f32⟩
  | 8 => ⟨S1x4x128, .f32⟩
  | 9 => ⟨S_, .f32⟩
  | 10 => ⟨S1x4x128, .f32⟩
  | 11 => ⟨S1x4x128, .f32⟩
  | 12 => ⟨S1x4x128, .f32⟩
  | 13 => ⟨S_, .f32⟩
  | 14 => ⟨S1x4x128, .f32⟩
  | 15 => ⟨S1x4x128, .f32⟩
  | 16 => ⟨S1x4x128, .f32⟩
  | 17 => ⟨S_, .f32⟩
  | 18 => ⟨S1x4x128, .f32⟩
  | 19 => ⟨S1x4x128, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel12.lean ====
abbrev S1x128x4x4 : Shape := ⟨4, ![1, 128, 4, 4]⟩
abbrev S1x4x4x128 : Shape := ⟨4, ![1, 4, 4, 128]⟩
abbrev S16x128 : Shape := ⟨2, ![16, 128]⟩

abbrev nBuf : Space → Nat
  | .hbm => 30
  | .vmem => 14
  | .smem => 0
  | _ => 0

abbrev bufTy : (tb : Table) → Fin (tcTables nBuf tb) → BufTy
  | .hbm, ⟨0, _⟩ => ⟨S1x128x4x4, .f32⟩
  | .hbm, ⟨1, _⟩ => ⟨S1x128x4x4, .f32⟩
  | .hbm, ⟨2, _⟩ => ⟨S1x128x4x4, .f32⟩
  | .hbm, ⟨3, _⟩ => ⟨S1x128x4x4, .f32⟩
  | .hbm, ⟨4, _⟩ => ⟨S1x128x4x4, .f32⟩
  | .hbm, ⟨5, _⟩ => ⟨S1x128x4x4, .f32⟩
  | .hbm, ⟨6, _⟩ => ⟨S1x128x4x4, .f32⟩
  | .hbm, ⟨7, _⟩ => ⟨S1x128x4x4, .f32⟩
  | .hbm, ⟨8, _⟩ => ⟨S1x4x4x128, .f32⟩
  | .hbm, ⟨9, _⟩ => ⟨S16x128, .f32⟩
  | .hbm, ⟨10, _⟩ => ⟨S1x4x4x128, .f32⟩
  | .hbm, ⟨11, _⟩ => ⟨S16x128, .f32⟩
  | .hbm, ⟨12, _⟩ => ⟨S1x4x4x128, .f32⟩
  | .hbm, ⟨13, _⟩ => ⟨S16x128, .f32⟩
  | .hbm, ⟨14, _⟩ => ⟨S1x4x4x128, .f32⟩
  | .hbm, ⟨15, _⟩ => ⟨S16x128, .f32⟩
  | .hbm, ⟨16, _⟩ => ⟨S1x4x4x128, .f32⟩
  | .hbm, ⟨17, _⟩ => ⟨S16x128, .f32⟩
  | .hbm, ⟨18, _⟩ => ⟨S1x4x4x128, .f32⟩
  | .hbm, ⟨19, _⟩ => ⟨S16x128, .f32⟩
  | .hbm, ⟨20, _⟩ => ⟨S1x4x4x128, .f32⟩
  | .hbm, ⟨21, _⟩ => ⟨S16x128, .f32⟩
  | .hbm, ⟨22, _⟩ => ⟨S1x4x4x128, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S16x128, .f32⟩
  | .hbm, ⟨27, _⟩ => ⟨S16x128, .f32⟩
  | .hbm, ⟨28, _⟩ => ⟨S16x128, .f32⟩
  | .hbm, ⟨29, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | _, _ => ⟨S1x128x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v16_4 : Ref sig .tc := ⟨.hbm, 28, rfl⟩
abbrev main_v16_5 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference12Ideal.lean ====
abbrev S1x128x4x4 : Shape := ⟨4, ![1, 128, 4, 4]⟩
abbrev S_ : Shape := ⟨0, ![]⟩
abbrev S1x4x4x128 : Shape := ⟨4, ![1, 4, 4, 128]⟩
abbrev S16x128 : Shape := ⟨2, ![16, 128]⟩

abbrev nBuf : Space → Nat
  | .hbm => 86
  | .vmem => 0
  | .smem => 0
  | _ => 0

abbrev bufTy : (tb : Table) → Fin (tcTables nBuf tb) → BufTy
  | .hbm, ⟨0, _⟩ => ⟨S1x128x4x4, .f32⟩
  | .hbm, ⟨1, _⟩ => ⟨S1x128x4x4, .f32⟩
  | .hbm, ⟨2, _⟩ => ⟨S1x128x4x4, .f32⟩
  | .hbm, ⟨3, _⟩ => ⟨S1x128x4x4, .f32⟩
  | .hbm, ⟨4, _⟩ => ⟨S1x128x4x4, .f32⟩
  | .hbm, ⟨5, _⟩ => ⟨S1x128x4x4, .f32⟩
  | .hbm, ⟨6, _⟩ => ⟨S1x128x4x4, .f32⟩
  | .hbm, ⟨7, _⟩ => ⟨S1x128x4x4, .f32⟩
  | .hbm, ⟨8, _⟩ => ⟨S_, .f32⟩
  | .hbm, ⟨9, _⟩ => ⟨S1x128x4x4, .f32⟩
  | .hbm, ⟨10, _⟩ => ⟨S1x128x4x4, .f32⟩
  | .hbm, ⟨11, _⟩ => ⟨S_, .f32⟩
  | .hbm, ⟨12, _⟩ => ⟨S1x128x4x4, .f32⟩
  | .hbm, ⟨13, _⟩ => ⟨S1x128x4x4, .f32⟩
  | .hbm, ⟨14, _⟩ => ⟨S1x128x4x4, .f32⟩
  | .hbm, ⟨15, _⟩ => ⟨S_, .f32⟩
  | .hbm, ⟨16, _⟩ => ⟨S1x128x4x4, .f32⟩
  | .hbm, ⟨17, _⟩ => ⟨S1x128x4x4, .f32⟩
  | .hbm, ⟨18, _⟩ => ⟨S1x128x4x4, .f32⟩
  | .hbm, ⟨19, _⟩ => ⟨S_, .f32⟩
  | .hbm, ⟨20, _⟩ => ⟨S1x128x4x4, .f32⟩
  | .hbm, ⟨21, _⟩ => ⟨S1x128x4x4, .f32⟩
  | .hbm, ⟨22, _⟩ => ⟨S1x128x4x4, .f32⟩
  | .hbm, ⟨23, _⟩ => ⟨S_, .f32⟩
  | .hbm, ⟨24, _⟩ => ⟨S1x128x4x4, .f32⟩
  | .hbm, ⟨25, _⟩ => ⟨S1x128x4x4, .f32⟩
  | .hbm, ⟨26, _⟩ => ⟨S_, .f32⟩
  | .hbm, ⟨27, _⟩ => ⟨S1x128x4x4, .f32⟩
  | .hbm, ⟨28, _⟩ => ⟨S1x128x4x4, .f32⟩
  | .hbm, ⟨29, _⟩ => ⟨S1x128x4x4, .f32⟩
  | .hbm, ⟨30, _⟩ => ⟨S_, .f32⟩
  | .hbm, ⟨31, _⟩ => ⟨S1x128x4x4, .f32⟩
  | .hbm, ⟨32, _⟩ => ⟨S1x128x4x4, .f32⟩
  | .hbm, ⟨33, _⟩ => ⟨S1x128x4x4, .f32⟩
  | .hbm, ⟨34, _⟩ => ⟨S_, .f32⟩
  | .hbm, ⟨35, _⟩ => ⟨S1x128x4x4, .f32⟩
  | .hbm, ⟨36, _⟩ => ⟨S1x128x4x4, .f32⟩
  | .hbm, ⟨37, _⟩ => ⟨S1x128x4x4, .f32⟩
  | .hbm, ⟨38, _⟩ => ⟨S_, .f32⟩
  | .hbm, ⟨39, _⟩ => ⟨S1x128x4x4, .f32⟩
  | .hbm, ⟨40, _⟩ => ⟨S1x128x4x4, .f32⟩
  | .hbm, ⟨41, _⟩ => ⟨S_, .f32⟩
  | .hbm, ⟨42, _⟩ => ⟨S1x128x4x4, .f32⟩
  | .hbm, ⟨43, _⟩ => ⟨S1x128x4x4, .f32⟩
  | .hbm, ⟨44, _⟩ => ⟨S_, .f32⟩
  | .hbm, ⟨45, _⟩ => ⟨S1x128x4x4, .f32⟩
  | .hbm, ⟨46, _⟩ => ⟨S1x128x4x4, .f32⟩
  | .hbm, ⟨47, _⟩ => ⟨S1x128x4x4, .f32⟩
  | .hbm, ⟨48, _⟩ => ⟨S_, .f32⟩
  | .hbm, ⟨49, _⟩ => ⟨S1x128x4x4, .f32⟩
  | .hbm, ⟨50, _⟩ => ⟨S1x128x4x4, .f32⟩
  | .hbm, ⟨51, _⟩ => ⟨S1x128x4x4, .f32⟩
  | .hbm, ⟨52, _⟩ => ⟨S_, .f32⟩
  | .hbm, ⟨53, _⟩ => ⟨S1x128x4x4, .f32⟩
  | .hbm, ⟨54, _⟩ => ⟨S1x128x4x4, .f32⟩
  | .hbm, ⟨55, _⟩ => ⟨S1x128x4x4, .f32⟩
  | .hbm, ⟨56, _⟩ => ⟨S_, .f32⟩
  | .hbm, ⟨57, _⟩ => ⟨S1x128x4x4, .f32⟩
  | .hbm, ⟨58, _⟩ => ⟨S1x128x4x4, .f32⟩
  | .hbm, ⟨59, _⟩ => ⟨S_, .f32⟩
  | .hbm, ⟨60, _⟩ => ⟨S1x128x4x4, .f32⟩
  | .hbm, ⟨61, _⟩ => ⟨S1x128x4x4, .f32⟩
  | .hbm, ⟨62, _⟩ => ⟨S1x128x4x4, .f32⟩
  | .hbm, ⟨63, _⟩ => ⟨S_, .f32⟩
  | .hbm, ⟨64, _⟩ => ⟨S1x128x4x4, .f32⟩
  | .hbm, ⟨65, _⟩ => ⟨S1x128x4x4, .f32⟩
  | .hbm, ⟨66, _⟩ => ⟨S1x128x4x4, .f32⟩
  | .hbm, ⟨67, _⟩ => ⟨S_, .f32⟩
  | .hbm, ⟨68, _⟩ => ⟨S1x128x4x4, .f32⟩
  | .hbm, ⟨69, _⟩ => ⟨S1x128x4x4, .f32⟩
  | .hbm, ⟨70, _⟩ => ⟨S1x128x4x4, .f32⟩
  | .hbm, ⟨71, _⟩ => ⟨S_, .f32⟩
  | .hbm, ⟨72, _⟩ => ⟨S1x128x4x4, .f32⟩
  | .hbm, ⟨73, _⟩ => ⟨S1x128x4x4, .f32⟩
  | .hbm, ⟨74, _⟩ => ⟨S1x4x4x128, .f32⟩
  | .hbm, ⟨75, _⟩ => ⟨S16x128, .f32⟩
  | .hbm, ⟨76, _⟩ => ⟨S1x4x4x128, .f32⟩
  | .hbm, ⟨77, _⟩ => ⟨S16x128, .f32⟩
  | .hbm, ⟨78, _⟩ => ⟨S1x4x4x128, .f32⟩
  | .hbm, ⟨79, _⟩ => ⟨S16x128, .f32⟩
  | .hbm, ⟨80, _⟩ => ⟨S1x4x4x128, .f32⟩
  | .hbm, ⟨81, _⟩ => ⟨S16x128, .f32⟩
  | .hbm, ⟨82, _⟩ => ⟨S1x4x4x128, .f32⟩
  | .hbm, ⟨83, _⟩ => ⟨S16x128, .f32⟩
  | .hbm, ⟨84, _⟩ => ⟨S1x4x4x128, .f32⟩
  | .hbm, ⟨85, _⟩ => ⟨S16x128, .f32⟩
  | _, _ => ⟨S1x128x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== Kernel13.lean ====
abbrev S1x128x4x4 : Shape := ⟨4, ![1, 128, 4, 4]⟩
abbrev S1x384x8 : Shape := ⟨3, ![1, 384, 8]⟩
abbrev S1x4x4x128 : Shape := ⟨4, ![1, 4, 4, 128]⟩
abbrev S16x128 : Shape := ⟨2, ![16, 128]⟩
abbrev S1x8x384 : Shape := ⟨3, ![1, 8, 384]⟩
abbrev S8x384 : Shape := ⟨2, ![8, 384]⟩

abbrev nBuf : Space → Nat
  | .hbm => 30
  | .vmem => 14
  | .smem => 0
  | _ => 0

abbrev bufTy : (tb : Table) → Fin (tcTables nBuf tb) → BufTy
  | .hbm, ⟨0, _⟩ => ⟨S1x128x4x4, .f32⟩
  | .hbm, ⟨1, _⟩ => ⟨S1x384x8, .f32⟩
  | .hbm, ⟨2, _⟩ => ⟨S1x128x4x4, .f32⟩
  | .hbm, ⟨3, _⟩ => ⟨S1x384x8, .f32⟩
  | .hbm, ⟨4, _⟩ => ⟨S1x128x4x4, .f32⟩
  | .hbm, ⟨5, _⟩ => ⟨S1x384x8, .f32⟩
  | .hbm, ⟨6, _⟩ => ⟨S1x128x4x4, .f32⟩
  | .hbm, ⟨7, _⟩ => ⟨S1x384x8, .f32⟩
  | .hbm, ⟨8, _⟩ => ⟨S1x4x4x128, .f32⟩
  | .hbm, ⟨9, _⟩ => ⟨S16x128, .f32⟩
  | .hbm, ⟨10, _⟩ => ⟨S1x8x384, .f32⟩
  | .hbm, ⟨11, _⟩ => ⟨S8x384, .f32⟩
  | .hbm, ⟨12, _⟩ => ⟨S1x4x4x128, .f32⟩
  | .hbm, ⟨13, _⟩ => ⟨S16x128, .f32⟩
  | .hbm, ⟨14, _⟩ => ⟨S1x8x384, .f32⟩
  | .hbm, ⟨15, _⟩ => ⟨S8x384, .f32⟩
  | .hbm, ⟨16, _⟩ => ⟨S1x4x4x128, .f32⟩
  | .hbm, ⟨17, _⟩ => ⟨S16x128, .f32⟩
  | .hbm, ⟨18, _⟩ => ⟨S1x8x384, .f32⟩
  | .hbm, ⟨19, _⟩ => ⟨S8x384, .f32⟩
  | .hbm, ⟨20, _⟩ => ⟨S1x4x4x128, .f32⟩
  | .hbm, ⟨21, _⟩ => ⟨S16x128, .f32⟩
  | .hbm, ⟨22, _⟩ => ⟨S1x8x384, .f32⟩
  | .hbm, ⟨23, _⟩ => ⟨S8x384, .f32⟩
  | .hbm, ⟨24, _⟩ => ⟨S16x128, .f32⟩
  | .hbm, ⟨25, _⟩ => ⟨S8x384, .f32⟩
  | .hbm, ⟨26, _⟩ => ⟨S16x128, .f32⟩
  | .hbm, ⟨27, _⟩ => ⟨S8x384, .f32⟩
  | .hbm, ⟨28, _⟩ => ⟨S16x128, .f32⟩
  | .hbm, ⟨29, _⟩ => ⟨S8x384, .f32⟩
  | .local _ .vmem, ⟨0, _⟩ => ⟨S16x128, .f32⟩
  | .local _ .vmem, ⟨1, _⟩ => ⟨S8x384, .f32⟩
  | .local _ .vmem, ⟨2, _⟩ => ⟨S16x128, .f32⟩
  | .local _ .vmem, ⟨3, _⟩ => ⟨S8x384, .f32⟩
  | .local _ .vmem, ⟨4, _⟩ => ⟨S16x128, .f32⟩
  | .local _ .vmem, ⟨5, _⟩ => ⟨S8x384, .f32⟩
  | .local _ .vmem, ⟨6, _⟩ => ⟨S16x128, .f32⟩
  | .local _ .vmem, ⟨7, _⟩ => ⟨S8x384, .f32⟩
  | .local _ .vmem, ⟨8, _⟩ => ⟨S16x128, .f32⟩
  | .local _ .vmem, ⟨9, _⟩ => ⟨S8x384, .f32⟩
  | .local _ .vmem, ⟨10, _⟩ => ⟨S16x128, .f32⟩
  | .local _ .vmem, ⟨11, _⟩ => ⟨S8x384, .f32⟩
  | .local _ .vmem, ⟨12, _⟩ => ⟨S16x128, .f32⟩
  | .local _ .vmem, ⟨13, _⟩ => ⟨S8x384, .f32⟩
  | _, _ => ⟨S1x128x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v16_4 : Ref sig .tc := ⟨.hbm, 28, rfl⟩
abbrev main_v16_5 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference13Ideal.lean ====
abbrev S1x128x4x4 : Shape := ⟨4, ![1, 128, 4, 4]⟩
abbrev S1x384x8 : Shape := ⟨3, ![1, 384, 8]⟩
abbrev S_ : Shape := ⟨0, ![]⟩
abbrev S1x4x4x128 : Shape := ⟨4, ![1, 4, 4, 128]⟩
abbrev S16x128 : Shape := ⟨2, ![16, 128]⟩
abbrev S1x8x384 : Shape := ⟨3, ![1, 8, 384]⟩
abbrev S8x384 : Shape := ⟨2, ![8, 384]⟩

abbrev nBuf : Space → Nat
  | .hbm => 86
  | .vmem => 0
  | .smem => 0
  | _ => 0

abbrev bufTy : (tb : Table) → Fin (tcTables nBuf tb) → BufTy
  | .hbm, ⟨0, _⟩ => ⟨S1x128x4x4, .f32⟩
  | .hbm, ⟨1, _⟩ => ⟨S1x384x8, .f32⟩
  | .hbm, ⟨2, _⟩ => ⟨S1x128x4x4, .f32⟩
  | .hbm, ⟨3, _⟩ => ⟨S1x384x8, .f32⟩
  | .hbm, ⟨4, _⟩ => ⟨S1x128x4x4, .f32⟩
  | .hbm, ⟨5, _⟩ => ⟨S1x384x8, .f32⟩
  | .hbm, ⟨6, _⟩ => ⟨S1x128x4x4, .f32⟩
  | .hbm, ⟨7, _⟩ => ⟨S1x384x8, .f32⟩
  | .hbm, ⟨8, _⟩ => ⟨S_, .f32⟩
  | .hbm, ⟨9, _⟩ => ⟨S1x128x4x4, .f32⟩
  | .hbm, ⟨10, _⟩ => ⟨S1x128x4x4, .f32⟩
  | .hbm, ⟨11, _⟩ => ⟨S_, .f32⟩
  | .hbm, ⟨12, _⟩ => ⟨S1x128x4x4, .f32⟩
  | .hbm, ⟨13, _⟩ => ⟨S1x128x4x4, .f32⟩
  | .hbm, ⟨14, _⟩ => ⟨S1x128x4x4, .f32⟩
  | .hbm, ⟨15, _⟩ => ⟨S_, .f32⟩
  | .hbm, ⟨16, _⟩ => ⟨S1x128x4x4, .f32⟩
  | .hbm, ⟨17, _⟩ => ⟨S1x128x4x4, .f32⟩
  | .hbm, ⟨18, _⟩ => ⟨S1x128x4x4, .f32⟩
  | .hbm, ⟨19, _⟩ => ⟨S_, .f32⟩
  | .hbm, ⟨20, _⟩ => ⟨S1x128x4x4, .f32⟩
  | .hbm, ⟨21, _⟩ => ⟨S1x128x4x4, .f32⟩
  | .hbm, ⟨22, _⟩ => ⟨S1x128x4x4, .f32⟩
  | .hbm, ⟨23, _⟩ => ⟨S_, .f32⟩
  | .hbm, ⟨24, _⟩ => ⟨S1x128x4x4, .f32⟩
  | .hbm, ⟨25, _⟩ => ⟨S1x128x4x4, .f32⟩
  | .hbm, ⟨26, _⟩ => ⟨S_, .f32⟩
  | .hbm, ⟨27, _⟩ => ⟨S1x128x4x4, .f32⟩
  | .hbm, ⟨28, _⟩ => ⟨S1x128x4x4, .f32⟩
  | .hbm, ⟨29, _⟩ => ⟨S1x128x4x4, .f32⟩
  | .hbm, ⟨30, _⟩ => ⟨S_, .f32⟩
  | .hbm, ⟨31, _⟩ => ⟨S1x128x4x4, .f32⟩
  | .hbm, ⟨32, _⟩ => ⟨S1x128x4x4, .f32⟩
  | .hbm, ⟨33, _⟩ => ⟨S1x128x4x4, .f32⟩
  | .hbm, ⟨34, _⟩ => ⟨S_, .f32⟩
  | .hbm, ⟨35, _⟩ => ⟨S1x128x4x4, .f32⟩
  | .hbm, ⟨36, _⟩ => ⟨S1x128x4x4, .f32⟩
  | .hbm, ⟨37, _⟩ => ⟨S1x128x4x4, .f32⟩
  | .hbm, ⟨38, _⟩ => ⟨S_, .f32⟩
  | .hbm, ⟨39, _⟩ => ⟨S1x128x4x4, .f32⟩
  | .hbm, ⟨40, _⟩ => ⟨S1x128x4x4, .f32⟩
  | .hbm, ⟨41, _⟩ => ⟨S_, .f32⟩
  | .hbm, ⟨42, _⟩ => ⟨S1x384x8, .f32⟩
  | .hbm, ⟨43, _⟩ => ⟨S1x384x8, .f32⟩
  | .hbm, ⟨44, _⟩ => ⟨S_, .f32⟩
  | .hbm, ⟨45, _⟩ => ⟨S1x384x8, .f32⟩
  | .hbm, ⟨46, _⟩ => ⟨S1x384x8, .f32⟩
  | .hbm, ⟨47, _⟩ => ⟨S1x384x8, .f32⟩
  | .hbm, ⟨48, _⟩ => ⟨S_, .f32⟩
  | .hbm, ⟨49, _⟩ => ⟨S1x384x8, .f32⟩
  | .hbm, ⟨50, _⟩ => ⟨S1x384x8, .f32⟩
  | .hbm, ⟨51, _⟩ => ⟨S1x384x8, .f32⟩
  | .hbm, ⟨52, _⟩ => ⟨S_, .f32⟩
  | .hbm, ⟨53, _⟩ => ⟨S1x384x8, .f32⟩
  | .hbm, ⟨54, _⟩ => ⟨S1x384x8, .f32⟩
  | .hbm, ⟨55, _⟩ => ⟨S1x384x8, .f32⟩
  | .hbm, ⟨56, _⟩ => ⟨S_, .f32⟩
  | .hbm, ⟨57, _⟩ => ⟨S1x384x8, .f32⟩
  | .hbm, ⟨58, _⟩ => ⟨S1x384x8, .f32⟩
  | .hbm, ⟨59, _⟩ => ⟨S_, .f32⟩
  | .hbm, ⟨60, _⟩ => ⟨S1x384x8, .f32⟩
  | .hbm, ⟨61, _⟩ => ⟨S1x384x8, .f32⟩
  | .hbm, ⟨62, _⟩ => ⟨S1x384x8, .f32⟩
  | .hbm, ⟨63, _⟩ => ⟨S_, .f32⟩
  | .hbm, ⟨64, _⟩ => ⟨S1x384x8, .f32⟩
  | .hbm, ⟨65, _⟩ => ⟨S1x384x8, .f32⟩
  | .hbm, ⟨66, _⟩ => ⟨S1x384x8, .f32⟩
  | .hbm, ⟨67, _⟩ => ⟨S_, .f32⟩
  | .hbm, ⟨68, _⟩ => ⟨S1x384x8, .f32⟩
  | .hbm, ⟨69, _⟩ => ⟨S1x384x8, .f32⟩
  | .hbm, ⟨70, _⟩ => ⟨S1x384x8, .f32⟩
  | .hbm, ⟨71, _⟩ => ⟨S_, .f32⟩
  | .hbm, ⟨72, _⟩ => ⟨S1x384x8, .f32⟩
  | .hbm, ⟨73, _⟩ => ⟨S1x384x8, .f32⟩
  | .hbm, ⟨74, _⟩ => ⟨S1x4x4x128, .f32⟩
  | .hbm, ⟨75, _⟩ => ⟨S16x128, .f32⟩
  | .hbm, ⟨76, _⟩ => ⟨S1x8x384, .f32⟩
  | .hbm, ⟨77, _⟩ => ⟨S8x384, .f32⟩
  | .hbm, ⟨78, _⟩ => ⟨S1x4x4x128, .f32⟩
  | .hbm, ⟨79, _⟩ => ⟨S16x128, .f32⟩
  | .hbm, ⟨80, _⟩ => ⟨S1x8x384, .f32⟩
  | .hbm, ⟨81, _⟩ => ⟨S8x384, .f32⟩
  | .hbm, ⟨82, _⟩ => ⟨S1x4x4x128, .f32⟩
  | .hbm, ⟨83, _⟩ => ⟨S16x128, .f32⟩
  | .hbm, ⟨84, _⟩ => ⟨S1x8x384, .f32⟩
  | .hbm, ⟨85, _⟩ => ⟨S8x384, .f32⟩
  | _, _ => ⟨S1x128x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== Kernel14.lean ====
abbrev S1x1024x1156 : Shape := ⟨3, ![1, 1024, 1156]⟩
abbrev S1156x1x1024 : Shape := ⟨3, ![1156, 1, 1024]⟩
abbrev S1156x8x128 : Shape := ⟨3, ![1156, 8, 128]⟩
abbrev S1156x1024 : Shape := ⟨2, ![1156, 1024]⟩
abbrev S152x1024 : Shape := ⟨2, ![152, 1024]⟩
abbrev S152x8x128 : Shape := ⟨3, ![152, 8, 128]⟩

abbrev nBuf : Space → Nat
  | .hbm => 16
  | .vmem => 16
  | .smem => 0
  | _ => 0

abbrev bufTy : (tb : Table) → Fin (tcTables nBuf tb) → BufTy
  | .hbm, ⟨0, _⟩ => ⟨S1x1024x1156, .f32⟩
  | .hbm, ⟨1, _⟩ => ⟨S1x1024x1156, .f32⟩
  | .hbm, ⟨2, _⟩ => ⟨S1x1024x1156, .f32⟩
  | .hbm, ⟨3, _⟩ => ⟨S1x1024x1156, .f32⟩
  | .hbm, ⟨4, _⟩ => ⟨S1156x1x1024, .f32⟩
  | .hbm, ⟨5, _⟩ => ⟨S1156x8x128, .f32⟩
  | .hbm, ⟨6, _⟩ => ⟨S1156x1x1024, .f32⟩
  | .hbm, ⟨7, _⟩ => ⟨S1156x8x128, .f32⟩
  | .hbm, ⟨8, _⟩ => ⟨S1156x1x1024, .f32⟩
  | .hbm, ⟨9, _⟩ => ⟨S1156x8x128, .f32⟩
  | .hbm, ⟨10, _⟩ => ⟨S1156x1x1024, .f32⟩
  | .hbm, ⟨11, _⟩ => ⟨S1156x1024, .f32⟩
  | .hbm, ⟨12, _⟩ => ⟨S1156x8x128, .f32⟩
  | .hbm, ⟨13, _⟩ => ⟨S1156x8x128, .f32⟩
  | .hbm, ⟨14, _⟩ => ⟨S1156x8x128, .f32⟩
  | .hbm, ⟨15, _⟩ => ⟨S1156x8x128, .f32⟩
  | .local _ .vmem, ⟨0, _⟩ => ⟨S152x1024, .f32⟩
  | .local _ .vmem, ⟨1, _⟩ => ⟨S152x1024, .f32⟩
  | .local _ .vmem, ⟨2, _⟩ => ⟨S152x8x128, .f32⟩
  | .local _ .vmem, ⟨3, _⟩ => ⟨S152x8x128, .f32⟩
  | .local _ .vmem, ⟨4, _⟩ => ⟨S152x8x128, .f32⟩
  | .local _ .vmem, ⟨5, _⟩ => ⟨S152x8x128, .f32⟩
  | .local _ .vmem, ⟨6, _⟩ => ⟨S152x8x128, .f32⟩
  | .local _ .vmem, ⟨7, _⟩ => ⟨S152x8x128, .f32⟩
  | .local _ .vmem, ⟨8, _⟩ => ⟨S152x8x128, .f32⟩
  | .local _ .vmem, ⟨9, _⟩ => ⟨S152x8x128, .f32⟩
  | .local _ .vmem, ⟨10, _⟩ => ⟨S152x8x128, .f32⟩
  | .local _ .vmem, ⟨11, _⟩ => ⟨S152x8x128, .f32⟩
  | .local _ .vmem, ⟨12, _⟩ => ⟨S152x8x128, .f32⟩
  | .local _ .vmem, ⟨13, _⟩ => ⟨S152x8x128, .f32⟩
  | .local _ .vmem, ⟨14, _⟩ => ⟨S152x8x128, .f32⟩
  | .local _ .vmem, ⟨15, _⟩ => ⟨S152x8x128, .f32⟩
  | _, _ => ⟨S1x1024x1156, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S152x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S152x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S152x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S152x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S152x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S152x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S152x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S1x1024x1156 : Shape := ⟨3, ![1, 1024, 1156]⟩
abbrev S_ : Shape := ⟨0, ![]⟩
abbrev S1156x1x1024 : Shape := ⟨3, ![1156, 1, 1024]⟩
abbrev S1156x8x128 : Shape := ⟨3, ![1156, 8, 128]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x1156, .f32⟩
  | .hbm, ⟨1, _⟩ => ⟨S1x1024x1156, .f32⟩
  | .hbm, ⟨2, _⟩ => ⟨S1x1024x1156, .f32⟩
  | .hbm, ⟨3, _⟩ => ⟨S1x1024x1156, .f32⟩
  | .hbm, ⟨4, _⟩ => ⟨S_, .f32⟩
  | .hbm, ⟨5, _⟩ => ⟨S1x1024x1156, .f32⟩
  | .hbm, ⟨6, _⟩ => ⟨S1x1024x1156, .f32⟩
  | .hbm, ⟨7, _⟩ => ⟨S_, .f32⟩
  | .hbm, ⟨8, _⟩ => ⟨S1x1024x1156, .f32⟩
  | .hbm, ⟨9, _⟩ => ⟨S1x1024x1156, .f32⟩
  | .hbm, ⟨10, _⟩ => ⟨S1x1024x1156, .f32⟩
  | .hbm, ⟨11, _⟩ => ⟨S_, .f32⟩
  | .hbm, ⟨12, _⟩ => ⟨S1x1024x1156, .f32⟩
  | .hbm, ⟨13, _⟩ => ⟨S1x1024x1156, .f32⟩
  | .hbm, ⟨14, _⟩ => ⟨S1x1024x1156, .f32⟩
  | .hbm, ⟨15, _⟩ => ⟨S_, .f32⟩
  | .hbm, ⟨16, _⟩ => ⟨S1x1024x1156, .f32⟩
  | .hbm, ⟨17, _⟩ => ⟨S1x1024x1156, .f32⟩
  | .hbm, ⟨18, _⟩ => ⟨S1x1024x1156, .f32⟩
  | .hbm, ⟨19, _⟩ => ⟨S_, .f32⟩
  | .hbm, ⟨20, _⟩ => ⟨S1x1024x1156, .f32⟩
  | .hbm, ⟨21, _⟩ => ⟨S1x1024x1156, .f32⟩
  | .hbm, ⟨22, _⟩ => ⟨S_, .f32⟩
  | .hbm, ⟨23, _⟩ => ⟨S1x1024x1156, .f32⟩
  | .hbm, ⟨24, _⟩ => ⟨S1x1024x1156, .f32⟩
  | .hbm, ⟨25, _⟩ => ⟨S1x1024x1156, .f32⟩
  | .hbm, ⟨26, _⟩ => ⟨S_, .f32⟩
  | .hbm, ⟨27, _⟩ => ⟨S1x1024x1156, .f32⟩
  | .hbm, ⟨28, _⟩ => ⟨S1x1024x1156, .f32⟩
  | .hbm, ⟨29, _⟩ => ⟨S1x1024x1156, .f32⟩
  | .hbm, ⟨30, _⟩ => ⟨S_, .f32⟩
  | .hbm, ⟨31, _⟩ => ⟨S1x1024x1156, .f32⟩
  | .hbm, ⟨32, _⟩ => ⟨S1x1024x1156, .f32⟩
  | .hbm, ⟨33, _⟩ => ⟨S1x1024x1156, .f32⟩
  | .hbm, ⟨34, _⟩ => ⟨S_, .f32⟩
  | .hbm, ⟨35, _⟩ => ⟨S1x1024x1156, .f32⟩
  | .hbm, ⟨36, _⟩ => ⟨S1x1024x1156, .f32⟩
  | .hbm, ⟨37, _⟩ => ⟨S1156x1x1024, .f32⟩
  | .hbm, ⟨38, _⟩ => ⟨S1156x8x128, .f32⟩
  | .hbm, ⟨39, _⟩ => ⟨S1156x1x1024, .f32⟩
  | .hbm, ⟨40, _⟩ => ⟨S1156x8x128, .f32⟩
  | .hbm, ⟨41, _⟩ => ⟨S1156x1x1024, .f32⟩
  | .hbm, ⟨42, _⟩ => ⟨S1156x8x128, .f32⟩
  | _, _ => ⟨S1x1024x1156, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel15.lean ====
abbrev S2048x1024 : Shape := ⟨2, ![2048, 1024]⟩
abbrev S1024x4624 : Shape := ⟨2, ![1024, 4624]⟩
abbrev S2048x1536 : Shape := ⟨2, ![2048, 1536]⟩
abbrev S2048x16 : Shape := ⟨2, ![2048, 16]⟩
abbrev S2048x2048 : Shape := ⟨2, ![2048, 2048]⟩
abbrev S_ : Shape := ⟨0, ![]⟩
abbrev S2048x128 : Shape := ⟨2, ![2048, 128]⟩
abbrev S2048x2688 : Shape := ⟨2, ![2048, 2688]⟩
abbrev S4x1156x1024 : Shape := ⟨3, ![4, 1156, 1024]⟩
abbrev S2048x512 : Shape := ⟨2, ![2048, 512]⟩
abbrev S512x1024 : Shape := ⟨2, ![512, 1024]⟩
abbrev S1x512x1024 : Shape := ⟨3, ![1, 512, 1024]⟩
abbrev S132x1024 : Shape := ⟨2, ![132, 1024]⟩
abbrev S1x132x1024 : Shape := ⟨3, ![1, 132, 1024]⟩
abbrev S380x1024 : Shape := ⟨2, ![380, 1024]⟩
abbrev S1x380x1024 : Shape := ⟨3, ![1, 380, 1024]⟩
abbrev S248x1024 : Shape := ⟨2, ![248, 1024]⟩
abbrev S1x248x1024 : Shape := ⟨3, ![1, 248, 1024]⟩
abbrev S264x1024 : Shape := ⟨2, ![264, 1024]⟩
abbrev S1x264x1024 : Shape := ⟨3, ![1, 264, 1024]⟩
abbrev S128x1024 : Shape := ⟨2, ![128, 1024]⟩
abbrev S16x1024 : Shape := ⟨2, ![16, 1024]⟩
abbrev S1x16x1024 : Shape := ⟨3, ![1, 16, 1024]⟩

abbrev nBuf : Space → Nat
  | .hbm => 14
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x4624, .f32⟩
  | .hbm, ⟨2, _⟩ => ⟨S2048x1536, .f32⟩
  | .hbm, ⟨3, _⟩ => ⟨S2048x1024, .f32⟩
  | .hbm, ⟨4, _⟩ => ⟨S2048x16, .f32⟩
  | .hbm, ⟨5, _⟩ => ⟨S2048x2048, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x2688, .f32⟩
  | .hbm, ⟨10, _⟩ => ⟨S2048x2688, .bf16⟩
  | .hbm, ⟨11, _⟩ => ⟨S2048x2048, .bf16⟩
  | .hbm, ⟨12, _⟩ => ⟨S2048x1024, .bf16⟩
  | .hbm, ⟨13, _⟩ => ⟨S4x1156x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x128, .bf16⟩
  | .local _ .vmem, ⟨5, _⟩ => ⟨S2048x1024, .bf16⟩
  | .local _ .vmem, ⟨6, _⟩ => ⟨S4x1156x1024, .bf16⟩
  | .local _ .vmem, ⟨7, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![9], ![false]⟩

def k0_cond3 (i : grid0.Coords) : BitVec 1 :=
  let arg0 : BitVec 32 := BitVec.ofNat 32 (i 0).val
  let c0_i32_2 : BitVec 32 := 0#32
  let v6 : BitVec 1 := Scalar.cmpi .eq arg0 c0_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg0 : BitVec 32 := BitVec.ofNat 32 (i 0).val
  let c1_i32 : BitVec 32 := 1#32
  let v9 : BitVec 1 := Scalar.cmpi .eq arg0 c1_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg0 : BitVec 32 := BitVec.ofNat 32 (i 0).val
  let c2_i32 : BitVec 32 := 2#32
  let v12 : BitVec 1 := Scalar.cmpi .eq arg0 c2_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg0 : BitVec 32 := BitVec.ofNat 32 (i 0).val
  let c3_i32 : BitVec 32 := 3#32
  let v15 : BitVec 1 := Scalar.cmpi .eq arg0 c3_i32
  let v16 : BitVec 32 := Scalar.extui v15
  let c0_i32_6 : BitVec 32 := 0#32
  let v17 : BitVec 1 := Scalar.cmpi .ne v16 c0_i32_6
  v17

def k0_cond7 (i : grid0.Coords) : BitVec 1 :=
  let arg0 : BitVec 32 := BitVec.ofNat 32 (i 0).val
  let c4_i32 : BitVec 32 := 4#32
  let v18 : BitVec 1 := Scalar.cmpi .eq arg0 c4_i32
  let v19 : BitVec 32 := Scalar.extui v18
  let c0_i32_7 : BitVec 32 := 0#32
  let v20 : BitVec 1 := Scalar.cmpi .ne v19 c0_i32_7
  v20

def k0_cond8 (i : grid0.Coords) : BitVec 1 :=
  let arg0 : BitVec 32 := BitVec.ofNat 32 (i 0).val
  let c5_i32_8 : BitVec 32 := 5#32
  let v21 : BitVec 1 := Scalar.cmpi .eq arg0 c5_i32_8
  let v22 : BitVec 32 := Scalar.extui v21
  let c0_i32_9 : BitVec 32 := 0#32
  let v23 : BitVec 1 := Scalar.cmpi .ne v22 c0_i32_9
  v23

def k0_cond9 (i : grid0.Coords) : BitVec 1 :=
  let arg0 : BitVec 32 := BitVec.ofNat 32 (i 0).val
  let c6_i32 : BitVec 32 := 6#32
  let v24 : BitVec 1 := Scalar.cmpi .eq arg0 c6_i32
  let v25 : BitVec 32 := Scalar.extui v24
  let c0_i32_10 : BitVec 32 := 0#32
  let v26 : BitVec 1 := Scalar.cmpi .ne v25 c0_i32_10
  v26

def k0_cond10 (i : grid0.Coords) : BitVec 1 :=
  let arg0 : BitVec 32 := BitVec.ofNat 32 (i 0).val
  let c7_i32 : BitVec 32 := 7#32
  let v27 : BitVec 1 := Scalar.cmpi .eq arg0 c7_i32
  let v28 : BitVec 32 := Scalar.extui v27
  let c0_i32_11 : BitVec 32 := 0#32
  let v29 : BitVec 1 := Scalar.cmpi .ne v28 c0_i32_11
  v29

def k0_cond11 (i : grid0.Coords) : BitVec 1 :=
  let arg0 : BitVec 32 := BitVec.ofNat 32 (i 0).val
  let c8_i32 : BitVec 32 := 8#32
  let v30 : BitVec 1 := Scalar.cmpi .eq arg0 c8_i32
  let v31 : BitVec 32 := Scalar.extui v30
  let c0_i32_12 : BitVec 32 := 0#32
  let v32 : BitVec 1 := Scalar.cmpi .ne v31 c0_i32_12
  v32

def k0_cond12 (i : grid0.Coords) : BitVec 1 :=
  let arg0 : BitVec 32 := BitVec.ofNat 32 (i 0).val
  let c0_i32_13 : BitVec 32 := 0#32
  let v33 : BitVec 1 := Scalar.cmpi .eq arg0 c0_i32_13
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c0_i32 : BitVec 32 := 0#32
  let c20_i32 : BitVec 32 := 20#32
  let c0_i32_0 : BitVec 32 := 0#32
  ![c0_i32.toNat, c20_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1156x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference15Ideal.lean ====
abbrev S2048x1024 : Shape := ⟨2, ![2048, 1024]⟩
abbrev S1024x4624 : Shape := ⟨2, ![1024, 4624]⟩
abbrev S2048x1536 : Shape := ⟨2, ![2048, 1536]⟩
abbrev S2048x16 : Shape := ⟨2, ![2048, 16]⟩
abbrev S2048x2048 : Shape := ⟨2, ![2048, 2048]⟩
abbrev S2048x4624 : Shape := ⟨2, ![2048, 4624]⟩
abbrev S4624x1024 : Shape := ⟨2, ![4624, 1024]⟩
abbrev S4x1156x1024 : Shape := ⟨3, ![4, 1156, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4624, .f32⟩
  | .hbm, ⟨2, _⟩ => ⟨S2048x1536, .f32⟩
  | .hbm, ⟨3, _⟩ => ⟨S2048x1024, .f32⟩
  | .hbm, ⟨4, _⟩ => ⟨S2048x16, .f32⟩
  | .hbm, ⟨5, _⟩ => ⟨S2048x2048, .f32⟩
  | .hbm, ⟨6, _⟩ => ⟨S2048x4624, .f32⟩
  | .hbm, ⟨7, _⟩ => ⟨S2048x4624, .f32⟩
  | .hbm, ⟨8, _⟩ => ⟨S4624x1024, .f32⟩
  | .hbm, ⟨9, _⟩ => ⟨S1024x4624, .f32⟩
  | .hbm, ⟨10, _⟩ => ⟨S4624x1024, .f32⟩
  | .hbm, ⟨11, _⟩ => ⟨S4x1156x1024, .f32⟩
  | .hbm, ⟨12, _⟩ => ⟨S4x1156x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel16.lean ====
abbrev S2048x2688 : Shape := ⟨2, ![2048, 2688]⟩
abbrev S128x256 : Shape := ⟨2, ![128, 256]⟩
abbrev S1x256 : Shape := ⟨2, ![1, 256]⟩
abbrev S1x128 : Shape := ⟨2, ![1, 128]⟩
abbrev S4x512 : Shape := ⟨2, ![4, 512]⟩
abbrev S1x512 : Shape := ⟨2, ![1, 512]⟩
abbrev S512x128 : Shape := ⟨2, ![512, 128]⟩
abbrev S1536x128 : Shape := ⟨2, ![1536, 128]⟩
abbrev S2048x2048 : Shape := ⟨2, ![2048, 2048]⟩
abbrev S2048x1024 : Shape := ⟨2, ![2048, 1024]⟩
abbrev S4x512x256 : Shape := ⟨3, ![4, 512, 256]⟩
abbrev S1024x1024 : Shape := ⟨2, ![1024, 1024]⟩
abbrev S1x1024 : Shape := ⟨2, ![1, 1024]⟩
abbrev S16x4x128x64 : Shape := ⟨4, ![16, 4, 128, 64]⟩
abbrev S16x4x128x128 : Shape := ⟨4, ![16, 4, 128, 128]⟩
abbrev S16x4x1x128 : Shape := ⟨4, ![16, 4, 1, 128]⟩
abbrev S128x2688 : Shape := ⟨2, ![128, 2688]⟩
abbrev S64x512 : Shape := ⟨2, ![64, 512]⟩
abbrev S128x2048 : Shape := ⟨2, ![128, 2048]⟩
abbrev S128x1024 : Shape := ⟨2, ![128, 1024]⟩
abbrev S1x4x128x64 : Shape := ⟨4, ![1, 4, 128, 64]⟩
abbrev S1x4x128x128 : Shape := ⟨4, ![1, 4, 128, 128]⟩
abbrev S1x4x1x128 : Shape := ⟨4, ![1, 4, 1, 128]⟩
abbrev S4x128x64 : Shape := ⟨3, ![4, 128, 64]⟩
abbrev S4x128x128 : Shape := ⟨3, ![4, 128, 128]⟩
abbrev S4x1x128 : Shape := ⟨3, ![4, 1, 128]⟩
abbrev S128x128 : Shape := ⟨2, ![128, 128]⟩
abbrev S1x128x128 : Shape := ⟨3, ![1, 128, 128]⟩
abbrev S1x128x64 : Shape := ⟨3, ![1, 128, 64]⟩
abbrev S128x64 : Shape := ⟨2, ![128, 64]⟩
abbrev S1x1x128 : Shape := ⟨3, ![1, 1, 128]⟩
abbrev S1x1x128x64 : Shape := ⟨4, ![1, 1, 128, 64]⟩
abbrev S1x1x128x128 : Shape := ⟨4, ![1, 1, 128, 128]⟩
abbrev S1x1x1x128 : Shape := ⟨4, ![1, 1, 1, 128]⟩
abbrev S8x512 : Shape := ⟨2, ![8, 512]⟩
abbrev S64x64 : Shape := ⟨2, ![64, 64]⟩
abbrev S128x512 : Shape := ⟨2, ![128, 512]⟩
abbrev S136x512 : Shape := ⟨2, ![136, 512]⟩
abbrev S64x256 : Shape := ⟨2, ![64, 256]⟩
abbrev S64x1 : Shape := ⟨2, ![64, 1]⟩
abbrev S1x1 : Shape := ⟨2, ![1, 1]⟩
abbrev S64x128 : Shape := ⟨2, ![64, 128]⟩
abbrev S1 : Shape := ⟨1, ![1]⟩
abbrev S1x64 : Shape := ⟨2, ![1, 64]⟩
abbrev S128 : Shape := ⟨1, ![128]⟩
abbrev S64 : Shape := ⟨1, ![64]⟩
abbrev S64x1024 : Shape := ⟨2, ![64, 1024]⟩
abbrev S1x512x256 : Shape := ⟨3, ![1, 512, 256]⟩
abbrev S512x256 : Shape := ⟨2, ![512, 256]⟩
abbrev S128x1 : Shape := ⟨2, ![128, 1]⟩

abbrev nBuf : Space → Nat
  | .hbm => 27
  | .vmem => 47
  | .smem => 0
  | _ => 0

abbrev bufTy : (tb : Table) → Fin (tcTables nBuf tb) → BufTy
  | .hbm, ⟨0, _⟩ => ⟨S2048x2688, .f32⟩
  | .hbm, ⟨1, _⟩ => ⟨S128x256, .f32⟩
  | .hbm, ⟨2, _⟩ => ⟨S1x256, .f32⟩
  | .hbm, ⟨3, _⟩ => ⟨S1x128, .f32⟩
  | .hbm, ⟨4, _⟩ => ⟨S4x512, .f32⟩
  | .hbm, ⟨5, _⟩ => ⟨S1x512, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S1536x128, .f32⟩
  | .hbm, ⟨10, _⟩ => ⟨S1x128, .f32⟩
  | .hbm, ⟨11, _⟩ => ⟨S1x512, .f32⟩
  | .hbm, ⟨12, _⟩ => ⟨S1x512, .f32⟩
  | .hbm, ⟨13, _⟩ => ⟨S2048x2048, .f32⟩
  | .hbm, ⟨14, _⟩ => ⟨S2048x1024, .f32⟩
  | .hbm, ⟨15, _⟩ => ⟨S4x512x256, .bf16⟩
  | .hbm, ⟨16, _⟩ => ⟨S4x512x256, .bf16⟩
  | .hbm, ⟨17, _⟩ => ⟨S1024x1024, .bf16⟩
  | .hbm, ⟨18, _⟩ => ⟨S1x1024, .f32⟩
  | .hbm, ⟨19, _⟩ => ⟨S2048x1024, .bf16⟩
  | .hbm, ⟨20, _⟩ => ⟨S2048x1024, .f32⟩
  | .hbm, ⟨21, _⟩ => ⟨S2048x1024, .f32⟩
  | .hbm, ⟨22, _⟩ => ⟨S2048x1024, .bf16⟩
  | .hbm, ⟨23, _⟩ => ⟨S16x4x128x64, .f32⟩
  | .hbm, ⟨24, _⟩ => ⟨S16x4x128x128, .f32⟩
  | .hbm, ⟨25, _⟩ => ⟨S16x4x1x128, .f32⟩
  | .hbm, ⟨26, _⟩ => ⟨S16x4x1x128, .f32⟩
  | .local _ .vmem, ⟨0, _⟩ => ⟨S128x2688, .f32⟩
  | .local _ .vmem, ⟨1, _⟩ => ⟨S128x2688, .f32⟩
  | .local _ .vmem, ⟨2, _⟩ => ⟨S64x512, .f32⟩
  | .local _ .vmem, ⟨3, _⟩ => ⟨S64x512, .f32⟩
  | .local _ .vmem, ⟨4, _⟩ => ⟨S128x256, .f32⟩
  | .local _ .vmem, ⟨5, _⟩ => ⟨S1x256, .f32⟩
  | .local _ .vmem, ⟨6, _⟩ => ⟨S1x128, .f32⟩
  | .local _ .vmem, ⟨7, _⟩ => ⟨S4x512, .f32⟩
  | .local _ .vmem, ⟨8, _⟩ => ⟨S1x512, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1536x128, .f32⟩
  | .local _ .vmem, ⟨13, _⟩ => ⟨S1x128, .f32⟩
  | .local _ .vmem, ⟨14, _⟩ => ⟨S1x512, .f32⟩
  | .local _ .vmem, ⟨15, _⟩ => ⟨S1x512, .f32⟩
  | .local _ .vmem, ⟨16, _⟩ => ⟨S128x2048, .f32⟩
  | .local _ .vmem, ⟨17, _⟩ => ⟨S128x2048, .f32⟩
  | .local _ .vmem, ⟨18, _⟩ => ⟨S128x1024, .f32⟩
  | .local _ .vmem, ⟨19, _⟩ => ⟨S128x1024, .f32⟩
  | .local _ .vmem, ⟨20, _⟩ => ⟨S4x512x256, .bf16⟩
  | .local _ .vmem, ⟨21, _⟩ => ⟨S4x512x256, .bf16⟩
  | .local _ .vmem, ⟨22, _⟩ => ⟨S1024x1024, .bf16⟩
  | .local _ .vmem, ⟨23, _⟩ => ⟨S1x1024, .f32⟩
  | .local _ .vmem, ⟨24, _⟩ => ⟨S128x1024, .bf16⟩
  | .local _ .vmem, ⟨25, _⟩ => ⟨S128x1024, .bf16⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .bf16⟩
  | .local _ .vmem, ⟨31, _⟩ => ⟨S128x1024, .bf16⟩
  | .local _ .vmem, ⟨32, _⟩ => ⟨S1x4x128x64, .f32⟩
  | .local _ .vmem, ⟨33, _⟩ => ⟨S1x4x128x64, .f32⟩
  | .local _ .vmem, ⟨34, _⟩ => ⟨S1x4x128x128, .f32⟩
  | .local _ .vmem, ⟨35, _⟩ => ⟨S1x4x128x128, .f32⟩
  | .local _ .vmem, ⟨36, _⟩ => ⟨S1x4x1x128, .f32⟩
  | .local _ .vmem, ⟨37, _⟩ => ⟨S1x4x1x128, .f32⟩
  | .local _ .vmem, ⟨38, _⟩ => ⟨S1x4x1x128, .f32⟩
  | .local _ .vmem, ⟨39, _⟩ => ⟨S1x4x1x128, .f32⟩
  | .local _ .vmem, ⟨40, _⟩ => ⟨S4x128x64, .f32⟩
  | .local _ .vmem, ⟨41, _⟩ => ⟨S4x128x128, .f32⟩
  | .local _ .vmem, ⟨42, _⟩ => ⟨S4x1x128, .f32⟩
  | .local _ .vmem, ⟨43, _⟩ => ⟨S4x1x128, .f32⟩
  | .local _ .vmem, ⟨44, _⟩ => ⟨S4x128x128, .f32⟩
  | .local _ .vmem, ⟨45, _⟩ => ⟨S4x128x128, .f32⟩
  | .local _ .vmem, ⟨46, _⟩ => ⟨S4x128x128, .f32⟩
  | _, _ => ⟨S2048x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0_0 : Ref sig .tc := ⟨.hbm, 19, rfl⟩
abbrev main_v0_1 : Ref sig .tc := ⟨.hbm, 20, rfl⟩
abbrev main_v0_2 : Ref sig .tc := ⟨.hbm, 21, rfl⟩
abbrev main_v0_3 : Ref sig .tc := ⟨.hbm, 22, rfl⟩
abbrev main_v0_4 : Ref sig .tc := ⟨.hbm, 23, rfl⟩
abbrev main_v0_5 : Ref sig .tc := ⟨.hbm, 24, rfl⟩
abbrev main_v0_6 : Ref sig .tc := ⟨.hbm, 25, rfl⟩
abbrev main_v0_7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc0_stg24_0 : Ref sig .tc := ⟨.vmem, 32, rfl⟩
abbrev cc0_stg24_1 : Ref sig .tc := ⟨.vmem, 33, rfl⟩
abbrev cc0_stg25_0 : Ref sig .tc := ⟨.vmem, 34, rfl⟩
abbrev cc0_stg25_1 : Ref sig .tc := ⟨.vmem, 35, rfl⟩
abbrev cc0_stg26_0 : Ref sig .tc := ⟨.vmem, 36, rfl⟩
abbrev cc0_stg26_1 : Ref sig .tc := ⟨.vmem, 37, rfl⟩
abbrev cc0_stg27_0 : Ref sig .tc := ⟨.vmem, 38, rfl⟩
abbrev cc0_stg27_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_scratch4 : Ref sig .tc := ⟨.vmem, 44, rfl⟩
abbrev cc0_scratch5 : Ref sig .tc := ⟨.vmem, 45, rfl⟩
abbrev cc0_scratch6 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31
abbrev cc0_sem24_0 : DmaSem sig := 32
abbrev cc0_sem24_1 : DmaSem sig := 33
abbrev cc0_sem25_0 : DmaSem sig := 34
abbrev cc0_sem25_1 : DmaSem sig := 35
abbrev cc0_sem26_0 : DmaSem sig := 36
abbrev cc0_sem26_1 : DmaSem sig := 37
abbrev cc0_sem27_0 : DmaSem sig := 38
abbrev cc0_sem27_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_25 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_26 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_27 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x2688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1536x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S4x512x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x512x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S128x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S128x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S128x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S128x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x4x128x64 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x4x128x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x4x1x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x4x1x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== Proof.MixerIdeal.lean ====
/-
  The mixers' forward call: its run. Of what its eight results and its scratch hold this module says nothing; the arguments
  end as they began.
-/
module

public import proofs.«01_k».proof.Proof.Gen.Kernel16Ideal.Frame.Runs
public import Idealize.ShloMosaic.Lib.Claim

@[expose] public section

set_option maxRecDepth 16384

noncomputable section

namespace Cert.Proof.MixerIdeal

open Cert.Kernel16Ideal Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The body's triple -/

/-- The body's buffers: the inputs' at their contents, the results' and the scratch at anything. -/
def held (c : Dev nD)
    (arg1 : Memref sig .tc .vmem S128x2688 .f32) (arg2 : Memref sig .tc .vmem S64x512 .f32)
    (arg3 : Memref sig .tc .vmem S128x256 .f32) (arg4 : Memref sig .tc .vmem S1x256 .f32)
    (arg5 : Memref sig .tc .vmem S1x128 .f32) (arg6 : Memref sig .tc .vmem S4x512 .f32)
    (arg7 : Memref sig .tc .vmem S1x512 .f32) (arg8 : Memref sig .tc .vmem S512x128 .f32)
    (arg9 : Memref sig .tc .vmem S512x128 .f32) (arg10 : Memref sig .tc .vmem S512x128 .f32)
    (arg11 : Memref sig .tc .vmem S1536x128 .f32) (arg12 : Memref sig .tc .vmem S1x128 .f32)
    (arg13 : Memref sig .tc .vmem S1x512 .f32) (arg14 : Memref sig .tc .vmem S1x512 .f32)
    (arg15 : Memref sig .tc .vmem S128x2048 .f32) (arg16 : Memref sig .tc .vmem S128x1024 .f32)
    (arg17 : Memref sig .tc .vmem S4x512x256 .bf16) (arg18 : Memref sig .tc .vmem S4x512x256 .bf16)
    (arg19 : Memref sig .tc .vmem S1024x1024 .bf16) (arg20 : Memref sig .tc .vmem S1x1024 .f32)
    (arg21 : Memref sig .tc .vmem S128x1024 .bf16) (arg22 : Memref sig .tc .vmem S128x1024 .f32)
    (arg23 : Memref sig .tc .vmem S128x1024 .f32) (arg24 : Memref sig .tc .vmem S128x1024 .bf16)
    (arg25 : Memref sig .tc .vmem S1x4x128x64 .f32) (arg26 : Memref sig .tc .vmem S1x4x128x128 .f32)
    (arg27 : Memref sig .tc .vmem S1x4x1x128 .f32) (arg28 : Memref sig .tc .vmem S1x4x1x128 .f32)
    (arg29 : Memref sig .tc .vmem S4x128x64 .f32) (arg30 : Memref sig .tc .vmem S4x128x128 .f32)
    (arg31 : Memref sig .tc .vmem S4x1x128 .f32) (arg32 : Memref sig .tc .vmem S4x1x128 .f32)
    (arg33 : Memref sig .tc .vmem S4x128x128 .f32) (arg34 : Memref sig .tc .vmem S4x128x128 .f32)
    (arg35 : Memref sig .tc .vmem S4x128x128 .f32)
    (x1 : Vec F S128x2688 .f32) (x2 : Vec F S64x512 .f32) (x3 : Vec F S128x256 .f32) (x4 : Vec F S1x256 .f32)
    (x5 : Vec F S1x128 .f32) (x6 : Vec F S4x512 .f32) (x7 : Vec F S1x512 .f32) (x8 : Vec F S512x128 .f32)
    (x9 : Vec F S512x128 .f32) (x10 : Vec F S512x128 .f32) (x11 : Vec F S1536x128 .f32) (x12 : Vec F S1x128 .f32)
    (x13 : Vec F S1x512 .f32) (x14 : Vec F S1x512 .f32) (x15 : Vec F S128x2048 .f32) (x16 : Vec F S128x1024 .f32)
    (x17 : Vec F S4x512x256 .bf16) (x18 : Vec F S4x512x256 .bf16) (x19 : Vec F S1024x1024 .bf16) (x20 : Vec F S1x1024 .f32) :
    sProp (MT nD τ sig Unit (Elt F) ℕ (UR sig nD τ) ℕ) :=
  iprop(owns (c : Thread nD τ) arg1 fullShare x1 ∗ owns (c : Thread nD τ) arg2 fullShare x2 ∗
      owns (c : Thread nD τ) arg3 fullShare x3 ∗ owns (c : Thread nD τ) arg4 fullShare x4 ∗
      owns (c : Thread nD τ) arg5 fullShare x5 ∗ owns (c : Thread nD τ) arg6 fullShare x6 ∗
      owns (c : Thread nD τ) arg7 fullShare x7 ∗ owns (c : Thread nD τ) arg8 fullShare x8 ∗
      owns (c : Thread nD τ) arg9 fullShare x9 ∗ owns (c : Thread nD τ) arg10 fullShare x10 ∗
      owns (c : Thread nD τ) arg11 fullShare x11 ∗ owns (c : Thread nD τ) arg12 fullShare x12 ∗
      owns (c : Thread nD τ) arg13 fullShare x13 ∗ owns (c : Thread nD τ) arg14 fullShare x14 ∗
      owns (c : Thread nD τ) arg15 fullShare x15 ∗ owns (c : Thread nD τ) arg16 fullShare x16 ∗
      owns (c : Thread nD τ) arg17 fullShare x17 ∗ owns (c : Thread nD τ) arg18 fullShare x18 ∗
      owns (c : Thread nD τ) arg19 fullShare x19 ∗ owns (c : Thread nD τ) arg20 fullShare x20 ∗
      (∃ d, owns (c : Thread nD τ) arg21 fullShare d) ∗ (∃ d, owns (c : Thread nD τ) arg22 fullShare d) ∗
      (∃ d, owns (c : Thread nD τ) arg23 fullShare d) ∗ (∃ d, owns (c : Thread nD τ) arg24 fullShare d) ∗
      (∃ d, owns (c : Thread nD τ) arg25 fullShare d) ∗ (∃ d, owns (c : Thread nD τ) arg26 fullShare d) ∗
      (∃ d, owns (c : Thread nD τ) arg27 fullShare d) ∗ (∃ d, owns (c : Thread nD τ) arg28 fullShare d) ∗
      (∃ d, owns (c : Thread nD τ) arg29 fullShare d) ∗ (∃ d, owns (c : Thread nD τ) arg30 fullShare d) ∗
      (∃ d, owns (c : Thread nD τ) arg31 fullShare d) ∗ (∃ d, owns (c : Thread nD τ) arg32 fullShare d) ∗
      (∃ d, owns (c : Thread nD τ) arg33 fullShare d) ∗ (∃ d, owns (c : Thread nD τ) arg34 fullShare d) ∗
      (∃ d, owns (c : Thread nD τ) arg35 fullShare d))

set_option maxHeartbeats 1600000 in
/-- At the first point, where the scratch is set to zero, the body runs from its buffers to its buffers. -/
theorem run_first (c : Dev nD) (i : grid0.Coords) (hc : cond0_0 i)
    (arg1 : Memref sig .tc .vmem S128x2688 .f32) (harg1 : arg1.IsWhole) (arg2 : Memref sig .tc .vmem S64x512 .f32)
    (harg2 : arg2.IsWhole) (arg3 : Memref sig .tc .vmem S128x256 .f32) (harg3 : arg3.IsWhole)
    (arg4 : Memref sig .tc .vmem S1x256 .f32) (harg4 : arg4.IsWhole) (arg5 : Memref sig .tc .vmem S1x128 .f32)
    (harg5 : arg5.IsWhole) (arg6 : Memref sig .tc .vmem S4x512 .f32) (harg6 : arg6.IsWhole)
    (arg7 : Memref sig .tc .vmem S1x512 .f32) (harg7 : arg7.IsWhole) (arg8 : Memref sig .tc .vmem S512x128 .f32)
    (harg8 : arg8.IsWhole) (arg9 : Memref sig .tc .vmem S512x128 .f32) (harg9 : arg9.IsWhole)
    (arg10 : Memref sig .tc .vmem S512x128 .f32) (harg10 : arg10.IsWhole) (arg11 : Memref sig .tc .vmem S1536x128 .f32)
    (harg11 : arg11.IsWhole) (arg12 : Memref sig .tc .vmem S1x128 .f32) (harg12 : arg12.IsWhole)
    (arg13 : Memref sig .tc .vmem S1x512 .f32) (harg13 : arg13.IsWhole) (arg14 : Memref sig .tc .vmem S1x512 .f32)
    (harg14 : arg14.IsWhole) (arg15 : Memref sig .tc .vmem S128x2048 .f32) (harg15 : arg15.IsWhole)
    (arg16 : Memref sig .tc .vmem S128x1024 .f32) (harg16 : arg16.IsWhole) (arg17 : Memref sig .tc .vmem S4x512x256 .bf16)
    (harg17 : arg17.IsWhole) (arg18 : Memref sig .tc .vmem S4x512x256 .bf16) (harg18 : arg18.IsWhole)
    (arg19 : Memref sig .tc .vmem S1024x1024 .bf16) (harg19 : arg19.IsWhole) (arg20 : Memref sig .tc .vmem S1x1024 .f32)
    (harg20 : arg20.IsWhole) (arg21 : Memref sig .tc .vmem S128x1024 .bf16) (harg21 : arg21.IsWhole)
    (arg22 : Memref sig .tc .vmem S128x1024 .f32) (harg22 : arg22.IsWhole) (arg23 : Memref sig .tc .vmem S128x1024 .f32)
    (harg23 : arg23.IsWhole) (arg24 : Memref sig .tc .vmem S128x1024 .bf16) (harg24 : arg24.IsWhole)
    (arg25 : Memref sig .tc .vmem S1x4x128x64 .f32) (harg25 : arg25.IsWhole) (arg26 : Memref sig .tc .vmem S1x4x128x128 .f32)
    (harg26 : arg26.IsWhole) (arg27 : Memref sig .tc .vmem S1x4x1x128 .f32) (harg27 : arg27.IsWhole)
    (arg28 : Memref sig .tc .vmem S1x4x1x128 .f32) (harg28 : arg28.IsWhole) (arg29 : Memref sig .tc .vmem S4x128x64 .f32)
    (harg29 : arg29.IsWhole) (arg30 : Memref sig .tc .vmem S4x128x128 .f32) (harg30 : arg30.IsWhole)
    (arg31 : Memref sig .tc .vmem S4x1x128 .f32) (harg31 : arg31.IsWhole) (arg32 : Memref sig .tc .vmem S4x1x128 .f32)
    (harg32 : arg32.IsWhole) (arg33 : Memref sig .tc .vmem S4x128x128 .f32) (harg33 : arg33.IsWhole)
    (arg34 : Memref sig .tc .vmem S4x128x128 .f32) (harg34 : arg34.IsWhole) (arg35 : Memref sig .tc .vmem S4x128x128 .f32)
    (harg35 : arg35.IsWhole)
    (x1 : Vec F S128x2688 .f32) (x2 : Vec F S64x512 .f32) (x3 : Vec F S128x256 .f32) (x4 : Vec F S1x256 .f32)
    (x5 : Vec F S1x128 .f32) (x6 : Vec F S4x512 .f32) (x7 : Vec F S1x512 .f32) (x8 : Vec F S512x128 .f32)
    (x9 : Vec F S512x128 .f32) (x10 : Vec F S512x128 .f32) (x11 : Vec F S1536x128 .f32) (x12 : Vec F S1x128 .f32)
    (x13 : Vec F S1x512 .f32) (x14 : Vec F S1x512 .f32) (x15 : Vec F S128x2048 .f32) (x16 : Vec F S128x1024 .f32)
    (x17 : Vec F S4x512x256 .bf16) (x18 : Vec F S4x512x256 .bf16) (x19 : Vec F S1024x1024 .bf16) (x20 : Vec F S1x1024 .f32)
    (E : Set ℕ) (K : PUnit → sProp (MT nD τ sig Unit (Elt F) ℕ (UR sig nD τ) ℕ)) :
    iprop(held c
        arg1 arg2 arg3 arg4 arg5 arg6 arg7 arg8 arg9 arg10 arg11 arg12 arg13 arg14 arg15 arg16 arg17 arg18 arg19 arg20 arg21
        arg22 arg23 arg24 arg25 arg26 arg27 arg28 arg29 arg30 arg31 arg32 arg33 arg34 arg35 x1 x2 x3 x4 x5 x6 x7 x8 x9 x10 x11
        x12 x13 x14 x15 x16 x17 x18 x19 x20
      ∗ (iprop(held c
          arg1 arg2 arg3 arg4 arg5 arg6 arg7 arg8 arg9 arg10 arg11 arg12 arg13 arg14 arg15 arg16 arg17 arg18 arg19 arg20 arg21
          arg22 arg23 arg24 arg25 arg26 arg27 arg28 arg29 arg30 arg31 arg32 arg33 arg34 arg35 x1 x2 x3 x4 x5 x6 x7 x8 x9 x10 x11
          x12 x13 x14 x15 x16 x17 x18 x19 x20) -∗ K ⟨⟩))
      ⊢ wp frame (wpE (defs₀ (F := F)) Variants.none c none) E
        (cc0_mixer_fwd i
          arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19
          arg20 harg20 arg21 harg21 arg22 harg22 arg23 harg23 arg24 harg24 arg25 harg25 arg26 harg26 arg27 harg27 arg28 harg28
          arg29 harg29 arg30 harg30 arg31 harg31 arg32 harg32 arg33 harg33 arg34 harg34 arg35 harg35) K := by
  simp only [cc0_mixer_fwd_eq_skeleton]; unfold cc0_mixer_fwd_skel
  simp only [k0_part43_eq_skeleton, k0_part5_eq_skeleton, k0_part1_eq_skeleton, k0_part2_eq_skeleton, k0_part3_eq_skeleton,
    k0_part4_eq_skeleton, k0_part6_eq_skeleton, k0_part7_eq_skeleton, k0_part8_eq_skeleton, k0_part9_eq_skeleton,
    k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton,
    k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton,
    k0_part30_eq_skeleton, k0_part31_eq_skeleton, k0_part32_eq_skeleton, k0_part33_eq_skeleton, k0_part34_eq_skeleton,
    k0_part35_eq_skeleton, k0_part36_eq_skeleton, k0_part37_eq_skeleton, k0_part38_eq_skeleton, k0_part39_eq_skeleton,
    k0_part40_eq_skeleton, k0_part41_eq_skeleton, k0_part42_eq_skeleton]
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩,
    ⟨%f14, %hf14, H14⟩, ⟨%f15, %hf15, H15⟩, ⟨%f16, %hf16, H16⟩, ⟨%f17, %hf17, H17⟩, ⟨%f18, %hf18, H18⟩, ⟨%f19, %hf19, H19⟩,
    ⟨%f20, %hf20, H20⟩, ⟨%d21, %f21, -, H21⟩, ⟨%d22, %f22, -, H22⟩, ⟨%d23, %f23, -, H23⟩, ⟨%d24, %f24, -, H24⟩,
    ⟨%d25, %f25, -, H25⟩, ⟨%d26, %f26, -, H26⟩, ⟨%d27, %f27, -, H27⟩, ⟨%d28, %f28, -, H28⟩, ⟨%d29, %f29, -, H29⟩,
    ⟨%d30, %f30, -, H30⟩, ⟨%d31, %f31, -, H31⟩, ⟨%d32, %f32, -, H32⟩, ⟨%d33, %f33, -, H33⟩, ⟨%d34, %f34, -, H34⟩,
    ⟨%d35, %f35, -, H35⟩⟩, Hk⟩
  sl_exec (disch := first | sl_exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _; isplitr; · ipureintro; exact hf13
    iexact H13
  isplitl [H14]
  · iexists _; isplitr; · ipureintro; exact hf14
    iexact H14
  isplitl [H15]
  · iexists _; isplitr; · ipureintro; exact hf15
    iexact H15
  isplitl [H16]
  · iexists _; isplitr; · ipureintro; exact hf16
    iexact H16
  isplitl [H17]
  · iexists _; isplitr; · ipureintro; exact hf17
    iexact H17
  isplitl [H18]
  · iexists _; isplitr; · ipureintro; exact hf18
    iexact H18
  isplitl [H19]
  · iexists _; isplitr; · ipureintro; exact hf19
    iexact H19
  isplitl [H20]
  · iexists _; isplitr; · ipureintro; exact hf20
    iexact H20
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  isplitl [H32]
  · iexists _, _; isplitr; swap; · iexact H32
    ipureintro; rfl
  isplitl [H33]
  · iexists _, _; isplitr; swap; · iexact H33
    ipureintro; rfl
  isplitl [H34]
  · iexists _, _; isplitr; swap; · iexact H34
    ipureintro; rfl
  iexists _, _; isplitr; swap; · iexact H35
  ipureintro; rfl

set_option maxHeartbeats 1600000 in
/-- At every other point the body runs from its buffers to its buffers. -/
theorem run_rest (c : Dev nD) (i : grid0.Coords) (hc : ¬cond0_0 i)
    (arg1 : Memref sig .tc .vmem S128x2688 .f32) (harg1 : arg1.IsWhole) (arg2 : Memref sig .tc .vmem S64x512 .f32)
    (harg2 : arg2.IsWhole) (arg3 : Memref sig .tc .vmem S128x256 .f32) (harg3 : arg3.IsWhole)
    (arg4 : Memref sig .tc .vmem S1x256 .f32) (harg4 : arg4.IsWhole) (arg5 : Memref sig .tc .vmem S1x128 .f32)
    (harg5 : arg5.IsWhole) (arg6 : Memref sig .tc .vmem S4x512 .f32) (harg6 : arg6.IsWhole)
    (arg7 : Memref sig .tc .vmem S1x512 .f32) (harg7 : arg7.IsWhole) (arg8 : Memref sig .tc .vmem S512x128 .f32)
    (harg8 : arg8.IsWhole) (arg9 : Memref sig .tc .vmem S512x128 .f32) (harg9 : arg9.IsWhole)
    (arg10 : Memref sig .tc .vmem S512x128 .f32) (harg10 : arg10.IsWhole) (arg11 : Memref sig .tc .vmem S1536x128 .f32)
    (harg11 : arg11.IsWhole) (arg12 : Memref sig .tc .vmem S1x128 .f32) (harg12 : arg12.IsWhole)
    (arg13 : Memref sig .tc .vmem S1x512 .f32) (harg13 : arg13.IsWhole) (arg14 : Memref sig .tc .vmem S1x512 .f32)
    (harg14 : arg14.IsWhole) (arg15 : Memref sig .tc .vmem S128x2048 .f32) (harg15 : arg15.IsWhole)
    (arg16 : Memref sig .tc .vmem S128x1024 .f32) (harg16 : arg16.IsWhole) (arg17 : Memref sig .tc .vmem S4x512x256 .bf16)
    (harg17 : arg17.IsWhole) (arg18 : Memref sig .tc .vmem S4x512x256 .bf16) (harg18 : arg18.IsWhole)
    (arg19 : Memref sig .tc .vmem S1024x1024 .bf16) (harg19 : arg19.IsWhole) (arg20 : Memref sig .tc .vmem S1x1024 .f32)
    (harg20 : arg20.IsWhole) (arg21 : Memref sig .tc .vmem S128x1024 .bf16) (harg21 : arg21.IsWhole)
    (arg22 : Memref sig .tc .vmem S128x1024 .f32) (harg22 : arg22.IsWhole) (arg23 : Memref sig .tc .vmem S128x1024 .f32)
    (harg23 : arg23.IsWhole) (arg24 : Memref sig .tc .vmem S128x1024 .bf16) (harg24 : arg24.IsWhole)
    (arg25 : Memref sig .tc .vmem S1x4x128x64 .f32) (harg25 : arg25.IsWhole) (arg26 : Memref sig .tc .vmem S1x4x128x128 .f32)
    (harg26 : arg26.IsWhole) (arg27 : Memref sig .tc .vmem S1x4x1x128 .f32) (harg27 : arg27.IsWhole)
    (arg28 : Memref sig .tc .vmem S1x4x1x128 .f32) (harg28 : arg28.IsWhole) (arg29 : Memref sig .tc .vmem S4x128x64 .f32)
    (harg29 : arg29.IsWhole) (arg30 : Memref sig .tc .vmem S4x128x128 .f32) (harg30 : arg30.IsWhole)
    (arg31 : Memref sig .tc .vmem S4x1x128 .f32) (harg31 : arg31.IsWhole) (arg32 : Memref sig .tc .vmem S4x1x128 .f32)
    (harg32 : arg32.IsWhole) (arg33 : Memref sig .tc .vmem S4x128x128 .f32) (harg33 : arg33.IsWhole)
    (arg34 : Memref sig .tc .vmem S4x128x128 .f32) (harg34 : arg34.IsWhole) (arg35 : Memref sig .tc .vmem S4x128x128 .f32)
    (harg35 : arg35.IsWhole)
    (x1 : Vec F S128x2688 .f32) (x2 : Vec F S64x512 .f32) (x3 : Vec F S128x256 .f32) (x4 : Vec F S1x256 .f32)
    (x5 : Vec F S1x128 .f32) (x6 : Vec F S4x512 .f32) (x7 : Vec F S1x512 .f32) (x8 : Vec F S512x128 .f32)
    (x9 : Vec F S512x128 .f32) (x10 : Vec F S512x128 .f32) (x11 : Vec F S1536x128 .f32) (x12 : Vec F S1x128 .f32)
    (x13 : Vec F S1x512 .f32) (x14 : Vec F S1x512 .f32) (x15 : Vec F S128x2048 .f32) (x16 : Vec F S128x1024 .f32)
    (x17 : Vec F S4x512x256 .bf16) (x18 : Vec F S4x512x256 .bf16) (x19 : Vec F S1024x1024 .bf16) (x20 : Vec F S1x1024 .f32)
    (E : Set ℕ) (K : PUnit → sProp (MT nD τ sig Unit (Elt F) ℕ (UR sig nD τ) ℕ)) :
    iprop(held c
        arg1 arg2 arg3 arg4 arg5 arg6 arg7 arg8 arg9 arg10 arg11 arg12 arg13 arg14 arg15 arg16 arg17 arg18 arg19 arg20 arg21
        arg22 arg23 arg24 arg25 arg26 arg27 arg28 arg29 arg30 arg31 arg32 arg33 arg34 arg35 x1 x2 x3 x4 x5 x6 x7 x8 x9 x10 x11
        x12 x13 x14 x15 x16 x17 x18 x19 x20
      ∗ (iprop(held c
          arg1 arg2 arg3 arg4 arg5 arg6 arg7 arg8 arg9 arg10 arg11 arg12 arg13 arg14 arg15 arg16 arg17 arg18 arg19 arg20 arg21
          arg22 arg23 arg24 arg25 arg26 arg27 arg28 arg29 arg30 arg31 arg32 arg33 arg34 arg35 x1 x2 x3 x4 x5 x6 x7 x8 x9 x10 x11
          x12 x13 x14 x15 x16 x17 x18 x19 x20) -∗ K ⟨⟩))
      ⊢ wp frame (wpE (defs₀ (F := F)) Variants.none c none) E
        (cc0_mixer_fwd i
          arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19
          arg20 harg20 arg21 harg21 arg22 harg22 arg23 harg23 arg24 harg24 arg25 harg25 arg26 harg26 arg27 harg27 arg28 harg28
          arg29 harg29 arg30 harg30 arg31 harg31 arg32 harg32 arg33 harg33 arg34 harg34 arg35 harg35) K := by
  simp only [cc0_mixer_fwd_eq_skeleton]; unfold cc0_mixer_fwd_skel
  simp only [k0_part43_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton,
    k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton,
    k0_part24_eq_skeleton, k0_part25_eq_skeleton, k0_part26_eq_skeleton, k0_part27_eq_skeleton, k0_part28_eq_skeleton,
    k0_part29_eq_skeleton, k0_part30_eq_skeleton, k0_part31_eq_skeleton, k0_part32_eq_skeleton, k0_part33_eq_skeleton,
    k0_part34_eq_skeleton, k0_part35_eq_skeleton, k0_part36_eq_skeleton, k0_part37_eq_skeleton, k0_part38_eq_skeleton,
    k0_part39_eq_skeleton, k0_part40_eq_skeleton, k0_part41_eq_skeleton, k0_part42_eq_skeleton]
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩,
    ⟨%f14, %hf14, H14⟩, ⟨%f15, %hf15, H15⟩, ⟨%f16, %hf16, H16⟩, ⟨%f17, %hf17, H17⟩, ⟨%f18, %hf18, H18⟩, ⟨%f19, %hf19, H19⟩,
    ⟨%f20, %hf20, H20⟩, ⟨%d21, %f21, -, H21⟩, ⟨%d22, %f22, -, H22⟩, ⟨%d23, %f23, -, H23⟩, ⟨%d24, %f24, -, H24⟩,
    ⟨%d25, %f25, -, H25⟩, ⟨%d26, %f26, -, H26⟩, ⟨%d27, %f27, -, H27⟩, ⟨%d28, %f28, -, H28⟩, ⟨%d29, %f29, -, H29⟩,
    ⟨%d30, %f30, -, H30⟩, ⟨%d31, %f31, -, H31⟩, ⟨%d32, %f32, -, H32⟩, ⟨%d33, %f33, -, H33⟩, ⟨%d34, %f34, -, H34⟩,
    ⟨%d35, %f35, -, H35⟩⟩, Hk⟩
  sl_exec (disch := first | sl_exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _; isplitr; · ipureintro; exact hf13
    iexact H13
  isplitl [H14]
  · iexists _; isplitr; · ipureintro; exact hf14
    iexact H14
  isplitl [H15]
  · iexists _; isplitr; · ipureintro; exact hf15
    iexact H15
  isplitl [H16]
  · iexists _; isplitr; · ipureintro; exact hf16
    iexact H16
  isplitl [H17]
  · iexists _; isplitr; · ipureintro; exact hf17
    iexact H17
  isplitl [H18]
  · iexists _; isplitr; · ipureintro; exact hf18
    iexact H18
  isplitl [H19]
  · iexists _; isplitr; · ipureintro; exact hf19
    iexact H19
  isplitl [H20]
  · iexists _; isplitr; · ipureintro; exact hf20
    iexact H20
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  isplitl [H32]
  · iexists _, _; isplitr; swap; · iexact H32
    ipureintro; rfl
  isplitl [H33]
  · iexists _, _; isplitr; swap; · iexact H33
    ipureintro; rfl
  isplitl [H34]
  · iexists _, _; isplitr; swap; · iexact H34
    ipureintro; rfl
  iexists _, _; isplitr; swap; · iexact H35
  ipureintro; rfl

/-! ## The run -/

variable (m : (ℓ : Loc nD τ sig) → Buf (Elt F) ℓ) (ρ : Dev nD → PrngReg) (c : Dev nD) (t : Fin cfg0.N)

/-- The results' windows are the ones of which nothing is said. -/
def forgets (w : Fin cfg0.W) : Bool := decide (20 ≤ w.val)

theorem forgets_0 : forgets 0 = false := rfl
theorem forgets_1 : forgets 1 = false := rfl
theorem forgets_2 : forgets 2 = false := rfl
theorem forgets_3 : forgets 3 = false := rfl
theorem forgets_4 : forgets 4 = false := rfl
theorem forgets_5 : forgets 5 = false := rfl
theorem forgets_6 : forgets 6 = false := rfl
theorem forgets_7 : forgets 7 = false := rfl
theorem forgets_8 : forgets 8 = false := rfl
theorem forgets_9 : forgets 9 = false := rfl
theorem forgets_10 : forgets 10 = false := rfl
theorem forgets_11 : forgets 11 = false := rfl
theorem forgets_12 : forgets 12 = false := rfl
theorem forgets_13 : forgets 13 = false := rfl
theorem forgets_14 : forgets 14 = false := rfl
theorem forgets_15 : forgets 15 = false := rfl
theorem forgets_16 : forgets 16 = false := rfl
theorem forgets_17 : forgets 17 = false := rfl
theorem forgets_18 : forgets 18 = false := rfl
theorem forgets_19 : forgets 19 = false := rfl
theorem forgets_20 : forgets 20 = true := rfl
theorem forgets_21 : forgets 21 = true := rfl
theorem forgets_22 : forgets 22 = true := rfl
theorem forgets_23 : forgets 23 = true := rfl
theorem forgets_24 : forgets 24 = true := rfl
theorem forgets_25 : forgets 25 = true := rfl
theorem forgets_26 : forgets 26 = true := rfl
theorem forgets_27 : forgets 27 = true := rfl

/-- The inputs' buffers hold their blocks at every point; two windows read one array and share it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => Dat.unnamed (cfg := cfg0) 20 t
    | ⟨21, _⟩ => Dat.unnamed (cfg := cfg0) 21 t
    | ⟨22, _⟩ => Dat.unnamed (cfg := cfg0) 22 t
    | ⟨23, _⟩ => Dat.unnamed (cfg := cfg0) 23 t
    | ⟨24, _⟩ => Dat.unnamed (cfg := cfg0) 24 t
    | ⟨25, _⟩ => Dat.unnamed (cfg := cfg0) 25 t
    | ⟨26, _⟩ => Dat.unnamed (cfg := cfg0) 26 t
    | ⟨27, _⟩ => Dat.unnamed (cfg := cfg0) 27 t
    | ⟨_ + 28, h⟩ => absurd h (Nat.not_lt.2 (Nat.le_add_left _ _))
  Φ _ := Pipeline.ΦA spec0 c
  q w := Pipeline.shareOf spec0 w
  owed _ := 0

/-- The arrays begin as launched. -/
theorem A_eq (w : Fin cfg0.W) : (dats m 0 c).A w = V m c (Pipeline.arrRef spec0 w) := by dsimp only [dats]

/-- The inputs' buffers after the body, and before it. -/
theorem after0_0 : (dats m 0 c).after 0 t = iblk m c 0 t := by dsimp only [dats]
theorem after0_1 : (dats m 0 c).after 1 t = X0_1 m c t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = iblk m c 10 t := by dsimp only [dats]
theorem after0_11 : (dats m 0 c).after 11 t = iblk m c 11 t := by dsimp only [dats]
theorem after0_12 : (dats m 0 c).after 12 t = iblk m c 12 t := by dsimp only [dats]
theorem after0_13 : (dats m 0 c).after 13 t = iblk m c 13 t := by dsimp only [dats]
theorem after0_14 : (dats m 0 c).after 14 t = iblk m c 14 t := by dsimp only [dats]
theorem after0_15 : (dats m 0 c).after 15 t = iblk m c 15 t := by dsimp only [dats]
theorem after0_16 : (dats m 0 c).after 16 t = iblk m c 16 t := by dsimp only [dats]
theorem after0_17 : (dats m 0 c).after 17 t = iblk m c 17 t := by dsimp only [dats]
theorem after0_18 : (dats m 0 c).after 18 t = iblk m c 18 t := by dsimp only [dats]
theorem after0_19 : (dats m 0 c).after 19 t = iblk m c 19 t := by dsimp only [dats]
theorem before0_0 (d) : (dats m 0 c).before 0 t d = iblk m c 0 t :=
  before0_0_of m (dats m 0 c) (A_eq m c 0) (after0_0 m c) t d
theorem before0_1 (d) : (dats m 0 c).before 1 t d = X0_1 m c t :=
  before0_1_of m (dats m 0 c) (A_eq m c 1) (after0_1 m c) t d
theorem before0_2 (d) : (dats m 0 c).before 2 t d = iblk m c 2 t :=
  before0_2_of m (dats m 0 c) (A_eq m c 2) (after0_2 m c) t d
theorem before0_3 (d) : (dats m 0 c).before 3 t d = iblk m c 3 t :=
  before0_3_of m (dats m 0 c) (A_eq m c 3) (after0_3 m c) t d
theorem before0_4 (d) : (dats m 0 c).before 4 t d = iblk m c 4 t :=
  before0_4_of m (dats m 0 c) (A_eq m c 4) (after0_4 m c) t d
theorem before0_5 (d) : (dats m 0 c).before 5 t d = iblk m c 5 t :=
  before0_5_of m (dats m 0 c) (A_eq m c 5) (after0_5 m c) t d
theorem before0_6 (d) : (dats m 0 c).before 6 t d = iblk m c 6 t :=
  before0_6_of m (dats m 0 c) (A_eq m c 6) (after0_6 m c) t d
theorem before0_7 (d) : (dats m 0 c).before 7 t d = iblk m c 7 t :=
  before0_7_of m (dats m 0 c) (A_eq m c 7) (after0_7 m c) t d
theorem before0_8 (d) : (dats m 0 c).before 8 t d = iblk m c 8 t :=
  before0_8_of m (dats m 0 c) (A_eq m c 8) (after0_8 m c) t d
theorem before0_9 (d) : (dats m 0 c).before 9 t d = iblk m c 9 t :=
  before0_9_of m (dats m 0 c) (A_eq m c 9) (after0_9 m c) t d
theorem before0_10 (d) : (dats m 0 c).before 10 t d = iblk m c 10 t :=
  before0_10_of m (dats m 0 c) (A_eq m c 10) (after0_10 m c) t d
theorem before0_11 (d) : (dats m 0 c).before 11 t d = iblk m c 11 t :=
  before0_11_of m (dats m 0 c) (A_eq m c 11) (after0_11 m c) t d
theorem before0_12 (d) : (dats m 0 c).before 12 t d = iblk m c 12 t :=
  before0_12_of m (dats m 0 c) (A_eq m c 12) (after0_12 m c) t d
theorem before0_13 (d) : (dats m 0 c).before 13 t d = iblk m c 13 t :=
  before0_13_of m (dats m 0 c) (A_eq m c 13) (after0_13 m c) t d
theorem before0_14 (d) : (dats m 0 c).before 14 t d = iblk m c 14 t :=
  before0_14_of m (dats m 0 c) (A_eq m c 14) (after0_14 m c) t d
theorem before0_15 (d) : (dats m 0 c).before 15 t d = iblk m c 15 t :=
  before0_15_of m (dats m 0 c) (A_eq m c 15) (after0_15 m c) t d
theorem before0_16 (d) : (dats m 0 c).before 16 t d = iblk m c 16 t :=
  before0_16_of m (dats m 0 c) (A_eq m c 16) (after0_16 m c) t d
theorem before0_17 (d) : (dats m 0 c).before 17 t d = iblk m c 17 t :=
  before0_17_of m (dats m 0 c) (A_eq m c 17) (after0_17 m c) t d
theorem before0_18 (d) : (dats m 0 c).before 18 t d = iblk m c 18 t :=
  before0_18_of m (dats m 0 c) (A_eq m c 18) (after0_18 m c) t d
theorem before0_19 (d) : (dats m 0 c).before 19 t d = iblk m c 19 t :=
  before0_19_of m (dats m 0 c) (A_eq m c 19) (after0_19 m c) t d

set_option maxHeartbeats 1600000 in
/-- The body at a grid point. -/
theorem body_obligation : BodyObligationLoose (dats (F := F) m 0 c) (defs₀ (F := F)) Variants.none () Set.univ forgets := fun t => by
  rw [bigSep_W0, bigSep_W0]
  simp only [forgets_0, forgets_1, forgets_2, forgets_3, forgets_4, forgets_5, forgets_6, forgets_7, forgets_8, forgets_9, forgets_10,
    forgets_11, forgets_12, forgets_13, forgets_14, forgets_15, forgets_16, forgets_17, forgets_18, forgets_19, forgets_20,
    forgets_21, forgets_22, forgets_23, forgets_24, forgets_25, forgets_26, forgets_27]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq]
  iintro ⟨⟨⟨HS0, HS1, HS2, HS3, HS4, HS5, HS6⟩, Hg⟩, Ho,
    ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩,
    ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, H20,
    H21, H22, H23, H24, H25, H26, H27⟩
  rw [before0_0 m c t d0, before0_1 m c t d1, before0_2 m c t d2, before0_3 m c t d3, before0_4 m c t d4, before0_5 m c t d5,
    before0_6 m c t d6, before0_7 m c t d7, before0_8 m c t d8, before0_9 m c t d9, before0_10 m c t d10, before0_11 m c t d11,
    before0_12 m c t d12, before0_13 m c t d13, before0_14 m c t d14, before0_15 m c t d15, before0_16 m c t d16,
    before0_17 m c t d17, before0_18 m c t d18, before0_19 m c t d19]
  by_cases hc : cond0_0 (grid0.coords t)
  · iapply (run_first (F := F) c _ hc
      _ (hs0_0 t) _ (hs0_1 t) _ (hs0_2 t) _ (hs0_3 t) _ (hs0_4 t) _ (hs0_5 t) _ (hs0_6 t) _ (hs0_7 t) _ (hs0_8 t) _ (hs0_9 t)
      _ (hs0_10 t) _ (hs0_11 t) _ (hs0_12 t) _ (hs0_13 t) _ (hs0_14 t) _ (hs0_15 t) _ (hs0_16 t) _ (hs0_17 t) _ (hs0_18 t)
      _ (hs0_19 t) _ (hs0_20 t) _ (hs0_21 t) _ (hs0_22 t) _ (hs0_23 t) _ (hs0_24 t) _ (hs0_25 t) _ (hs0_26 t) _ (hs0_27 t)
      _ (Memref.isWhole_whole _) _ (Memref.isWhole_whole _) _ (Memref.isWhole_whole _) _ (Memref.isWhole_whole _)
      _ (Memref.isWhole_whole _) _ (Memref.isWhole_whole _) _ (Memref.isWhole_whole _)
      (iblk m c 0 t) (X0_1 m c t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t)
      (iblk m c 15 t) (iblk m c 16 t) (iblk m c 17 t) (iblk m c 18 t) (iblk m c 19 t) Set.univ _)
    isplitl [H0 H1 H2 H3 H4 H5 H6 H7 H8 H9 H10 H11 H12 H13 H14 H15 H16 H17 H18 H19 H20 H21 H22 H23 H24 H25 H26 H27 HS0 HS1 HS2 HS3 HS4
      HS5 HS6]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [HS0]; · iexact HS0
      isplitl [HS1]; · iexact HS1
      isplitl [HS2]; · iexact HS2
      isplitl [HS3]; · iexact HS3
      isplitl [HS4]; · iexact HS4
      isplitl [HS5]; · iexact HS5
      iexact HS6
    unfold held
    iintro ⟨H0, H1, H2, H3, H4, H5, H6, H7, H8, H9, H10, H11, H12, H13, H14, H15, H16, H17, H18, H19, H20, H21, H22, H23, H24, H25,
      H26, H27, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    rw [after0_0, after0_1, after0_2, after0_3, after0_4, after0_5, after0_6, after0_7, after0_8, after0_9, after0_10, after0_11,
      after0_12, after0_13, after0_14, after0_15, after0_16, after0_17, after0_18, after0_19]
    isplitl [H0]; · iexact H0
    isplitl [H1]
    · iexists (X0_1 m c t)
      rw [Window.fill_cut]
      iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  · iapply (run_rest (F := F) c _ hc
      _ (hs0_0 t) _ (hs0_1 t) _ (hs0_2 t) _ (hs0_3 t) _ (hs0_4 t) _ (hs0_5 t) _ (hs0_6 t) _ (hs0_7 t) _ (hs0_8 t) _ (hs0_9 t)
      _ (hs0_10 t) _ (hs0_11 t) _ (hs0_12 t) _ (hs0_13 t) _ (hs0_14 t) _ (hs0_15 t) _ (hs0_16 t) _ (hs0_17 t) _ (hs0_18 t)
      _ (hs0_19 t) _ (hs0_20 t) _ (hs0_21 t) _ (hs0_22 t) _ (hs0_23 t) _ (hs0_24 t) _ (hs0_25 t) _ (hs0_26 t) _ (hs0_27 t)
      _ (Memref.isWhole_whole _) _ (Memref.isWhole_whole _) _ (Memref.isWhole_whole _) _ (Memref.isWhole_whole _)
      _ (Memref.isWhole_whole _) _ (Memref.isWhole_whole _) _ (Memref.isWhole_whole _)
      (iblk m c 0 t) (X0_1 m c t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t)
      (iblk m c 15 t) (iblk m c 16 t) (iblk m c 17 t) (iblk m c 18 t) (iblk m c 19 t) Set.univ _)
    isplitl [H0 H1 H2 H3 H4 H5 H6 H7 H8 H9 H10 H11 H12 H13 H14 H15 H16 H17 H18 H19 H20 H21 H22 H23 H24 H25 H26 H27 HS0 HS1 HS2 HS3 HS4
      HS5 HS6]
    · unfold held
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [HS0]; · iexact HS0
      isplitl [HS1]; · iexact HS1
      isplitl [HS2]; · iexact HS2
      isplitl [HS3]; · iexact HS3
      isplitl [HS4]; · iexact HS4
      isplitl [HS5]; · iexact HS5
      iexact HS6
    unfold held
    iintro ⟨H0, H1, H2, H3, H4, H5, H6, H7, H8, H9, H10, H11, H12, H13, H14, H15, H16, H17, H18, H19, H20, H21, H22, H23, H24, H25,
      H26, H27, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    rw [after0_0, after0_1, after0_2, after0_3, after0_4, after0_5, after0_6, after0_7, after0_8, after0_9, after0_10, after0_11,
      after0_12, after0_13, after0_14, after0_15, after0_16, after0_17, after0_18, after0_19]
    isplitl [H0]; · iexact H0
    isplitl [H1]
    · iexists (X0_1 m c t)
      rw [Window.fill_cut]
      iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27

set_option backward.isDefEq.respectTransparency.types false in
/-- The run: every array the call does not write ends as it began, every counter at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => body_obligation m c) (hq := fun _ _ _ => rfl)
    (howed := fun _ _ => rfl) (V := V m) (hmain := hmain m Variants.none) (hA := A_eq m) (hΦ := fun _ _ => rfl)

/-- An input's array ends as launched. -/
theorem input_eq {r : PUnit × MemSt nD τ sig (Elt F)}
    (h : Pipeline.RDat.FramePost (cfgs 0) (fun c => (dats m 0 c).toRForget forgets) (V m) r)
    (w : Fin cfg0.W) (hin : (cfg0.win w).isOut = false) :
    r.2.mem ((spec0 w).arr.view.loc (c.tc : Thread nD τ)) = V m c (Pipeline.arrRef spec0 w) :=
  (Pipeline.RDat.FramePost.arr_in h c w hin).trans (A_eq m c w)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun _ h => ⟨fun c => ⟨input_eq m c h.1 1 rfl, input_eq m c h.1 2 rfl, input_eq m c h.1 3 rfl, input_eq m c h.1 4 rfl, input_eq m c h.1 5 rfl,
    input_eq m c h.1 6 rfl, input_eq m c h.1 7 rfl, input_eq m c h.1 8 rfl, input_eq m c h.1 9 rfl, input_eq m c h.1 10 rfl,
    input_eq m c h.1 11 rfl, input_eq m c h.1 12 rfl, input_eq m c h.1 13 rfl, input_eq m c h.1 14 rfl, input_eq m c h.1 15 rfl,
    input_eq m c h.1 16 rfl, input_eq m c h.1 17 rfl, input_eq m c h.1 18 rfl, input_eq m c h.1 19 rfl⟩, h.2⟩) (run_main m ρ)

end Cert.Proof.MixerIdeal

end
-- ==== Proof.Norm.lean ====
/-
  The root-mean-square normalisation of one row over the extended reals, and its gradient in two forms: the one
  the kernels compute (`normBack`, from the normalised row) and the one the differentiated reference computes
  (`normPull`, from the row itself through the derivative of the inverse square root). `normPull_eq_normBack` says
  that they agree at every row and every cotangent, infinities included.
-/
module

public import Idealize.ShloMosaic.PureOps.Ideal
public import Idealize.ShloMosaic.PureOps.Ideal.Laws

@[expose] public section

noncomputable section

namespace Cert.Proof.Norm

open Idealize.ShloMosaic
open scoped BigOperators

/-! ### The constants the programs print -/

/-- The row length 1024, as the programs print it. -/
abbrev cLen : EReal := Ideal.ofBits .f32 0x44800000#32
/-- The stabiliser added to the mean square. -/
abbrev cEps : EReal := Ideal.ofBits .f32 0x358637BD#32
/-- Minus one half, the exponent of the inverse square root. -/
abbrev cNegHalf : EReal := Ideal.ofBits .f32 0xBF000000#32

/-- The printed row length is the number 1024. -/
theorem cLen_eq : cLen = ((1024 : ℝ) : EReal) := by
  simp [cLen, Ideal.ofBits, Ideal.ieee, -EReal.coe_mul]; norm_num

/-- The printed exponent is minus one half. -/
theorem cNegHalf_eq : cNegHalf = ((-(1 / 2) : ℝ) : EReal) := by
  simp [cNegHalf, Ideal.ofBits, Ideal.ieee, -EReal.coe_mul]; norm_num

/-- The stabiliser is a positive real number. -/
theorem cEps_pos : ∃ e : ℝ, 0 < e ∧ cEps = (e : EReal) := by
  refine ⟨_, ?_, by simp [cEps, Ideal.ofBits, Ideal.ieee, -EReal.coe_mul]; rfl⟩
  norm_num

/-! ### One row -/

variable {n : Nat}

/-- The mean square of a row, with the stabiliser. -/
def msq (x : Fin n → EReal) : EReal := Ideal.div (∑ k, x k * x k) cLen + cEps
/-- The inverse root of the mean square. -/
def rinv (x : Fin n → EReal) : EReal := Ideal.rsqrt (msq x)
/-- The normalised row. -/
def nrm (x : Fin n → EReal) (j : Fin n) : EReal := x j * rinv x
/-- The gradient of the normalisation as the kernels compute it, `g` the cotangent of the normalised row:
    the cotangent less its component along the normalised row, scaled. -/
def normBack (x g : Fin n → EReal) (j : Fin n) : EReal :=
  rinv x * (g j - nrm x j * Ideal.div (∑ k, nrm x k * g k) cLen)
/-- The coefficient of the row in the differentiated normalisation. -/
def pullCoef (x g : Fin n → EReal) : EReal :=
  Ideal.div ((∑ k, x k * g k) * (cNegHalf * Ideal.div (rinv x) (msq x))) cLen
/-- The gradient of the normalisation as differentiation gives it. -/
def normPull (x g : Fin n → EReal) (j : Fin n) : EReal :=
  g j * rinv x + x j * pullCoef x g + pullCoef x g * x j

/-! ### Extended-real arithmetic -/

/-- A square is never negative. -/
theorem sq_nonneg (x : EReal) : 0 ≤ x * x := by
  rcases le_total 0 x with h | h
  · exact mul_nonneg h h
  · exact EReal.mul_nonneg_iff.2 (Or.inr ⟨h, h⟩)

/-- A positive real factor goes through a sum of extended reals. -/
theorem coe_mul_add {r : ℝ} (hr : 0 < r) (x y : EReal) : (r : EReal) * (x + y) = r * x + r * y :=
  EReal.left_distrib_of_nonneg_of_ne_top (by exact_mod_cast hr.le) (EReal.coe_ne_top r) x y

/-- A positive real factor goes through a finite sum of extended reals. -/
theorem coe_mul_sum {ι : Type} (s : Finset ι) {r : ℝ} (hr : 0 < r) (f : ι → EReal) :
    (r : EReal) * ∑ k ∈ s, f k = ∑ k ∈ s, r * f k := by
  classical
  induction s using Finset.induction_on with
  | empty => simp
  | insert a s ha ih => rw [Finset.sum_insert ha, Finset.sum_insert ha, coe_mul_add hr, ih]

/-- Twice a real multiple. -/
theorem coe_mul_double (a : ℝ) (S : EReal) : (a : EReal) * S + (a : EReal) * S = ((2 * a : ℝ) : EReal) * S := by
  have h2 : (2 * a : ℝ) = a + a := by ring
  induction S using EReal.rec with
  | bot =>
    rcases lt_trichotomy a 0 with h | h | h
    · rw [EReal.coe_mul_bot_of_neg h, EReal.coe_mul_bot_of_neg (by linarith)]; rfl
    · subst h; simp
    · rw [EReal.coe_mul_bot_of_pos h, EReal.coe_mul_bot_of_pos (by linarith)]; rfl
  | top =>
    rcases lt_trichotomy a 0 with h | h | h
    · rw [EReal.coe_mul_top_of_neg h, EReal.coe_mul_top_of_neg (by linarith)]; rfl
    · subst h; simp
    · rw [EReal.coe_mul_top_of_pos h, EReal.coe_mul_top_of_pos (by linarith)]; rfl
  | coe r => rw [← EReal.coe_mul, ← EReal.coe_mul, ← EReal.coe_add]; congr 1; ring

/-- Four real factors in front of an extended real. -/
theorem four_factors (a b r : ℝ) (S : EReal) :
    (r : EReal) * (a * (b * (r * S))) = ((r * a * b * r : ℝ) : EReal) * S := by
  simp only [EReal.coe_mul, mul_assoc]

/-- An extended real whose square is not infinite is real. -/
theorem real_of_sq_ne_top {x : EReal} (h : x * x ≠ ⊤) : ∃ r : ℝ, x = (r : EReal) := by
  induction x using EReal.rec with
  | bot => exact absurd EReal.bot_mul_bot h
  | top => exact absurd EReal.top_mul_top h
  | coe r => exact ⟨r, rfl⟩

/-- A finite sum of nonnegative terms that is not infinite has no infinite term. -/
theorem ne_top_of_sum_ne_top {f : Fin n → EReal} (hf : ∀ k, 0 ≤ f k) (h : ∑ k, f k ≠ ⊤) (j : Fin n) : f j ≠ ⊤ := by
  intro hj
  have := Finset.single_le_sum (f := f) (fun k _ => hf k) (Finset.mem_univ j)
  rw [hj] at this
  exact h (top_le_iff.1 this)

/-- Division by the row length is the product with `1/1024`. -/
theorem div_len (x : EReal) : Ideal.div x cLen = x * ((1 / 1024 : ℝ) : EReal) := by
  rw [cLen_eq, Ideal.div_coe (by norm_num)]

/-- Either the mean square is infinite, or it is a positive real and the row is real. -/
theorem msq_cases (x : Fin n → EReal) :
    msq x = ⊤ ∨ ∃ s : ℝ, 0 < s ∧ msq x = (s : EReal) ∧ ∀ j, ∃ r : ℝ, x j = (r : EReal) := by
  obtain ⟨e, he, hce⟩ := cEps_pos
  have h0 : 0 ≤ ∑ k, x k * x k := Finset.sum_nonneg fun k _ => sq_nonneg (x k)
  by_cases ht : ∑ k, x k * x k = ⊤
  · left
    rw [msq, div_len, ht, hce, EReal.top_mul_coe_of_pos (by norm_num), EReal.top_add_coe]
  · right
    have hb : ∑ k, x k * x k ≠ ⊥ := fun h => by rw [h] at h0; exact absurd h0 (by simp)
    lift (∑ k, x k * x k) to ℝ using ⟨ht, hb⟩ with S hS
    have hS0 : 0 ≤ S := by exact_mod_cast h0
    refine ⟨S * (1 / 1024) + e, by positivity, ?_, fun j => real_of_sq_ne_top
      (ne_top_of_sum_ne_top (fun k => sq_nonneg (x k)) (by rw [← hS]; exact EReal.coe_ne_top S) j)⟩
    rw [msq, div_len, ← hS, hce, ← EReal.coe_mul, ← EReal.coe_add]

/-- The inverse root at a positive real. -/
theorem rsqrt_pos {s : ℝ} (hs : 0 < s) : Ideal.rsqrt (s : EReal) = (((Real.sqrt s)⁻¹ : ℝ) : EReal) := by
  rw [Ideal.rsqrt_coe, if_neg (not_lt.2 hs.le), if_neg hs.ne']

/-- The two forms of the gradient of the normalisation agree, at every row and every cotangent. -/
theorem normPull_eq_normBack (x g : Fin n → EReal) (j : Fin n) : normPull x g j = normBack x g j := by
  rcases msq_cases x with h | ⟨s, hs, h, hx⟩
  · have hi : rinv x = 0 := by rw [rinv, h, Ideal.rsqrt_top]
    have hd : Ideal.div (0 : EReal) ⊤ = 0 := by simp [Ideal.div]
    have hc : pullCoef x g = 0 := by
      rw [pullCoef, hi, h, hd, mul_zero, mul_zero, div_len, zero_mul]
    rw [normPull, normBack, hi, hc]; simp
  · have hr : 0 < (Real.sqrt s)⁻¹ := inv_pos.2 (Real.sqrt_pos.2 hs)
    have hi : rinv x = (((Real.sqrt s)⁻¹ : ℝ) : EReal) := by rw [rinv, h, rsqrt_pos hs]
    have hsq : Real.sqrt s * Real.sqrt s = s := Real.mul_self_sqrt hs.le
    obtain ⟨a, ha⟩ := hx j
    have hsum : ∑ k, nrm x k * g k = (((Real.sqrt s)⁻¹ : ℝ) : EReal) * ∑ k, x k * g k := by
      rw [coe_mul_sum _ hr]
      refine Finset.sum_congr rfl fun k _ => ?_
      rw [nrm, hi, mul_comm (x k), mul_assoc]
    have hc : pullCoef x g = ((-(1 / 2) * ((Real.sqrt s)⁻¹ * (1 / s)) * (1 / 1024) : ℝ) : EReal) * ∑ k, x k * g k := by
      rw [pullCoef, div_len, hi, h, Ideal.div_coe hs.ne', cNegHalf_eq, ← EReal.coe_mul, ← EReal.coe_mul, mul_assoc,
        ← EReal.coe_mul, mul_comm]
    rw [normPull, normBack, hc, div_len, hsum, nrm, hi, ha, mul_comm _ (a : EReal), add_assoc, ← mul_assoc (a : EReal),
      ← EReal.coe_mul, coe_mul_double, sub_eq_add_neg, coe_mul_add hr, mul_comm (g j)]
    congr 1
    rw [mul_comm _ (((1 / 1024 : ℝ)) : EReal), ← EReal.neg_mul, ← EReal.coe_mul, ← EReal.coe_neg, four_factors]
    congr 2
    have hq : (Real.sqrt s)⁻¹ * (Real.sqrt s)⁻¹ = 1 / s := by rw [← mul_inv, hsq, one_div]
    rw [← hq]; ring

end Cert.Proof.Norm

end
-- ==== Proof.MlpSpec.lean ====
/-
  The feed-forward block of the training step, forwards and backwards, for ONE row of tokens over the extended
  reals: the functions in which both the kernel and the reference are read. A row `x` of the residual stream is
  normalised, multiplied into the hidden layer, passed through the squared rectifier, multiplied back, normalised
  and added to `x`; the loss is half the mean square of the difference from the target row.
-/
module

public import proofs.«01_k».proof.Proof.Norm

@[expose] public section

noncomputable section

namespace Cert.Proof.Mlp

open Idealize.ShloMosaic Cert.Proof.Norm
open scoped BigOperators

/-- A row of the model dimension. -/
abbrev Row := Fin 1024 → EReal
/-- A row of the hidden dimension. -/
abbrev Hid := Fin 4096 → EReal
/-- The first weight matrix, model dimension by hidden dimension. -/
abbrev WUp := Fin 1024 → Fin 4096 → EReal
/-- The second weight matrix, hidden dimension by model dimension. -/
abbrev WDown := Fin 4096 → Fin 1024 → EReal

/-- The printed 1/1024. -/
abbrev cInvLen : EReal := Ideal.ofBits .f32 0x3A800000#32
/-- The printed 2. -/
abbrev cTwo : EReal := Ideal.ofBits .f32 0x40000000#32
/-- The printed 1/2048. -/
abbrev cHalfInvLen : EReal := Ideal.ofBits .f32 0x3A000000#32

/-- The normalised row with its gain. -/
def hRow (x gp : Row) (k : Fin 1024) : EReal := nrm x k * gp k
/-- The rectified hidden row. -/
def rl (wu : WUp) (h : Row) (f : Fin 4096) : EReal := max (∑ k, h k * wu k f) 0
/-- The squared rectifier. -/
def act (wu : WUp) (h : Row) (f : Fin 4096) : EReal := rl wu h f * rl wu h f
/-- The product with the second weight matrix. -/
def down (wd : WDown) (u : Hid) (j : Fin 1024) : EReal := ∑ f, u f * wd f j
/-- The output of the block's two products, before its normalisation. -/
def dRow (wu : WUp) (wd : WDown) (x gp : Row) : Row := down wd (act wu (hRow x gp))
/-- The block's result less the target. -/
def diffRow (wu : WUp) (wd : WDown) (x t gp gq : Row) (j : Fin 1024) : EReal :=
  x j + nrm (dRow wu wd x gp) j * gq j - t j
/-- The gradient of the loss in the block's result. -/
def dyRow (wu : WUp) (wd : WDown) (x t gp gq : Row) (j : Fin 1024) : EReal := diffRow wu wd x t gp gq j * cInvLen
/-- The gradient in the output of the second product. -/
def ddRow (wu : WUp) (wd : WDown) (x t gp gq : Row) : Row :=
  normBack (dRow wu wd x gp) fun j => dyRow wu wd x t gp gq j * gq j
/-- The gradient in the hidden layer before the rectifier, from the gradient `dd` and the rectified row `r`. -/
def dact (wd : WDown) (dd : Row) (r : Hid) (f : Fin 4096) : EReal := (∑ j, dd j * wd f j) * (cTwo * r f)
/-- The gradient in the hidden layer before the rectifier. -/
def dpreRow (wu : WUp) (wd : WDown) (x t gp gq : Row) : Hid :=
  dact wd (ddRow wu wd x t gp gq) (rl wu (hRow x gp))
/-- The gradient in the normalised row. -/
def dhRow (wu : WUp) (wd : WDown) (x t gp gq : Row) (k : Fin 1024) : EReal :=
  ∑ f, dpreRow wu wd x t gp gq f * wu k f
/-- The gradient in the row of the residual stream. -/
def dxRow (wu : WUp) (wd : WDown) (x t gp gq : Row) (j : Fin 1024) : EReal :=
  dyRow wu wd x t gp gq j + normBack x (fun k => dhRow wu wd x t gp gq k * gp k) j
/-- One row's part of the gradient in the second gain. -/
def dgqRow (wu : WUp) (wd : WDown) (x t gp gq : Row) (j : Fin 1024) : EReal :=
  dyRow wu wd x t gp gq j * nrm (dRow wu wd x gp) j
/-- One row's part of the gradient in the first gain. -/
def dgpRow (wu : WUp) (wd : WDown) (x t gp gq : Row) (j : Fin 1024) : EReal :=
  dhRow wu wd x t gp gq j * nrm x j
/-- One row's squared difference from the target. -/
def sqRow (wu : WUp) (wd : WDown) (x t gp gq : Row) : EReal :=
  ∑ j, diffRow wu wd x t gp gq j * diffRow wu wd x t gp gq j

/-- The hidden dimension cut into eight pieces of 512. -/
theorem sum_eight (F : Hid) : ∑ f, F f =
    (∑ q : Fin 512, F ⟨q, by omega⟩) + (∑ q : Fin 512, F ⟨512 + q, by omega⟩) + (∑ q : Fin 512, F ⟨1024 + q, by omega⟩)
    + (∑ q : Fin 512, F ⟨1536 + q, by omega⟩) + (∑ q : Fin 512, F ⟨2048 + q, by omega⟩)
    + (∑ q : Fin 512, F ⟨2560 + q, by omega⟩) + (∑ q : Fin 512, F ⟨3072 + q, by omega⟩)
    + (∑ q : Fin 512, F ⟨3584 + q, by omega⟩) := by
  let G : ℕ → EReal := fun i => if h : i < 4096 then F ⟨i, h⟩ else 0
  have hG : ∀ (o : ℕ) (ho : o + 512 ≤ 4096), ∑ q : Fin 512, F ⟨o + q, by omega⟩ = ∑ i ∈ Finset.range 512, G (o + i) := by
    intro o ho
    rw [Finset.sum_range]
    exact Finset.sum_congr rfl fun q _ => by simp only [G]; rw [dif_pos]
  have h0 : ∑ q : Fin 512, F ⟨q, by omega⟩ = ∑ i ∈ Finset.range 512, G i := by
    rw [Finset.sum_range]
    exact Finset.sum_congr rfl fun q _ => by simp only [G]; rw [dif_pos]
  have hall : ∑ f, F f = ∑ i ∈ Finset.range 4096, G i := by
    rw [Finset.sum_range]
    exact Finset.sum_congr rfl fun q _ => by simp only [G]; rw [dif_pos q.isLt]
  rw [hall, h0, hG 512 (by omega), hG 1024 (by omega), hG 1536 (by omega), hG 2048 (by omega), hG 2560 (by omega),
    hG 3072 (by omega), hG 3584 (by omega)]
  have cut : ∀ o : ℕ, ∑ i ∈ Finset.range (o + 512), G i = ∑ i ∈ Finset.range o, G i + ∑ i ∈ Finset.range 512, G (o + i) :=
    fun o => Finset.sum_range_add G o 512
  rw [show (4096 : ℕ) = 3584 + 512 by norm_num, cut, show (3584 : ℕ) = 3072 + 512 by norm_num, cut,
    show (3072 : ℕ) = 2560 + 512 by norm_num, cut, show (2560 : ℕ) = 2048 + 512 by norm_num, cut,
    show (2048 : ℕ) = 1536 + 512 by norm_num, cut, show (1536 : ℕ) = 1024 + 512 by norm_num, cut,
    show (1024 : ℕ) = 512 + 512 by norm_num, cut]

/-- The hidden dimension cut into four pieces of 1024. -/
theorem sum_four (F : Hid) : ∑ f, F f =
    (∑ q : Fin 1024, F ⟨q, by omega⟩) + (∑ q : Fin 1024, F ⟨1024 + q, by omega⟩) + (∑ q : Fin 1024, F ⟨2048 + q, by omega⟩)
    + (∑ q : Fin 1024, F ⟨3072 + q, by omega⟩) := by
  let G : ℕ → EReal := fun i => if h : i < 4096 then F ⟨i, h⟩ else 0
  have hG : ∀ (o : ℕ) (ho : o + 1024 ≤ 4096), ∑ q : Fin 1024, F ⟨o + q, by omega⟩ = ∑ i ∈ Finset.range 1024, G (o + i) := by
    intro o ho
    rw [Finset.sum_range]
    exact Finset.sum_congr rfl fun q _ => by simp only [G]; rw [dif_pos]
  have h0 : ∑ q : Fin 1024, F ⟨q, by omega⟩ = ∑ i ∈ Finset.range 1024, G i := by
    rw [Finset.sum_range]
    exact Finset.sum_congr rfl fun q _ => by simp only [G]; rw [dif_pos]
  have hall : ∑ f, F f = ∑ i ∈ Finset.range 4096, G i := by
    rw [Finset.sum_range]
    exact Finset.sum_congr rfl fun q _ => by simp only [G]; rw [dif_pos q.isLt]
  rw [hall, h0, hG 1024 (by omega), hG 2048 (by omega), hG 3072 (by omega)]
  have cut : ∀ o : ℕ, ∑ i ∈ Finset.range (o + 1024), G i = ∑ i ∈ Finset.range o, G i + ∑ i ∈ Finset.range 1024, G (o + i) :=
    fun o => Finset.sum_range_add G o 1024
  rw [show (4096 : ℕ) = 3072 + 1024 by norm_num, cut, show (3072 : ℕ) = 2048 + 1024 by norm_num, cut,
    show (2048 : ℕ) = 1024 + 1024 by norm_num, cut]

end Cert.Proof.Mlp

end
-- ==== Proof.MlpBlock.lean ====
/-
  One grid point of the feed-forward kernel: what its stored blocks of 256 rows hold, read row by row. Each stored
  value is the row function of MlpSpec.lean at the block's row of the residual stream and of the target, for weight
  blocks that are the pieces of one pair of weight matrices.
-/
module

public import proofs.«01_k».proof.Proof.Gen.KernelIdeal.Skeleton
public import proofs.«01_k».proof.Proof.MlpSpec
public import Idealize.ShloMosaic.Lib.Pointwise

@[expose] public section

set_option maxRecDepth 16384

noncomputable section

namespace Cert.Proof.MlpBlock

open Idealize.ShloMosaic Cert.KernelIdeal Cert.KernelIdeal.Gen Cert.Proof.Norm Cert.Proof.Mlp
open scoped BigOperators

/-- A block of rows of the model dimension. -/
abbrev Blk := FVec Ideal S256x1024 .f32
/-- A row of gains. -/
abbrev Gain := FVec Ideal S1x1024 .f32
/-- A piece of the first weight matrix: all its rows, 1024 columns. -/
abbrev PUp := Vec Ideal S1x1024x1024 .bf16
/-- A piece of the second weight matrix: 512 rows, all its columns. -/
abbrev PDown := Vec Ideal S1x512x1024 .bf16

/-- Row `r` of a block. -/
abbrev row (X : Blk) (r : Fin 256) : Row := fun k => X (ix2 r k)
/-- The gains as a row. -/
abbrev gain (g : Gain) : Row := fun k => g (ix2 0 k)

/-- The four pieces of the first weight matrix and the eight of the second are cut from `wu` and `wd`. -/
structure Pieces (U0 U1 U2 U3 : PUp) (A0 B0 A1 B1 A2 B2 A3 B3 : PDown) (wu : WUp) (wd : WDown) : Prop where
  u0 : ∀ k f, U0 (ix3 0 k f) = wu k ⟨f, by omega⟩
  u1 : ∀ k f, U1 (ix3 0 k f) = wu k ⟨1024 + f, by omega⟩
  u2 : ∀ k f, U2 (ix3 0 k f) = wu k ⟨2048 + f, by omega⟩
  u3 : ∀ k f, U3 (ix3 0 k f) = wu k ⟨3072 + f, by omega⟩
  a0 : ∀ q j, A0 (ix3 0 q j) = wd ⟨q, by omega⟩ j
  b0 : ∀ q j, B0 (ix3 0 q j) = wd ⟨512 + q, by omega⟩ j
  a1 : ∀ q j, A1 (ix3 0 q j) = wd ⟨1024 + q, by omega⟩ j
  b1 : ∀ q j, B1 (ix3 0 q j) = wd ⟨1024 + (512 + q), by omega⟩ j
  a2 : ∀ q j, A2 (ix3 0 q j) = wd ⟨2048 + q, by omega⟩ j
  b2 : ∀ q j, B2 (ix3 0 q j) = wd ⟨2048 + (512 + q), by omega⟩ j
  a3 : ∀ q j, A3 (ix3 0 q j) = wd ⟨3072 + q, by omega⟩ j
  b3 : ∀ q j, B3 (ix3 0 q j) = wd ⟨3072 + (512 + q), by omega⟩ j

/-! ### Single steps -/

/-- The inverse root of a block's row. -/
theorem rinv_at (X : Blk) (r : Fin 256) (z : Fin 1) : k0_pay8 (F := Ideal) X (ix2 r z) = rinv (row X r) := by
  pointwise [k0_pay8, rinv, msq]

/-- The normalised block. -/
theorem nrm_at (X : Blk) (r : Fin 256) (k : Fin 1024) : k0_pay9 (F := Ideal) X (ix2 r k) = nrm (row X r) k := by
  pointwise [k0_pay9, rinv_at, nrm]

/-- The normalised block with its gain. -/
theorem h_at (X : Blk) (g : Gain) (r : Fin 256) (k : Fin 1024) :
    k0_pay10 (F := Ideal) X g (ix2 r k) = hRow (row X r) (gain g) k := by
  pointwise [k0_pay10, nrm_at, hRow]

/-- One piece of the rectified hidden layer. -/
theorem relu_at (H : FVec Ideal S256x1024 .bf16) (U : PUp) (r : Fin 256) (f : Fin 1024) :
    k0_pay16 (F := Ideal) H U (ix2 r f) = max (∑ k : Fin 1024, H (ix2 r k) * U (ix3 0 k f)) 0 := by
  pointwise [k0_pay16]

/-- One piece of the squared hidden layer. -/
theorem act_at (H : FVec Ideal S256x1024 .bf16) (U : PUp) (r : Fin 256) (f : Fin 1024) :
    k0_pay17 (F := Ideal) H U (ix2 r f) = k0_pay16 (F := Ideal) H U (ix2 r f) * k0_pay16 (F := Ideal) H U (ix2 r f) := by
  pointwise [k0_pay17]

/-- The gradient in one piece of the hidden layer, its first and its last 512 columns. -/
theorem dpre_at (p : Blk) (v : FVec Ideal S256x1024 .bf16) (A B : PDown) (r : Fin 256) (f : Fin 1024) :
    k0_pay40 (F := Ideal) p v A B (ix2 r f) = (if h : (f : ℕ) < 512 then ∑ j : Fin 1024, v (ix2 r j) * A (ix3 0 ⟨f, h⟩ j)
      else ∑ j : Fin 1024, v (ix2 r j) * B (ix3 0 ⟨(f : ℕ) - 512, by omega⟩ j)) * (cTwo * p (ix2 r f)) := by
  pointwise [k0_pay40]

/-- The same against the second weight matrix: the piece's column `f` is the matrix's column `φ f`. -/
theorem dpre_of {p : Blk} {v : FVec Ideal S256x1024 .bf16} {A B : PDown} {wd : WDown} {φ : Fin 1024 → Fin 4096}
    (hA : ∀ (q : Fin 512) j, A (ix3 0 q j) = wd (φ ⟨q, by omega⟩) j)
    (hB : ∀ (q : Fin 512) j, B (ix3 0 q j) = wd (φ ⟨512 + q, by omega⟩) j) {r : Fin 256} {dd : Row}
    (hv : ∀ j, v (ix2 r j) = dd j) {R : Hid} (hp : ∀ f, p (ix2 r f) = R (φ f)) (f : Fin 1024) :
    k0_pay40 (F := Ideal) p v A B (ix2 r f) = dact wd dd R (φ f) := by
  rw [dpre_at, hp, dact]
  congr 1
  simp only [hv, hA, hB]
  split
  · rfl
  · rename_i h
    have e : (⟨512 + ((f : ℕ) - 512), by omega⟩ : Fin 1024) = f := Fin.ext (by show 512 + ((f : ℕ) - 512) = f; omega)
    simp only [e]

/-! ### The stored blocks as compositions of the kernel's steps -/

section Stored

variable (X T : Blk) (gp gq : Gain) (U0 U1 U2 U3 : PUp) (A0 B0 A1 B1 A2 B2 A3 B3 : PDown)

/-- The output of the two products. -/
def vD : Blk :=
  k0_pay23 (F := Ideal) (k0_pay10 X gp) (k0_pay18 (k0_pay10 X gp) k0_pay11 (k0_pay13 X gp U0) (k0_pay14 X gp U0) (k0_pay15 A0)
    B0 U1 A1 B1) (k0_pay20 (k0_pay10 X gp) U2) A2 B2 U3 A3 B3
/-- Its sums of squares. -/
def vS : FVec Ideal S256x1 .f32 :=
  k0_pay24 (F := Ideal) (k0_pay10 X gp) (k0_pay18 (k0_pay10 X gp) k0_pay11 (k0_pay13 X gp U0) (k0_pay14 X gp U0) (k0_pay15 A0)
    B0 U1 A1 B1) (k0_pay20 (k0_pay10 X gp) U2) A2 B2 U3 A3 B3

variable {X T gp gq U0 U1 U2 U3 A0 B0 A1 B1 A2 B2 A3 B3} {wu : WUp} {wd : WDown}
variable (W : Pieces U0 U1 U2 U3 A0 B0 A1 B1 A2 B2 A3 B3 wu wd)
include W

/-- The rectified hidden layer, piece by piece. -/
theorem rl0_at (r : Fin 256) (f : Fin 1024) :
    k0_pay16 (F := Ideal) (k0_pay10 X gp) U0 (ix2 r f) = rl wu (hRow (row X r) (gain gp)) ⟨f, by omega⟩ := by
  rw [relu_at]; simp only [h_at, W.u0]; rfl
theorem rl1_at (r : Fin 256) (f : Fin 1024) :
    k0_pay16 (F := Ideal) (k0_pay10 X gp) U1 (ix2 r f) = rl wu (hRow (row X r) (gain gp)) ⟨1024 + f, by omega⟩ := by
  rw [relu_at]; simp only [h_at, W.u1]; rfl
theorem rl2_at (r : Fin 256) (f : Fin 1024) :
    k0_pay16 (F := Ideal) (k0_pay10 X gp) U2 (ix2 r f) = rl wu (hRow (row X r) (gain gp)) ⟨2048 + f, by omega⟩ := by
  rw [relu_at]; simp only [h_at, W.u2]; rfl
theorem rl3_at (r : Fin 256) (f : Fin 1024) :
    k0_pay16 (F := Ideal) (k0_pay10 X gp) U3 (ix2 r f) = rl wu (hRow (row X r) (gain gp)) ⟨3072 + f, by omega⟩ := by
  rw [relu_at]; simp only [h_at, W.u3]; rfl

/-- The squared hidden layer, piece by piece. -/
theorem act0_at (r : Fin 256) (f : Fin 1024) :
    k0_pay17 (F := Ideal) (k0_pay10 X gp) U0 (ix2 r f) = act wu (hRow (row X r) (gain gp)) ⟨f, by omega⟩ := by
  rw [act_at, rl0_at W]; rfl
theorem act1_at (r : Fin 256) (f : Fin 1024) :
    k0_pay17 (F := Ideal) (k0_pay10 X gp) U1 (ix2 r f) = act wu (hRow (row X r) (gain gp)) ⟨1024 + f, by omega⟩ := by
  rw [act_at, rl1_at W]; rfl
theorem act2_at (r : Fin 256) (f : Fin 1024) :
    k0_pay17 (F := Ideal) (k0_pay10 X gp) U2 (ix2 r f) = act wu (hRow (row X r) (gain gp)) ⟨2048 + f, by omega⟩ := by
  rw [act_at, rl2_at W]; rfl
theorem act3_at (r : Fin 256) (f : Fin 1024) :
    k0_pay17 (F := Ideal) (k0_pay10 X gp) U3 (ix2 r f) = act wu (hRow (row X r) (gain gp)) ⟨3072 + f, by omega⟩ := by
  rw [act_at, rl3_at W]; rfl

/-- The output of the two products. -/
theorem vD_at (r : Fin 256) (j : Fin 1024) :
    vD X gp U0 U1 U2 U3 A0 B0 A1 B1 A2 B2 A3 B3 (ix2 r j) = dRow wu wd (row X r) (gain gp) j := by
  have e13 : k0_pay13 (F := Ideal) X gp U0 = k0_pay17 (F := Ideal) (k0_pay10 X gp) U0 := rfl
  have e20 : k0_pay20 (F := Ideal) (k0_pay10 X gp) U2 = k0_pay17 (F := Ideal) (k0_pay10 X gp) U2 := rfl
  have e22 : k0_pay22 (F := Ideal) (k0_pay10 X gp) U3 = k0_pay17 (F := Ideal) (k0_pay10 X gp) U3 := rfl
  unfold vD
  pointwise [k0_pay23, k0_pay18, k0_pay11, k0_pay14, k0_pay15, e13, e20, e22]
  simp only [act0_at W, act1_at W, act2_at W, act3_at W, W.a0, W.b0, W.a1, W.b1, W.a2, W.b2, W.a3, W.b3]
  rw [dRow, down, sum_eight]
  simp only [← Nat.add_assoc, Nat.reduceAdd]

/-- Its sums of squares. -/
theorem vS_at (r : Fin 256) (z : Fin 1) :
    vS X gp U0 U1 U2 U3 A0 B0 A1 B1 A2 B2 A3 B3 (ix2 r z)
      = ∑ j, dRow wu wd (row X r) (gain gp) j * dRow wu wd (row X r) (gain gp) j := by
  simp only [← vD_at (X := X) (gp := gp) W r]
  unfold vS vD
  pointwise [k0_pay24]

end Stored

/-! ### The normalisation of the second product, the loss and its gradient -/

section Head

/-- The printed row length, as a column. -/
theorem len_at (r : Fin 256) (z : Fin 1) : k0_pay25 (F := Ideal) (ix2 r z) = cLen := by pointwise [k0_pay25]

variable {X T D : Blk} {S : FVec Ideal S256x1 .f32} {gq : Gain} {d : Row} {r : Fin 256}

/-- The inverse root of the second product's row. -/
theorem rinv2_at (hS : ∀ z, S (ix2 r z) = ∑ j, d j * d j) (z : Fin 1) :
    k0_pay26 (F := Ideal) S k0_pay25 (ix2 r z) = rinv d := by
  pointwise [k0_pay26, len_at, hS, rinv, msq]

/-- The normalised second product. -/
theorem nrm2_at (hD : ∀ j, D (ix2 r j) = d j) (hS : ∀ z, S (ix2 r z) = ∑ j, d j * d j) (j : Fin 1024) :
    k0_pay27 (F := Ideal) D S k0_pay25 (ix2 r j) = nrm d j := by
  pointwise [k0_pay27, rinv2_at hS, hD, nrm]

/-- The difference from the target. -/
theorem diff_at (hD : ∀ j, D (ix2 r j) = d j) (hS : ∀ z, S (ix2 r z) = ∑ j, d j * d j) (j : Fin 1024) :
    k0_pay28 (F := Ideal) X gq D S k0_pay25 T (ix2 r j) = X (ix2 r j) + nrm d j * gq (ix2 0 j) - T (ix2 r j) := by
  pointwise [k0_pay28, nrm2_at hD hS]

/-- The gradient of the loss. -/
theorem dy_at (hD : ∀ j, D (ix2 r j) = d j) (hS : ∀ z, S (ix2 r z) = ∑ j, d j * d j) (j : Fin 1024) :
    k0_pay30 (F := Ideal) X gq D S k0_pay25 T (ix2 r j)
      = (X (ix2 r j) + nrm d j * gq (ix2 0 j) - T (ix2 r j)) * cInvLen := by
  pointwise [k0_pay30, diff_at hD hS]

/-- The gradient in the second product's output. -/
theorem dd_at (hD : ∀ j, D (ix2 r j) = d j) (hS : ∀ z, S (ix2 r z) = ∑ j, d j * d j) (j : Fin 1024) :
    k0_pay34 (F := Ideal) (k0_pay26 S k0_pay25) (k0_pay27 D S k0_pay25) (k0_pay32 X gq D S k0_pay25 T)
        (k0_pay33 X gq D S k0_pay25 T) (ix2 r j)
      = normBack d (fun j => (X (ix2 r j) + nrm d j * gq (ix2 0 j) - T (ix2 r j)) * cInvLen * gq (ix2 0 j)) j := by
  pointwise [k0_pay34, k0_pay33, k0_pay32, rinv2_at hS, nrm2_at hD hS, dy_at hD hS, normBack]

end Head

/-! ### The stored blocks -/

section Stored

variable (X T : Blk) (gp gq : Gain) (U0 U1 U2 U3 : PUp) (A0 B0 A1 B1 A2 B2 A3 B3 : PDown)

/-- The gradient in the second product's output. -/
def vDD : FVec Ideal S256x1024 .bf16 :=
  k0_pay34 (F := Ideal)
    (k0_pay26 (vS X gp U0 U1 U2 U3 A0 B0 A1 B1 A2 B2 A3 B3) k0_pay25)
    (k0_pay27 (vD X gp U0 U1 U2 U3 A0 B0 A1 B1 A2 B2 A3 B3) (vS X gp U0 U1 U2 U3 A0 B0 A1 B1 A2 B2 A3 B3) k0_pay25)
    (k0_pay32 X gq (vD X gp U0 U1 U2 U3 A0 B0 A1 B1 A2 B2 A3 B3) (vS X gp U0 U1 U2 U3 A0 B0 A1 B1 A2 B2 A3 B3) k0_pay25 T)
    (k0_pay33 X gq (vD X gp U0 U1 U2 U3 A0 B0 A1 B1 A2 B2 A3 B3) (vS X gp U0 U1 U2 U3 A0 B0 A1 B1 A2 B2 A3 B3) k0_pay25 T)

variable {X T gp gq U0 U1 U2 U3 A0 B0 A1 B1 A2 B2 A3 B3} {wu : WUp} {wd : WDown}
variable (W : Pieces U0 U1 U2 U3 A0 B0 A1 B1 A2 B2 A3 B3 wu wd)
include W

theorem vDD_at (r : Fin 256) (j : Fin 1024) :
    vDD X T gp gq U0 U1 U2 U3 A0 B0 A1 B1 A2 B2 A3 B3 (ix2 r j)
      = ddRow wu wd (row X r) (row T r) (gain gp) (gain gq) j := by
  unfold vDD
  rw [dd_at (fun j => vD_at W r j) (fun z => vS_at W r z)]
  rfl

/-- The gradient in the hidden layer, piece by piece. -/
theorem dp0_at (r : Fin 256) (f : Fin 1024) :
    k0_pay40 (F := Ideal) (k0_pay16 (k0_pay10 X gp) U0) (vDD X T gp gq U0 U1 U2 U3 A0 B0 A1 B1 A2 B2 A3 B3) A0 B0 (ix2 r f)
      = dpreRow wu wd (row X r) (row T r) (gain gp) (gain gq) ⟨f, by omega⟩ :=
  dpre_of (φ := fun f => ⟨f, by omega⟩) W.a0 W.b0 (vDD_at W r) (rl0_at W r) f
theorem dp1_at (r : Fin 256) (f : Fin 1024) :
    k0_pay40 (F := Ideal) (k0_pay16 (k0_pay10 X gp) U1) (vDD X T gp gq U0 U1 U2 U3 A0 B0 A1 B1 A2 B2 A3 B3) A1 B1 (ix2 r f)
      = dpreRow wu wd (row X r) (row T r) (gain gp) (gain gq) ⟨1024 + f, by omega⟩ :=
  dpre_of (φ := fun f => ⟨1024 + f, by omega⟩) W.a1 W.b1 (vDD_at W r) (rl1_at W r) f
theorem dp2_at (r : Fin 256) (f : Fin 1024) :
    k0_pay40 (F := Ideal) (k0_pay16 (k0_pay10 X gp) U2) (vDD X T gp gq U0 U1 U2 U3 A0 B0 A1 B1 A2 B2 A3 B3) A2 B2 (ix2 r f)
      = dpreRow wu wd (row X r) (row T r) (gain gp) (gain gq) ⟨2048 + f, by omega⟩ :=
  dpre_of (φ := fun f => ⟨2048 + f, by omega⟩) W.a2 W.b2 (vDD_at W r) (rl2_at W r) f
theorem dp3_at (r : Fin 256) (f : Fin 1024) :
    k0_pay40 (F := Ideal) (k0_pay16 (k0_pay10 X gp) U3) (vDD X T gp gq U0 U1 U2 U3 A0 B0 A1 B1 A2 B2 A3 B3) A3 B3 (ix2 r f)
      = dpreRow wu wd (row X r) (row T r) (gain gp) (gain gq) ⟨3072 + f, by omega⟩ :=
  dpre_of (φ := fun f => ⟨3072 + f, by omega⟩) W.a3 W.b3 (vDD_at W r) (rl3_at W r) f

variable (X T gp gq U0 U1 U2 U3 A0 B0 A1 B1 A2 B2 A3 B3) in
omit W in
/-- The gradient in the normalised row, its four parts in the order the kernel adds them. -/
def vDH : Blk :=
  k0_pay2 (F := Ideal) (k0_pay21 (k0_pay10 X gp) U3) (vDD X T gp gq U0 U1 U2 U3 A0 B0 A1 B1 A2 B2 A3 B3)
    (k0_pay41 (k0_pay16 (k0_pay10 X gp) U1) (k0_pay19 (k0_pay10 X gp) U2) (vDD X T gp gq U0 U1 U2 U3 A0 B0 A1 B1 A2 B2 A3 B3)
      (k0_pay36 (k0_pay12 X gp U0)
        (k0_pay26 (vS X gp U0 U1 U2 U3 A0 B0 A1 B1 A2 B2 A3 B3) k0_pay25)
        (k0_pay27 (vD X gp U0 U1 U2 U3 A0 B0 A1 B1 A2 B2 A3 B3) (vS X gp U0 U1 U2 U3 A0 B0 A1 B1 A2 B2 A3 B3) k0_pay25)
        (k0_pay32 X gq (vD X gp U0 U1 U2 U3 A0 B0 A1 B1 A2 B2 A3 B3) (vS X gp U0 U1 U2 U3 A0 B0 A1 B1 A2 B2 A3 B3) k0_pay25 T)
        (k0_pay33 X gq (vD X gp U0 U1 U2 U3 A0 B0 A1 B1 A2 B2 A3 B3) (vS X gp U0 U1 U2 U3 A0 B0 A1 B1 A2 B2 A3 B3) k0_pay25 T) A0 B0 U0)
      (k0_pay37
        (k0_pay26 (vS X gp U0 U1 U2 U3 A0 B0 A1 B1 A2 B2 A3 B3) k0_pay25)
        (k0_pay27 (vD X gp U0 U1 U2 U3 A0 B0 A1 B1 A2 B2 A3 B3) (vS X gp U0 U1 U2 U3 A0 B0 A1 B1 A2 B2 A3 B3) k0_pay25)
        (k0_pay32 X gq (vD X gp U0 U1 U2 U3 A0 B0 A1 B1 A2 B2 A3 B3) (vS X gp U0 U1 U2 U3 A0 B0 A1 B1 A2 B2 A3 B3) k0_pay25 T)
        (k0_pay33 X gq (vD X gp U0 U1 U2 U3 A0 B0 A1 B1 A2 B2 A3 B3) (vS X gp U0 U1 U2 U3 A0 B0 A1 B1 A2 B2 A3 B3) k0_pay25 T) A1 B1)
      k0_pay38 U1 A2 B2 U2)
    (k0_pay42 (vDD X T gp gq U0 U1 U2 U3 A0 B0 A1 B1 A2 B2 A3 B3) A3) (k0_pay43 B3) (constant S256x512 .f32 0x00000000#32) U3

theorem vDH_at (r : Fin 256) (k : Fin 1024) :
    vDH X T gp gq U0 U1 U2 U3 A0 B0 A1 B1 A2 B2 A3 B3 (ix2 r k) = dhRow wu wd (row X r) (row T r) (gain gp) (gain gq) k := by
  trans ∑ f : Fin 1024, k0_pay40 (F := Ideal) (k0_pay16 (k0_pay10 X gp) U0) (vDD X T gp gq U0 U1 U2 U3 A0 B0 A1 B1 A2 B2 A3 B3) A0 B0 (ix2 r f) * U0 (ix3 0 k f)
    + ∑ f : Fin 1024, k0_pay40 (F := Ideal) (k0_pay16 (k0_pay10 X gp) U1) (vDD X T gp gq U0 U1 U2 U3 A0 B0 A1 B1 A2 B2 A3 B3) A1 B1 (ix2 r f) * U1 (ix3 0 k f)
    + ∑ f : Fin 1024, k0_pay40 (F := Ideal) (k0_pay16 (k0_pay10 X gp) U2) (vDD X T gp gq U0 U1 U2 U3 A0 B0 A1 B1 A2 B2 A3 B3) A2 B2 (ix2 r f) * U2 (ix3 0 k f)
    + ∑ f : Fin 1024, k0_pay40 (F := Ideal) (k0_pay16 (k0_pay10 X gp) U3) (vDD X T gp gq U0 U1 U2 U3 A0 B0 A1 B1 A2 B2 A3 B3) A3 B3 (ix2 r f) * U3 (ix3 0 k f)
  · have e1 : ∀ p v A B, k0_pay1 (F := Ideal) p v (k0_pay42 v A) (k0_pay43 B) (constant S256x512 .f32 0x00000000#32)
        = k0_pay40 p v A B := fun _ _ _ _ => rfl
    have e35 : ∀ p a b c d A B, k0_pay35 (F := Ideal) p a b c d A B = k0_pay40 p (k0_pay34 a b c d) A B := fun _ _ _ _ _ _ _ => rfl
    have e39 : ∀ p a b c d A B, k0_pay39 (F := Ideal) p (k0_pay37 a b c d A B) k0_pay38 = k0_pay40 p (k0_pay34 a b c d) A B :=
      fun _ _ _ _ _ _ _ => rfl
    unfold vDH
    pointwise [k0_pay2, k0_pay41, k0_pay36, e1, e35, e39]
    rfl
  · simp only [dp0_at W, dp1_at W, dp2_at W, dp3_at W, W.u0, W.u1, W.u2, W.u3]
    rw [dhRow, sum_four]

/-- The gradient in the residual stream, as the kernel stores it. -/
theorem dx_at {v192 : Blk} {v195 cst : FVec Ideal S256x512 .f32} {v197 : FVec Ideal S512x1024 .bf16}
    {p79 : Blk} {v142 : FVec Ideal S256x1024 .bf16} {U : PUp} {r : Fin 256}
    (hdh : ∀ k, k0_pay2 (F := Ideal) p79 v142 v192 v195 v197 cst U (ix2 r k)
      = dhRow wu wd (row X r) (row T r) (gain gp) (gain gq) k) (j : Fin 1024) :
    k0_pay4 (F := Ideal) gp (k0_pay8 X) (k0_pay9 X) p79
        (k0_pay30 X gq (vD X gp U0 U1 U2 U3 A0 B0 A1 B1 A2 B2 A3 B3) (vS X gp U0 U1 U2 U3 A0 B0 A1 B1 A2 B2 A3 B3) k0_pay25 T) v142 v192 v195 v197 cst U (ix2 r j)
      = dxRow wu wd (row X r) (row T r) (gain gp) (gain gq) j := by
  pointwise [k0_pay4, hdh, rinv_at, nrm_at, dy_at (fun j => vD_at W r j) (fun z => vS_at W r z), dxRow, normBack]
  rfl

omit W in
/-- The running gradient in the first gain gains one block's rows. -/
theorem dgp_at {v192 : Blk} {v195 cst : FVec Ideal S256x512 .f32} {v197 : FVec Ideal S512x1024 .bf16}
    {p79 : Blk} {v142 : FVec Ideal S256x1024 .bf16} {U : PUp}
    (hdh : ∀ r k, k0_pay2 (F := Ideal) p79 v142 v192 v195 v197 cst U (ix2 r k)
      = dhRow wu wd (row X r) (row T r) (gain gp) (gain gq) k) (a : Gain) (z : Fin 1) (j : Fin 1024) :
    k0_pay3 (F := Ideal) (k0_pay9 X) p79 v142 v192 v195 v197 cst U a (ix2 z j)
      = a (ix2 z j) + ∑ r, dgpRow wu wd (row X r) (row T r) (gain gp) (gain gq) j := by
  pointwise [k0_pay3, hdh, nrm_at, dgpRow]

/-- The running gradient in the second gain gains one block's rows. -/
theorem dgq_at (a : Gain) (z : Fin 1) (j : Fin 1024) :
    k0_pay31 (F := Ideal) X gq (vD X gp U0 U1 U2 U3 A0 B0 A1 B1 A2 B2 A3 B3) (vS X gp U0 U1 U2 U3 A0 B0 A1 B1 A2 B2 A3 B3) k0_pay25 T a (ix2 z j)
      = a (ix2 z j) + ∑ r, dgqRow wu wd (row X r) (row T r) (gain gp) (gain gq) j := by
  pointwise [k0_pay31]
  congr 1
  refine Finset.sum_congr rfl fun r _ => ?_
  rw [dy_at (fun j => vD_at W r j) (fun z => vS_at W r z), nrm2_at (fun j => vD_at W r j) (fun z => vS_at W r z)]
  rfl

/-- The running loss gains one block's rows. -/
theorem loss_at (a : FVec Ideal S1x128 .f32) (z : Fin 1) (l : Fin 128) :
    k0_pay29 (F := Ideal) X gq (vD X gp U0 U1 U2 U3 A0 B0 A1 B1 A2 B2 A3 B3) (vS X gp U0 U1 U2 U3 A0 B0 A1 B1 A2 B2 A3 B3) k0_pay25 T a (ix2 z l)
      = a (ix2 z l) + (∑ r, sqRow wu wd (row X r) (row T r) (gain gp) (gain gq)) * cHalfInvLen := by
  pointwise [k0_pay29]
  congr 2
  refine Finset.sum_congr rfl fun r _ => ?_
  simp only [diff_at (X := X) (T := T) (gq := gq) (fun j => vD_at W r j) (fun z => vS_at W r z)]
  rfl

end Stored

end Cert.Proof.MlpBlock

end
-- ==== Proof.MlpKernel.lean ====
/-
  The arrays the feed-forward kernel leaves, as the row functions of MlpSpec.lean at the argument arrays: four arrays
  written block of rows by block of rows, and three sums over all rows that the grid's points add to in turn.
-/
module

public import proofs.«01_k».proof.Proof.Gen.KernelIdeal.Value
public import proofs.«01_k».proof.Proof.MlpBlock
public import Idealize.ShloMosaic.Lib.Pipeline.ValueKit

@[expose] public section

set_option maxRecDepth 16384

noncomputable section

namespace Cert.Proof.MlpKernel

open Idealize.ShloMosaic Idealize.ShloMosaic.TcCoe Idealize.SL.Sem
open Idealize.ShloMosaic.Pipeline (Dat)
open Cert.KernelIdeal Cert.KernelIdeal.Gen Cert.Proof.Norm Cert.Proof.Mlp Cert.Proof.MlpBlock
open scoped BigOperators

/-! ### The loads of the weight pieces -/

section Loads

variable {Y4 : Vec Ideal S4x1024x1024 .bf16} {Y5 Y6 : Vec Ideal S4x512x1024 .bf16} {wu : WUp} {wd : WDown}

/-- The twelve loads are the pieces of the two weight matrices that the stacked arrays hold. -/
theorem pieces_of
    (h4 : ∀ (s : Fin 4) k f, Y4 (ix3 s k f) = wu k ⟨s * 1024 + f, by omega⟩)
    (h5 : ∀ (s : Fin 4) q j, Y5 (ix3 s q j) = wd ⟨s * 1024 + q, by omega⟩ j)
    (h6 : ∀ (s : Fin 4) q j, Y6 (ix3 s q j) = wd ⟨s * 1024 + (512 + q), by omega⟩ j) :
    Pieces (View.ld Y4 (Rect.unit ![0, 0, 0] ![1, 1024, 1024] inb_S4x1024x1024_S1x1024x1024_0_0_0))
      (View.ld Y4 (Rect.unit ![1, 0, 0] ![1, 1024, 1024] inb_S4x1024x1024_S1x1024x1024_1_0_0))
      (View.ld Y4 (Rect.unit ![2, 0, 0] ![1, 1024, 1024] inb_S4x1024x1024_S1x1024x1024_2_0_0))
      (View.ld Y4 (Rect.unit ![3, 0, 0] ![1, 1024, 1024] inb_S4x1024x1024_S1x1024x1024_3_0_0))
      (View.ld Y5 (Rect.unit ![0, 0, 0] ![1, 512, 1024] inb_S4x512x1024_S1x512x1024_0_0_0))
      (View.ld Y6 (Rect.unit ![0, 0, 0] ![1, 512, 1024] inb_S4x512x1024_S1x512x1024_0_0_0))
      (View.ld Y5 (Rect.unit ![1, 0, 0] ![1, 512, 1024] inb_S4x512x1024_S1x512x1024_1_0_0))
      (View.ld Y6 (Rect.unit ![1, 0, 0] ![1, 512, 1024] inb_S4x512x1024_S1x512x1024_1_0_0))
      (View.ld Y5 (Rect.unit ![2, 0, 0] ![1, 512, 1024] inb_S4x512x1024_S1x512x1024_2_0_0))
      (View.ld Y6 (Rect.unit ![2, 0, 0] ![1, 512, 1024] inb_S4x512x1024_S1x512x1024_2_0_0))
      (View.ld Y5 (Rect.unit ![3, 0, 0] ![1, 512, 1024] inb_S4x512x1024_S1x512x1024_3_0_0))
      (View.ld Y6 (Rect.unit ![3, 0, 0] ![1, 512, 1024] inb_S4x512x1024_S1x512x1024_3_0_0)) wu wd := by
  constructor <;> intro a b <;> pointwise
  · rw [h4]; congr 1; first | done | (apply Fin.ext; simp) | (congr 1; apply Fin.ext; simp)
  · rw [h4]; congr 1; first | done | (apply Fin.ext; simp) | (congr 1; apply Fin.ext; simp)
  · rw [h4]; congr 1; first | done | (apply Fin.ext; simp) | (congr 1; apply Fin.ext; simp)
  · rw [h4]; congr 1; first | done | (apply Fin.ext; simp) | (congr 1; apply Fin.ext; simp)
  · rw [h5]; congr 1; first | done | (apply Fin.ext; simp) | (congr 1; apply Fin.ext; simp)
  · rw [h6]; congr 1; first | done | (apply Fin.ext; simp) | (congr 1; apply Fin.ext; simp)
  · rw [h5]; congr 1; first | done | (apply Fin.ext; simp) | (congr 1; apply Fin.ext; simp)
  · rw [h6]; congr 1; first | done | (apply Fin.ext; simp) | (congr 1; apply Fin.ext; simp)
  · rw [h5]; congr 1; first | done | (apply Fin.ext; simp) | (congr 1; apply Fin.ext; simp)
  · rw [h6]; congr 1; first | done | (apply Fin.ext; simp) | (congr 1; apply Fin.ext; simp)
  · rw [h5]; congr 1; first | done | (apply Fin.ext; simp) | (congr 1; apply Fin.ext; simp)
  · rw [h6]; congr 1; first | done | (apply Fin.ext; simp) | (congr 1; apply Fin.ext; simp)

end Loads

variable (m : (ℓ : Loc nD τ sig) → Buf (Elt Ideal) ℓ)

/-- The windows' block indices. -/
theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0, 0] ∧ win0_6.index t = ![0, 0, 0]
    ∧ win0_7.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, _)

variable (c : Dev nD) (t : Fin cfg0.N)

/-- The first weight matrix as an argument holds it. -/
abbrev wup (W : FVec Ideal S1024x4096 .f32) : WUp := fun k f => W (ix2 k f)
/-- The second weight matrix as an argument holds it. -/
abbrev wdn (W : FVec Ideal S4096x1024 .f32) : WDown := fun f j => W (ix2 f j)
/-- A row of an argument. -/
abbrev arow (X : FVec Ideal S2048x1024 .f32) (i : Fin 2048) : Row := fun k => X (ix2 i k)

/-- The stacked pieces of the first weight matrix. -/
theorem up_at (s : Fin 4) (k f : Fin 1024) :
    (iblk m c 4 t : Vec Ideal S4x1024x1024 .bf16) (ix3 s k f)
      = wup (m ((c : Thread nD τ).loc main_arg4)) k ⟨s * 1024 + f, by omega⟩ := by
  blk_simp [iblk, idx t]
  entry_read
  pointwise
  show (m ((c : Thread nD τ).loc main_arg4) : FVec Ideal S1024x4096 .f32) _
    = (m ((c : Thread nD τ).loc main_arg4) : FVec Ideal S1024x4096 .f32) (ix2 k ⟨s * 1024 + f, _⟩)
  blk_ext [idx t]
/-- The first halves of the stacked pieces of the second. -/
theorem down_a_host (s : Fin 4) (q : Fin 512) (j : Fin 1024) :
    (V m c main_v6 : Vec Ideal S4x512x1024 .bf16) (ix3 s q j)
      = wdn (m ((c : Thread nD τ).loc main_arg5)) ⟨s * 1024 + q, by omega⟩ j := by
  entry_read
  pointwise
theorem down_a_at (s : Fin 4) (q : Fin 512) (j : Fin 1024) :
    (iblk m c 5 t : Vec Ideal S4x512x1024 .bf16) (ix3 s q j)
      = wdn (m ((c : Thread nD τ).loc main_arg5)) ⟨s * 1024 + q, by omega⟩ j := by
  refine Eq.trans ?_ (down_a_host m c s q j)
  blk_ext [iblk, idx t]
/-- The second of two halves, read as its own array. -/
theorem half_at (D : FVec Ideal S4x2x512x1024 .bf16) (s : Fin 4) (q : Fin 512) (j : Fin 1024) :
    shapeCast S4x512x1024 (extractStridedSlice S4x1x512x1024 ![0, 1, 0, 0] D slices_S4x2x512x1024_S4x1x512x1024_0_1_0_0)
      shapeCasts_S4x1x512x1024_S4x512x1024 (ix3 s q j) = D (ix4 s 1 q j) := by
  pointwise
/-- A matrix's rows cut into four pieces of two halves. -/
theorem rows_at (D : FVec Ideal S4096x1024 .f32) (s : Fin 4) (b : Fin 2) (q : Fin 512) (j : Fin 1024) :
    shapeCast S4x2x512x1024 (truncf .bf16 D bitsLt_bf16_f32)
      shapeCasts_S4096x1024_S4x2x512x1024 (ix4 s b q j) = D (ix2 ⟨s * 1024 + (512 * b + q), by omega⟩ j) := by
  pointwise
  congr 2
  exact Fin.ext (by show (s : ℕ) * 1024 + (b : ℕ) * 512 + (q : ℕ) = (s : ℕ) * 1024 + (512 * (b : ℕ) + (q : ℕ)); omega)
/-- The last halves of the stacked pieces of the second. -/
theorem down_b_host (s : Fin 4) (q : Fin 512) (j : Fin 1024) :
    (V m c main_v8 : Vec Ideal S4x512x1024 .bf16) (ix3 s q j)
      = wdn (m ((c : Thread nD τ).loc main_arg5)) ⟨s * 1024 + (512 + q), by omega⟩ j := by
  entry_read
  refine (half_at _ s q j).trans ((rows_at _ s 1 q j).trans ?_)
  congr 2
theorem down_b_at (s : Fin 4) (q : Fin 512) (j : Fin 1024) :
    (iblk m c 6 t : Vec Ideal S4x512x1024 .bf16) (ix3 s q j)
      = wdn (m ((c : Thread nD τ).loc main_arg5)) ⟨s * 1024 + (512 + q), by omega⟩ j := by
  refine Eq.trans ?_ (down_b_host m c s q j)
  blk_ext [iblk, idx t]

theorem row0 (r : Fin 256) (i : Fin 2048) (hi : (i : ℕ) = t.val * 256 + r) :
    row (iblk m c 0 t) r = arow (m ((c : Thread nD τ).loc main_arg0)) i := by
  funext k
  show (iblk m c 0 t : Blk) (ix2 r k) = (m ((c : Thread nD τ).loc main_arg0) : FVec Ideal S2048x1024 .f32) (ix2 i k)
  blk_point [iblk, V, idx t]
theorem row1 (r : Fin 256) (i : Fin 2048) (hi : (i : ℕ) = t.val * 256 + r) :
    row (iblk m c 1 t) r = arow (m ((c : Thread nD τ).loc main_arg1)) i := by
  funext k
  show (iblk m c 1 t : Blk) (ix2 r k) = (m ((c : Thread nD τ).loc main_arg1) : FVec Ideal S2048x1024 .f32) (ix2 i k)
  blk_point [iblk, V, idx t]
theorem gain2 : gain (iblk m c 2 t) = gain (m ((c : Thread nD τ).loc main_arg2)) := by
  funext k
  show (iblk m c 2 t : Gain) (ix2 0 k) = (m ((c : Thread nD τ).loc main_arg2) : Gain) (ix2 0 k)
  blk_point [iblk, V, idx t]
theorem gain3 : gain (iblk m c 3 t) = gain (m ((c : Thread nD τ).loc main_arg3)) := by
  funext k
  show (iblk m c 3 t : Gain) (ix2 0 k) = (m ((c : Thread nD τ).loc main_arg3) : Gain) (ix2 0 k)
  blk_point [iblk, V, idx t]

/-! ### The arrays -/

/-- Every row of an array from the rows of the residual stream and of the target. -/
abbrev rows {n : ℕ} (f : WUp → WDown → Row → Row → Row → Row → Fin n → EReal) (X T : FVec Ideal S2048x1024 .f32)
    (gp gq : Gain) (U : FVec Ideal S1024x4096 .f32) (D : FVec Ideal S4096x1024 .f32) (i : Fin 2048) (j : Fin n) : EReal :=
  f (wup U) (wdn D) (arow X i) (arow T i) (gain gp) (gain gq) j

/-- A row function at a block's row is the row function at the array's row. -/
theorem rows_eq {n : ℕ} (f : WUp → WDown → Row → Row → Row → Row → Fin n → EReal) (r : Fin 256) (i : Fin 2048)
    (hi : (i : ℕ) = t.val * 256 + r) (j j' : Fin n) (hj : (j' : ℕ) = j) :
    f (wup (m ((c : Thread nD τ).loc main_arg4))) (wdn (m ((c : Thread nD τ).loc main_arg5)))
        (row (iblk m c 0 t) r) (row (iblk m c 1 t) r) (gain (iblk m c 2 t)) (gain (iblk m c 3 t)) j
      = rows f (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) i j' := by
  rw [Fin.ext hj, row0 m c t r i hi, row1 m c t r i hi, gain2 m c t, gain3 m c t]

/-- The gradient in the residual stream of every row. -/
theorem dx_final : (dats m 0 c).arrAt 7 (cfgs 0).N = fun i : S2048x1024.Idx =>
    rows dxRow (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) (i 0) (i 1) := by
  refine (dats m 0 c).arrAt_eq_of_covers 7 _ (by decide +kernel) fun t _ y => ?_
  blk_simp
  rw [after0_7]
  idx_vars y
  refine Eq.trans ?_ (rows_eq m c t dxRow y0 _ ?_ y1 _ ?_)
  · have W := pieces_of (up_at m c t) (down_a_at m c t) (down_b_at m c t)
    by_cases h : t.val % 8 = 0
    · rw [outsAt0_A m c t h]
      frame_out
      exact dx_at W (vDH_at W _) _
    · rw [outsAt0_B m c t h]
      frame_out
      exact dx_at W (vDH_at W _) _
  all_goals (blk_simp [idx t] <;> try omega)

/-- The gradient in the second product of every row. -/
theorem dd_final : (dats m 0 c).arrAt 9 (cfgs 0).N = fun i : S2048x1024.Idx =>
    rows ddRow (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) (i 0) (i 1) := by
  refine (dats m 0 c).arrAt_eq_of_covers 9 _ (by decide +kernel) fun t _ y => ?_
  blk_simp
  rw [after0_9]
  idx_vars y
  refine Eq.trans ?_ (rows_eq m c t ddRow y0 _ ?_ y1 _ ?_)
  · have W := pieces_of (up_at m c t) (down_a_at m c t) (down_b_at m c t)
    by_cases h : t.val % 8 = 0
    · rw [outsAt0_A m c t h]
      frame_out
      exact vDD_at W _ _
    · rw [outsAt0_B m c t h]
      frame_out
      exact vDD_at W _ _
  all_goals (blk_simp [idx t] <;> try omega)

/-- The normalised rows with their gain. -/
abbrev hFun (wu : WUp) (wd : WDown) (x t gp gq : Row) : Row := hRow x gp
/-- The squared hidden layer. -/
abbrev uFun (wu : WUp) (wd : WDown) (x t gp gq : Row) : Hid := act wu (hRow x gp)

/-- The normalised rows with their gain. -/
theorem h_final : (dats m 0 c).arrAt 10 (cfgs 0).N = fun i : S2048x1024.Idx =>
    rows hFun (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) (i 0) (i 1) := by
  refine (dats m 0 c).arrAt_eq_of_covers 10 _ (by decide +kernel) fun t _ y => ?_
  blk_simp
  rw [after0_10]
  idx_vars y
  refine Eq.trans ?_ (rows_eq m c t hFun y0 _ ?_ y1 _ ?_)
  · by_cases h : t.val % 8 = 0
    · rw [outsAt0_A m c t h]
      frame_out
      exact h_at _ _ _ _
    · rw [outsAt0_B m c t h]
      frame_out
      exact h_at _ _ _ _
  all_goals (blk_simp [idx t] <;> try omega)

/-- A stored piece of the hidden dimension, at its own index. -/
theorem piece {φ : FTy} {P : FVec Ideal S256x1024 φ} {f : Hid} {r : Fin 256} {y : Fin 4096} {x : S256x1024.Idx}
    (ψ : Fin 1024 → Fin 4096) (hP : ∀ q, P (ix2 r q) = f (ψ q)) (h0 : (r : ℕ) = x 0) (h1 : (y : ℕ) = ψ (x 1)) : P x = f y := by
  idx_vars x
  obtain rfl : r = x0 := Fin.ext h0
  exact (hP x1).trans (congrArg f (Fin.ext h1.symm))

/-- The squared hidden layer of every row. -/
theorem u_final : (dats m 0 c).arrAt 8 (cfgs 0).N = fun i : S2048x4096.Idx =>
    rows uFun (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) (i 0) (i 1) := by
  refine (dats m 0 c).arrAt_eq_of_covers 8 _ (by decide +kernel) fun t _ y => ?_
  blk_simp
  rw [after0_8]
  idx_vars y
  refine Eq.trans ?_ (rows_eq m c t uFun y0 _ ?_ y1 _ ?_)
  · have W := pieces_of (up_at m c t) (down_a_at m c t) (down_b_at m c t)
    by_cases h : t.val % 8 = 0
    · rw [outsAt0_A m c t h]
      frame_out
      clear h
      canon_tiles x h
      · exact piece (fun q => ⟨3072 + q, by omega⟩) (act3_at W y0) h0 h1
      · exact piece (fun q => ⟨2048 + q, by omega⟩) (act2_at W y0) h0 h1
      · exact piece (fun q => ⟨1024 + q, by omega⟩) (act1_at W y0) h0 h1
      · exact piece (fun q => ⟨q, by omega⟩) (act0_at W y0) h0 h1
    · rw [outsAt0_B m c t h]
      frame_out
      clear h
      canon_tiles x h
      · exact piece (fun q => ⟨3072 + q, by omega⟩) (act3_at W y0) h0 h1
      · exact piece (fun q => ⟨2048 + q, by omega⟩) (act2_at W y0) h0 h1
      · exact piece (fun q => ⟨1024 + q, by omega⟩) (act1_at W y0) h0 h1
      · exact piece (fun q => ⟨q, by omega⟩) (act0_at W y0) h0 h1
  all_goals (blk_simp [idx t] <;> try omega)

/-- The gradient in the hidden layer of every row. -/
theorem dpre_final : (dats m 0 c).arrAt 11 (cfgs 0).N = fun i : S2048x4096.Idx =>
    rows dpreRow (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) (i 0) (i 1) := by
  refine (dats m 0 c).arrAt_eq_of_covers 11 _ (by decide +kernel) fun t _ y => ?_
  blk_simp
  rw [after0_11]
  idx_vars y
  refine Eq.trans ?_ (rows_eq m c t dpreRow y0 _ ?_ y1 _ ?_)
  · have W := pieces_of (up_at m c t) (down_a_at m c t) (down_b_at m c t)
    by_cases h : t.val % 8 = 0
    · rw [outsAt0_A m c t h]
      frame_out
      clear h
      canon_tiles x h
      · exact piece (fun q => ⟨3072 + q, by omega⟩) (dp3_at W y0) h0 h1
      · exact piece (fun q => ⟨2048 + q, by omega⟩) (dp2_at W y0) h0 h1
      · exact piece (fun q => ⟨1024 + q, by omega⟩) (dp1_at W y0) h0 h1
      · exact piece (fun q => ⟨q, by omega⟩) (dp0_at W y0) h0 h1
    · rw [outsAt0_B m c t h]
      frame_out
      clear h
      canon_tiles x h
      · exact piece (fun q => ⟨3072 + q, by omega⟩) (dp3_at W y0) h0 h1
      · exact piece (fun q => ⟨2048 + q, by omega⟩) (dp2_at W y0) h0 h1
      · exact piece (fun q => ⟨1024 + q, by omega⟩) (dp1_at W y0) h0 h1
      · exact piece (fun q => ⟨q, by omega⟩) (dp0_at W y0) h0 h1
  all_goals (blk_simp [idx t] <;> try omega)

/-- The gradient in the second gain: the sum over all rows. -/
theorem dgq_final : (dats m 0 c).arrAt 12 (cfgs 0).N = fun j : S1x1024.Idx =>
    ∑ i : Fin 2048, rows dgqRow (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) i (j 1) := by
  refine (dats m 0 c).arrAt_eq_of_after_last 12 t0_7 (by decide +kernel) _ fun j => ?_
  blk_simp
  idx_vars j
  rw [after0_12, Pipeline.eq_sum_fin_of_reset_step_apply_last (fun n h => (outsAt0 m c n h).2.2.2.2.2.1) 8 (fun _ => 0)
    (fun p j => ∑ r : Fin 256, dgqRow (wup (m ((c : Thread nD τ).loc main_arg4))) (wdn (m ((c : Thread nD τ).loc main_arg5)))
        (row (iblk m c 0 p) r) (row (iblk m c 1 p) r) (gain (iblk m c 2 p)) (gain (iblk m c 3 p)) (j 1))
    (fun t h j => by
      have W := pieces_of (up_at m c t) (down_a_at m c t) (down_b_at m c t)
      rw [outsAt0_A m c t h]
      frame_out
      idx_vars j
      exact (dgq_at W _ _ _).trans (congrArg (· + _) (by pointwise [k0_pay5])))
    (fun t h j => by
      have W := pieces_of (up_at m c t) (down_a_at m c t) (down_b_at m c t)
      rw [outsAt0_B m c t h]
      frame_out
      idx_vars j
      exact dgq_at W _ _ _)
    (le_of_eq N_0) t0_7 rfl, zero_add]
  refine Fin.sum_mul_add_congr fun t r hl => ?_
  exact rows_eq m c t dgqRow r ⟨_, hl⟩ rfl _ _ rfl

/-- The gradient in the first gain: the sum over all rows. -/
theorem dgp_final : (dats m 0 c).arrAt 13 (cfgs 0).N = fun j : S1x1024.Idx =>
    ∑ i : Fin 2048, rows dgpRow (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) i (j 1) := by
  refine (dats m 0 c).arrAt_eq_of_after_last 13 t0_7 (by decide +kernel) _ fun j => ?_
  blk_simp
  idx_vars j
  rw [after0_13, Pipeline.eq_sum_fin_of_reset_step_apply_last (fun n h => (outsAt0 m c n h).2.2.2.2.2.2.1) 8 (fun _ => 0)
    (fun p j => ∑ r : Fin 256, dgpRow (wup (m ((c : Thread nD τ).loc main_arg4))) (wdn (m ((c : Thread nD τ).loc main_arg5)))
        (row (iblk m c 0 p) r) (row (iblk m c 1 p) r) (gain (iblk m c 2 p)) (gain (iblk m c 3 p)) (j 1))
    (fun t h j => by
      have W := pieces_of (up_at m c t) (down_a_at m c t) (down_b_at m c t)
      rw [outsAt0_A m c t h]
      frame_out
      idx_vars j
      exact (dgp_at (vDH_at W) _ _ _).trans (congrArg (· + _) (by pointwise [k0_pay6])))
    (fun t h j => by
      have W := pieces_of (up_at m c t) (down_a_at m c t) (down_b_at m c t)
      rw [outsAt0_B m c t h]
      frame_out
      idx_vars j
      exact dgp_at (vDH_at W) _ _ _)
    (le_of_eq N_0) t0_7 rfl, zero_add]
  refine Fin.sum_mul_add_congr fun t r hl => ?_
  exact rows_eq m c t dgpRow r ⟨_, hl⟩ rfl _ _ rfl

/-- One row's squared difference, as a row of one entry. -/
abbrev sqFun (wu : WUp) (wd : WDown) (x t gp gq : Row) (_ : Fin 1) : EReal := sqRow wu wd x t gp gq

/-- The loss in every lane: the sum over the grid of the blocks' sums of squares. -/
theorem loss_final : (dats m 0 c).arrAt 14 (cfgs 0).N = fun j : S1x128.Idx =>
    ∑ t : Fin 8, (∑ r : Fin 256, rows sqFun (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) ⟨t * 256 + r, by omega⟩ 0) * cHalfInvLen := by
  refine (dats m 0 c).arrAt_eq_of_after_last 14 t0_7 (by decide +kernel) _ fun j => ?_
  blk_simp
  idx_vars j
  rw [after0_14, Pipeline.eq_sum_fin_of_reset_step_apply_last (fun n h => (outsAt0 m c n h).2.2.2.2.2.2.2) 8 (fun _ => 0)
    (fun p j => (∑ r : Fin 256, sqRow (wup (m ((c : Thread nD τ).loc main_arg4))) (wdn (m ((c : Thread nD τ).loc main_arg5)))
        (row (iblk m c 0 p) r) (row (iblk m c 1 p) r) (gain (iblk m c 2 p)) (gain (iblk m c 3 p))) * cHalfInvLen)
    (fun t h j => by
      have W := pieces_of (up_at m c t) (down_a_at m c t) (down_b_at m c t)
      rw [outsAt0_A m c t h]
      frame_out
      idx_vars j
      exact (loss_at W _ _ _).trans (congrArg (· + _) (by pointwise [k0_pay7])))
    (fun t h j => by
      have W := pieces_of (up_at m c t) (down_a_at m c t) (down_b_at m c t)
      rw [outsAt0_B m c t h]
      frame_out
      idx_vars j
      exact loss_at W _ _ _)
    (le_of_eq N_0) t0_7 rfl, zero_add]
  refine Fin.sum_fin_congr fun t => ?_
  refine congrArg (· * cHalfInvLen) (Finset.sum_congr rfl fun r _ => ?_)
  exact rows_eq m c t sqFun r ⟨_, _⟩ rfl 0 0 rfl

end Cert.Proof.MlpKernel

end
-- ==== Proof.MlpReference.lean ====
/-
  The reference of the feed-forward block read element by element: each of its results is the row function of
  MlpSpec.lean that the kernel's is, or a sum of them over all rows.
-/
module

public import proofs.«01_k».proof.Proof.Gen.ReferenceIdeal.Read
public import proofs.«01_k».proof.Proof.MlpSpec
public import Idealize.ShloMosaic.Lib.Pointwise
public import Idealize.ShloMosaic.Lib.Pipeline.ValueKit

@[expose] public section

set_option maxRecDepth 16384

noncomputable section

namespace Cert.Proof.MlpReference

open Idealize.ShloMosaic Cert.ReferenceIdeal Cert.ReferenceIdeal.Gen Cert.ReferenceIdeal.Read Cert.Proof.Norm Cert.Proof.Mlp
open scoped BigOperators

variable (X T : FVec Ideal S2048x1024 .f32) (gp gq : FVec Ideal S1x1024 .f32) (U : FVec Ideal S1024x4096 .f32)
  (D : FVec Ideal S4096x1024 .f32)

/-- Row `i` of an argument. -/
abbrev rowOf (X : FVec Ideal S2048x1024 .f32) (i : Fin 2048) : Row := fun k => X (ix2 i k)
/-- The gains as a row. -/
abbrev gainOf (g : FVec Ideal S1x1024 .f32) : Row := fun k => g (ix2 0 k)
/-- The first weight matrix. -/
abbrev upOf (U : FVec Ideal S1024x4096 .f32) : WUp := fun k f => U (ix2 k f)
/-- The second weight matrix. -/
abbrev downOf (D : FVec Ideal S4096x1024 .f32) : WDown := fun f j => D (ix2 f j)

/-- The printed 1/2. -/
abbrev cHalf : EReal := Ideal.ofBits .f32 0x3F000000#32
theorem cHalf_eq : cHalf = ((1 / 2 : ℝ) : EReal) := by
  simp [cHalf, Ideal.ofBits, Ideal.ieee, -EReal.coe_mul]; norm_num
theorem cTwo_eq : cTwo = ((2 : ℝ) : EReal) := by
  simp [cTwo, Ideal.ofBits, Ideal.ieee, -EReal.coe_mul]; norm_num
theorem cInvLen_eq : cInvLen = ((1 / 1024 : ℝ) : EReal) := by
  simp [cInvLen, Ideal.ofBits, Ideal.ieee, -EReal.coe_mul]; norm_num
theorem cHalfInvLen_eq : cHalfInvLen = ((1 / 2048 : ℝ) : EReal) := by
  simp [cHalfInvLen, Ideal.ofBits, Ideal.ieee, -EReal.coe_mul]; norm_num

/-- The derivative of half the mean square. -/
theorem half_mean_back (x : EReal) : Ideal.div cHalf cLen * (cTwo * x) = x * cInvLen := by
  rw [div_len, cHalf_eq, cTwo_eq, cInvLen_eq, ← mul_assoc, ← EReal.coe_mul, ← EReal.coe_mul, mul_comm]
  norm_num

/-- Half the sum of the rows' means is the sum over the blocks of rows of their sums' shares. -/
theorem loss_sum (S : Fin 2048 → EReal) : cHalf * ∑ i, Ideal.div (S i) cLen
    = ∑ t : Fin 8, (∑ r : Fin 256, S ⟨t * 256 + r, by omega⟩) * cHalfInvLen := by
  rw [cHalf_eq, coe_mul_sum _ (by norm_num)]
  symm
  refine Eq.trans (b := ∑ t : Fin 8, ∑ r : Fin 256, ((1 / 2048 : ℝ) : EReal) * S ⟨t * 256 + r, by omega⟩) ?_ ?_
  · refine Finset.sum_congr rfl fun t _ => ?_
    rw [cHalfInvLen_eq, mul_comm, coe_mul_sum _ (by norm_num)]
  · refine Fin.sum_mul_add_congr fun t r hl => ?_
    rw [div_len, mul_left_comm, ← EReal.coe_mul, mul_comm]
    norm_num

theorem v6_at (i : Fin 2048) (z : Fin 1) : val_main_v6 (F := Ideal) X (ix2 i z) = msq (rowOf X i) := by
  pointwise [val_main_v0, val_main_cst, val_main_v1, val_main_v2, val_main_cst_0, val_main_v3, val_main_v4, val_main_cst_1,
    val_main_v5, val_main_v6, msq]
theorem v7_at (i : Fin 2048) (z : Fin 1) : val_main_v7 (F := Ideal) X (ix2 i z) = rinv (rowOf X i) := by
  pointwise [val_main_v7, v6_at, rinv]
theorem v10_at (i : Fin 2048) (z : Fin 1) :
    val_main_v10 (F := Ideal) X (ix2 i z) = cNegHalf * Ideal.div (rinv (rowOf X i)) (msq (rowOf X i)) := by
  pointwise [val_main_v8, val_main_cst_2, val_main_v9, val_main_v10, v6_at, v7_at]
theorem v12_at (i : Fin 2048) (j : Fin 1024) : val_main_v12 (F := Ideal) X (ix2 i j) = nrm (rowOf X i) j := by
  pointwise [val_main_v11, val_main_v12, v7_at, nrm]
theorem v14_at (i : Fin 2048) (j : Fin 1024) :
    val_main_v14 (F := Ideal) X gp (ix2 i j) = hRow (rowOf X i) (gainOf gp) j := by
  pointwise [val_main_v13, val_main_v14, v12_at, hRow]
theorem v15_at (i : Fin 2048) (f : Fin 4096) :
    val_main_v15 (F := Ideal) X gp U (ix2 i f) = ∑ k, hRow (rowOf X i) (gainOf gp) k * upOf U k f := by
  pointwise [val_main_v15, v14_at]
theorem v16_at (i : Fin 2048) (f : Fin 4096) :
    val_main_v16 (F := Ideal) X gp U (ix2 i f) = rl (upOf U) (hRow (rowOf X i) (gainOf gp)) f := by
  pointwise [val_main_v16, val_main_call0_cst, val_main_call0_v0, v15_at, rl]
theorem v20_at (i : Fin 2048) (f : Fin 4096) :
    val_main_v20 (F := Ideal) X gp U (ix2 i f) = act (upOf U) (hRow (rowOf X i) (gainOf gp)) f := by
  pointwise [val_main_v20, v16_at, act]
theorem v23_at (i : Fin 2048) (j : Fin 1024) :
    val_main_v23 (F := Ideal) X gp U D (ix2 i j) = dRow (upOf U) (downOf D) (rowOf X i) (gainOf gp) j := by
  pointwise [val_main_v23, v20_at, dRow, down]

theorem v29_at (i : Fin 2048) (z : Fin 1) :
    val_main_v30 (F := Ideal) X gp U D (ix2 i z) = msq (dRow (upOf U) (downOf D) (rowOf X i) (gainOf gp)) := by
  pointwise [val_main_v24, val_main_cst_6, val_main_v25, val_main_v26, val_main_cst_7, val_main_v27, val_main_v28,
    val_main_cst_8, val_main_v29, val_main_v30, v23_at, msq]
theorem v31_at (i : Fin 2048) (z : Fin 1) :
    val_main_v31 (F := Ideal) X gp U D (ix2 i z) = rinv (dRow (upOf U) (downOf D) (rowOf X i) (gainOf gp)) := by
  pointwise [val_main_v31, v29_at, rinv]
theorem v34_at (i : Fin 2048) (z : Fin 1) :
    val_main_v34 (F := Ideal) X gp U D (ix2 i z) = cNegHalf * Ideal.div (rinv (dRow (upOf U) (downOf D) (rowOf X i) (gainOf gp)))
      (msq (dRow (upOf U) (downOf D) (rowOf X i) (gainOf gp))) := by
  pointwise [val_main_v32, val_main_cst_9, val_main_v33, val_main_v34, v29_at, v31_at]
theorem v36_at (i : Fin 2048) (j : Fin 1024) :
    val_main_v36 (F := Ideal) X gp U D (ix2 i j) = nrm (dRow (upOf U) (downOf D) (rowOf X i) (gainOf gp)) j := by
  pointwise [val_main_v35, val_main_v36, v23_at, v31_at, nrm]
theorem v40_at (i : Fin 2048) (j : Fin 1024) :
    val_main_v40 (F := Ideal) X T gp gq U D (ix2 i j)
      = diffRow (upOf U) (downOf D) (rowOf X i) (rowOf T i) (gainOf gp) (gainOf gq) j := by
  pointwise [val_main_v37, val_main_v38, val_main_v39, val_main_v40, v36_at, diffRow]
theorem v54_at (i : Fin 2048) (j : Fin 1024) :
    val_main_v54 (F := Ideal) X T gp gq U D (ix2 i j)
      = dyRow (upOf U) (downOf D) (rowOf X i) (rowOf T i) (gainOf gp) (gainOf gq) j := by
  pointwise [val_main_cst_10, val_main_v42, val_main_v43, val_main_cst_15, val_main_cst_16, val_main_v49, val_main_v50,
    val_main_cst_17, val_main_v51, val_main_v52, val_main_v53, val_main_v54, v40_at, dyRow]
  exact half_mean_back _
theorem v59_at (i : Fin 2048) (j : Fin 1024) :
    val_main_v59 (F := Ideal) X T gp gq U D (ix2 i j)
      = dyRow (upOf U) (downOf D) (rowOf X i) (rowOf T i) (gainOf gp) (gainOf gq) j * gainOf gq j := by
  pointwise [val_main_v58, val_main_v59, v54_at]
theorem v73_at (i : Fin 2048) (j : Fin 1024) :
    val_main_v73 (F := Ideal) X T gp gq U D (ix2 i j)
      = ddRow (upOf U) (downOf D) (rowOf X i) (rowOf T i) (gainOf gp) (gainOf gq) j := by
  rw [ddRow, ← normPull_eq_normBack]
  pointwise [val_main_v60, val_main_cst_19, val_main_v61, val_main_v62, val_main_v63, val_main_v64, val_main_v65,
    val_main_cst_20, val_main_v66, val_main_v67, val_main_cst_21, val_main_v68, val_main_v69, val_main_v70, val_main_v71,
    val_main_v72, val_main_v73, v23_at, v31_at, v34_at, v59_at, normPull, pullCoef]
  simp only [Fin.sum_univ_one]
theorem v77_at (i : Fin 2048) (f : Fin 4096) :
    val_main_v77 (F := Ideal) X T gp gq U D (ix2 i f)
      = dpreRow (upOf U) (downOf D) (rowOf X i) (rowOf T i) (gainOf gp) (gainOf gq) f := by
  pointwise [val_main_cst_3, val_main_v17, val_main_v18, val_main_cst_5, val_main_v21, val_main_v22, val_main_v74, val_main_v75,
    val_main_cst_22, val_main_v76, val_main_v77, v15_at, v16_at, v73_at, dpreRow, dact]
  split
  · rfl
  · rename_i h
    rw [show rl (upOf U) (hRow (rowOf X i) (gainOf gp)) f = 0 from max_eq_right (not_lt.mp h), mul_zero, mul_zero]
theorem v78_at (i : Fin 2048) (k : Fin 1024) :
    val_main_v78 (F := Ideal) X T gp gq U D (ix2 i k)
      = dhRow (upOf U) (downOf D) (rowOf X i) (rowOf T i) (gainOf gp) (gainOf gq) k := by
  pointwise [val_main_v78, v77_at, dhRow]
theorem v83_at (i : Fin 2048) (k : Fin 1024) :
    val_main_v83 (F := Ideal) X T gp gq U D (ix2 i k)
      = dhRow (upOf U) (downOf D) (rowOf X i) (rowOf T i) (gainOf gp) (gainOf gq) k * gainOf gp k := by
  pointwise [val_main_v82, val_main_v83, v78_at]
theorem v98_at (i : Fin 2048) (j : Fin 1024) :
    val_main_v98 (F := Ideal) X T gp gq U D (ix2 i j)
      = dxRow (upOf U) (downOf D) (rowOf X i) (rowOf T i) (gainOf gp) (gainOf gq) j := by
  rw [dxRow, ← normPull_eq_normBack]
  pointwise [val_main_v84, val_main_cst_24, val_main_v85, val_main_v86, val_main_v87, val_main_v88, val_main_v89,
    val_main_cst_25, val_main_v90, val_main_v91, val_main_cst_26, val_main_v92, val_main_v93, val_main_v94, val_main_v95,
    val_main_v96, val_main_v97, val_main_v98, v7_at, v10_at, v54_at, v83_at, normPull, pullCoef]
  simp only [Fin.sum_univ_one]
theorem v57_at (z : Fin 1) (j : Fin 1024) :
    val_main_v57 (F := Ideal) X T gp gq U D (ix2 z j)
      = ∑ i, dgqRow (upOf U) (downOf D) (rowOf X i) (rowOf T i) (gainOf gp) (gainOf gq) j := by
  pointwise [val_main_v55, val_main_cst_18, val_main_v56, val_main_v57, v36_at, v54_at, dgqRow]
  exact Finset.sum_congr rfl fun i _ => mul_comm _ _
theorem v81_at (z : Fin 1) (j : Fin 1024) :
    val_main_v81 (F := Ideal) X T gp gq U D (ix2 z j)
      = ∑ i, dgpRow (upOf U) (downOf D) (rowOf X i) (rowOf T i) (gainOf gp) (gainOf gq) j := by
  pointwise [val_main_v79, val_main_cst_23, val_main_v80, val_main_v81, v12_at, v78_at, dgpRow]
  exact Finset.sum_congr rfl fun i _ => mul_comm _ _
theorem v103_at (z : Fin 1) (l : Fin 128) :
    val_main_v103 (F := Ideal) X T gp gq U D (ix2 z l)
      = ∑ t : Fin 8, (∑ r : Fin 256, sqRow (upOf U) (downOf D) (rowOf X ⟨t * 256 + r, by omega⟩) (rowOf T ⟨t * 256 + r, by omega⟩) (gainOf gp) (gainOf gq)) * cHalfInvLen := by
  pointwise [val_main_v41, val_main_cst_11, val_main_v44, val_main_cst_12, val_main_v45, val_main_v46, val_main_cst_13,
    val_main_v47, val_main_cst_14, val_main_v48, val_main_v103, v40_at]
  exact loss_sum fun i => sqRow (upOf U) (downOf D) (rowOf X i) (rowOf T i) (gainOf gp) (gainOf gq)

end Cert.Proof.MlpReference

end
-- ==== Proof.MlpClaim.lean ====
module

public import proofs.«01_k».proof.Defs
public import proofs.«01_k».proof.Proof.Gen.KernelIdeal
public import proofs.«01_k».proof.Proof.Gen.ReferenceIdeal.Read
public import proofs.«01_k».proof.Proof.MlpKernel
public import proofs.«01_k».proof.Proof.MlpReference

/-! The last block of the step (its MLP, the loss, and the gradients back to the block's input): the kernel and the
reference leave the same eight results. -/

@[expose] public section

set_option maxRecDepth 16384

noncomputable section

namespace Cert.Proof.MlpClaim

open Idealize.ShloMosaic Idealize.SL.Sem StableHlo
open Cert.ReferenceIdeal.Read Cert.Proof.MlpReference Cert.Proof.MlpKernel

/-- From inputs that agree, the kernel and the reference return the same arrays: the gradient at the block's input, the
activation, the gradients at the second product's result, at the norm's result and at the first product's result, the
gradients of the two gains, and the loss. Each side's array is read at one index and found to be the same function of
the arguments. -/
theorem algebraic : Cert.algebraic_KernelIdeal_ReferenceIdeal := by
  pair_intro
  · run_from Cert.KernelIdeal.Value.run_blocks m g
  · run_from Cert.ReferenceIdeal.Value.run m' g'
    all_goals
      obtain ⟨e0, e1, e2, e3, e4, e5⟩ := hagree c
    · rw [← e0]
      refine (val_main_v98_eq (launchContents m' c)).trans (Eq.trans ?_ (dx_final m c).symm)
      simp only [launchContents_devRef, e0, e1, e2, e3, e4, e5]
      funext i; idx_vars i
      exact v98_at _ _ _ _ _ _ _ _
    · refine (val_main_v99_eq (launchContents m' c)).trans (Eq.trans ?_ (u_final m c).symm)
      simp only [launchContents_devRef, e0, e1, e2, e3, e4, e5]
      funext i; idx_vars i
      exact v20_at _ _ _ _ _
    · refine (val_main_v100_eq (launchContents m' c)).trans (Eq.trans ?_ (dd_final m c).symm)
      simp only [launchContents_devRef, e0, e1, e2, e3, e4, e5]
      funext i; idx_vars i
      exact v73_at _ _ _ _ _ _ _ _
    · refine (val_main_v101_eq (launchContents m' c)).trans (Eq.trans ?_ (h_final m c).symm)
      simp only [launchContents_devRef, e0, e1, e2, e3, e4, e5]
      funext i; idx_vars i
      exact v14_at _ _ _ _
    · refine (val_main_v102_eq (launchContents m' c)).trans (Eq.trans ?_ (dpre_final m c).symm)
      simp only [launchContents_devRef, e0, e1, e2, e3, e4, e5]
      funext i; idx_vars i
      exact v77_at _ _ _ _ _ _ _ _
    · refine (val_main_v57_eq (launchContents m' c)).trans (Eq.trans ?_ (dgq_final m c).symm)
      simp only [launchContents_devRef, e0, e1, e2, e3, e4, e5]
      funext i; idx_vars i
      exact v57_at _ _ _ _ _ _ _ _
    · refine (val_main_v81_eq (launchContents m' c)).trans (Eq.trans ?_ (dgp_final m c).symm)
      simp only [launchContents_devRef, e0, e1, e2, e3, e4, e5]
      funext i; idx_vars i
      exact v81_at _ _ _ _ _ _ _ _
    · refine (val_main_v103_eq (launchContents m' c)).trans (Eq.trans ?_ (loss_final m c).symm)
      simp only [launchContents_devRef, e0, e1, e2, e3, e4, e5]
      funext i; idx_vars i
      exact v103_at _ _ _ _ _ _ _ _

end Cert.Proof.MlpClaim
-- ==== Proof.MlpWeights.lean ====
/-
  The gradients of the MLP's two weights: each is one product over the tokens, tiled over the weight's columns (the
  first, returned in four shards) or rows (the second). Kernel and reference leave the same array.
-/
module

public import proofs.«01_k».proof.Defs
public import proofs.«01_k».proof.Proof.Gen.Kernel2Ideal.Value
public import proofs.«01_k».proof.Proof.Gen.Kernel3Ideal.Value
public import proofs.«01_k».proof.Proof.Gen.Reference2Ideal
public import proofs.«01_k».proof.Proof.Gen.Reference2Ideal.Read
public import proofs.«01_k».proof.Proof.Gen.Reference3Ideal
public import proofs.«01_k».proof.Proof.Gen.Reference3Ideal.Read
public import Idealize.ShloMosaic.Lib.Pointwise
public import Idealize.ShloMosaic.Lib.Claim
public import Idealize.ShloMosaic.Lib.Pipeline.ValueKit

@[expose] public section

set_option maxRecDepth 16384

noncomputable section

namespace Cert.Proof.MlpWeights

open Idealize.ShloMosaic Idealize.ShloMosaic.TcCoe Idealize.SL.Sem StableHlo
open scoped BigOperators

/-- The product over the tokens: one entry of a weight's gradient. -/
def dw {n k : ℕ} (A : FVec Ideal ⟨2, ![2048, n]⟩ .f32) (B : FVec Ideal ⟨2, ![2048, k]⟩ .f32) (a : Fin n) (b : Fin k) :
    EReal := ∑ i : Fin 2048, A (ix2 i a) * B (ix2 i b)

/-- Column `q` of shard `s` of four. -/
def lane (s : Fin 4) (q : Fin 1024) : Fin 4096 := ⟨s * 1024 + q, by omega⟩

namespace Up

open Cert.Kernel2Ideal Cert.Kernel2Ideal.Gen

/-- The windows' block indices. -/
theorem idx : ∀ t : Fin cfg0.N, win0_0.index t = ![0, 0] ∧ win0_1.index t = ![0, t.val] ∧ win0_2.index t = ![t.val, 0, 0] :=
  (by decide +kernel : ∀ t : Fin grid0.N, _)

/-- The body's product at an index. -/
theorem pay_at (v0 v2 : Vec Ideal S2048x1024 .bf16) (z : Fin 1) (a b : Fin 1024) :
    k0_pay1 v0 v2 (ix3 z a b) = ∑ i : Fin 2048, v0 (ix2 i a) * v2 (ix2 i b) := by
  pointwise [k0_pay1]

variable (m : (ℓ : Loc nD τ sig) → Buf (Elt Ideal) ℓ) (c : Dev nD)

/-- The left operand, as the argument holds it. -/
theorem left_at (r : Fin 2048) (a : Fin 1024) :
    (V m c main_v0 : Vec Ideal S2048x1024 .bf16) (ix2 r a) = (m ((c : Thread nD τ).loc main_arg0) : FVec Ideal S2048x1024 .f32) (ix2 r a) := by
  entry_read
  pointwise
/-- The right operand, as the argument holds it. -/
theorem right_at (r : Fin 2048) (b : Fin 4096) :
    (V m c main_v1 : Vec Ideal S2048x4096 .bf16) (ix2 r b) = (m ((c : Thread nD τ).loc main_arg2) : FVec Ideal S2048x4096 .f32) (ix2 r b) := by
  entry_read
  pointwise

/-- The array the kernel leaves. -/
theorem final : (dats m 0 c).arrAt 2 (cfgs 0).N = fun i : S4x1024x1024.Idx =>
    dw (m ((c : Thread nD τ).loc main_arg0)) (m ((c : Thread nD τ).loc main_arg2)) (i 1) (lane (i 0) (i 2)) := by
  refine (dats m 0 c).arrAt_eq_of_covers 2 _ (by decide +kernel) fun t _ y => ?_
  blk_simp
  rw [after0_2]
  frame_out
  idx_vars y
  refine (pay_at _ _ _ _ _).trans (Finset.sum_congr rfl fun r _ => congrArg₂ (· * ·) ?_ ?_)
  · refine Eq.trans ?_ (left_at m c r _)
    blk_ext [iblk, idx t]
  · refine Eq.trans ?_ (right_at m c r _)
    blk_ext [iblk, lane, idx t]

end Up

/-- Kernel and reference leave the same gradient of the first weight. -/
theorem algebraic_up : Cert.algebraic_Kernel2Ideal_Reference2Ideal := by
  pair_intro
  · run_from Cert.Kernel2Ideal.Value.run_blocks m g
  · run_from Cert.Reference2Ideal.Value.run m' g'
    rw [Up.final m c]
    funext i; idx_vars i
    pointwise
    exact Finset.sum_congr rfl fun r _ => mul_comm _ _

namespace Down

open Cert.Kernel3Ideal Cert.Kernel3Ideal.Gen

/-- The windows' block indices. -/
theorem idx : ∀ t : Fin cfg0.N, win0_0.index t = ![0, t.val] ∧ win0_1.index t = ![0, 0] ∧ win0_2.index t = ![t.val, 0] :=
  (by decide +kernel : ∀ t : Fin grid0.N, _)

/-- The body's product at an index. -/
theorem pay_at (v0 v2 : Vec Ideal S2048x1024 .bf16) (a b : Fin 1024) :
    k0_pay1 v0 v2 (ix2 a b) = ∑ i : Fin 2048, v0 (ix2 i a) * v2 (ix2 i b) := by
  pointwise [k0_pay1]

variable (m : (ℓ : Loc nD τ sig) → Buf (Elt Ideal) ℓ) (c : Dev nD)

/-- The left operand, as the argument holds it. -/
theorem left_at (r : Fin 2048) (a : Fin 4096) :
    (V m c main_v0 : Vec Ideal S2048x4096 .bf16) (ix2 r a) = (m ((c : Thread nD τ).loc main_arg0) : FVec Ideal S2048x4096 .f32) (ix2 r a) := by
  entry_read
  pointwise
/-- The right operand, as the argument holds it. -/
theorem right_at (r : Fin 2048) (b : Fin 1024) :
    (V m c main_v1 : Vec Ideal S2048x1024 .bf16) (ix2 r b) = (m ((c : Thread nD τ).loc main_arg2) : FVec Ideal S2048x1024 .f32) (ix2 r b) := by
  entry_read
  pointwise

/-- The array the kernel leaves. -/
theorem final : (dats m 0 c).arrAt 2 (cfgs 0).N = fun i : S4096x1024.Idx =>
    dw (m ((c : Thread nD τ).loc main_arg0)) (m ((c : Thread nD τ).loc main_arg2)) (i 0) (i 1) := by
  refine (dats m 0 c).arrAt_eq_of_covers 2 _ (by decide +kernel) fun t _ y => ?_
  blk_simp
  rw [after0_2]
  frame_out
  idx_vars y
  refine (pay_at _ _ _ _).trans (Finset.sum_congr rfl fun r _ => congrArg₂ (· * ·) ?_ ?_)
  · refine Eq.trans ?_ (left_at m c r _)
    blk_ext [iblk, idx t]
  · refine Eq.trans ?_ (right_at m c r _)
    blk_ext [iblk, idx t]

end Down

/-- Kernel and reference leave the same gradient of the second weight. -/
theorem algebraic_down : Cert.algebraic_Kernel3Ideal_Reference3Ideal := by
  pair_intro
  · run_from Cert.Kernel3Ideal.Value.run_blocks m g
  · run_from Cert.Reference3Ideal.Value.run m' g'
    rw [Down.final m c]
    funext i; idx_vars i
    pointwise
    exact Finset.sum_congr rfl fun r _ => mul_comm _ _

end Cert.Proof.MlpWeights
-- ==== Proof.InProj.lean ====
/-
  The input projection: the normalised rows against the four shards of the joint weight. The first grid point copies
  the shards below one another, and every point multiplies by row ranges of that copy.
-/
module

public import proofs.«01_k».proof.Defs
public import proofs.«01_k».proof.Proof.Norm
public import proofs.«01_k».proof.Proof.Gen.Kernel4Ideal.Value
public import proofs.«01_k».proof.Proof.Gen.Reference4Ideal
public import proofs.«01_k».proof.Proof.Gen.Reference4Ideal.Read
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.Proof.InProj

open Idealize.ShloMosaic Idealize.ShloMosaic.TcCoe Idealize.SL.Sem StableHlo Cert.Proof.Norm
open Cert.Kernel4Ideal Cert.Kernel4Ideal.Gen
open scoped BigOperators

/-- The windows' block indices. -/
theorem idx : ∀ t : Fin cfg0.N, win0_0.index t = ![t.val, 0] ∧ win0_1.index t = ![0, 0] ∧ win0_2.index t = ![0, 0, 0]
    ∧ win0_3.index t = ![t.val, 0] ∧ win0_4.index t = ![t.val, 0] ∧ win0_5.index t = ![t.val, 0] :=
  (by decide +kernel : ∀ t : Fin grid0.N, _)

/-- A row of the model dimension. -/
abbrev Row := Fin 1024 → EReal
/-- The normalised row with its gain. -/
def hRow (x g : Row) (k : Fin 1024) : EReal := nrm x k * g k
/-- A row's product with column `f` of the weight. -/
def proj (W : FVec Ideal S1024x4624 .f32) (x g : Row) (f : Fin 4624) : EReal := ∑ k : Fin 1024, hRow x g k * W (ix2 k f)

/-! ### The body's values -/

variable (x : Vec Ideal S256x1024 .f32) (g : Vec Ideal S1x1024 .f32)

/-- The normalised block with its gain. -/
theorem pay6_at (r : Fin 256) (k : Fin 1024) :
    k0_pay6 (F := Ideal) x g (ix2 r k) = hRow (fun k => x (ix2 r k)) (fun k => g (ix2 0 k)) k := by
  pointwise [k0_pay6, hRow, nrm, rinv, msq]
/-- The four products. -/
theorem pay7_at (w : Vec Ideal S1536x1024 .bf16) (r : Fin 256) (q : Fin 1536) :
    k0_pay7 (F := Ideal) x g w (ix2 r q) = ∑ k, k0_pay6 (F := Ideal) x g (ix2 r k) * w (ix2 q k) := by
  pointwise [k0_pay7]
theorem pay8_at (w : Vec Ideal S1024x1024 .bf16) (r : Fin 256) (q : Fin 1024) :
    k0_pay8 (F := Ideal) x g w (ix2 r q) = ∑ k, k0_pay6 (F := Ideal) x g (ix2 r k) * w (ix2 q k) := by
  pointwise [k0_pay8]
theorem pay9_at (w : Vec Ideal S128x1024 .bf16) (r : Fin 256) (q : Fin 128) :
    k0_pay9 (F := Ideal) x g w (ix2 r q) = ∑ k, k0_pay6 (F := Ideal) x g (ix2 r k) * w (ix2 q k) := by
  pointwise [k0_pay9]
theorem pay1_at (h : FVec Ideal S256x1024 .bf16) (w : Vec Ideal S2048x1024 .bf16) (r : Fin 256) (q : Fin 2048) :
    k0_pay1 (F := Ideal) h w (ix2 r q) = ∑ k, h (ix2 r k) * w (ix2 q k) := by
  pointwise [k0_pay1]
/-- The copied shards. -/
theorem pay2_at (s : Vec Ideal S1x1156x1024 .bf16) (q : Fin 1156) (k : Fin 1024) :
    k0_pay2 (F := Ideal) s (ix2 q k) = s (ix3 0 q k) := by pointwise [k0_pay2]
theorem pay3_at (s : Vec Ideal S1x1156x1024 .bf16) (q : Fin 1156) (k : Fin 1024) :
    k0_pay3 (F := Ideal) s (ix2 q k) = s (ix3 0 q k) := by pointwise [k0_pay3]
theorem pay4_at (s : Vec Ideal S1x1156x1024 .bf16) (q : Fin 1156) (k : Fin 1024) :
    k0_pay4 (F := Ideal) s (ix2 q k) = s (ix3 0 q k) := by pointwise [k0_pay4]
theorem pay5_at (s : Vec Ideal S1x1156x1024 .bf16) (q : Fin 1156) (k : Fin 1024) :
    k0_pay5 (F := Ideal) s (ix2 q k) = s (ix3 0 q k) := by pointwise [k0_pay5]

/-! ### The copied weight -/

variable (m : (ℓ : Loc nD τ sig) → Buf (Elt Ideal) ℓ) (c : Dev nD) (t : Fin cfg0.N)

/-- Row `q` of shard `s`. -/
def lane (s : Fin 4) (q : Fin 1156) : Fin 4624 := ⟨s * 1156 + q, by omega⟩

theorem shard_host (s : Fin 4) (q : Fin 1156) (k : Fin 1024) :
    (V m c main_v2 : Vec Ideal S4x1156x1024 .bf16) (ix3 s q k)
      = (m ((c : Thread nD τ).loc main_arg2) : FVec Ideal S1024x4624 .f32) (ix2 k (lane s q)) := by
  entry_read
  pointwise [lane]
theorem shard_at (s : Fin 4) (q : Fin 1156) (k : Fin 1024) :
    (iblk m c 2 t : Vec Ideal S4x1156x1024 .bf16) (ix3 s q k)
      = (m ((c : Thread nD τ).loc main_arg2) : FVec Ideal S1024x4624 .f32) (ix2 k (lane s q)) := by
  refine Eq.trans ?_ (shard_host m c s q k)
  blk_ext [iblk, idx t]

/-- The weight transposed: what the scratch holds. -/
abbrev wt : Vec Ideal S4624x1024 .bf16 := fun i =>
  (m ((c : Thread nD τ).loc main_arg2) : FVec Ideal S1024x4624 .f32) (ix2 (i 1) (i 0))

/-- A copied shard, at its own rows. -/
theorem copy {P : FVec Ideal S1156x1024 .bf16} {w : Vec Ideal S4624x1024 .bf16} {r : Fin 4624} {k : Fin 1024}
    {x : S1156x1024.Idx} (ψ : Fin 1156 → Fin 4624) (hP : ∀ q k, P (ix2 q k) = w (ix2 (ψ q) k)) (h0 : (r : ℕ) = ψ (x 0))
    (h1 : (k : ℕ) = x 1) : P x = w (ix2 r k) := by
  idx_vars x
  obtain rfl : k = x1 := Fin.ext h1
  obtain rfl : r = ψ x0 := Fin.ext h0
  exact hP x0 k

/-- The load of one shard. -/
theorem ld0 (Y : Vec Ideal S4x1156x1024 .bf16) (q : Fin 1156) (k : Fin 1024) :
    (View.ld Y (Rect.unit ![0, 0, 0] ![1, 1156, 1024] inb_S4x1156x1024_S1x1156x1024_0_0_0)) (ix3 0 q k) = Y (ix3 0 q k) := by
  pointwise
theorem ld1 (Y : Vec Ideal S4x1156x1024 .bf16) (q : Fin 1156) (k : Fin 1024) :
    (View.ld Y (Rect.unit ![1, 0, 0] ![1, 1156, 1024] inb_S4x1156x1024_S1x1156x1024_1_0_0)) (ix3 0 q k) = Y (ix3 1 q k) := by
  pointwise
theorem ld2 (Y : Vec Ideal S4x1156x1024 .bf16) (q : Fin 1156) (k : Fin 1024) :
    (View.ld Y (Rect.unit ![2, 0, 0] ![1, 1156, 1024] inb_S4x1156x1024_S1x1156x1024_2_0_0)) (ix3 0 q k) = Y (ix3 2 q k) := by
  pointwise
theorem ld3 (Y : Vec Ideal S4x1156x1024 .bf16) (q : Fin 1156) (k : Fin 1024) :
    (View.ld Y (Rect.unit ![3, 0, 0] ![1, 1156, 1024] inb_S4x1156x1024_S1x1156x1024_3_0_0)) (ix3 0 q k) = Y (ix3 3 q k) := by
  pointwise

/-- The first point's four stores into the scratch. -/
abbrev copies : List (View.Piece (Elt Ideal) S4624x1024 .bf16) :=
  [⟨Rect.unit ![3468, 0] ![1156, 1024] inb_S4624x1024_S1156x1024_3468_0, k0_pay5 (F := Ideal)
      (View.ld (iblk m c 2 t) (Rect.unit ![3, 0, 0] ![1, 1156, 1024] inb_S4x1156x1024_S1x1156x1024_3_0_0))⟩,
    ⟨Rect.unit ![2312, 0] ![1156, 1024] inb_S4624x1024_S1156x1024_2312_0, k0_pay4 (F := Ideal)
      (View.ld (iblk m c 2 t) (Rect.unit ![2, 0, 0] ![1, 1156, 1024] inb_S4x1156x1024_S1x1156x1024_2_0_0))⟩,
    ⟨Rect.unit ![1156, 0] ![1156, 1024] inb_S4624x1024_S1156x1024_1156_0, k0_pay3 (F := Ideal)
      (View.ld (iblk m c 2 t) (Rect.unit ![1, 0, 0] ![1, 1156, 1024] inb_S4x1156x1024_S1x1156x1024_1_0_0))⟩,
    ⟨Rect.unit ![0, 0] ![1156, 1024] inb_S4624x1024_S1156x1024_0_0, k0_pay2 (F := Ideal)
      (View.ld (iblk m c 2 t) (Rect.unit ![0, 0, 0] ![1, 1156, 1024] inb_S4x1156x1024_S1x1156x1024_0_0_0))⟩]

/-- They leave the weight transposed. -/
theorem fill : View.canon (copies m c t) = wt m c := by
  funext y
  idx_vars y
  canon_tiles x h
  · refine copy (w := wt m c) (lane 3) (fun q k => ?_) h0 h1
    rw [pay5_at]
    exact (ld3 _ q k).trans (shard_at m c t 3 q k)
  · refine copy (w := wt m c) (lane 2) (fun q k => ?_) h0 h1
    rw [pay4_at]
    exact (ld2 _ q k).trans (shard_at m c t 2 q k)
  · refine copy (w := wt m c) (lane 1) (fun q k => ?_) h0 h1
    rw [pay3_at]
    exact (ld1 _ q k).trans (shard_at m c t 1 q k)
  · refine copy (w := wt m c) (lane 0) (fun q k => ?_) (h0.trans (by simp [lane])) h1
    rw [pay2_at]
    exact (ld0 _ q k).trans (shard_at m c t 0 q k)

/-- What the first point loads of the scratch after its stores. -/
theorem filled (R : Rect S4624x1024) :
    (View.whole cc0_scratch0).readCov (copies m c t) R.toLoadRect = View.ld (wt m c) R := by
  rw [View.readCov_eq_canon', fill]
  rfl

/-- After every point the scratch holds the weight transposed. -/
theorem carry (n : ℕ) (h : n < cfg0.N) : (outsAt0 m c n h).2.2.2 = wt m c := by
  induction n with
  | zero =>
    rw [outsAt0_A m c ⟨0, h⟩ rfl]
    frame_out
    exact fill m c ⟨0, h⟩
  | succ n ih =>
    have hN : cfg0.N = 8 := N_0
    rw [outsAt0_B m c ⟨n + 1, h⟩ (by show ¬(n + 1) % 8 = 0; omega)]
    frame_out
    exact ih _

/-! ### The arrays -/

theorem x_at (r : Fin 256) (i : Fin 2048) (hi : (i : ℕ) = t.val * 256 + r) (k : Fin 1024) :
    (iblk m c 0 t : Vec Ideal S256x1024 .f32) (ix2 r k) = (m ((c : Thread nD τ).loc main_arg0) : FVec Ideal S2048x1024 .f32) (ix2 i k) := by
  blk_point [iblk, V, idx t]
theorem g_at (k : Fin 1024) :
    (iblk m c 1 t : Vec Ideal S1x1024 .f32) (ix2 0 k) = (m ((c : Thread nD τ).loc main_arg1) : FVec Ideal S1x1024 .f32) (ix2 0 k) := by
  blk_point [iblk, V, idx t]

/-- A row of the input. -/
abbrev xRow (i : Fin 2048) : Row := fun k => (m ((c : Thread nD τ).loc main_arg0) : FVec Ideal S2048x1024 .f32) (ix2 i k)
/-- The gains. -/
abbrev gRow : Row := fun k => (m ((c : Thread nD τ).loc main_arg1) : FVec Ideal S1x1024 .f32) (ix2 0 k)

/-- The normalised block, at the array's row. -/
theorem h_at (r : Fin 256) (i : Fin 2048) (hi : (i : ℕ) = t.val * 256 + r) (k : Fin 1024) :
    k0_pay6 (F := Ideal) (iblk m c 0 t) (iblk m c 1 t) (ix2 r k) = hRow (xRow m c i) (gRow m c) k := by
  rw [pay6_at]
  simp only [x_at m c t r i hi, g_at m c t]

/-- A product of the normalised block with a range of the copied weight's rows, at the array's row and column. -/
theorem prod_at (r : Fin 256) (i : Fin 2048) (hi : (i : ℕ) = t.val * 256 + r) (f : Fin 4624) (v : Row)
    (hv : ∀ k, v k = wt m c (ix2 f k)) :
    ∑ k, k0_pay6 (F := Ideal) (iblk m c 0 t) (iblk m c 1 t) (ix2 r k) * v k
      = proj (m ((c : Thread nD τ).loc main_arg2)) (xRow m c i) (gRow m c) f :=
  Finset.sum_congr rfl fun k _ => by rw [h_at m c t r i hi, hv k]; rfl

/-- The normalised rows. -/
theorem h_final : (dats m 0 c).arrAt 5 (cfgs 0).N = fun i : S2048x1024.Idx => hRow (xRow m c (i 0)) (gRow m c) (i 1) := by
  refine (dats m 0 c).arrAt_eq_of_covers 5 _ (by decide +kernel) fun t _ y => ?_
  blk_simp
  rw [after0_5]
  idx_vars y
  refine Eq.trans (b := k0_pay6 (F := Ideal) (iblk m c 0 t) (iblk m c 1 t) (ix2 y0 y1)) ?_
    ((h_at m c t y0 _ ?_ y1).trans (congrArg _ (Fin.ext ?_)))
  · by_cases h : t.val % 8 = 0
    · rw [outsAt0_A m c t h]
      frame_out
    · rw [outsAt0_B m c t h]
      frame_out
  all_goals (blk_simp [idx t] <;> try omega)

/-- Column `j` of the gates is column `2576 + j` of the joint product. -/
def gcol (j : Fin 2048) : Fin 4624 := ⟨2576 + j, by omega⟩

/-- The loads of the copied weight's four row ranges. -/
theorem ldw_gates (w : Vec Ideal S4624x1024 .bf16) (q : Fin 2048) (k : Fin 1024) :
    View.ld w (Rect.unit ![2576, 0] ![2048, 1024] inb_S4624x1024_S2048x1024_2576_0) (ix2 q k) = w (ix2 (gcol q) k) := by
  pointwise [gcol]
theorem ldw_qkv (w : Vec Ideal S4624x1024 .bf16) (q : Fin 1536) (k : Fin 1024) :
    View.ld w (Rect.unit ![0, 0] ![1536, 1024] inb_S4624x1024_S1536x1024_0_0) (ix2 q k) = w (ix2 ⟨q, by omega⟩ k) := by
  pointwise
theorem ldw_x (w : Vec Ideal S4624x1024 .bf16) (q : Fin 1024) (k : Fin 1024) :
    View.ld w (Rect.unit ![1552, 0] ![1024, 1024] inb_S4624x1024_S1024x1024_1552_0) (ix2 q k) = w (ix2 ⟨1552 + q, by omega⟩ k) := by
  pointwise
theorem ldw_low (w : Vec Ideal S4624x1024 .bf16) (q : Fin 128) (k : Fin 1024) :
    View.ld w (Rect.unit ![1536, 0] ![128, 1024] inb_S4624x1024_S128x1024_1536_0) (ix2 q k) = w (ix2 ⟨1536 + q, by omega⟩ k) := by
  pointwise

/-- The gates' columns. -/
theorem gab_final : (dats m 0 c).arrAt 4 (cfgs 0).N = fun i : S2048x2048.Idx =>
    proj (m ((c : Thread nD τ).loc main_arg2)) (xRow m c (i 0)) (gRow m c) (gcol (i 1)) := by
  refine (dats m 0 c).arrAt_eq_of_covers 4 _ (by decide +kernel) fun t _ y => ?_
  blk_simp
  rw [after0_4]
  idx_vars y
  refine Eq.trans (b := k0_pay1 (F := Ideal) (k0_pay6 (F := Ideal) (iblk m c 0 t) (iblk m c 1 t))
      (View.ld (wt m c) (Rect.unit ![2576, 0] ![2048, 1024] inb_S4624x1024_S2048x1024_2576_0)) (ix2 y0 y1)) ?_
    ((pay1_at _ _ _ _).trans ((prod_at m c t y0 _ ?_ (gcol y1) _ (ldw_gates (wt m c) y1)).trans (congrArg _ (congrArg gcol (Fin.ext ?_)))))
  · by_cases h : t.val % 8 = 0
    · rw [outsAt0_A m c t h]
      frame_out
      exact congrFun (congrArg (k0_pay1 _) (filled m c t _)) _
    · rw [outsAt0_B m c t h]
      frame_out
      rw [carry, read_unread_whole]
  all_goals (blk_simp [idx t] <;> try omega)

/-- Column `j` of the mixer's input: the joint product's columns without the gates', the low-rank columns last. -/
def mcol (j : Fin 2688) : Fin 4624 :=
  if (j : ℕ) < 1536 then ⟨j, by omega⟩ else if (j : ℕ) < 2560 then ⟨16 + j, by omega⟩ else ⟨j - 1024, by omega⟩

theorem mcol_qkv (q : Fin 1536) : mcol ⟨q, by omega⟩ = ⟨q, by omega⟩ := by
  simp [mcol]
theorem mcol_x (q : Fin 1024) : mcol ⟨1536 + q, by omega⟩ = ⟨1552 + q, by omega⟩ := by
  unfold mcol
  rw [if_neg (by show ¬(1536 + (q : ℕ) < 1536); omega), if_pos (by show 1536 + (q : ℕ) < 2560; omega)]
  exact Fin.ext (by show 16 + (1536 + (q : ℕ)) = 1552 + (q : ℕ); omega)
theorem mcol_low (q : Fin 128) : mcol ⟨2560 + q, by omega⟩ = ⟨1536 + q, by omega⟩ := by
  unfold mcol
  rw [if_neg (by show ¬(2560 + (q : ℕ) < 1536); omega), if_neg (by show ¬(2560 + (q : ℕ) < 2560); omega)]
  exact Fin.ext (by show 2560 + (q : ℕ) - 1024 = 1536 + (q : ℕ); omega)

/-- A stored range of columns, at its own index. -/
theorem piece {n : ℕ} {P : FVec Ideal ⟨2, ![256, n]⟩ .f32} {f : Fin 2688 → EReal} {r : Fin 256} {y : Fin 2688}
    {x : Shape.Idx ⟨2, ![256, n]⟩} (ψ : Fin n → Fin 2688) (hP : ∀ q, P (ix2 r q) = f (ψ q)) (h0 : (r : ℕ) = x 0)
    (h1 : (y : ℕ) = ψ (x 1)) : P x = f y := by
  have hx : x = ix2 r (x 1) := by
    funext a
    match a with
    | ⟨0, _⟩ => exact Fin.ext h0.symm
    | ⟨1, _⟩ => rfl
  rw [hx]
  exact (hP (x 1)).trans (congrArg f (Fin.ext h1.symm))

/-- The three stores of a block of the mixer's columns, from the three row ranges of the copied weight. -/
abbrev stores (a : Vec Ideal S128x1024 .bf16) (b : Vec Ideal S1024x1024 .bf16) (d : Vec Ideal S1536x1024 .bf16) :
    List (View.Piece (Elt Ideal) S256x2688 .f32) :=
  [⟨Rect.unit ![0, 2560] ![256, 128] inb_S256x2688_S256x128_0_2560, k0_pay9 (F := Ideal) (iblk m c 0 t) (iblk m c 1 t) a⟩,
    ⟨Rect.unit ![0, 1536] ![256, 1024] inb_S256x2688_S256x1024_0_1536, k0_pay8 (F := Ideal) (iblk m c 0 t) (iblk m c 1 t) b⟩,
    ⟨Rect.unit ![0, 0] ![256, 1536] inb_S256x2688_S256x1536_0_0, k0_pay7 (F := Ideal) (iblk m c 0 t) (iblk m c 1 t) d⟩]

/-- Rows `1536` to `1664` of the copied weight. -/
abbrev rLow : Rect S4624x1024 := Rect.unit ![1536, 0] ![128, 1024] inb_S4624x1024_S128x1024_1536_0
/-- Rows `1552` to `2576`. -/
abbrev rX : Rect S4624x1024 := Rect.unit ![1552, 0] ![1024, 1024] inb_S4624x1024_S1024x1024_1552_0
/-- Rows `0` to `1536`. -/
abbrev rQkv : Rect S4624x1024 := Rect.unit ![0, 0] ![1536, 1024] inb_S4624x1024_S1536x1024_0_0

/-- They leave the joint product's columns, at the array's row. -/
theorem pm_block (y0 : Fin 256) (i : Fin 2048) (hi : (i : ℕ) = t.val * 256 + y0) (y1 : Fin 2688) :
    View.canon (stores m c t (View.ld (wt m c) rLow) (View.ld (wt m c) rX) (View.ld (wt m c) rQkv)) (ix2 y0 y1)
      = proj (m ((c : Thread nD τ).loc main_arg2)) (xRow m c i) (gRow m c) (mcol y1) := by
  canon_tiles x h using View.cover_of_tiledBy (stores m c t (View.ld (wt m c) rLow) (View.ld (wt m c) rX) (View.ld (wt m c) rQkv)) ![256, 128] (by sl_kernel_rfl) (ix2 y0 y1)
  · refine piece (f := fun j => proj (m ((c : Thread nD τ).loc main_arg2)) (xRow m c i) (gRow m c) (mcol j)) (fun q => ⟨2560 + q, by omega⟩) (fun q => ?_) h0 h1
    rw [mcol_low]
    exact (pay9_at _ _ _ _ _).trans (prod_at m c t y0 i hi _ _ (ldw_low (wt m c) q))
  · refine piece (f := fun j => proj (m ((c : Thread nD τ).loc main_arg2)) (xRow m c i) (gRow m c) (mcol j)) (fun q => ⟨1536 + q, by omega⟩) (fun q => ?_) h0 h1
    rw [mcol_x]
    exact (pay8_at _ _ _ _ _).trans (prod_at m c t y0 i hi _ _ (ldw_x (wt m c) q))
  · refine piece (f := fun j => proj (m ((c : Thread nD τ).loc main_arg2)) (xRow m c i) (gRow m c) (mcol j)) (fun q => ⟨q, by omega⟩) (fun q => ?_) h0 h1
    rw [mcol_qkv]
    exact (pay7_at _ _ _ _ _).trans (prod_at m c t y0 i hi _ _ (ldw_qkv (wt m c) q))

/-- The mixer's columns. -/
theorem pm_final : (dats m 0 c).arrAt 3 (cfgs 0).N = fun i : S2048x2688.Idx =>
    proj (m ((c : Thread nD τ).loc main_arg2)) (xRow m c (i 0)) (gRow m c) (mcol (i 1)) := by
  refine (dats m 0 c).arrAt_eq_of_covers 3 _ (by decide +kernel) fun t _ y => ?_
  blk_simp
  rw [after0_3]
  idx_vars y
  obtain ⟨i, hi⟩ : ∃ i : Fin 2048, (i : ℕ) = t.val * 256 + y0 := by
    have h8 : cfg0.N = 8 := N_0
    have ht : t.val < cfg0.N := t.isLt
    exact ⟨⟨t.val * 256 + y0, by omega⟩, rfl⟩
  refine Eq.trans (b := proj (m ((c : Thread nD τ).loc main_arg2)) (xRow m c i) (gRow m c) (mcol y1)) ?_
    (congrArg₂ (fun i j => proj (m ((c : Thread nD τ).loc main_arg2)) (xRow m c i) (gRow m c) (mcol j)) (Fin.ext ?_) (Fin.ext ?_))
  · by_cases h : t.val % 8 = 0
    · rw [outsAt0_A m c t h]
      frame_out
      exact (congrFun (congrArg View.canon (congr (congr (congrArg (stores m c t) (filled m c t rLow)) (filled m c t rX))
        (filled m c t rQkv))) _).trans (pm_block m c t y0 i hi y1)
    · rw [outsAt0_B m c t h]
      frame_out
      rw [carry, read_unread_whole]
      exact pm_block m c t y0 i hi y1
  all_goals (blk_simp [idx t] <;> try omega)

/-! ### The reference -/

section Reference

open Cert.Reference4Ideal.Read

variable (X : FVec Ideal S2048x1024 .f32) (G : FVec Ideal S1x1024 .f32) (W : FVec Ideal S1024x4624 .f32)

/-- The reference's normalised rows. -/
theorem v11_at (i : Fin 2048) (k : Fin 1024) :
    val_main_v11 (F := Ideal) X G (ix2 i k) = hRow (fun k => X (ix2 i k)) (fun k => G (ix2 0 k)) k := by
  pointwise [val_main_v11, val_main_v10, val_main_v9, val_main_v8, val_main_v7, val_main_v6, val_main_v5, val_main_cst_1,
    val_main_v4, val_main_v3, val_main_cst_0, val_main_v2, val_main_v1, val_main_cst, val_main_v0, hRow, nrm, rinv, msq]
/-- Its joint product. -/
theorem v12_at (i : Fin 2048) (f : Fin 4624) :
    val_main_v12 (F := Ideal) X G W (ix2 i f) = proj W (fun k => X (ix2 i k)) (fun k => G (ix2 0 k)) f := by
  pointwise [val_main_v12, v11_at, proj]
theorem v17_at (i : Fin 2048) (j : Fin 2048) :
    val_main_v17 (F := Ideal) X G W (ix2 i j) = proj W (fun k => X (ix2 i k)) (fun k => G (ix2 0 k)) (gcol j) := by
  pointwise [val_main_v17, v12_at, gcol]
theorem v18_at (i : Fin 2048) (k : Fin 1024) :
    val_main_v18 (F := Ideal) X G (ix2 i k) = hRow (fun k => X (ix2 i k)) (fun k => G (ix2 0 k)) k := by
  pointwise [val_main_v18, v11_at]
theorem v16_at (i : Fin 2048) (j : Fin 2688) :
    val_main_v16 (F := Ideal) X G W (ix2 i j) = proj W (fun k => X (ix2 i k)) (fun k => G (ix2 0 k)) (mcol j) := by
  pointwise [val_main_v16, val_main_v13, val_main_v14, val_main_v15, v12_at, mcol]
  split
  · rfl
  · rename_i h
    by_cases h' : (j : ℕ) < 2560
    · rw [dif_pos (by omega), if_pos h']
      exact congrArg _ (Fin.ext (by show 1552 + ((j : ℕ) - 1536) = 16 + (j : ℕ); omega))
    · rw [dif_neg (by omega), if_neg h']
      exact congrArg _ (Fin.ext (by show 1536 + ((j : ℕ) - 1536 - 1024) = (j : ℕ) - 1024; omega))

end Reference

/-- Kernel and reference leave the same three arrays. -/
theorem algebraic : Cert.algebraic_Kernel4Ideal_Reference4Ideal := by
  pair_intro
  · run_from Cert.Kernel4Ideal.Value.run_blocks m g
  · run_from Cert.Reference4Ideal.Value.run m' g'
    · obtain ⟨e0, e1, e2⟩ := hagree c
      rw [pm_final m c, e2]
      funext i; idx_vars i
      exact v16_at _ _ _ _ _
    · rw [gab_final m c]
      funext i; idx_vars i
      exact v17_at _ _ _ _ _
    · rw [h_final m c]
      funext i; idx_vars i
      exact v18_at _ _ _ _

end Cert.Proof.InProj
-- ==== Proof.InProjBwd.lean ====
/-
  The gradient of the input projection: the cotangents of the four groups of columns against the joint weight, and
  back through the normalisation. The kernel adds four products, one per group (the low-rank group padded by zeros);
  the reference differentiates the projection, and multiplies the groups laid side by side.
-/
module

public import proofs.«01_k».proof.Defs
public import proofs.«01_k».proof.Proof.Norm
public import proofs.«01_k».proof.Proof.Gen.Kernel5Ideal.Value
public import proofs.«01_k».proof.Proof.Gen.Reference5Ideal
public import proofs.«01_k».proof.Proof.Gen.Reference5Ideal.Read
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.Proof.InProjBwd

open Idealize.ShloMosaic Idealize.ShloMosaic.TcCoe Idealize.SL.Sem StableHlo Cert.Proof.Norm
open Cert.Kernel5Ideal Cert.Kernel5Ideal.Gen
open scoped BigOperators

/-- The windows' block indices. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0]
    ∧ win0_6.index t = ![t.val, 0] ∧ win0_7.index t = ![0, 0] :=
  (by decide +kernel : ∀ t : Fin grid0.N, _)

/-- A row of the model dimension. -/
abbrev Row := Fin 1024 → EReal

/-- The cotangent of the normalised row from the cotangents of the four groups of columns. -/
def dhRow (W : FVec Ideal S1024x4624 .f32) (dq : Fin 1536 → EReal) (dxo : Row) (dlow : Fin 16 → EReal)
    (dgate : Fin 2048 → EReal) (k : Fin 1024) : EReal :=
  ((∑ q : Fin 1536, dq q * W (ix2 k ⟨q, by omega⟩)) + ∑ q : Fin 1024, dxo q * W (ix2 k ⟨1552 + q, by omega⟩))
    + (∑ q : Fin 16, dlow q * W (ix2 k ⟨1536 + q, by omega⟩)) + ∑ q : Fin 2048, dgate q * W (ix2 k ⟨2576 + q, by omega⟩)

/-- Sums and products of equal terms. -/
theorem add2 {a b c d : EReal} (h : a = b) (h' : c = d) : a + c = b + d := h ▸ h' ▸ rfl
theorem mul2 {a b c d : EReal} (h : a = b) (h' : c = d) : a * c = b * d := h ▸ h' ▸ rfl

/-! ### The body's values -/

variable (x : Vec Ideal S256x1024 .f32) (g : Vec Ideal S1x1024 .f32)

/-- The sum of the four products. -/
theorem pay10_at (v6 : Vec Ideal S256x1536 .bf16) (v8 : Vec Ideal S1536x1024 .bf16) (v10 : Vec Ideal S256x1024 .bf16)
    (v12 : Vec Ideal S1024x1024 .bf16) (v15 : Vec Ideal S256x128 .bf16) (v17 : Vec Ideal S128x1024 .bf16)
    (v20 : Vec Ideal S256x2048 .bf16) (v22 : Vec Ideal S2048x1024 .bf16) (r : Fin 256) (k : Fin 1024) :
    k0_pay10 (F := Ideal) v6 v8 v10 v12 v15 v17 v20 v22 (ix2 r k)
      = ((∑ q, v6 (ix2 r q) * v8 (ix2 q k)) + ∑ q, v10 (ix2 r q) * v12 (ix2 q k))
        + (∑ q, v15 (ix2 r q) * v17 (ix2 q k)) + ∑ q, v20 (ix2 r q) * v22 (ix2 q k) := by
  pointwise [k0_pay10]
/-- The gradient at the input. -/
theorem pay4_at (d x : Vec Ideal S256x1024 .f32) (e : Vec Ideal S256x1024 .f32) (r : Fin 256) (k : Fin 1024) :
    k0_pay4 (F := Ideal) d x (k0_pay11 x) (Scalar.ofBits .f32 0x44800000#32) e g (ix2 r k)
      = e (ix2 r k) + normBack (fun k => x (ix2 r k)) (fun k => d (ix2 r k) * g (ix2 0 k)) k := by
  pointwise [k0_pay4, k0_pay2, k0_pay1, k0_pay11, normBack, nrm, rinv, msq]
/-- The gradient of the gain: a block's rows added to what came before. -/
theorem pay3_at (d x : Vec Ideal S256x1024 .f32) (acc : Vec Ideal S1x1024 .f32) (z : Fin 1) (k : Fin 1024) :
    k0_pay3 (F := Ideal) d x (k0_pay11 x) (Scalar.ofBits .f32 0x44800000#32) acc (ix2 z k)
      = acc (ix2 z k) + ∑ r : Fin 256, d (ix2 r k) * nrm (fun k => x (ix2 r k)) k := by
  pointwise [k0_pay3, k0_pay2, k0_pay1, k0_pay11, nrm, rinv, msq]
/-- The copied shards. -/
theorem pay5_at (s : Vec Ideal S1x1156x1024 .bf16) (q : Fin 1156) (k : Fin 1024) :
    k0_pay5 (F := Ideal) s (ix2 q k) = s (ix3 0 q k) := by pointwise [k0_pay5]
theorem pay6_at (s : Vec Ideal S1x1156x1024 .bf16) (q : Fin 1156) (k : Fin 1024) :
    k0_pay6 (F := Ideal) s (ix2 q k) = s (ix3 0 q k) := by pointwise [k0_pay6]
theorem pay7_at (s : Vec Ideal S1x1156x1024 .bf16) (q : Fin 1156) (k : Fin 1024) :
    k0_pay7 (F := Ideal) s (ix2 q k) = s (ix3 0 q k) := by pointwise [k0_pay7]
theorem pay8_at (s : Vec Ideal S1x1156x1024 .bf16) (q : Fin 1156) (k : Fin 1024) :
    k0_pay8 (F := Ideal) s (ix2 q k) = s (ix3 0 q k) := by pointwise [k0_pay8]

/-! ### The copied weight -/

variable (m : (ℓ : Loc nD τ sig) → Buf (Elt Ideal) ℓ) (c : Dev nD) (t : Fin cfg0.N)

/-- Row `q` of shard `s`. -/
def lane (s : Fin 4) (q : Fin 1156) : Fin 4624 := ⟨s * 1156 + q, by omega⟩

theorem shard_host (s : Fin 4) (q : Fin 1156) (k : Fin 1024) :
    (V m c main_v6 : Vec Ideal S4x1156x1024 .bf16) (ix3 s q k)
      = (m ((c : Thread nD τ).loc main_arg3) : FVec Ideal S1024x4624 .f32) (ix2 k (lane s q)) := by
  simp only [V, List.flatten_cons, List.flatten_nil, List.cons_append, List.nil_append]
  entry_read
  pointwise [lane]
theorem shard_at (s : Fin 4) (q : Fin 1156) (k : Fin 1024) :
    (iblk m c 5 t : Vec Ideal S4x1156x1024 .bf16) (ix3 s q k)
      = (m ((c : Thread nD τ).loc main_arg3) : FVec Ideal S1024x4624 .f32) (ix2 k (lane s q)) := by
  refine Eq.trans ?_ (shard_host m c s q k)
  blk_ext [iblk, idx t]

/-- The weight transposed: what the scratch holds. -/
abbrev wt : Vec Ideal S4624x1024 .bf16 := fun i =>
  (m ((c : Thread nD τ).loc main_arg3) : FVec Ideal S1024x4624 .f32) (ix2 (i 1) (i 0))

/-- A copied shard, at its own rows. -/
theorem copy {P : FVec Ideal S1156x1024 .bf16} {w : Vec Ideal S4624x1024 .bf16} {r : Fin 4624} {k : Fin 1024}
    {x : S1156x1024.Idx} (ψ : Fin 1156 → Fin 4624) (hP : ∀ q k, P (ix2 q k) = w (ix2 (ψ q) k)) (h0 : (r : ℕ) = ψ (x 0))
    (h1 : (k : ℕ) = x 1) : P x = w (ix2 r k) := by
  idx_vars x
  obtain rfl : k = x1 := Fin.ext h1
  obtain rfl : r = ψ x0 := Fin.ext h0
  exact hP x0 k

/-- The load of one shard. -/
theorem ld0 (Y : Vec Ideal S4x1156x1024 .bf16) (q : Fin 1156) (k : Fin 1024) :
    (View.ld Y (Rect.unit ![0, 0, 0] ![1, 1156, 1024] inb_S4x1156x1024_S1x1156x1024_0_0_0)) (ix3 0 q k) = Y (ix3 0 q k) := by
  pointwise
theorem ld1 (Y : Vec Ideal S4x1156x1024 .bf16) (q : Fin 1156) (k : Fin 1024) :
    (View.ld Y (Rect.unit ![1, 0, 0] ![1, 1156, 1024] inb_S4x1156x1024_S1x1156x1024_1_0_0)) (ix3 0 q k) = Y (ix3 1 q k) := by
  pointwise
theorem ld2 (Y : Vec Ideal S4x1156x1024 .bf16) (q : Fin 1156) (k : Fin 1024) :
    (View.ld Y (Rect.unit ![2, 0, 0] ![1, 1156, 1024] inb_S4x1156x1024_S1x1156x1024_2_0_0)) (ix3 0 q k) = Y (ix3 2 q k) := by
  pointwise
theorem ld3 (Y : Vec Ideal S4x1156x1024 .bf16) (q : Fin 1156) (k : Fin 1024) :
    (View.ld Y (Rect.unit ![3, 0, 0] ![1, 1156, 1024] inb_S4x1156x1024_S1x1156x1024_3_0_0)) (ix3 0 q k) = Y (ix3 3 q k) := by
  pointwise

/-- The first point's four stores into the scratch. -/
abbrev copies : List (View.Piece (Elt Ideal) S4624x1024 .bf16) :=
  [⟨Rect.unit ![3468, 0] ![1156, 1024] inb_S4624x1024_S1156x1024_3468_0, k0_pay8 (F := Ideal)
      (View.ld (iblk m c 5 t) (Rect.unit ![3, 0, 0] ![1, 1156, 1024] inb_S4x1156x1024_S1x1156x1024_3_0_0))⟩,
    ⟨Rect.unit ![2312, 0] ![1156, 1024] inb_S4624x1024_S1156x1024_2312_0, k0_pay7 (F := Ideal)
      (View.ld (iblk m c 5 t) (Rect.unit ![2, 0, 0] ![1, 1156, 1024] inb_S4x1156x1024_S1x1156x1024_2_0_0))⟩,
    ⟨Rect.unit ![1156, 0] ![1156, 1024] inb_S4624x1024_S1156x1024_1156_0, k0_pay6 (F := Ideal)
      (View.ld (iblk m c 5 t) (Rect.unit ![1, 0, 0] ![1, 1156, 1024] inb_S4x1156x1024_S1x1156x1024_1_0_0))⟩,
    ⟨Rect.unit ![0, 0] ![1156, 1024] inb_S4624x1024_S1156x1024_0_0, k0_pay5 (F := Ideal)
      (View.ld (iblk m c 5 t) (Rect.unit ![0, 0, 0] ![1, 1156, 1024] inb_S4x1156x1024_S1x1156x1024_0_0_0))⟩]

/-- They leave the weight transposed. -/
theorem fill : View.canon (copies m c t) = wt m c := by
  funext y
  idx_vars y
  canon_tiles x h
  · refine copy (w := wt m c) (lane 3) (fun q k => ?_) h0 h1
    rw [pay8_at]
    exact (ld3 _ q k).trans (shard_at m c t 3 q k)
  · refine copy (w := wt m c) (lane 2) (fun q k => ?_) h0 h1
    rw [pay7_at]
    exact (ld2 _ q k).trans (shard_at m c t 2 q k)
  · refine copy (w := wt m c) (lane 1) (fun q k => ?_) h0 h1
    rw [pay6_at]
    exact (ld1 _ q k).trans (shard_at m c t 1 q k)
  · refine copy (w := wt m c) (lane 0) (fun q k => ?_) (h0.trans (by simp [lane])) h1
    rw [pay5_at]
    exact (ld0 _ q k).trans (shard_at m c t 0 q k)

/-- What the first point loads of the scratch after its stores. -/
theorem filled (R : Rect S4624x1024) :
    (View.whole cc0_scratch0).readCov (copies m c t) R.toLoadRect = View.ld (wt m c) R := by
  rw [View.readCov_eq_canon', fill]
  rfl

/-- After every point the scratch holds the weight transposed. -/
theorem carry (n : ℕ) (h : n < cfg0.N) : (outsAt0 m c n h).2.2 = wt m c := by
  induction n with
  | zero =>
    rw [outsAt0_A m c ⟨0, h⟩ rfl rfl]
    frame_out
    exact fill m c ⟨0, h⟩
  | succ n ih =>
    have hN : cfg0.N = 8 := N_0
    have h8 : ¬(n + 1) % 8 = 0 := by omega
    rw [outsAt0_B m c ⟨n + 1, h⟩ h8 h8]
    frame_out
    exact ih _

/-! ### The arrays -/

/-- The loads of the copied weight's four row ranges. -/
theorem ldw_gates (w : Vec Ideal S4624x1024 .bf16) (q : Fin 2048) (k : Fin 1024) :
    View.ld w (Rect.unit ![2576, 0] ![2048, 1024] inb_S4624x1024_S2048x1024_2576_0) (ix2 q k) = w (ix2 (⟨2576 + q, by omega⟩) k) := by
  pointwise
theorem ldw_qkv (w : Vec Ideal S4624x1024 .bf16) (q : Fin 1536) (k : Fin 1024) :
    View.ld w (Rect.unit ![0, 0] ![1536, 1024] inb_S4624x1024_S1536x1024_0_0) (ix2 q k) = w (ix2 ⟨q, by omega⟩ k) := by
  pointwise
theorem ldw_x (w : Vec Ideal S4624x1024 .bf16) (q : Fin 1024) (k : Fin 1024) :
    View.ld w (Rect.unit ![1552, 0] ![1024, 1024] inb_S4624x1024_S1024x1024_1552_0) (ix2 q k) = w (ix2 ⟨1552 + q, by omega⟩ k) := by
  pointwise
theorem ldw_low (w : Vec Ideal S4624x1024 .bf16) (q : Fin 128) (k : Fin 1024) :
    View.ld w (Rect.unit ![1536, 0] ![128, 1024] inb_S4624x1024_S128x1024_1536_0) (ix2 q k) = w (ix2 ⟨1536 + q, by omega⟩ k) := by
  pointwise

/-- The loads of the three groups of the mixer's cotangent. -/
theorem ldp_qkv (w : Vec Ideal S256x2688 .bf16) (r : Fin 256) (q : Fin 1536) :
    View.ld w (Rect.unit ![0, 0] ![256, 1536] inb_S256x2688_S256x1536_0_0) (ix2 r q) = w (ix2 r ⟨q, by omega⟩) := by
  pointwise
theorem ldp_x (w : Vec Ideal S256x2688 .bf16) (r : Fin 256) (q : Fin 1024) :
    View.ld w (Rect.unit ![0, 1536] ![256, 1024] inb_S256x2688_S256x1024_0_1536) (ix2 r q) = w (ix2 r ⟨1536 + q, by omega⟩) := by
  pointwise
theorem ldp_low (w : Vec Ideal S256x2688 .bf16) (r : Fin 256) (q : Fin 128) :
    View.ld w (Rect.unit ![0, 2560] ![256, 128] inb_S256x2688_S256x128_0_2560) (ix2 r q) = w (ix2 r ⟨2560 + q, by omega⟩) := by
  pointwise

/-- The four cotangents the mixer and the gates leave. -/
abbrev dq (i : Fin 2048) (q : Fin 1536) : EReal := (m ((c : Thread nD τ).loc main_arg4) : FVec Ideal S2048x1536 .f32) (ix2 i q)
abbrev dxo (i : Fin 2048) (q : Fin 1024) : EReal := (m ((c : Thread nD τ).loc main_arg5) : FVec Ideal S2048x1024 .f32) (ix2 i q)
abbrev dlow (i : Fin 2048) (q : Fin 16) : EReal := (m ((c : Thread nD τ).loc main_arg6) : FVec Ideal S2048x16 .f32) (ix2 i q)
abbrev dgate (i : Fin 2048) (q : Fin 2048) : EReal := (m ((c : Thread nD τ).loc main_arg7) : FVec Ideal S2048x2048 .f32) (ix2 i q)

/-- The low-rank cotangent padded by zeros. -/
def lowPad (i : Fin 2048) (q : Fin 128) : EReal := if h : (q : ℕ) < 16 then dlow m c i ⟨q, h⟩ else 0

/-- The three cotangents of the mixer laid side by side. -/
def pmRow (i : Fin 2048) (j : Fin 2688) : EReal :=
  if h : (j : ℕ) < 1536 then dq m c i ⟨j, h⟩ else if h' : (j : ℕ) - 1536 < 1024 then dxo m c i ⟨j - 1536, h'⟩
  else lowPad m c i ⟨(j : ℕ) - 1536 - 1024, by omega⟩

theorem low_host (i : Fin 2048) (q : Fin 128) :
    (V m c main_v0 : Vec Ideal S2048x128 .f32) (ix2 i q) = lowPad m c i q := by
  simp only [V, List.flatten_cons, List.flatten_nil, List.cons_append, List.nil_append]
  entry_read
  show (pad S2048x128 ![0, 0] ![0, 112] ![0, 0] (m ((c : Thread nD τ).loc main_arg6) : FVec Ideal S2048x16 .f32)
    (sitofp (F := Ideal) .f32 (constantI S_ 32 0#32)) pads_S2048x16_S2048x128_000_01120 h_S_ : FVec Ideal S2048x128 .f32) (ix2 i q) = _
  pointwise [lowPad]
  have hz : (FloatOps.sitofp (F := Ideal) FTy.f32 0#32 : EReal) = 0 := by
    show (((0#32 : BitVec 32).toInt : ℝ) : EReal) = 0
    simp
  by_cases h : (q : ℕ) < 16
  · rw [dif_pos h, dif_pos fun a => ?_]
    match a with
    | ⟨0, _⟩ => exact ⟨Nat.zero_le _, by show ((i : ℕ) - 0) % 1 = 0; omega, by show ((i : ℕ) - 0) / 1 < 2048; omega⟩
    | ⟨1, _⟩ => exact ⟨Nat.zero_le _, by show ((q : ℕ) - 0) % 1 = 0; omega, by show ((q : ℕ) - 0) / 1 < 16; omega⟩
  · rw [dif_neg h, dif_neg fun H => ?_]
    · exact hz
    · have h2 : ((q : ℕ) - 0) / 1 < 16 := (H 1).2.2
      omega

/-- What the host leaves before the concatenation. -/
abbrev mid : Valuation τ sig (Elt Ideal) :=
  StableHlo.after (hostOps0 (F := Ideal) ++ hostOps0_1) (fun b => m (c, b))

theorem mid_arg4 : mid m c main_arg4 = m ((c : Thread nD τ).loc main_arg4) := by
  simp only [mid, List.cons_append, List.nil_append]
  entry_read
  rfl
theorem mid_arg5 : mid m c main_arg5 = m ((c : Thread nD τ).loc main_arg5) := by
  simp only [mid, List.cons_append, List.nil_append]
  entry_read
  rfl
theorem mid_v0 (i : Fin 2048) (q : Fin 128) :
    (mid m c main_v0 : Vec Ideal S2048x128 .f32) (ix2 i q) = lowPad m c i q := by
  refine Eq.trans ?_ (low_host m c i q)
  simp only [V, mid, List.flatten_cons, List.flatten_nil, List.cons_append, List.nil_append]
  entry_read
  rfl

/-- The concatenation over any contents. -/
theorem pm_after (σ : Valuation τ sig (Elt Ideal)) (i : Fin 2048) (j : Fin 2688) :
    (StableHlo.after hostOps0_2 σ main_v2 : Vec Ideal S2048x2688 .bf16) (ix2 i j) =
    (if h : (j : ℕ) < 1536 then (σ main_arg4 : FVec Ideal S2048x1536 .f32) (ix2 i ⟨j, h⟩)
     else if h' : (j : ℕ) - 1536 < 1024 then (σ main_arg5 : FVec Ideal S2048x1024 .f32) (ix2 i ⟨j - 1536, h'⟩)
     else (σ main_v0 : FVec Ideal S2048x128 .f32) (ix2 i ⟨(j : ℕ) - 1536 - 1024, by omega⟩) : EReal) := by
  entry_read
  pointwise

theorem pm_host (i : Fin 2048) (j : Fin 2688) :
    (V m c main_v2 : Vec Ideal S2048x2688 .bf16) (ix2 i j) = pmRow m c i j := by
  refine (pm_after (mid m c) i j).trans ?_
  unfold pmRow
  split
  · exact congrFun (mid_arg4 m c) _
  split
  · exact congrFun (mid_arg5 m c) _
  · exact mid_v0 m c i _

/-- Row `i` of an argument. -/
abbrev xRow (i : Fin 2048) : Row := fun k => (m ((c : Thread nD τ).loc main_arg0) : FVec Ideal S2048x1024 .f32) (ix2 i k)
abbrev eRow (i : Fin 2048) : Row := fun k => (m ((c : Thread nD τ).loc main_arg1) : FVec Ideal S2048x1024 .f32) (ix2 i k)
abbrev gRow : Row := fun k => (m ((c : Thread nD τ).loc main_arg2) : FVec Ideal S1x1024 .f32) (ix2 0 k)

theorem x_at (r : Fin 256) (i : Fin 2048) (hi : (i : ℕ) = t.val * 256 + r) (k : Fin 1024) :
    (iblk m c 2 t : Vec Ideal S256x1024 .f32) (ix2 r k) = xRow m c i k := by
  show _ = (m ((c : Thread nD τ).loc main_arg0) : FVec Ideal S2048x1024 .f32) (ix2 i k)
  blk_point [iblk, V, idx t]
theorem e_at (r : Fin 256) (i : Fin 2048) (hi : (i : ℕ) = t.val * 256 + r) (k : Fin 1024) :
    (iblk m c 3 t : Vec Ideal S256x1024 .f32) (ix2 r k) = eRow m c i k := by
  show _ = (m ((c : Thread nD τ).loc main_arg1) : FVec Ideal S2048x1024 .f32) (ix2 i k)
  blk_point [iblk, V, idx t]
theorem g_at (k : Fin 1024) : (iblk m c 4 t : Vec Ideal S1x1024 .f32) (ix2 0 k) = gRow m c k := by
  show _ = (m ((c : Thread nD τ).loc main_arg2) : FVec Ideal S1x1024 .f32) (ix2 0 k)
  blk_point [iblk, V, idx t]
theorem pm_at (r : Fin 256) (i : Fin 2048) (hi : (i : ℕ) = t.val * 256 + r) (j : Fin 2688) :
    (iblk m c 0 t : Vec Ideal S256x2688 .bf16) (ix2 r j) = (V m c main_v2 : Vec Ideal S2048x2688 .bf16) (ix2 i j) := by
  blk_ext [iblk, idx t]
theorem gate_host (i : Fin 2048) (j : Fin 2048) : (V m c main_v3 : Vec Ideal S2048x2048 .bf16) (ix2 i j)
    = (m ((c : Thread nD τ).loc main_arg7) : FVec Ideal S2048x2048 .f32) (ix2 i j) := by
  simp only [V, List.flatten_cons, List.flatten_nil, List.cons_append, List.nil_append]
  entry_read
  pointwise
theorem gate_at (r : Fin 256) (i : Fin 2048) (hi : (i : ℕ) = t.val * 256 + r) (j : Fin 2048) :
    (iblk m c 1 t : Vec Ideal S256x2048 .bf16) (ix2 r j) = (m ((c : Thread nD τ).loc main_arg7) : FVec Ideal S2048x2048 .f32) (ix2 i j) := by
  refine Eq.trans ?_ (gate_host m c i j)
  blk_ext [iblk, idx t]

/-! ### A block of rows -/

abbrev rQkv : Rect S4624x1024 := Rect.unit ![0, 0] ![1536, 1024] inb_S4624x1024_S1536x1024_0_0
abbrev rX : Rect S4624x1024 := Rect.unit ![1552, 0] ![1024, 1024] inb_S4624x1024_S1024x1024_1552_0
abbrev rLow : Rect S4624x1024 := Rect.unit ![1536, 0] ![128, 1024] inb_S4624x1024_S128x1024_1536_0
abbrev rGates : Rect S4624x1024 := Rect.unit ![2576, 0] ![2048, 1024] inb_S4624x1024_S2048x1024_2576_0

/-- The block's four products, of any four parts of the weight. -/
abbrev dhBlk (w1 : Vec Ideal S1536x1024 .bf16) (w2 : Vec Ideal S1024x1024 .bf16) (w3 : Vec Ideal S128x1024 .bf16)
    (w4 : Vec Ideal S2048x1024 .bf16) : Vec Ideal S256x1024 .f32 :=
  k0_pay10 (F := Ideal)
    (View.ld (iblk m c 0 t) (Rect.unit ![0, 0] ![256, 1536] inb_S256x2688_S256x1536_0_0)) w1
    (View.ld (iblk m c 0 t) (Rect.unit ![0, 1536] ![256, 1024] inb_S256x2688_S256x1024_0_1536)) w2
    (View.ld (iblk m c 0 t) (Rect.unit ![0, 2560] ![256, 128] inb_S256x2688_S256x128_0_2560)) w3 (iblk m c 1 t) w4

/-- The cotangent of the normalised row `i`. -/
abbrev dh (i : Fin 2048) : Row :=
  dhRow (m ((c : Thread nD τ).loc main_arg3) : FVec Ideal S1024x4624 .f32) (dq m c i) (dxo m c i) (dlow m c i) (dgate m c i)

/-- The zeros the low-rank group is padded by add nothing. -/
theorem low_sum (i : Fin 2048) (w : Fin 128 → EReal) :
    ∑ q : Fin 128, lowPad m c i q * w q = ∑ q : Fin 16, dlow m c i q * w ⟨q, by omega⟩ := by
  refine (Fin.sum_univ_add (a := 16) (b := 112) fun q : Fin (16 + 112) => lowPad m c i q * w q).trans ?_
  refine (add2 (Finset.sum_congr rfl fun q _ => mul2 (dif_pos q.isLt) rfl)
    ((Finset.sum_congr rfl fun q _ => (mul2 (?_ : _ = (0 : EReal)) rfl).trans (zero_mul _)).trans Finset.sum_const_zero)).trans
    (add_zero _)
  refine dif_neg ?_
  show ¬ (16 + (q : ℕ)) < 16
  omega

/-- The block's four products with the copied weight. -/
theorem dh_at (r : Fin 256) (i : Fin 2048) (hi : (i : ℕ) = t.val * 256 + r) (k : Fin 1024) :
    dhBlk m c t (View.ld (wt m c) rQkv) (View.ld (wt m c) rX) (View.ld (wt m c) rLow) (View.ld (wt m c) rGates) (ix2 r k)
      = dh m c i k := by
  have pm := fun j => (pm_at m c t r i hi j).trans (pm_host m c i j)
  refine (pay10_at _ _ _ _ _ _ _ _ r k).trans ?_
  refine add2 (add2 (add2 ?_ ?_) ?_) ?_
  · refine Finset.sum_congr rfl fun q _ => mul2 ?_ (ldw_qkv _ q k)
    exact (ldp_qkv _ r q).trans ((pm _).trans (dif_pos q.isLt))
  · refine Finset.sum_congr rfl fun q _ => mul2 ?_ (ldw_x _ q k)
    refine (ldp_x _ r q).trans ((pm _).trans ?_)
    refine (dif_neg (show ¬ 1536 + (q : ℕ) < 1536 by omega)).trans ?_
    refine (dif_pos (show 1536 + (q : ℕ) - 1536 < 1024 by omega)).trans ?_
    exact congrArg (dxo m c i) (Fin.ext (by show 1536 + (q : ℕ) - 1536 = q; omega))
  · refine Eq.trans (Finset.sum_congr rfl fun q _ => mul2 ?_ (ldw_low _ q k))
      (low_sum m c i fun q => wt m c (ix2 ⟨1536 + q, by omega⟩ k))
    refine (ldp_low _ r q).trans ((pm _).trans ?_)
    refine (dif_neg (show ¬ 2560 + (q : ℕ) < 1536 by omega)).trans ?_
    refine (dif_neg (show ¬ 2560 + (q : ℕ) - 1536 < 1024 by omega)).trans ?_
    exact congrArg (lowPad m c i) (Fin.ext (by show 2560 + (q : ℕ) - 1536 - 1024 = q; omega))
  · exact Finset.sum_congr rfl fun q _ => mul2 ((gate_at m c t r i hi q)) (ldw_gates _ q k)

/-- The gradient at the block's inputs. -/
abbrev dxBlk (w1 : Vec Ideal S1536x1024 .bf16) (w2 : Vec Ideal S1024x1024 .bf16) (w3 : Vec Ideal S128x1024 .bf16)
    (w4 : Vec Ideal S2048x1024 .bf16) : Vec Ideal S256x1024 .f32 :=
  k0_pay4 (F := Ideal) (dhBlk m c t w1 w2 w3 w4) (iblk m c 2 t) (k0_pay11 (iblk m c 2 t)) (Scalar.ofBits .f32 0x44800000#32)
    (iblk m c 3 t) (iblk m c 4 t)
/-- The block's term of the gradient at the gain, after `acc`. -/
abbrev dgBlk (acc : Vec Ideal S1x1024 .f32) (w1 : Vec Ideal S1536x1024 .bf16) (w2 : Vec Ideal S1024x1024 .bf16)
    (w3 : Vec Ideal S128x1024 .bf16) (w4 : Vec Ideal S2048x1024 .bf16) : Vec Ideal S1x1024 .f32 :=
  k0_pay3 (F := Ideal) (dhBlk m c t w1 w2 w3 w4) (iblk m c 2 t) (k0_pay11 (iblk m c 2 t)) (Scalar.ofBits .f32 0x44800000#32) acc

/-- Row `i` of the gradient at the input. -/
def dxRow (i : Fin 2048) (k : Fin 1024) : EReal :=
  eRow m c i k + normBack (xRow m c i) (fun k => dh m c i k * gRow m c k) k

theorem dx_at (r : Fin 256) (i : Fin 2048) (hi : (i : ℕ) = t.val * 256 + r) (k : Fin 1024) :
    dxBlk m c t (View.ld (wt m c) rQkv) (View.ld (wt m c) rX) (View.ld (wt m c) rLow) (View.ld (wt m c) rGates) (ix2 r k)
      = dxRow m c i k := by
  refine (pay4_at _ _ _ _ r k).trans ?_
  refine add2 (e_at m c t r i hi k) ?_
  have hx : (fun k => (iblk m c 2 t : Vec Ideal S256x1024 .f32) (ix2 r k)) = xRow m c i := funext fun k => x_at m c t r i hi k
  have hd : (fun k => dhBlk m c t (View.ld (wt m c) rQkv) (View.ld (wt m c) rX) (View.ld (wt m c) rLow) (View.ld (wt m c) rGates) (ix2 r k)
      * (iblk m c 4 t : Vec Ideal S1x1024 .f32) (ix2 0 k)) = fun k => dh m c i k * gRow m c k :=
    funext fun k => mul2 ((dh_at m c t r i hi k)) (g_at m c t k)
  exact congrFun (congr (congrArg normBack hx) hd) k

/-- The gradient at the input. -/
def dxv : FVec Ideal S2048x1024 .f32 := fun i => dxRow m c (i 0) (i 1)

theorem dx_final : (dats m 0 c).arrAt 6 (cfgs 0).N = dxv m c := by
  refine (dats m 0 c).arrAt_eq_of_covers 6 _ (by decide +kernel) fun t _ y => ?_
  blk_simp
  rw [after0_6]
  idx_vars y
  obtain ⟨i, hi⟩ : ∃ i : Fin 2048, (i : ℕ) = t.val * 256 + y0 := by
    have h8 : cfg0.N = 8 := N_0
    have ht : t.val < cfg0.N := t.isLt
    exact ⟨⟨t.val * 256 + y0, by omega⟩, rfl⟩
  refine Eq.trans (b := dxRow m c i y1) ?_ (congrArg₂ (dxRow m c) (Fin.ext ?_) (Fin.ext ?_))
  · by_cases h : t.val % 8 = 0
    · rw [outsAt0_A m c t h h]
      frame_out
      exact (congrFun (congr (congr (congr (congrArg (dxBlk m c t) (filled m c t rQkv)) (filled m c t rX)) (filled m c t rLow))
        (filled m c t rGates)) _).trans (dx_at m c t y0 i hi y1)
    · rw [outsAt0_B m c t h h]
      frame_out
      rw [carry, read_unread_whole]
      exact dx_at m c t y0 i hi y1
  all_goals (blk_simp [idx t] <;> try omega)

/-- Row `i`'s term of the gradient at the gain. -/
def dgTerm (i : Fin 2048) (k : Fin 1024) : EReal := dh m c i k * nrm (xRow m c i) k

/-- Row `r` of block `p`. -/
def rowOf (p : Fin cfg0.N) (r : Fin 256) : Fin 2048 :=
  ⟨p.val * 256 + r, by have h8 : cfg0.N = 8 := N_0; have hp : p.val < cfg0.N := p.isLt; omega⟩

theorem dg_at (acc : Vec Ideal S1x1024 .f32) (z : Fin 1) (k : Fin 1024) (t : Fin cfg0.N) :
    dgBlk m c t acc (View.ld (wt m c) rQkv) (View.ld (wt m c) rX) (View.ld (wt m c) rLow) (View.ld (wt m c) rGates) (ix2 z k)
      = acc (ix2 z k) + ∑ r : Fin 256, dgTerm m c (rowOf t r) k := by
  refine (pay3_at _ _ _ z k).trans (add2 rfl (Finset.sum_congr rfl fun r _ => mul2 (dh_at m c t r (rowOf t r) rfl k) ?_))
  exact congrFun (congrArg nrm (funext fun k => x_at m c t r (rowOf t r) rfl k)) k

/-- The gradient at the gain. -/
def dgv : FVec Ideal S1x1024 .f32 := fun j => ∑ i : Fin 2048, dgTerm m c i (j 1)

theorem dg_final : (dats m 0 c).arrAt 7 (cfgs 0).N = dgv m c := by
  refine (dats m 0 c).arrAt_eq_of_after_last 7 t0_7 (by decide +kernel) _ fun j => ?_
  blk_simp
  idx_vars j
  rw [after0_7, Pipeline.eq_sum_fin_of_reset_step_apply_last (fun n h => (outsAt0 m c n h).2.1) 8 (fun _ => 0)
    (fun p j => ∑ r : Fin 256, dgTerm m c (rowOf p r) (j 1))
    (fun t h j => by
      rw [outsAt0_A m c t h h]
      frame_out
      idx_vars j
      refine (congrFun (congr (congr (congr (congrArg (dgBlk m c t _) (filled m c t rQkv)) (filled m c t rX)) (filled m c t rLow))
        (filled m c t rGates)) _).trans ((dg_at m c _ j0 j1 t).trans (congrArg (· + _) ?_))
      pointwise [k0_pay9])
    (fun t h j => by
      rw [outsAt0_B m c t h h]
      frame_out
      rw [carry, read_unread_whole]
      idx_vars j
      exact dg_at m c _ j0 j1 t)
    (le_of_eq N_0) t0_7 rfl, zero_add]
  exact Fin.sum_mul_add_congr fun t r hl => rfl

/-! ### The reference -/

section Reference

open Cert.Reference5Ideal.Read

variable (X E : FVec Ideal S2048x1024 .f32) (G : FVec Ideal S1x1024 .f32) (W : FVec Ideal S1024x4624 .f32)
  (A4 : FVec Ideal S2048x1536 .f32) (A5 : FVec Ideal S2048x1024 .f32) (A6 : FVec Ideal S2048x16 .f32)
  (A7 : FVec Ideal S2048x2048 .f32)

/-- The four cotangents side by side, in the order of the joint weight's columns. -/
def catRow (a4 : Fin 1536 → EReal) (a5 : Row) (a6 : Fin 16 → EReal) (a7 : Fin 2048 → EReal) (f : Fin 4624) : EReal :=
  if h : (f : ℕ) < 1536 then a4 ⟨f, h⟩ else if h' : (f : ℕ) - 1536 < 16 then a6 ⟨(f : ℕ) - 1536, h'⟩
  else if h'' : (f : ℕ) - 1536 - 16 < 1024 then a5 ⟨(f : ℕ) - 1536 - 16, h''⟩ else a7 ⟨(f : ℕ) - 1536 - 16 - 1024, by omega⟩

/-- The product over the joint columns, group by group. -/
theorem cat_sum (a4 : Fin 1536 → EReal) (a5 : Row) (a6 : Fin 16 → EReal) (a7 : Fin 2048 → EReal) (k : Fin 1024) :
    ∑ f : Fin 4624, catRow a4 a5 a6 a7 f * W (ix2 k f) = dhRow W a4 a5 a6 a7 k := by
  refine (Fin.sum_univ_add (a := 1536) (b := 16 + (1024 + 2048)) fun f : Fin (1536 + (16 + (1024 + 2048))) => catRow a4 a5 a6 a7 f * W (ix2 k f)).trans ?_
  rw [Fin.sum_univ_add (a := 16) (b := 1024 + 2048), Fin.sum_univ_add (a := 1024) (b := 2048)]
  have e4 : ∀ q : Fin 1536, catRow a4 a5 a6 a7 ⟨q, by omega⟩ = a4 q := fun q => dif_pos q.isLt
  have e6 : ∀ q : Fin 16, catRow a4 a5 a6 a7 ⟨1536 + q, by omega⟩ = a6 q := fun q =>
    (dif_neg (show ¬ 1536 + (q : ℕ) < 1536 by omega)).trans ((dif_pos (show 1536 + (q : ℕ) - 1536 < 16 by omega)).trans
      (congrArg a6 (Fin.ext (by show 1536 + (q : ℕ) - 1536 = q; omega))))
  have e5 : ∀ q : Fin 1024, catRow a4 a5 a6 a7 ⟨1552 + q, by omega⟩ = a5 q := fun q =>
    (dif_neg (show ¬ 1552 + (q : ℕ) < 1536 by omega)).trans ((dif_neg (show ¬ 1552 + (q : ℕ) - 1536 < 16 by omega)).trans
      ((dif_pos (show 1552 + (q : ℕ) - 1536 - 16 < 1024 by omega)).trans
      (congrArg a5 (Fin.ext (by show 1552 + (q : ℕ) - 1536 - 16 = q; omega)))))
  have e7 : ∀ q : Fin 2048, catRow a4 a5 a6 a7 ⟨2576 + q, by omega⟩ = a7 q := fun q =>
    (dif_neg (show ¬ 2576 + (q : ℕ) < 1536 by omega)).trans ((dif_neg (show ¬ 2576 + (q : ℕ) - 1536 < 16 by omega)).trans
      ((dif_neg (show ¬ 2576 + (q : ℕ) - 1536 - 16 < 1024 by omega)).trans
      (congrArg a7 (Fin.ext (by show 2576 + (q : ℕ) - 1536 - 16 - 1024 = q; omega)))))
  have s4 : ∑ q : Fin 1536, catRow a4 a5 a6 a7 (Fin.castAdd (16 + (1024 + 2048)) q) * W (ix2 k (Fin.castAdd (16 + (1024 + 2048)) q))
      = ∑ q : Fin 1536, a4 q * W (ix2 k ⟨q, by omega⟩) := Finset.sum_congr rfl fun q _ => mul2 (e4 q) rfl
  have s6 : ∑ q : Fin 16, catRow a4 a5 a6 a7 (Fin.natAdd 1536 (Fin.castAdd (1024 + 2048) q))
        * W (ix2 k (Fin.natAdd 1536 (Fin.castAdd (1024 + 2048) q)))
      = ∑ q : Fin 16, a6 q * W (ix2 k ⟨1536 + q, by omega⟩) := Finset.sum_congr rfl fun q _ => mul2 (e6 q) rfl
  have s5 : ∑ q : Fin 1024, catRow a4 a5 a6 a7 (Fin.natAdd 1536 (Fin.natAdd 16 (Fin.castAdd 2048 q)))
        * W (ix2 k (Fin.natAdd 1536 (Fin.natAdd 16 (Fin.castAdd 2048 q))))
      = ∑ q : Fin 1024, a5 q * W (ix2 k ⟨1552 + q, by omega⟩) := by
    refine Finset.sum_congr rfl fun q _ => ?_
    rw [show Fin.natAdd 1536 (Fin.natAdd 16 (Fin.castAdd 2048 q)) = (⟨1552 + q, by omega⟩ : Fin 4624) from
      Fin.ext (by show 1536 + (16 + (q : ℕ)) = 1552 + q; omega), e5]
  have s7 : ∑ q : Fin 2048, catRow a4 a5 a6 a7 (Fin.natAdd 1536 (Fin.natAdd 16 (Fin.natAdd 1024 q)))
        * W (ix2 k (Fin.natAdd 1536 (Fin.natAdd 16 (Fin.natAdd 1024 q))))
      = ∑ q : Fin 2048, a7 q * W (ix2 k ⟨2576 + q, by omega⟩) := by
    refine Finset.sum_congr rfl fun q _ => ?_
    rw [show Fin.natAdd 1536 (Fin.natAdd 16 (Fin.natAdd 1024 q)) = (⟨2576 + q, by omega⟩ : Fin 4624) from
      Fin.ext (by show 1536 + (16 + (1024 + (q : ℕ))) = 2576 + q; omega), e7]
  refine (add2 s4 (add2 s6 (add2 s5 s7))).trans ?_
  unfold dhRow
  generalize (∑ q : Fin 1536, a4 q * W (ix2 k ⟨q, by omega⟩)) = y4
  generalize (∑ q : Fin 16, a6 q * W (ix2 k ⟨1536 + q, by omega⟩)) = y6
  generalize (∑ q : Fin 1024, a5 q * W (ix2 k ⟨1552 + q, by omega⟩)) = y5
  generalize (∑ q : Fin 2048, a7 q * W (ix2 k ⟨2576 + q, by omega⟩)) = y7
  ac_rfl

theorem v20_at (i : Fin 2048) (f : Fin 4624) : val_main_v20 (F := Ideal) A4 A5 A6 A7 (ix2 i f)
    = catRow (fun q => A4 (ix2 i q)) (fun q => A5 (ix2 i q)) (fun q => A6 (ix2 i q)) (fun q => A7 (ix2 i q)) f := by
  pointwise [val_main_v20, catRow]
/-- The reference's cotangent of the normalised row. -/
theorem v21_at (i : Fin 2048) (k : Fin 1024) : val_main_v21 (F := Ideal) W A4 A5 A6 A7 (ix2 i k)
    = dhRow W (fun q => A4 (ix2 i q)) (fun q => A5 (ix2 i q)) (fun q => A6 (ix2 i q)) (fun q => A7 (ix2 i q)) k := by
  refine Eq.trans ?_ (cat_sum W _ _ _ _ k)
  pointwise [val_main_v21, v20_at]
theorem v6_at (i : Fin 2048) (z : Fin 1) : val_main_v6 (F := Ideal) X (ix2 i z) = msq fun k => X (ix2 i k) := by
  pointwise [val_main_v0, val_main_cst, val_main_v1, val_main_v2, val_main_cst_0, val_main_v3, val_main_v4, val_main_cst_1,
    val_main_v5, val_main_v6, msq]
theorem v7_at (i : Fin 2048) (z : Fin 1) : val_main_v7 (F := Ideal) X (ix2 i z) = rinv fun k => X (ix2 i k) := by
  pointwise [val_main_v7, v6_at, rinv]
theorem v10_at (i : Fin 2048) (z : Fin 1) : val_main_v10 (F := Ideal) X (ix2 i z)
    = cNegHalf * Ideal.div (rinv fun k => X (ix2 i k)) (msq fun k => X (ix2 i k)) := by
  pointwise [val_main_v8, val_main_cst_2, val_main_v9, val_main_v10, v6_at, v7_at]
theorem v12_at (i : Fin 2048) (k : Fin 1024) : val_main_v12 (F := Ideal) X (ix2 i k) = nrm (fun k => X (ix2 i k)) k := by
  pointwise [val_main_v11, val_main_v12, v7_at, nrm]
/-- Its gradient at the gain. -/
theorem v24_at (z : Fin 1) (k : Fin 1024) : val_main_v24 (F := Ideal) X W A4 A5 A6 A7 (ix2 z k)
    = ∑ i : Fin 2048, nrm (fun k => X (ix2 i k)) k * dhRow W (fun q => A4 (ix2 i q)) (fun q => A5 (ix2 i q))
      (fun q => A6 (ix2 i q)) (fun q => A7 (ix2 i q)) k := by
  pointwise [val_main_v22, val_main_cst_3, val_main_v23, val_main_v24, v12_at, v21_at]
theorem v26_at (i : Fin 2048) (k : Fin 1024) : val_main_v26 (F := Ideal) G W A4 A5 A6 A7 (ix2 i k)
    = dhRow W (fun q => A4 (ix2 i q)) (fun q => A5 (ix2 i q)) (fun q => A6 (ix2 i q)) (fun q => A7 (ix2 i q)) k * G (ix2 0 k) := by
  pointwise [val_main_v25, val_main_v26, v21_at]
theorem v36_at (i : Fin 2048) (k : Fin 1024) : val_main_v36 (F := Ideal) X G W A4 A5 A6 A7 (ix2 i k)
    = pullCoef (fun k => X (ix2 i k)) (fun k => dhRow W (fun q => A4 (ix2 i q)) (fun q => A5 (ix2 i q))
      (fun q => A6 (ix2 i q)) (fun q => A7 (ix2 i q)) k * G (ix2 0 k)) := by
  pointwise [val_main_v27, val_main_cst_4, val_main_v28, val_main_v29, val_main_v32,
    val_main_cst_5, val_main_v33, val_main_v34, val_main_cst_6, val_main_v35, val_main_v36, v10_at, v26_at, pullCoef]
  exact Fin.sum_univ_one _
/-- Its gradient at the input. -/
theorem v41_at (i : Fin 2048) (k : Fin 1024) : val_main_v41 (F := Ideal) X E G W A4 A5 A6 A7 (ix2 i k)
    = E (ix2 i k) + normBack (fun k => X (ix2 i k)) (fun k => dhRow W (fun q => A4 (ix2 i q)) (fun q => A5 (ix2 i q))
      (fun q => A6 (ix2 i q)) (fun q => A7 (ix2 i q)) k * G (ix2 0 k)) k := by
  rw [← normPull_eq_normBack]
  pointwise [val_main_v30, val_main_v31, val_main_v37, val_main_v38, val_main_v39, val_main_v40, val_main_v41, v7_at, v26_at,
    v36_at, normPull]

end Reference

/-- Kernel and reference leave the same two arrays. -/
theorem algebraic : Cert.algebraic_Kernel5Ideal_Reference5Ideal := by
  pair_intro
  · run_from Cert.Kernel5Ideal.Value.run_blocks m g
  · refine Idealize.ShloMosaic.θ_run_mono (Cert.Reference5Ideal.Value.run m' g') fun r h c => ?_
    obtain ⟨e0, e1, e2, e3, e4, e5, e6, e7⟩ := hagree c
    refine ⟨(h c).1.trans ((Cert.Reference5Ideal.Read.val_main_v41_eq m' c).trans ?_),
      (h c).2.1.trans ((Cert.Reference5Ideal.Read.val_main_v24_eq _ _ _ _ _ _).trans ?_), (h c).2.2⟩
    · rw [e0, e1, e2, e3, e4, e5, e6, e7, dx_final m c]
      funext i; idx_vars i
      exact v41_at _ _ _ _ _ _ _ _ _ _
    · rw [e0, e3, e4, e5, e6, e7, dg_final m c]
      funext i; idx_vars i
      exact (v24_at _ _ _ _ _ _ _ _).trans (Finset.sum_congr rfl fun i _ => mul_comm _ _)

end Cert.Proof.InProjBwd
-- ==== Proof.Sigmoid.lean ====
/-
  The logistic function over the extended reals, as the kernels compute it: half of one more than the hyperbolic
  tangent of half the argument. It is the logistic function at every extended real, infinities included.
-/
module

public import Idealize.ShloMosaic.PureOps.Ideal
public import Idealize.ShloMosaic.PureOps.Ideal.Laws

@[expose] public section

noncomputable section

namespace Cert.Proof.Sigmoid

open Idealize.ShloMosaic

/-- One half, as the programs print it. -/
abbrev cHalf : EReal := Ideal.ofBits .f32 0x3F000000#32
/-- One, as the programs print it. -/
abbrev cOne : EReal := Ideal.ofBits .f32 0x3F800000#32

/-- The printed half. -/
theorem cHalf_eq : cHalf = ((1 / 2 : ℝ) : EReal) := by
  simp [cHalf, Ideal.ofBits, Ideal.ieee, -EReal.coe_mul]; norm_num

/-- The printed one. -/
theorem cOne_eq : cOne = 1 := by
  simp [cOne, Ideal.ofBits, Ideal.ieee, -EReal.coe_mul]; try norm_num

/-- On the reals the logistic function is half of one more than the hyperbolic tangent at half the argument. -/
theorem real_sigmoid (r : ℝ) : 1 / 2 * (Real.tanh (1 / 2 * r) + 1) = (1 + Real.exp (-r))⁻¹ := by
  obtain ⟨s, hs⟩ : ∃ s, s = 1 / 2 * r := ⟨_, rfl⟩
  have hr : r = s + s := by rw [hs]; ring
  rw [← hs, Real.tanh_eq_sinh_div_cosh, Real.sinh_eq, Real.cosh_eq]
  have h1 : Real.exp (-r) = Real.exp (-s) * Real.exp (-s) := by rw [← Real.exp_add, hr]; ring_nf
  have h2 : Real.exp s * Real.exp (-s) = 1 := by rw [← Real.exp_add]; simp
  have p := Real.exp_pos s
  have q := Real.exp_pos (-s)
  rw [h1]
  generalize Real.exp s = a at *
  generalize Real.exp (-s) = b at *
  field_simp
  linear_combination 2 * b * h2

/-- The kernels' form of the logistic function is the logistic function. -/
theorem sigmoid_eq (x : EReal) : cHalf * (Ideal.tanh (cHalf * x) + cOne) = Ideal.logistic x := by
  rw [cHalf_eq, cOne_eq]
  induction x using EReal.rec with
  | bot =>
    rw [EReal.coe_mul_bot_of_pos (by norm_num)]
    show ((1 / 2 : ℝ) : EReal) * (-1 + 1) = Ideal.div 1 (1 + Ideal.exp (-⊥))
    rw [EReal.neg_bot]
    show ((1 / 2 : ℝ) : EReal) * (-1 + 1) = Ideal.div 1 (1 + ⊤)
    have h : (-1 + 1 : EReal) = 0 := by
      rw [← EReal.coe_one, ← EReal.coe_neg, ← EReal.coe_add]; norm_num
    have h' : (1 + ⊤ : EReal) = ⊤ := by rw [← EReal.coe_one]; exact EReal.coe_add_top 1
    rw [h, mul_zero, h']
    simp [Ideal.div]
  | top =>
    rw [EReal.coe_mul_top_of_pos (by norm_num)]
    show ((1 / 2 : ℝ) : EReal) * (1 + 1) = Ideal.div 1 (1 + Ideal.exp (-⊤))
    rw [EReal.neg_top]
    show ((1 / 2 : ℝ) : EReal) * (1 + 1) = Ideal.div 1 (1 + 0)
    have h : ((1 / 2 : ℝ) : EReal) * (1 + 1) = 1 := by
      rw [← EReal.coe_one, ← EReal.coe_add, ← EReal.coe_mul]; norm_num
    rw [h, add_zero]
    simp [Ideal.div]
  | coe r =>
    have e1 : Ideal.exp (-(r : EReal)) = (Real.exp (-r) : EReal) := by rw [← EReal.coe_neg]; rfl
    have hp : (1 + Real.exp (-r) : ℝ) ≠ 0 := by positivity
    show ((1 / 2 : ℝ) : EReal) * (Ideal.tanh (((1 / 2 : ℝ) : EReal) * r) + 1) = Ideal.div 1 (1 + Ideal.exp (-(r : EReal)))
    rw [e1, ← EReal.coe_mul]
    show ((1 / 2 : ℝ) : EReal) * ((Real.tanh (1 / 2 * r) : ℝ) + 1) = Ideal.div 1 (1 + (Real.exp (-r) : ℝ))
    have l : ((1 / 2 : ℝ) : EReal) * (((Real.tanh (1 / 2 * r) : ℝ) : EReal) + 1)
        = ((1 / 2 * (Real.tanh (1 / 2 * r) + 1) : ℝ) : EReal) := by
      rw [EReal.coe_mul, EReal.coe_add, EReal.coe_one]
    have d : Ideal.div 1 (1 + ((Real.exp (-r) : ℝ) : EReal)) = (((1 + Real.exp (-r))⁻¹ : ℝ) : EReal) := by
      rw [← EReal.coe_one, ← EReal.coe_add, Ideal.div_coe hp, EReal.coe_one, one_mul, one_div]
    rw [l, d, real_sigmoid]

end Cert.Proof.Sigmoid

end
-- ==== Proof.MergeSpec.lean ====
/-
  The gradient of the merge of the two branches in plain formulas, and the reference's side of it: the differentiated
  reference computes these formulas.
-/
module

public import proofs.«01_k».proof.Defs
public import proofs.«01_k».proof.Proof.Norm
public import proofs.«01_k».proof.Proof.Sigmoid
public import proofs.«01_k».proof.Proof.Gen.Reference6Ideal
public import proofs.«01_k».proof.Proof.Gen.Reference6Ideal.Read
public import Idealize.ShloMosaic.Lib.Pointwise
public import Idealize.ShloMosaic.Lib.Pipeline.ValueKit

@[expose] public section

set_option maxRecDepth 16384

noncomputable section

namespace Cert.Proof.MergeSpec

open Idealize.ShloMosaic StableHlo Cert.Proof.Norm Cert.Proof.Sigmoid Cert.Reference6Ideal
open scoped BigOperators

/-! ### The formulas -/

/-- The logistic function, as a host program spells it. -/
def lg (x : EReal) : EReal := Ideal.div cOne (cOne + Ideal.exp (-x))

/-- The kernel's spelling of it. -/
theorem lg_eq (x : EReal) : cHalf * (Ideal.tanh (cHalf * x) + cOne) = lg x := by
  rw [sigmoid_eq, lg, cOne_eq]; rfl

/-- Sums and products of equal terms. -/
theorem add2 {a b c d : EReal} (h : a = b) (h' : c = d) : a + c = b + d := h ▸ h' ▸ rfl
theorem mul2 {a b c d : EReal} (h : a = b) (h' : c = d) : a * c = b * d := h ▸ h' ▸ rfl

/-! The cotangent, the two branches side by side, their gates, the branch weights, the output weight, the gain. -/

variable (D AB : FVec Ideal S2048x1024 .f32) (GAB : FVec Ideal S2048x2048 .f32) (WA WB : FVec Ideal S512x1024 .f32)
  (WO : FVec Ideal S1024x1024 .f32) (G : FVec Ideal S1x1024 .f32) (i : Fin 2048)

/-- The two branches. -/
def la (q : Fin 512) : EReal := AB (ix2 i ⟨q, by omega⟩)
def lb (q : Fin 512) : EReal := AB (ix2 i ⟨512 + q, by omega⟩)
/-- The two gates. -/
def ga (f : Fin 1024) : EReal := lg (GAB (ix2 i ⟨f, by omega⟩))
def gb (f : Fin 1024) : EReal := lg (GAB (ix2 i ⟨1024 + f, by omega⟩))
/-- The two products. -/
def ya (f : Fin 1024) : EReal := ∑ q : Fin 512, la AB i q * WA (ix2 q f)
def yb (f : Fin 1024) : EReal := ∑ q : Fin 512, lb AB i q * WB (ix2 q f)
/-- Their gated sum, and its product with the output weight. -/
def mg (f : Fin 1024) : EReal := ga GAB i f * ya AB WA i f + gb GAB i f * yb AB WB i f
def mx (k : Fin 1024) : EReal := ∑ f : Fin 1024, mg AB GAB WA WB i f * WO (ix2 f k)
/-- The cotangent of that product, back through the normalisation, and of the gated sum. -/
def dmx (k : Fin 1024) : EReal := normBack (mx AB GAB WA WB WO i) (fun k => D (ix2 i k) * G (ix2 0 k)) k
def dmg (f : Fin 1024) : EReal := ∑ k : Fin 1024, dmx D AB GAB WA WB WO G i k * WO (ix2 f k)
/-- The cotangents of the two products. -/
def dya (f : Fin 1024) : EReal := dmg D AB GAB WA WB WO G i f * ga GAB i f
def dyb (f : Fin 1024) : EReal := dmg D AB GAB WA WB WO G i f * gb GAB i f
/-- The gradients at the two gates' arguments. -/
def dga (f : Fin 1024) : EReal := dmg D AB GAB WA WB WO G i f * ya AB WA i f * ga GAB i f * (cOne - ga GAB i f)
def dgb (f : Fin 1024) : EReal := dmg D AB GAB WA WB WO G i f * yb AB WB i f * gb GAB i f * (cOne - gb GAB i f)
/-- The gradients at the two branches. -/
def da (q : Fin 512) : EReal := ∑ f : Fin 1024, dya D AB GAB WA WB WO G i f * WA (ix2 q f)
def db (q : Fin 512) : EReal := ∑ f : Fin 1024, dyb D AB GAB WA WB WO G i f * WB (ix2 q f)

/-- Two rows side by side. -/
def sides {n : ℕ} (a b : Fin n → EReal) (f : Fin (n + n)) : EReal :=
  if h : (f : ℕ) < n then a ⟨f, h⟩ else b ⟨(f : ℕ) - n, by omega⟩
/-- Column `f` of part `j`. -/
def lane (j : Fin 4) (f : Fin 256) : Fin 1024 := ⟨j * 256 + f, by omega⟩

/-- The six gradients. -/
def dgab : FVec Ideal S2048x2048 .bf16 := fun x =>
  sides (n := 1024) (dga D AB GAB WA WB WO G (x 0)) (dgb D AB GAB WA WB WO G (x 0)) (x 1)
def dab : FVec Ideal S2048x1024 .f32 := fun x =>
  sides (n := 512) (da D AB GAB WA WB WO G (x 0)) (db D AB GAB WA WB WO G (x 0)) (x 1)
def dg : FVec Ideal S1x1024 .f32 := fun x => ∑ i : Fin 2048, D (ix2 i (x 1)) * nrm (mx AB GAB WA WB WO i) (x 1)
def dwa : FVec Ideal S4x512x256 .bf16 := fun x =>
  ∑ i : Fin 2048, la AB i (x 1) * dya D AB GAB WA WB WO G i (lane (x 0) (x 2))
def dwb : FVec Ideal S4x512x256 .bf16 := fun x =>
  ∑ i : Fin 2048, lb AB i (x 1) * dyb D AB GAB WA WB WO G i (lane (x 0) (x 2))
def dwo : FVec Ideal S1024x1024 .bf16 := fun x => ∑ i : Fin 2048, mg AB GAB WA WB i (x 0) * dmx D AB GAB WA WB WO G i (x 1)

/-! ### The reference -/

open Cert.Reference6Ideal.Read

theorem v0_at (q : Fin 512) : val_main_v0 (F := Ideal) AB (ix2 i q) = la AB i q := by
  pointwise [val_main_v0, la]
theorem v1_at (q : Fin 512) : val_main_v1 (F := Ideal) AB (ix2 i q) = lb AB i q := by
  pointwise [val_main_v1, lb]
theorem v9_at (f : Fin 1024) : val_main_v9 (F := Ideal) GAB (ix2 i f) = ga GAB i f := by
  pointwise [val_main_v2, val_main_v4, val_main_v5, val_main_cst, val_main_v6, val_main_v7, val_main_cst_0, val_main_v8,
    val_main_v9, ga, lg]
theorem v20_at (f : Fin 1024) : val_main_v20 (F := Ideal) GAB (ix2 i f) = gb GAB i f := by
  pointwise [val_main_v3, val_main_v15, val_main_v16, val_main_cst_2, val_main_v17, val_main_v18, val_main_cst_3,
    val_main_v19, val_main_v20, gb, lg]
theorem v12_at (f : Fin 1024) : val_main_v12 (F := Ideal) GAB (ix2 i f) = ga GAB i f * (cOne - ga GAB i f) := by
  pointwise [val_main_cst_1, val_main_v10, val_main_v11, val_main_v12, v9_at]
theorem v23_at (f : Fin 1024) : val_main_v23 (F := Ideal) GAB (ix2 i f) = gb GAB i f * (cOne - gb GAB i f) := by
  pointwise [val_main_cst_4, val_main_v21, val_main_v22, val_main_v23, v20_at]
theorem v13_at (f : Fin 1024) : val_main_v13 (F := Ideal) AB WA (ix2 i f) = ya AB WA i f := by
  pointwise [val_main_v13, v0_at, ya]
theorem v24_at (f : Fin 1024) : val_main_v24 (F := Ideal) AB WB (ix2 i f) = yb AB WB i f := by
  pointwise [val_main_v24, v1_at, yb]
theorem v26_at (f : Fin 1024) : val_main_v26 (F := Ideal) AB GAB WA WB (ix2 i f) = mg AB GAB WA WB i f := by
  pointwise [val_main_v14, val_main_v25, val_main_v26, v9_at, v20_at, v13_at, v24_at, mg]
theorem v27_at (k : Fin 1024) : val_main_v27 (F := Ideal) AB GAB WA WB WO (ix2 i k) = mx AB GAB WA WB WO i k := by
  pointwise [val_main_v27, v26_at, mx]
theorem v34_at (z : Fin 1) : val_main_v34 (F := Ideal) AB GAB WA WB WO (ix2 i z) = msq (mx AB GAB WA WB WO i) := by
  pointwise [val_main_v28, val_main_cst_5, val_main_v29, val_main_v30, val_main_cst_6, val_main_v31, val_main_v32,
    val_main_cst_7, val_main_v33, val_main_v34, v27_at, msq]
theorem v35_at (z : Fin 1) : val_main_v35 (F := Ideal) AB GAB WA WB WO (ix2 i z) = rinv (mx AB GAB WA WB WO i) := by
  pointwise [val_main_v35, v34_at, rinv]
theorem v38_at (z : Fin 1) : val_main_v38 (F := Ideal) AB GAB WA WB WO (ix2 i z)
    = cNegHalf * Ideal.div (rinv (mx AB GAB WA WB WO i)) (msq (mx AB GAB WA WB WO i)) := by
  pointwise [val_main_v36, val_main_cst_8, val_main_v37, val_main_v38, v34_at, v35_at]
theorem v40_at (k : Fin 1024) : val_main_v40 (F := Ideal) AB GAB WA WB WO (ix2 i k) = nrm (mx AB GAB WA WB WO i) k := by
  pointwise [val_main_v39, val_main_v40, v27_at, v35_at, nrm]
/-- The gradient at the gain. -/
theorem v45_at (z : Fin 1) (k : Fin 1024) : val_main_v45 (F := Ideal) D AB GAB WA WB WO (ix2 z k)
    = ∑ i : Fin 2048, nrm (mx AB GAB WA WB WO i) k * D (ix2 i k) := by
  pointwise [val_main_v43, val_main_cst_9, val_main_v44, val_main_v45, v40_at]
theorem v47_at (k : Fin 1024) : val_main_v47 (F := Ideal) D G (ix2 i k) = D (ix2 i k) * G (ix2 0 k) := by
  pointwise [val_main_v46, val_main_v47]
theorem v57_at (k : Fin 1024) : val_main_v57 (F := Ideal) D AB GAB WA WB WO G (ix2 i k)
    = pullCoef (mx AB GAB WA WB WO i) (fun k => D (ix2 i k) * G (ix2 0 k)) := by
  pointwise [val_main_v48, val_main_cst_10, val_main_v49, val_main_v50, val_main_v53, val_main_cst_11, val_main_v54,
    val_main_v55, val_main_cst_12, val_main_v56, val_main_v57, v27_at, v47_at, v38_at, pullCoef]
  exact Fin.sum_univ_one _
theorem v61_at (k : Fin 1024) : val_main_v61 (F := Ideal) D AB GAB WA WB WO G (ix2 i k) = dmx D AB GAB WA WB WO G i k := by
  rw [dmx, ← normPull_eq_normBack]
  pointwise [val_main_v51, val_main_v52, val_main_v58, val_main_v59, val_main_v60, val_main_v61, v35_at, v47_at, v57_at,
    v27_at, normPull]
theorem v64_at (f : Fin 1024) : val_main_v64 (F := Ideal) D AB GAB WA WB WO G (ix2 i f) = dmg D AB GAB WA WB WO G i f := by
  pointwise [val_main_v64, v61_at, dmg]
theorem v65_at (f : Fin 1024) : val_main_v65 (F := Ideal) D AB GAB WA WB WO G (ix2 i f) = dyb D AB GAB WA WB WO G i f := by
  rw [dyb, mul_comm]
  pointwise [val_main_v65, v20_at, v64_at]
theorem v71_at (f : Fin 1024) : val_main_v71 (F := Ideal) D AB GAB WA WB WO G (ix2 i f) = dya D AB GAB WA WB WO G i f := by
  rw [dya, mul_comm]
  pointwise [val_main_v71, v9_at, v64_at]
theorem v70_at (f : Fin 1024) : val_main_v70 (F := Ideal) D AB GAB WA WB WO G (ix2 i f) = dgb D AB GAB WA WB WO G i f := by
  rw [dgb, mul_assoc]
  pointwise [val_main_v66, val_main_v70, v23_at, v24_at, v64_at]
theorem v76_at (f : Fin 1024) : val_main_v76 (F := Ideal) D AB GAB WA WB WO G (ix2 i f) = dga D AB GAB WA WB WO G i f := by
  rw [dga, mul_assoc]
  pointwise [val_main_v72, val_main_v76, v12_at, v13_at, v64_at]
theorem v69_at (q : Fin 512) : val_main_v69 (F := Ideal) D AB GAB WA WB WO G (ix2 i q) = db D AB GAB WA WB WO G i q := by
  pointwise [val_main_v69, v65_at, db]
theorem v75_at (q : Fin 512) : val_main_v75 (F := Ideal) D AB GAB WA WB WO G (ix2 i q) = da D AB GAB WA WB WO G i q := by
  pointwise [val_main_v75, v71_at, da]
/-- The gradient at the gates. -/
theorem v79_at (f : Fin 2048) : val_main_v79 (F := Ideal) D AB GAB WA WB WO G (ix2 i f)
    = sides (n := 1024) (dga D AB GAB WA WB WO G i) (dgb D AB GAB WA WB WO G i) f := by
  pointwise [val_main_v77, val_main_v79, v70_at, v76_at, sides]
/-- The gradient at the branches. -/
theorem v78_at (f : Fin 1024) : val_main_v78 (F := Ideal) D AB GAB WA WB WO G (ix2 i f)
    = sides (n := 512) (da D AB GAB WA WB WO G i) (db D AB GAB WA WB WO G i) f := by
  pointwise [val_main_v78, v69_at, v75_at, sides]
/-- The gradients at the three weights. -/
theorem v82_at (s : Fin 4) (q : Fin 512) (f : Fin 256) : val_main_v82 (F := Ideal) D AB GAB WA WB WO G (ix3 s q f)
    = ∑ i : Fin 2048, dya D AB GAB WA WB WO G i (lane s f) * la AB i q := by
  pointwise [val_main_v73, val_main_v74, val_main_v80, val_main_v81, val_main_v82, v71_at, v0_at, lane]
theorem v85_at (s : Fin 4) (q : Fin 512) (f : Fin 256) : val_main_v85 (F := Ideal) D AB GAB WA WB WO G (ix3 s q f)
    = ∑ i : Fin 2048, dyb D AB GAB WA WB WO G i (lane s f) * lb AB i q := by
  pointwise [val_main_v67, val_main_v68, val_main_v83, val_main_v84, val_main_v85, v65_at, v1_at, lane]
theorem v86_at (f : Fin 1024) (k : Fin 1024) : val_main_v86 (F := Ideal) D AB GAB WA WB WO G (ix2 f k)
    = ∑ i : Fin 2048, dmx D AB GAB WA WB WO G i k * mg AB GAB WA WB i f := by
  pointwise [val_main_v62, val_main_v63, val_main_v86, v61_at, v26_at]

/-- The reference's six arrays are the six gradients. -/
theorem v79_eq : val_main_v79 (F := Ideal) D AB GAB WA WB WO G = dgab D AB GAB WA WB WO G := by
  funext x; idx_vars x
  exact v79_at D AB GAB WA WB WO G x0 x1
theorem v78_eq : val_main_v78 (F := Ideal) D AB GAB WA WB WO G = dab D AB GAB WA WB WO G := by
  funext x; idx_vars x
  exact v78_at D AB GAB WA WB WO G x0 x1
theorem v45_eq : val_main_v45 (F := Ideal) D AB GAB WA WB WO = dg D AB GAB WA WB WO := by
  funext x; idx_vars x
  exact (v45_at D AB GAB WA WB WO x0 x1).trans (Finset.sum_congr rfl fun i _ => mul_comm _ _)
theorem v82_eq : val_main_v82 (F := Ideal) D AB GAB WA WB WO G = dwa D AB GAB WA WB WO G := by
  funext x; idx_vars x
  exact (v82_at D AB GAB WA WB WO G x0 x1 x2).trans (Finset.sum_congr rfl fun i _ => mul_comm _ _)
theorem v85_eq : val_main_v85 (F := Ideal) D AB GAB WA WB WO G = dwb D AB GAB WA WB WO G := by
  funext x; idx_vars x
  exact (v85_at D AB GAB WA WB WO G x0 x1 x2).trans (Finset.sum_congr rfl fun i _ => mul_comm _ _)
theorem v86_eq : val_main_v86 (F := Ideal) D AB GAB WA WB WO G = dwo D AB GAB WA WB WO G := by
  funext x; idx_vars x
  exact (v86_at D AB GAB WA WB WO G x0 x1).trans (Finset.sum_congr rfl fun i _ => mul_comm _ _)

end Cert.Proof.MergeSpec

end
-- ==== Proof.MergeBlock.lean ====
/-
  The gradient of the merge of the two branches: what the kernel's body computes at one block of 256 rows, and what the
  blocks it reads hold.
-/
module

public import proofs.«01_k».proof.Defs
public import proofs.«01_k».proof.Proof.Norm
public import proofs.«01_k».proof.Proof.Sigmoid
public import proofs.«01_k».proof.Proof.MergeSpec
public import proofs.«01_k».proof.Proof.Gen.Kernel6Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.MergeBlock

open Idealize.ShloMosaic Idealize.ShloMosaic.TcCoe Idealize.SL.Sem StableHlo Cert.Proof.Norm Cert.Proof.Sigmoid
open Cert.Proof.MergeSpec (lg lg_eq add2 mul2 lane sides)
open Cert.Kernel6Ideal Cert.Kernel6Ideal.Gen
open scoped BigOperators

/-- The windows' block indices. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0]
    ∧ win0_6.index t = ![0, 0, 0] ∧ win0_7.index t = ![0, 0] ∧ win0_8.index t = ![0, 0] ∧ win0_9.index t = ![t.val, 0]
    ∧ win0_10.index t = ![t.val, 0] ∧ win0_11.index t = ![0, 0] ∧ win0_12.index t = ![0, 0, 0]
    ∧ win0_13.index t = ![0, 0, 0] ∧ win0_14.index t = ![0, 0] :=
  (by decide +kernel : ∀ t : Fin grid0.N, _)

/-- The kernel's logistic function. -/
def sg (x : EReal) : EReal := cHalf * (Ideal.tanh (cHalf * x) + cOne)

/-! ### The body's values -/

section Values

variable (d x : Vec Ideal S256x1024 .f32) (g : Vec Ideal S1x1024 .f32) (v36 : Vec Ideal S256x1024 .bf16)
  (wo : Vec Ideal S1024x1024 .bf16) (v47 : Vec Ideal S256x1024 .f32) (p u y s : Vec Ideal S256x256 .f32)
  (a : Vec Ideal S256x512 .bf16) (w : Vec Ideal S1x512x256 .bf16) (e : Vec Ideal S256x512 .f32)
  (z0 z1 z2 z3 : Vec Ideal S256x256 .bf16) (r : Fin 256) (k : Fin 1024) (f : Fin 256) (q : Fin 512)

theorem pay22_at : k0_pay22 (F := Ideal) d x g (ix2 r k)
    = normBack (fun k => x (ix2 r k)) (fun k => d (ix2 r k) * g (ix2 0 k)) k := by
  pointwise [k0_pay22, k0_pay20, k0_pay19, k0_pay18, normBack, nrm, rinv, msq]
theorem pay21_at (acc : Vec Ideal S1x1024 .f32) (z : Fin 1) : k0_pay21 (F := Ideal) d x acc (ix2 z k)
    = acc (ix2 z k) + ∑ r : Fin 256, d (ix2 r k) * nrm (fun k => x (ix2 r k)) k := by
  pointwise [k0_pay21, k0_pay20, k0_pay19, k0_pay18, nrm, rinv, msq]
theorem pay23_at (acc : Vec Ideal S1024x1024 .f32) (v38 : Vec Ideal S256x1024 .bf16) (k' : Fin 1024) :
    k0_pay23 (F := Ideal) v36 acc v38 (ix2 k k') = acc (ix2 k k') + ∑ r : Fin 256, v38 (ix2 r k) * v36 (ix2 r k') := by
  pointwise [k0_pay23]
theorem pay24_at : k0_pay24 (F := Ideal) v36 wo (ix2 r k) = ∑ k', v36 (ix2 r k') * wo (ix2 k k') := by
  pointwise [k0_pay24]
theorem pay29_at : k0_pay29 (F := Ideal) v36 wo (ix2 r f) = ∑ k', v36 (ix2 r k') * wo (ix2 (lane 0 f) k') := by
  pointwise [k0_pay29, k0_pay24, lane]
theorem pay40_at : k0_pay40 (F := Ideal) v47 (ix2 r f) = v47 (ix2 r (lane 1 f)) := by
  pointwise [k0_pay40, lane]
theorem pay49_at : k0_pay49 (F := Ideal) v47 (ix2 r f) = v47 (ix2 r (lane 2 f)) := by
  pointwise [k0_pay49, lane]
theorem pay61_at : k0_pay61 (F := Ideal) v47 (ix2 r f) = v47 (ix2 r (lane 3 f)) := by
  pointwise [k0_pay61, lane]
theorem pay25_at : k0_pay25 (F := Ideal) a (ix2 r q) = a (ix2 r q) := by
  pointwise [k0_pay25]
theorem pay26_at : k0_pay26 (F := Ideal) a (ix2 r q) = a (ix2 r q) := by
  pointwise [k0_pay26]
/-- The gates' logistic functions. -/
theorem pay32_at : k0_pay32 (F := Ideal) u (ix2 r f) = lg (u (ix2 r f)) := by
  refine Eq.trans ?_ (lg_eq _)
  pointwise [k0_pay32]
theorem pay33_at : k0_pay33 (F := Ideal) u (ix2 r f) = lg (u (ix2 r f)) := by
  refine Eq.trans ?_ (lg_eq _)
  pointwise [k0_pay33]
theorem pay41_at : k0_pay41 (F := Ideal) u (ix2 r f) = lg (u (ix2 r f)) := by
  refine Eq.trans ?_ (lg_eq _)
  pointwise [k0_pay41]
theorem pay42_at : k0_pay42 (F := Ideal) u (ix2 r f) = lg (u (ix2 r f)) := by
  refine Eq.trans ?_ (lg_eq _)
  pointwise [k0_pay42]
theorem pay52_at : k0_pay52 (F := Ideal) u (ix2 r f) = lg (u (ix2 r f)) := by
  refine Eq.trans ?_ (lg_eq _)
  pointwise [k0_pay52]
theorem pay53_at : k0_pay53 (F := Ideal) u (ix2 r f) = lg (u (ix2 r f)) := by
  refine Eq.trans ?_ (lg_eq _)
  pointwise [k0_pay53]
theorem pay65_at : k0_pay65 (F := Ideal) u (ix2 r f) = lg (u (ix2 r f)) := by
  refine Eq.trans ?_ (lg_eq _)
  pointwise [k0_pay65]
theorem pay64_at : k0_pay64 (F := Ideal) u (FloatOps.ofBits .f32 0x3F000000#32) (ix2 r f) = lg (u (ix2 r f)) := by
  refine Eq.trans ?_ (lg_eq _)
  pointwise [k0_pay64]
theorem pay64_at' : k0_pay64 (F := Ideal) u (Ideal.ofBits .f32 0x3F000000#32) (ix2 r f) = lg (u (ix2 r f)) :=
  pay64_at u r f
/-- The products of a block of branch rows with a part of the weight. -/
theorem pay30_at : k0_pay30 (F := Ideal) a w (ix2 r f) = ∑ q, a (ix2 r q) * w (ix3 0 q f) := by
  pointwise [k0_pay30, k0_pay25]
theorem pay31_at : k0_pay31 (F := Ideal) a w (ix2 r f) = ∑ q, a (ix2 r q) * w (ix3 0 q f) := by
  pointwise [k0_pay31, k0_pay26]
theorem pay50_at : k0_pay50 (F := Ideal) a w (ix2 r f) = ∑ q, a (ix2 r q) * w (ix3 0 q f) := by
  pointwise [k0_pay50]
theorem pay51_at : k0_pay51 (F := Ideal) a w (ix2 r f) = ∑ q, a (ix2 r q) * w (ix3 0 q f) := by
  pointwise [k0_pay51]
theorem pay62_at : k0_pay62 (F := Ideal) a w (ix2 r f) = ∑ q, a (ix2 r q) * w (ix3 0 q f) := by
  pointwise [k0_pay62]
theorem pay63_at : k0_pay63 (F := Ideal) a w (ix2 r f) = ∑ q, a (ix2 r q) * w (ix3 0 q f) := by
  pointwise [k0_pay63]
/-- The cotangents of the two products. -/
theorem pay34_at : k0_pay34 (F := Ideal) p s (ix2 r f) = p (ix2 r f) * s (ix2 r f) := by
  pointwise [k0_pay34]
theorem pay56_at : k0_pay56 (F := Ideal) p s (ix2 r f) = p (ix2 r f) * s (ix2 r f) := by
  pointwise [k0_pay56]
theorem pay35_at : k0_pay35 (F := Ideal) p u (ix2 r f) = p (ix2 r f) * lg (u (ix2 r f)) := by
  pointwise [k0_pay35, pay33_at]
theorem pay43_at : k0_pay43 (F := Ideal) p u (ix2 r f) = p (ix2 r f) * lg (u (ix2 r f)) := by
  pointwise [k0_pay43, pay41_at]
theorem pay44_at : k0_pay44 (F := Ideal) p u (ix2 r f) = p (ix2 r f) * lg (u (ix2 r f)) := by
  pointwise [k0_pay44, pay42_at]
theorem pay67_at : k0_pay67 (F := Ideal) p u (ix2 r f) = p (ix2 r f) * lg (u (ix2 r f)) := by
  pointwise [k0_pay67, pay65_at]
theorem pay55_at : k0_pay55 (F := Ideal) (k0_pay54 v47 u) (ix2 r f) = v47 (ix2 r (lane 2 f)) * lg (u (ix2 r f)) := by
  pointwise [k0_pay55, k0_pay54, pay49_at, pay52_at]
theorem pay66_at : k0_pay66 (F := Ideal) p u (FloatOps.ofBits .f32 0x3F000000#32) (ix2 r f)
    = p (ix2 r f) * lg (u (ix2 r f)) := by
  pointwise [k0_pay66, pay64_at']
/-- The gradients at the gates' arguments. -/
theorem pay36_at : k0_pay36 (F := Ideal) p y s (ix2 r f)
    = p (ix2 r f) * y (ix2 r f) * s (ix2 r f) * (cOne - s (ix2 r f)) := by
  pointwise [k0_pay36]
theorem pay57_at : k0_pay57 (F := Ideal) p y s (ix2 r f)
    = p (ix2 r f) * y (ix2 r f) * s (ix2 r f) * (cOne - s (ix2 r f)) := by
  pointwise [k0_pay57]
theorem pay58_at : k0_pay58 (F := Ideal) p y s (ix2 r f)
    = p (ix2 r f) * y (ix2 r f) * s (ix2 r f) * (cOne - s (ix2 r f)) := by
  pointwise [k0_pay58]
theorem pay37_at : k0_pay37 (F := Ideal) p y u (ix2 r f)
    = p (ix2 r f) * y (ix2 r f) * lg (u (ix2 r f)) * (cOne - lg (u (ix2 r f))) := by
  pointwise [k0_pay37, pay33_at]
theorem pay69_at : k0_pay69 (F := Ideal) p y u (ix2 r f)
    = p (ix2 r f) * y (ix2 r f) * lg (u (ix2 r f)) * (cOne - lg (u (ix2 r f))) := by
  pointwise [k0_pay69, pay65_at]
theorem pay68_at : k0_pay68 (F := Ideal) p y u (FloatOps.ofBits .f32 0x3F000000#32) (ix2 r f)
    = p (ix2 r f) * y (ix2 r f) * lg (u (ix2 r f)) * (cOne - lg (u (ix2 r f))) := by
  pointwise [k0_pay68, pay64_at']
theorem pay45_at : k0_pay45 (F := Ideal) a p w u (ix2 r f)
    = p (ix2 r f) * (∑ q, a (ix2 r q) * w (ix3 0 q f)) * lg (u (ix2 r f)) * (cOne - lg (u (ix2 r f))) := by
  pointwise [k0_pay45, pay41_at]
theorem pay46_at : k0_pay46 (F := Ideal) a p w u (ix2 r f)
    = p (ix2 r f) * (∑ q, a (ix2 r q) * w (ix3 0 q f)) * lg (u (ix2 r f)) * (cOne - lg (u (ix2 r f))) := by
  pointwise [k0_pay46, pay42_at]
/-- The sums of the gradients at the branches: one part more. -/
theorem pay47_at : k0_pay47 (F := Ideal) e z0 w (ix2 r q) = e (ix2 r q) + ∑ f, z0 (ix2 r f) * w (ix3 0 q f) := by
  pointwise [k0_pay47]
theorem pay48_at : k0_pay48 (F := Ideal) e z0 w (ix2 r q) = e (ix2 r q) + ∑ f, z0 (ix2 r f) * w (ix3 0 q f) := by
  pointwise [k0_pay48]
theorem pay1_at : k0_pay1 (F := Ideal) e z0 w (ix2 r q) = e (ix2 r q) + ∑ f, z0 (ix2 r f) * w (ix3 0 q f) := by
  pointwise [k0_pay1]
theorem pay59_at : k0_pay59 (F := Ideal) e p w (ix2 r q)
    = e (ix2 r q) + ∑ f, k0_pay55 (F := Ideal) p (ix2 r f) * w (ix3 0 q f) := by
  pointwise [k0_pay59]
theorem pay38_at : k0_pay38 (F := Ideal) k0_pay27 p s w (ix2 r q)
    = (0 : EReal) + ∑ f, k0_pay34 (F := Ideal) p s (ix2 r f) * w (ix3 0 q f) := by
  pointwise [k0_pay38, k0_pay27]
theorem pay39_at : k0_pay39 (F := Ideal) k0_pay28 p u w (ix2 r q)
    = (0 : EReal) + ∑ f, k0_pay35 (F := Ideal) p u (ix2 r f) * w (ix3 0 q f) := by
  pointwise [k0_pay39, k0_pay28]
theorem pay60_at : k0_pay60 (F := Ideal) e p s w (ix2 r q)
    = e (ix2 r q) + ∑ f, k0_pay56 (F := Ideal) p s (ix2 r f) * w (ix3 0 q f) := by
  pointwise [k0_pay60]
theorem pay70_at : k0_pay70 (F := Ideal) e p u (FloatOps.ofBits .f32 0x3F000000#32) w (ix2 r q)
    = e (ix2 r q) + ∑ f, k0_pay66 (F := Ideal) p u (FloatOps.ofBits .f32 0x3F000000#32) (ix2 r f) * w (ix3 0 q f) := by
  pointwise [k0_pay70]

/-- Four parts side by side. -/
def parts (a0 a1 a2 a3 : Fin 256 → EReal) (f : Fin 1024) : EReal :=
  if h : (f : ℕ) < 256 then a0 ⟨f, h⟩ else if h' : (f : ℕ) - 256 < 256 then a1 ⟨(f : ℕ) - 256, h'⟩
  else if h'' : (f : ℕ) - 256 - 256 < 256 then a2 ⟨(f : ℕ) - 256 - 256, h''⟩ else a3 ⟨(f : ℕ) - 256 - 256 - 256, by omega⟩

/-- The parts of a row make the row. -/
theorem parts_eq (a0 a1 a2 a3 : Fin 256 → EReal) (y : Fin 1024 → EReal) (h0 : ∀ f, a0 f = y (lane 0 f))
    (h1 : ∀ f, a1 f = y (lane 1 f)) (h2 : ∀ f, a2 f = y (lane 2 f)) (h3 : ∀ f, a3 f = y (lane 3 f)) (f : Fin 1024) :
    parts a0 a1 a2 a3 f = y f := by
  unfold parts
  split
  · rename_i h
    exact (h0 _).trans (congrArg y (Fin.ext (by show 0 * 256 + (f : ℕ) = f; omega)))
  split
  · rename_i h h'
    exact (h1 _).trans (congrArg y (Fin.ext (by show 1 * 256 + ((f : ℕ) - 256) = f; omega)))
  split
  · rename_i h h' h''
    exact (h2 _).trans (congrArg y (Fin.ext (by show 2 * 256 + ((f : ℕ) - 256 - 256) = f; omega)))
  · rename_i h h' h''
    exact (h3 _).trans (congrArg y (Fin.ext (by show 3 * 256 + ((f : ℕ) - 256 - 256 - 256) = f; omega)))

/-- The sums of the branch weights' gradients: one block more. -/
theorem pay2_at (acc : Vec Ideal S512x1024 .f32) : k0_pay2 (F := Ideal) a z0 z1 z2 z3 acc (ix2 q k)
    = acc (ix2 q k) + ∑ r : Fin 256, a (ix2 r q) * parts (fun f => z0 (ix2 r f)) (fun f => z1 (ix2 r f))
      (fun f => z2 (ix2 r f)) (fun f => z3 (ix2 r f)) k := by
  pointwise [k0_pay2, parts]
theorem pay3_at (acc : Vec Ideal S512x1024 .f32) : k0_pay3 (F := Ideal) a z0 z1 z2 z3 acc (ix2 q k)
    = acc (ix2 q k) + ∑ r : Fin 256, a (ix2 r q) * parts (fun f => z0 (ix2 r f)) (fun f => z1 (ix2 r f))
      (fun f => z2 (ix2 r f)) (fun f => z3 (ix2 r f)) k := by
  pointwise [k0_pay3, parts]

/-- The parts of a sum over the columns. -/
theorem sum_parts (y : Fin 1024 → EReal) : (0 : EReal) + (∑ f, y (lane 0 f)) + (∑ f, y (lane 1 f)) + (∑ f, y (lane 2 f))
    + ∑ f, y (lane 3 f) = ∑ f, y f := by
  have h := Fin.sum_univ_add (a := 256) (b := 256 + (256 + 256)) fun f : Fin (256 + (256 + (256 + 256))) => y f
  rw [Fin.sum_univ_add (a := 256) (b := 256 + 256), Fin.sum_univ_add (a := 256) (b := 256)] at h
  refine Eq.trans ?_ h.symm
  rw [zero_add, add_assoc, add_assoc]
  refine add2 (Finset.sum_congr rfl fun f _ => congrArg y (Fin.ext ?_)) (add2 (Finset.sum_congr rfl fun f _ => congrArg y
    (Fin.ext ?_)) (add2 (Finset.sum_congr rfl fun f _ => congrArg y (Fin.ext ?_)) (Finset.sum_congr rfl fun f _ => congrArg y
    (Fin.ext ?_))))
  · show 0 * 256 + (f : ℕ) = f; omega
  · show 1 * 256 + (f : ℕ) = 256 + f; omega
  · show 2 * 256 + (f : ℕ) = 256 + (256 + f); omega
  · show 3 * 256 + (f : ℕ) = 256 + (256 + (256 + f)); omega

end Values

/-! ### The blocks -/

variable (m : (ℓ : Loc nD τ sig) → Buf (Elt Ideal) ℓ) (c : Dev nD) (t : Fin cfg0.N)

/-- The seven arguments. -/
abbrev aD : FVec Ideal S2048x1024 .f32 := m ((c : Thread nD τ).loc main_arg0)
abbrev aAB : FVec Ideal S2048x1024 .f32 := m ((c : Thread nD τ).loc main_arg1)
abbrev aGAB : FVec Ideal S2048x2048 .f32 := m ((c : Thread nD τ).loc main_arg2)
abbrev aWA : FVec Ideal S512x1024 .f32 := m ((c : Thread nD τ).loc main_arg3)
abbrev aWB : FVec Ideal S512x1024 .f32 := m ((c : Thread nD τ).loc main_arg4)
abbrev aWO : FVec Ideal S1024x1024 .f32 := m ((c : Thread nD τ).loc main_arg5)
abbrev aG : FVec Ideal S1x1024 .f32 := m ((c : Thread nD τ).loc main_arg6)

/-- The formulas at these arguments. -/
abbrev La := MergeSpec.la (aAB m c)
abbrev Lb := MergeSpec.lb (aAB m c)
abbrev Ga := MergeSpec.ga (aGAB m c)
abbrev Gb := MergeSpec.gb (aGAB m c)
abbrev Ya := MergeSpec.ya (aAB m c) (aWA m c)
abbrev Yb := MergeSpec.yb (aAB m c) (aWB m c)
abbrev Mg := MergeSpec.mg (aAB m c) (aGAB m c) (aWA m c) (aWB m c)
abbrev Mx := MergeSpec.mx (aAB m c) (aGAB m c) (aWA m c) (aWB m c) (aWO m c)
abbrev Dmx := MergeSpec.dmx (aD m c) (aAB m c) (aGAB m c) (aWA m c) (aWB m c) (aWO m c) (aG m c)
abbrev Dmg := MergeSpec.dmg (aD m c) (aAB m c) (aGAB m c) (aWA m c) (aWB m c) (aWO m c) (aG m c)
abbrev Dya := MergeSpec.dya (aD m c) (aAB m c) (aGAB m c) (aWA m c) (aWB m c) (aWO m c) (aG m c)
abbrev Dyb := MergeSpec.dyb (aD m c) (aAB m c) (aGAB m c) (aWA m c) (aWB m c) (aWO m c) (aG m c)
abbrev Dga := MergeSpec.dga (aD m c) (aAB m c) (aGAB m c) (aWA m c) (aWB m c) (aWO m c) (aG m c)
abbrev Dgb := MergeSpec.dgb (aD m c) (aAB m c) (aGAB m c) (aWA m c) (aWB m c) (aWO m c) (aG m c)
abbrev Da := MergeSpec.da (aD m c) (aAB m c) (aGAB m c) (aWA m c) (aWB m c) (aWO m c) (aG m c)
abbrev Db := MergeSpec.db (aD m c) (aAB m c) (aGAB m c) (aWA m c) (aWB m c) (aWO m c) (aG m c)

theorem mg_host (i : Fin 2048) (f : Fin 1024) : (V m c main_v23 : Vec Ideal S2048x1024 .bf16) (ix2 i f) = Mg m c i f := by
  entry_read
  pointwise [MergeSpec.mg, MergeSpec.ga, MergeSpec.gb, MergeSpec.ya, MergeSpec.yb, MergeSpec.la, MergeSpec.lb, MergeSpec.lg]
theorem mx_host (i : Fin 2048) (k : Fin 1024) : (V m c main_v21 : Vec Ideal S2048x1024 .f32) (ix2 i k) = Mx m c i k := by
  entry_read
  pointwise [MergeSpec.mx, MergeSpec.mg, MergeSpec.ga, MergeSpec.gb, MergeSpec.ya, MergeSpec.yb, MergeSpec.la,
    MergeSpec.lb, MergeSpec.lg]
theorem ab_host (i : Fin 2048) (q : Fin 1024) : (V m c main_v22 : Vec Ideal S2048x1024 .bf16) (ix2 i q) = aAB m c (ix2 i q) := by
  entry_read
  pointwise
theorem wa_host (s : Fin 4) (q : Fin 512) (f : Fin 256) : (V m c main_v26 : Vec Ideal S4x512x256 .bf16) (ix3 s q f)
    = aWA m c (ix2 q (lane s f)) := by
  entry_read
  pointwise [lane]
theorem wb_host (s : Fin 4) (q : Fin 512) (f : Fin 256) : (V m c main_v29 : Vec Ideal S4x512x256 .bf16) (ix3 s q f)
    = aWB m c (ix2 q (lane s f)) := by
  entry_read
  pointwise [lane]
theorem wo_host (f k : Fin 1024) : (V m c main_v30 : Vec Ideal S1024x1024 .bf16) (ix2 f k) = aWO m c (ix2 f k) := by
  entry_read
  pointwise

/-- A block's row. -/
def rowOf (p : Fin cfg0.N) (r : Fin 256) : Fin 2048 :=
  ⟨p.val * 256 + r, by have h8 : cfg0.N = 8 := N_0; have hp : p.val < cfg0.N := p.isLt; omega⟩

/-- The blocks of the nine windows. -/
theorem d_at (r : Fin 256) (k : Fin 1024) : (iblk m c 0 t : Vec Ideal S256x1024 .f32) (ix2 r k) = aD m c (ix2 (rowOf t r) k) := by
  blk_point [iblk, V, idx t]
  rfl
theorem mx_at (r : Fin 256) (k : Fin 1024) : (iblk m c 1 t : Vec Ideal S256x1024 .f32) (ix2 r k) = Mx m c (rowOf t r) k := by
  refine Eq.trans ?_ (mx_host m c (rowOf t r) k)
  blk_ext [iblk, idx t]
  rfl
theorem ab_at (r : Fin 256) (k : Fin 1024) : (iblk m c 2 t : Vec Ideal S256x1024 .bf16) (ix2 r k) = aAB m c (ix2 (rowOf t r) k) := by
  refine Eq.trans ?_ (ab_host m c (rowOf t r) k)
  blk_ext [iblk, idx t]
  rfl
theorem gab_at (r : Fin 256) (f : Fin 2048) : (iblk m c 3 t : Vec Ideal S256x2048 .f32) (ix2 r f) = aGAB m c (ix2 (rowOf t r) f) := by
  blk_point [iblk, V, idx t]
  rfl
theorem mg_at (r : Fin 256) (f : Fin 1024) : (iblk m c 4 t : Vec Ideal S256x1024 .bf16) (ix2 r f) = Mg m c (rowOf t r) f := by
  refine Eq.trans ?_ (mg_host m c (rowOf t r) f)
  blk_ext [iblk, idx t]
  rfl
theorem wa_at (s : Fin 4) (q : Fin 512) (f : Fin 256) : (iblk m c 5 t : Vec Ideal S4x512x256 .bf16) (ix3 s q f)
    = aWA m c (ix2 q (lane s f)) := by
  refine Eq.trans ?_ (wa_host m c s q f)
  blk_ext [iblk, idx t]
theorem wb_at (s : Fin 4) (q : Fin 512) (f : Fin 256) : (iblk m c 6 t : Vec Ideal S4x512x256 .bf16) (ix3 s q f)
    = aWB m c (ix2 q (lane s f)) := by
  refine Eq.trans ?_ (wb_host m c s q f)
  blk_ext [iblk, idx t]
theorem wo_at (f k : Fin 1024) : (iblk m c 7 t : Vec Ideal S1024x1024 .bf16) (ix2 f k) = aWO m c (ix2 f k) := by
  refine Eq.trans ?_ (wo_host m c f k)
  blk_ext [iblk, idx t]
theorem g_at (k : Fin 1024) : (iblk m c 8 t : Vec Ideal S1x1024 .f32) (ix2 0 k) = aG m c (ix2 0 k) := by
  blk_point [iblk, V, idx t]

end Cert.Proof.MergeBlock
-- ==== Proof.MergeBwd.lean ====
/-
  The gradient of the merge of the two branches: the kernel goes over the rows in blocks of 256 and over the columns of
  the gated sum in four parts; it adds up the weights' gradients over the blocks and stores them at the last one. The
  reference differentiates the merge.
-/
module

public import proofs.«01_k».proof.Defs
public import proofs.«01_k».proof.Proof.Norm
public import proofs.«01_k».proof.Proof.Sigmoid
public import proofs.«01_k».proof.Proof.MergeSpec
public import proofs.«01_k».proof.Proof.MergeBlock
public import proofs.«01_k».proof.Proof.Gen.Kernel6Ideal.Value
public import proofs.«01_k».proof.Proof.Gen.Reference6Ideal
public import proofs.«01_k».proof.Proof.Gen.Reference6Ideal.Read
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.Proof.MergeBwd

open Idealize.ShloMosaic Idealize.ShloMosaic.TcCoe Idealize.SL.Sem StableHlo Cert.Proof.Norm Cert.Proof.Sigmoid
open Cert.Proof.MergeBlock
open Cert.Proof.MergeSpec (lg lg_eq add2 mul2 lane sides)
open Cert.Kernel6Ideal Cert.Kernel6Ideal.Gen
open scoped BigOperators

variable (m : (ℓ : Loc nD τ sig) → Buf (Elt Ideal) ℓ) (c : Dev nD) (t : Fin cfg0.N)

/-! ### The loads -/

theorem ldgA0 (Y : Vec Ideal S256x2048 .f32) (r f : Fin 256) :
    View.ld Y (Rect.unit ![0, 0] ![256, 256] inb_S256x2048_S256x256_0_0) (ix2 r f) = Y (ix2 r ⟨(lane 0 f : ℕ), by omega⟩) := by
  pointwise [lane]
theorem ldgA1 (Y : Vec Ideal S256x2048 .f32) (r f : Fin 256) :
    View.ld Y (Rect.unit ![0, 256] ![256, 256] inb_S256x2048_S256x256_0_256) (ix2 r f) = Y (ix2 r ⟨(lane 1 f : ℕ), by omega⟩) := by
  pointwise [lane]
theorem ldgA2 (Y : Vec Ideal S256x2048 .f32) (r f : Fin 256) :
    View.ld Y (Rect.unit ![0, 512] ![256, 256] inb_S256x2048_S256x256_0_512) (ix2 r f) = Y (ix2 r ⟨(lane 2 f : ℕ), by omega⟩) := by
  pointwise [lane]
theorem ldgA3 (Y : Vec Ideal S256x2048 .f32) (r f : Fin 256) :
    View.ld Y (Rect.unit ![0, 768] ![256, 256] inb_S256x2048_S256x256_0_768) (ix2 r f) = Y (ix2 r ⟨(lane 3 f : ℕ), by omega⟩) := by
  pointwise [lane]
theorem ldgB0 (Y : Vec Ideal S256x2048 .f32) (r f : Fin 256) :
    View.ld Y (Rect.unit ![0, 1024] ![256, 256] inb_S256x2048_S256x256_0_1024) (ix2 r f) = Y (ix2 r ⟨1024 + (lane 0 f : ℕ), by omega⟩) := by
  pointwise [lane]
theorem ldgB1 (Y : Vec Ideal S256x2048 .f32) (r f : Fin 256) :
    View.ld Y (Rect.unit ![0, 1280] ![256, 256] inb_S256x2048_S256x256_0_1280) (ix2 r f) = Y (ix2 r ⟨1024 + (lane 1 f : ℕ), by omega⟩) := by
  refine Eq.trans (b := Y (ix2 r ⟨1280 + f, by omega⟩)) (by pointwise) (congrArg (fun k => Y (ix2 r k)) (Fin.ext ?_))
  show 1280 + (f : ℕ) = 1024 + (1 * 256 + f)
  omega
theorem ldgB2 (Y : Vec Ideal S256x2048 .f32) (r f : Fin 256) :
    View.ld Y (Rect.unit ![0, 1536] ![256, 256] inb_S256x2048_S256x256_0_1536) (ix2 r f) = Y (ix2 r ⟨1024 + (lane 2 f : ℕ), by omega⟩) := by
  refine Eq.trans (b := Y (ix2 r ⟨1536 + f, by omega⟩)) (by pointwise) (congrArg (fun k => Y (ix2 r k)) (Fin.ext ?_))
  show 1536 + (f : ℕ) = 1024 + (2 * 256 + f)
  omega
theorem ldgB3 (Y : Vec Ideal S256x2048 .f32) (r f : Fin 256) :
    View.ld Y (Rect.unit ![0, 1792] ![256, 256] inb_S256x2048_S256x256_0_1792) (ix2 r f) = Y (ix2 r ⟨1024 + (lane 3 f : ℕ), by omega⟩) := by
  refine Eq.trans (b := Y (ix2 r ⟨1792 + f, by omega⟩)) (by pointwise) (congrArg (fun k => Y (ix2 r k)) (Fin.ext ?_))
  show 1792 + (f : ℕ) = 1024 + (3 * 256 + f)
  omega
theorem ldw0 (Y : Vec Ideal S4x512x256 .bf16) (q : Fin 512) (f : Fin 256) :
    View.ld Y (Rect.unit ![0, 0, 0] ![1, 512, 256] inb_S4x512x256_S1x512x256_0_0_0) (ix3 0 q f) = Y (ix3 0 q f) := by
  pointwise
theorem ldw1 (Y : Vec Ideal S4x512x256 .bf16) (q : Fin 512) (f : Fin 256) :
    View.ld Y (Rect.unit ![1, 0, 0] ![1, 512, 256] inb_S4x512x256_S1x512x256_1_0_0) (ix3 0 q f) = Y (ix3 1 q f) := by
  pointwise
theorem ldw2 (Y : Vec Ideal S4x512x256 .bf16) (q : Fin 512) (f : Fin 256) :
    View.ld Y (Rect.unit ![2, 0, 0] ![1, 512, 256] inb_S4x512x256_S1x512x256_2_0_0) (ix3 0 q f) = Y (ix3 2 q f) := by
  pointwise
theorem ldw3 (Y : Vec Ideal S4x512x256 .bf16) (q : Fin 512) (f : Fin 256) :
    View.ld Y (Rect.unit ![3, 0, 0] ![1, 512, 256] inb_S4x512x256_S1x512x256_3_0_0) (ix3 0 q f) = Y (ix3 3 q f) := by
  pointwise
theorem ldA (Y : Vec Ideal S256x1024 .bf16) (r : Fin 256) (q : Fin 512) :
    View.ld Y (Rect.unit ![0, 0] ![256, 512] inb_S256x1024_S256x512_0_0) (ix2 r q) = Y (ix2 r ⟨q, by omega⟩) := by
  pointwise
theorem ldB (Y : Vec Ideal S256x1024 .bf16) (r : Fin 256) (q : Fin 512) :
    View.ld Y (Rect.unit ![0, 512] ![256, 512] inb_S256x1024_S256x512_0_512) (ix2 r q) = Y (ix2 r ⟨512 + q, by omega⟩) := by
  pointwise

/-! ### One block -/

/-- The block's values, as the body composes them: the cotangents of the output product and of the gated sum, and the
    latter's four parts. -/
abbrev eX : Vec Ideal S256x1024 .bf16 := k0_pay22 (F := Ideal) (iblk m c 0 t) (iblk m c 1 t) (iblk m c 8 t)
abbrev eM : Vec Ideal S256x1024 .f32 := k0_pay24 (F := Ideal) (eX m c t) (iblk m c 7 t)
abbrev e0 : Vec Ideal S256x256 .f32 := k0_pay29 (F := Ideal) (eX m c t) (iblk m c 7 t)
abbrev e1 : Vec Ideal S256x256 .f32 := k0_pay40 (F := Ideal) (eM m c t)
abbrev e2 : Vec Ideal S256x256 .f32 := k0_pay49 (F := Ideal) (eM m c t)
abbrev e3 : Vec Ideal S256x256 .f32 := k0_pay61 (F := Ideal) (eM m c t)
/-- The two branches' rows. -/
abbrev lA : Vec Ideal S256x512 .bf16 := View.ld (iblk m c 2 t) (Rect.unit ![0, 0] ![256, 512] inb_S256x1024_S256x512_0_0)
abbrev lB : Vec Ideal S256x512 .bf16 := View.ld (iblk m c 2 t) (Rect.unit ![0, 512] ![256, 512] inb_S256x1024_S256x512_0_512)
/-- The gates' arguments. -/
abbrev gA0 : Vec Ideal S256x256 .f32 :=
  View.ld (iblk m c 3 t) (Rect.unit ![0, 0] ![256, 256] inb_S256x2048_S256x256_0_0)
abbrev gA1 : Vec Ideal S256x256 .f32 :=
  View.ld (iblk m c 3 t) (Rect.unit ![0, 256] ![256, 256] inb_S256x2048_S256x256_0_256)
abbrev gA2 : Vec Ideal S256x256 .f32 :=
  View.ld (iblk m c 3 t) (Rect.unit ![0, 512] ![256, 256] inb_S256x2048_S256x256_0_512)
abbrev gA3 : Vec Ideal S256x256 .f32 :=
  View.ld (iblk m c 3 t) (Rect.unit ![0, 768] ![256, 256] inb_S256x2048_S256x256_0_768)
abbrev gB0 : Vec Ideal S256x256 .f32 :=
  View.ld (iblk m c 3 t) (Rect.unit ![0, 1024] ![256, 256] inb_S256x2048_S256x256_0_1024)
abbrev gB1 : Vec Ideal S256x256 .f32 :=
  View.ld (iblk m c 3 t) (Rect.unit ![0, 1280] ![256, 256] inb_S256x2048_S256x256_0_1280)
abbrev gB2 : Vec Ideal S256x256 .f32 :=
  View.ld (iblk m c 3 t) (Rect.unit ![0, 1536] ![256, 256] inb_S256x2048_S256x256_0_1536)
abbrev gB3 : Vec Ideal S256x256 .f32 :=
  View.ld (iblk m c 3 t) (Rect.unit ![0, 1792] ![256, 256] inb_S256x2048_S256x256_0_1792)
/-- The parts of the two weights. -/
abbrev wA0 : Vec Ideal S1x512x256 .bf16 :=
  View.ld (iblk m c 5 t) (Rect.unit ![0, 0, 0] ![1, 512, 256] inb_S4x512x256_S1x512x256_0_0_0)
abbrev wA1 : Vec Ideal S1x512x256 .bf16 :=
  View.ld (iblk m c 5 t) (Rect.unit ![1, 0, 0] ![1, 512, 256] inb_S4x512x256_S1x512x256_1_0_0)
abbrev wA2 : Vec Ideal S1x512x256 .bf16 :=
  View.ld (iblk m c 5 t) (Rect.unit ![2, 0, 0] ![1, 512, 256] inb_S4x512x256_S1x512x256_2_0_0)
abbrev wA3 : Vec Ideal S1x512x256 .bf16 :=
  View.ld (iblk m c 5 t) (Rect.unit ![3, 0, 0] ![1, 512, 256] inb_S4x512x256_S1x512x256_3_0_0)
abbrev wB0 : Vec Ideal S1x512x256 .bf16 :=
  View.ld (iblk m c 6 t) (Rect.unit ![0, 0, 0] ![1, 512, 256] inb_S4x512x256_S1x512x256_0_0_0)
abbrev wB1 : Vec Ideal S1x512x256 .bf16 :=
  View.ld (iblk m c 6 t) (Rect.unit ![1, 0, 0] ![1, 512, 256] inb_S4x512x256_S1x512x256_1_0_0)
abbrev wB2 : Vec Ideal S1x512x256 .bf16 :=
  View.ld (iblk m c 6 t) (Rect.unit ![2, 0, 0] ![1, 512, 256] inb_S4x512x256_S1x512x256_2_0_0)
abbrev wB3 : Vec Ideal S1x512x256 .bf16 :=
  View.ld (iblk m c 6 t) (Rect.unit ![3, 0, 0] ![1, 512, 256] inb_S4x512x256_S1x512x256_3_0_0)
/-- One half, as the body passes it on. -/
abbrev half : Ideal .f32 := FloatOps.ofBits .f32 0x3F000000#32
/-- The cotangents of the two products, part by part. -/
abbrev zA0 : Vec Ideal S256x256 .bf16 := k0_pay34 (F := Ideal) (e0 m c t) (k0_pay32 (gA0 m c t))
abbrev zA1 : Vec Ideal S256x256 .bf16 := k0_pay43 (F := Ideal) (e1 m c t) (gA1 m c t)
abbrev zA2 : Vec Ideal S256x256 .bf16 := k0_pay55 (F := Ideal) (k0_pay54 (eM m c t) (gA2 m c t))
abbrev zA3 : Vec Ideal S256x256 .bf16 := k0_pay66 (F := Ideal) (e3 m c t) (gA3 m c t) half
abbrev zB0 : Vec Ideal S256x256 .bf16 := k0_pay35 (F := Ideal) (e0 m c t) (gB0 m c t)
abbrev zB1 : Vec Ideal S256x256 .bf16 := k0_pay44 (F := Ideal) (e1 m c t) (gB1 m c t)
abbrev zB2 : Vec Ideal S256x256 .bf16 := k0_pay56 (F := Ideal) (e2 m c t) (k0_pay53 (gB2 m c t))
abbrev zB3 : Vec Ideal S256x256 .bf16 := k0_pay67 (F := Ideal) (e3 m c t) (gB3 m c t)

/-- The normalisation's gradient at equal rows. -/
theorem nb {x x' g g' : Fin 1024 → EReal} (hx : ∀ k, x k = x' k) (hg : ∀ k, g k = g' k) (k : Fin 1024) :
    normBack x g k = normBack x' g' k := by
  rw [funext hx, funext hg]

variable (r : Fin 256) (f : Fin 256) (q : Fin 512)

theorem eX_at (k : Fin 1024) : eX m c t (ix2 r k) = Dmx m c (rowOf t r) k :=
  (pay22_at _ _ _ r k).trans (nb (fun k => mx_at m c t r k) (fun k => mul2 (d_at m c t r k) (g_at m c t k)) k)
theorem eM_at (k : Fin 1024) : eM m c t (ix2 r k) = Dmg m c (rowOf t r) k :=
  (pay24_at _ _ r k).trans (Finset.sum_congr rfl fun k' _ => mul2 (eX_at m c t r k') (wo_at m c t k k'))
theorem e0_at : e0 m c t (ix2 r f) = Dmg m c (rowOf t r) (lane 0 f) :=
  (pay29_at _ _ r f).trans (Finset.sum_congr rfl fun k' _ => mul2 (eX_at m c t r k') (wo_at m c t (lane 0 f) k'))
theorem e1_at : e1 m c t (ix2 r f) = Dmg m c (rowOf t r) (lane 1 f) := (pay40_at _ r f).trans (eM_at m c t r _)
theorem e2_at : e2 m c t (ix2 r f) = Dmg m c (rowOf t r) (lane 2 f) := (pay49_at _ r f).trans (eM_at m c t r _)
theorem e3_at : e3 m c t (ix2 r f) = Dmg m c (rowOf t r) (lane 3 f) := (pay61_at _ r f).trans (eM_at m c t r _)
theorem lA_at : lA m c t (ix2 r q) = La m c (rowOf t r) q := (ldA _ r q).trans (ab_at m c t r _)
theorem lB_at : lB m c t (ix2 r q) = Lb m c (rowOf t r) q := (ldB _ r q).trans (ab_at m c t r _)
theorem gA0_at : lg (gA0 m c t (ix2 r f)) = Ga m c (rowOf t r) (lane 0 f) :=
  congrArg lg ((ldgA0 _ r f).trans (gab_at m c t r _))
theorem gA1_at : lg (gA1 m c t (ix2 r f)) = Ga m c (rowOf t r) (lane 1 f) :=
  congrArg lg ((ldgA1 _ r f).trans (gab_at m c t r _))
theorem gA2_at : lg (gA2 m c t (ix2 r f)) = Ga m c (rowOf t r) (lane 2 f) :=
  congrArg lg ((ldgA2 _ r f).trans (gab_at m c t r _))
theorem gA3_at : lg (gA3 m c t (ix2 r f)) = Ga m c (rowOf t r) (lane 3 f) :=
  congrArg lg ((ldgA3 _ r f).trans (gab_at m c t r _))
theorem gB0_at : lg (gB0 m c t (ix2 r f)) = Gb m c (rowOf t r) (lane 0 f) :=
  congrArg lg ((ldgB0 _ r f).trans (gab_at m c t r _))
theorem gB1_at : lg (gB1 m c t (ix2 r f)) = Gb m c (rowOf t r) (lane 1 f) :=
  congrArg lg ((ldgB1 _ r f).trans (gab_at m c t r _))
theorem gB2_at : lg (gB2 m c t (ix2 r f)) = Gb m c (rowOf t r) (lane 2 f) :=
  congrArg lg ((ldgB2 _ r f).trans (gab_at m c t r _))
theorem gB3_at : lg (gB3 m c t (ix2 r f)) = Gb m c (rowOf t r) (lane 3 f) :=
  congrArg lg ((ldgB3 _ r f).trans (gab_at m c t r _))
theorem wA0_at : wA0 m c t (ix3 0 q f) = aWA m c (ix2 q (lane 0 f)) := (ldw0 _ q f).trans (wa_at m c t 0 q f)
theorem wA1_at : wA1 m c t (ix3 0 q f) = aWA m c (ix2 q (lane 1 f)) := (ldw1 _ q f).trans (wa_at m c t 1 q f)
theorem wA2_at : wA2 m c t (ix3 0 q f) = aWA m c (ix2 q (lane 2 f)) := (ldw2 _ q f).trans (wa_at m c t 2 q f)
theorem wA3_at : wA3 m c t (ix3 0 q f) = aWA m c (ix2 q (lane 3 f)) := (ldw3 _ q f).trans (wa_at m c t 3 q f)
theorem wB0_at : wB0 m c t (ix3 0 q f) = aWB m c (ix2 q (lane 0 f)) := (ldw0 _ q f).trans (wb_at m c t 0 q f)
theorem wB1_at : wB1 m c t (ix3 0 q f) = aWB m c (ix2 q (lane 1 f)) := (ldw1 _ q f).trans (wb_at m c t 1 q f)
theorem wB2_at : wB2 m c t (ix3 0 q f) = aWB m c (ix2 q (lane 2 f)) := (ldw2 _ q f).trans (wb_at m c t 2 q f)
theorem wB3_at : wB3 m c t (ix3 0 q f) = aWB m c (ix2 q (lane 3 f)) := (ldw3 _ q f).trans (wb_at m c t 3 q f)
/-- The cotangents of the two products. -/
theorem zA0_at : zA0 m c t (ix2 r f) = Dya m c (rowOf t r) (lane 0 f) :=
  (pay34_at _ _ r f).trans (mul2 (e0_at m c t r f) ((pay32_at _ r f).trans (gA0_at m c t r f)))
theorem zA1_at : zA1 m c t (ix2 r f) = Dya m c (rowOf t r) (lane 1 f) :=
  (pay43_at _ _ r f).trans (mul2 (e1_at m c t r f) (gA1_at m c t r f))
theorem zA2_at : zA2 m c t (ix2 r f) = Dya m c (rowOf t r) (lane 2 f) :=
  (pay55_at _ _ r f).trans (mul2 (eM_at m c t r (lane 2 f)) (gA2_at m c t r f))
theorem zA3_at : zA3 m c t (ix2 r f) = Dya m c (rowOf t r) (lane 3 f) :=
  (pay66_at _ _ r f).trans (mul2 (e3_at m c t r f) (gA3_at m c t r f))
theorem zB0_at : zB0 m c t (ix2 r f) = Dyb m c (rowOf t r) (lane 0 f) :=
  (pay35_at _ _ r f).trans (mul2 (e0_at m c t r f) (gB0_at m c t r f))
theorem zB1_at : zB1 m c t (ix2 r f) = Dyb m c (rowOf t r) (lane 1 f) :=
  (pay44_at _ _ r f).trans (mul2 (e1_at m c t r f) (gB1_at m c t r f))
theorem zB2_at : zB2 m c t (ix2 r f) = Dyb m c (rowOf t r) (lane 2 f) :=
  (pay56_at _ _ r f).trans (mul2 (e2_at m c t r f) ((pay53_at _ r f).trans (gB2_at m c t r f)))
theorem zB3_at : zB3 m c t (ix2 r f) = Dyb m c (rowOf t r) (lane 3 f) :=
  (pay67_at _ _ r f).trans (mul2 (e3_at m c t r f) (gB3_at m c t r f))
/-- The parts of the two products. -/
theorem yA0_at : ∑ q, lA m c t (ix2 r q) * wA0 m c t (ix3 0 q f) = Ya m c (rowOf t r) (lane 0 f) :=
  Finset.sum_congr rfl fun q _ => mul2 (lA_at m c t r q) (wA0_at m c t f q)
theorem yA1_at : ∑ q, lA m c t (ix2 r q) * wA1 m c t (ix3 0 q f) = Ya m c (rowOf t r) (lane 1 f) :=
  Finset.sum_congr rfl fun q _ => mul2 (lA_at m c t r q) (wA1_at m c t f q)
theorem yA2_at : ∑ q, lA m c t (ix2 r q) * wA2 m c t (ix3 0 q f) = Ya m c (rowOf t r) (lane 2 f) :=
  Finset.sum_congr rfl fun q _ => mul2 (lA_at m c t r q) (wA2_at m c t f q)
theorem yA3_at : ∑ q, lA m c t (ix2 r q) * wA3 m c t (ix3 0 q f) = Ya m c (rowOf t r) (lane 3 f) :=
  Finset.sum_congr rfl fun q _ => mul2 (lA_at m c t r q) (wA3_at m c t f q)
theorem yB0_at : ∑ q, lB m c t (ix2 r q) * wB0 m c t (ix3 0 q f) = Yb m c (rowOf t r) (lane 0 f) :=
  Finset.sum_congr rfl fun q _ => mul2 (lB_at m c t r q) (wB0_at m c t f q)
theorem yB1_at : ∑ q, lB m c t (ix2 r q) * wB1 m c t (ix3 0 q f) = Yb m c (rowOf t r) (lane 1 f) :=
  Finset.sum_congr rfl fun q _ => mul2 (lB_at m c t r q) (wB1_at m c t f q)
theorem yB2_at : ∑ q, lB m c t (ix2 r q) * wB2 m c t (ix3 0 q f) = Yb m c (rowOf t r) (lane 2 f) :=
  Finset.sum_congr rfl fun q _ => mul2 (lB_at m c t r q) (wB2_at m c t f q)
theorem yB3_at : ∑ q, lB m c t (ix2 r q) * wB3 m c t (ix3 0 q f) = Yb m c (rowOf t r) (lane 3 f) :=
  Finset.sum_congr rfl fun q _ => mul2 (lB_at m c t r q) (wB3_at m c t f q)
/-- One gate's gradient from equal factors. -/
theorem gate {a b s a' b' s' : EReal} (ha : a = a') (hb : b = b') (hs : s = s') :
    a * b * s * (cOne - s) = a' * b' * s' * (cOne - s') := by
  rw [ha, hb, hs]

/-- The gradients at the gates' arguments, part by part. -/
theorem kA_at : k0_pay25 (F := Ideal) (lA m c t) (ix2 r q) = La m c (rowOf t r) q := (pay25_at _ r q).trans (lA_at m c t r q)
theorem xA1_at : ∑ q, k0_pay25 (F := Ideal) (lA m c t) (ix2 r q) * wA1 m c t (ix3 0 q f)
    = Ya m c (rowOf t r) (lane 1 f) :=
  Finset.sum_congr rfl fun q _ => mul2 (kA_at m c t r q) (wA1_at m c t f q)
theorem xA2_at : ∑ q, k0_pay25 (F := Ideal) (lA m c t) (ix2 r q) * wA2 m c t (ix3 0 q f)
    = Ya m c (rowOf t r) (lane 2 f) :=
  Finset.sum_congr rfl fun q _ => mul2 (kA_at m c t r q) (wA2_at m c t f q)
theorem xA3_at : ∑ q, k0_pay25 (F := Ideal) (lA m c t) (ix2 r q) * wA3 m c t (ix3 0 q f)
    = Ya m c (rowOf t r) (lane 3 f) :=
  Finset.sum_congr rfl fun q _ => mul2 (kA_at m c t r q) (wA3_at m c t f q)
theorem kB_at : k0_pay26 (F := Ideal) (lB m c t) (ix2 r q) = Lb m c (rowOf t r) q := (pay26_at _ r q).trans (lB_at m c t r q)
theorem xB1_at : ∑ q, k0_pay26 (F := Ideal) (lB m c t) (ix2 r q) * wB1 m c t (ix3 0 q f)
    = Yb m c (rowOf t r) (lane 1 f) :=
  Finset.sum_congr rfl fun q _ => mul2 (kB_at m c t r q) (wB1_at m c t f q)
theorem xB2_at : ∑ q, k0_pay26 (F := Ideal) (lB m c t) (ix2 r q) * wB2 m c t (ix3 0 q f)
    = Yb m c (rowOf t r) (lane 2 f) :=
  Finset.sum_congr rfl fun q _ => mul2 (kB_at m c t r q) (wB2_at m c t f q)
theorem xB3_at : ∑ q, k0_pay26 (F := Ideal) (lB m c t) (ix2 r q) * wB3 m c t (ix3 0 q f)
    = Yb m c (rowOf t r) (lane 3 f) :=
  Finset.sum_congr rfl fun q _ => mul2 (kB_at m c t r q) (wB3_at m c t f q)
abbrev dA0 : Vec Ideal S256x256 .bf16 :=
  k0_pay36 (F := Ideal) (e0 m c t) (k0_pay30 (lA m c t) (wA0 m c t)) (k0_pay32 (gA0 m c t))
theorem dA0_at : dA0 m c t (ix2 r f) = Dga m c (rowOf t r) (lane 0 f) :=
  (pay36_at _ _ _ r f).trans (gate (e0_at m c t r f) ((pay30_at _ _ r f).trans (yA0_at m c t r f)) ((pay32_at _ r f).trans (gA0_at m c t r f)))
abbrev dA1 : Vec Ideal S256x256 .bf16 :=
  k0_pay45 (F := Ideal) (k0_pay25 (lA m c t)) (e1 m c t) (wA1 m c t) (gA1 m c t)
theorem dA1_at : dA1 m c t (ix2 r f) = Dga m c (rowOf t r) (lane 1 f) :=
  (pay45_at _ _ _ _ r f).trans (gate (e1_at m c t r f) (xA1_at m c t r f) (gA1_at m c t r f))
abbrev dA2 : Vec Ideal S256x256 .bf16 :=
  k0_pay57 (F := Ideal) (e2 m c t) (k0_pay50 (k0_pay25 (lA m c t)) (wA2 m c t)) (k0_pay52 (gA2 m c t))
theorem dA2_at : dA2 m c t (ix2 r f) = Dga m c (rowOf t r) (lane 2 f) :=
  (pay57_at _ _ _ r f).trans (gate (e2_at m c t r f) ((pay50_at _ _ r f).trans (xA2_at m c t r f)) ((pay52_at _ r f).trans (gA2_at m c t r f)))
abbrev dA3 : Vec Ideal S256x256 .bf16 :=
  k0_pay68 (F := Ideal) (e3 m c t) (k0_pay62 (k0_pay25 (lA m c t)) (wA3 m c t)) (gA3 m c t) half
theorem dA3_at : dA3 m c t (ix2 r f) = Dga m c (rowOf t r) (lane 3 f) :=
  (pay68_at _ _ _ r f).trans (gate (e3_at m c t r f) ((pay62_at _ _ r f).trans (xA3_at m c t r f)) (gA3_at m c t r f))
abbrev dB0 : Vec Ideal S256x256 .bf16 :=
  k0_pay37 (F := Ideal) (e0 m c t) (k0_pay31 (lB m c t) (wB0 m c t)) (gB0 m c t)
theorem dB0_at : dB0 m c t (ix2 r f) = Dgb m c (rowOf t r) (lane 0 f) :=
  (pay37_at _ _ _ r f).trans (gate (e0_at m c t r f) ((pay31_at _ _ r f).trans (yB0_at m c t r f)) (gB0_at m c t r f))
abbrev dB1 : Vec Ideal S256x256 .bf16 :=
  k0_pay46 (F := Ideal) (k0_pay26 (lB m c t)) (e1 m c t) (wB1 m c t) (gB1 m c t)
theorem dB1_at : dB1 m c t (ix2 r f) = Dgb m c (rowOf t r) (lane 1 f) :=
  (pay46_at _ _ _ _ r f).trans (gate (e1_at m c t r f) (xB1_at m c t r f) (gB1_at m c t r f))
abbrev dB2 : Vec Ideal S256x256 .bf16 :=
  k0_pay58 (F := Ideal) (e2 m c t) (k0_pay51 (k0_pay26 (lB m c t)) (wB2 m c t)) (k0_pay53 (gB2 m c t))
theorem dB2_at : dB2 m c t (ix2 r f) = Dgb m c (rowOf t r) (lane 2 f) :=
  (pay58_at _ _ _ r f).trans (gate (e2_at m c t r f) ((pay51_at _ _ r f).trans (xB2_at m c t r f)) ((pay53_at _ r f).trans (gB2_at m c t r f)))
abbrev dB3 : Vec Ideal S256x256 .bf16 :=
  k0_pay69 (F := Ideal) (e3 m c t) (k0_pay63 (k0_pay26 (lB m c t)) (wB3 m c t)) (gB3 m c t)
theorem dB3_at : dB3 m c t (ix2 r f) = Dgb m c (rowOf t r) (lane 3 f) :=
  (pay69_at _ _ _ r f).trans (gate (e3_at m c t r f) ((pay63_at _ _ r f).trans (xB3_at m c t r f)) (gB3_at m c t r f))

/-- The gradients at the two branches. -/
abbrev sA : Vec Ideal S256x512 .f32 := k0_pay70 (F := Ideal) (k0_pay59 (k0_pay47 (k0_pay38 k0_pay27 (e0 m c t) (k0_pay32 (gA0 m c t))
  (wA0 m c t)) (zA1 m c t) (wA1 m c t)) (k0_pay54 (eM m c t) (gA2 m c t)) (wA2 m c t)) (e3 m c t) (gA3 m c t) half (wA3 m c t)
abbrev sB : Vec Ideal S256x512 .f32 := k0_pay1 (F := Ideal) (k0_pay60 (k0_pay48 (k0_pay39 k0_pay28 (e0 m c t) (gB0 m c t)
  (wB0 m c t)) (zB1 m c t) (wB1 m c t)) (e2 m c t) (k0_pay53 (gB2 m c t)) (wB2 m c t)) (zB3 m c t) (wB3 m c t)
theorem sA0_at : ∑ f, zA0 m c t (ix2 r f) * wA0 m c t (ix3 0 q f)
    = ∑ f, Dya m c (rowOf t r) (lane 0 f) * aWA m c (ix2 q (lane 0 f)) :=
  Finset.sum_congr rfl fun f _ => mul2 (zA0_at m c t r f) (wA0_at m c t f q)
theorem sA1_at : ∑ f, zA1 m c t (ix2 r f) * wA1 m c t (ix3 0 q f)
    = ∑ f, Dya m c (rowOf t r) (lane 1 f) * aWA m c (ix2 q (lane 1 f)) :=
  Finset.sum_congr rfl fun f _ => mul2 (zA1_at m c t r f) (wA1_at m c t f q)
theorem sA2_at : ∑ f, zA2 m c t (ix2 r f) * wA2 m c t (ix3 0 q f)
    = ∑ f, Dya m c (rowOf t r) (lane 2 f) * aWA m c (ix2 q (lane 2 f)) :=
  Finset.sum_congr rfl fun f _ => mul2 (zA2_at m c t r f) (wA2_at m c t f q)
theorem sA3_at : ∑ f, zA3 m c t (ix2 r f) * wA3 m c t (ix3 0 q f)
    = ∑ f, Dya m c (rowOf t r) (lane 3 f) * aWA m c (ix2 q (lane 3 f)) :=
  Finset.sum_congr rfl fun f _ => mul2 (zA3_at m c t r f) (wA3_at m c t f q)
theorem sB0_at : ∑ f, zB0 m c t (ix2 r f) * wB0 m c t (ix3 0 q f)
    = ∑ f, Dyb m c (rowOf t r) (lane 0 f) * aWB m c (ix2 q (lane 0 f)) :=
  Finset.sum_congr rfl fun f _ => mul2 (zB0_at m c t r f) (wB0_at m c t f q)
theorem sB1_at : ∑ f, zB1 m c t (ix2 r f) * wB1 m c t (ix3 0 q f)
    = ∑ f, Dyb m c (rowOf t r) (lane 1 f) * aWB m c (ix2 q (lane 1 f)) :=
  Finset.sum_congr rfl fun f _ => mul2 (zB1_at m c t r f) (wB1_at m c t f q)
theorem sB2_at : ∑ f, zB2 m c t (ix2 r f) * wB2 m c t (ix3 0 q f)
    = ∑ f, Dyb m c (rowOf t r) (lane 2 f) * aWB m c (ix2 q (lane 2 f)) :=
  Finset.sum_congr rfl fun f _ => mul2 (zB2_at m c t r f) (wB2_at m c t f q)
theorem sB3_at : ∑ f, zB3 m c t (ix2 r f) * wB3 m c t (ix3 0 q f)
    = ∑ f, Dyb m c (rowOf t r) (lane 3 f) * aWB m c (ix2 q (lane 3 f)) :=
  Finset.sum_congr rfl fun f _ => mul2 (zB3_at m c t r f) (wB3_at m c t f q)
theorem sA_at : sA m c t (ix2 r q) = Da m c (rowOf t r) q :=
  ((pay70_at _ _ _ _ r q).trans (add2 ((pay59_at _ _ _ r q).trans (add2 ((pay47_at _ _ _ r q).trans (add2
    ((pay38_at _ _ _ r q).trans (add2 rfl (sA0_at m c t r q))) (sA1_at m c t r q))) (sA2_at m c t r q)))
    (sA3_at m c t r q))).trans (sum_parts fun f => Dya m c (rowOf t r) f * aWA m c (ix2 q f))
theorem sB_at : sB m c t (ix2 r q) = Db m c (rowOf t r) q :=
  ((pay1_at _ _ _ r q).trans (add2 ((pay60_at _ _ _ _ r q).trans (add2 ((pay48_at _ _ _ r q).trans (add2
    ((pay39_at _ _ _ r q).trans (add2 rfl (sB0_at m c t r q))) (sB1_at m c t r q))) (sB2_at m c t r q)))
    (sB3_at m c t r q))).trans (sum_parts fun f => Dyb m c (rowOf t r) f * aWB m c (ix2 q f))

/-- One block more in the gradients of the weights and of the gain. -/
theorem accA_at (acc : Vec Ideal S512x1024 .f32) (k : Fin 1024) :
    k0_pay2 (F := Ideal) (k0_pay25 (lA m c t)) (zA0 m c t) (zA1 m c t) (zA2 m c t) (zA3 m c t) acc (ix2 q k)
      = acc (ix2 q k) + ∑ r : Fin 256, La m c (rowOf t r) q * Dya m c (rowOf t r) k :=
  (pay2_at _ _ _ _ _ k q acc).trans (add2 rfl (Finset.sum_congr rfl fun r _ => mul2 (kA_at m c t r q)
    (parts_eq _ _ _ _ (Dya m c (rowOf t r)) (fun f => zA0_at m c t r f) (fun f => zA1_at m c t r f)
      (fun f => zA2_at m c t r f) (fun f => zA3_at m c t r f) k)))
theorem accB_at (acc : Vec Ideal S512x1024 .f32) (k : Fin 1024) :
    k0_pay3 (F := Ideal) (k0_pay26 (lB m c t)) (zB0 m c t) (zB1 m c t) (zB2 m c t) (zB3 m c t) acc (ix2 q k)
      = acc (ix2 q k) + ∑ r : Fin 256, Lb m c (rowOf t r) q * Dyb m c (rowOf t r) k :=
  (pay3_at _ _ _ _ _ k q acc).trans (add2 rfl (Finset.sum_congr rfl fun r _ => mul2 (kB_at m c t r q)
    (parts_eq _ _ _ _ (Dyb m c (rowOf t r)) (fun f => zB0_at m c t r f) (fun f => zB1_at m c t r f)
      (fun f => zB2_at m c t r f) (fun f => zB3_at m c t r f) k)))
theorem accO_at (acc : Vec Ideal S1024x1024 .f32) (k k' : Fin 1024) :
    k0_pay23 (F := Ideal) (eX m c t) acc (iblk m c 4 t) (ix2 k k')
      = acc (ix2 k k') + ∑ r : Fin 256, Mg m c (rowOf t r) k * Dmx m c (rowOf t r) k' :=
  (pay23_at _ k acc _ k').trans (add2 rfl (Finset.sum_congr rfl fun r _ => mul2 (mg_at m c t r k) (eX_at m c t r k')))
theorem dg_at (acc : Vec Ideal S1x1024 .f32) (z : Fin 1) (k : Fin 1024) :
    k0_pay21 (F := Ideal) (iblk m c 0 t) (iblk m c 1 t) acc (ix2 z k)
      = acc (ix2 z k) + ∑ r : Fin 256, aD m c (ix2 (rowOf t r) k) * nrm (Mx m c (rowOf t r)) k :=
  (pay21_at _ _ k acc z).trans (add2 rfl (Finset.sum_congr rfl fun r _ => mul2 (d_at m c t r k)
    (congrFun (congrArg nrm (funext fun k => mx_at m c t r k)) k)))

/-! ### The two tiled arrays -/

/-- Two rows side by side, on the left and on the right. -/
theorem sides_left {n : ℕ} {a b : Fin n → EReal} {f : Fin (n + n)} {k : Fin n} (h : (f : ℕ) = k) : a k = sides a b f :=
  ((dif_pos (show (f : ℕ) < n by omega)).trans (congrArg a (Fin.ext h))).symm
theorem sides_right {n : ℕ} {a b : Fin n → EReal} {f : Fin (n + n)} {k : Fin n} (h : (f : ℕ) = n + k) : b k = sides a b f :=
  ((dif_neg (show ¬ (f : ℕ) < n by omega)).trans (congrArg b (Fin.ext (show (f : ℕ) - n = k by omega)))).symm

/-- A part's value, at its own columns of the left or of the right half. -/
theorem pieceA {P : Vec Ideal S256x256 .bf16} {y y' : Fin 256 → Fin 1024 → EReal} {r : Fin 256} {f : Fin 2048}
    {x : S256x256.Idx} (j : Fin 4) (hP : ∀ r f, P (ix2 r f) = y r (lane j f)) (h0 : (r : ℕ) = x 0)
    (h1 : (f : ℕ) = (lane j (x 1) : ℕ)) : P x = sides (n := 1024) (y r) (y' r) f := by
  idx_vars x
  obtain rfl : r = x0 := Fin.ext h0
  exact (hP r x1).trans (sides_left h1)
theorem pieceB {P : Vec Ideal S256x256 .bf16} {y y' : Fin 256 → Fin 1024 → EReal} {r : Fin 256} {f : Fin 2048}
    {x : S256x256.Idx} (j : Fin 4) (hP : ∀ r f, P (ix2 r f) = y' r (lane j f)) (h0 : (r : ℕ) = x 0)
    (h1 : (f : ℕ) = 1024 + (lane j (x 1) : ℕ)) : P x = sides (n := 1024) (y r) (y' r) f := by
  idx_vars x
  obtain rfl : r = x0 := Fin.ext h0
  exact (hP r x1).trans (sides_right h1)

/-- The eight stores into a block of the gates' gradients. -/
abbrev gabs : List (View.Piece (Elt Ideal) S256x2048 .bf16) :=
  [⟨Rect.unit ![0, 1792] ![256, 256] inb_S256x2048_S256x256_0_1792, dB3 m c t⟩,
    ⟨Rect.unit ![0, 768] ![256, 256] inb_S256x2048_S256x256_0_768, dA3 m c t⟩,
    ⟨Rect.unit ![0, 1536] ![256, 256] inb_S256x2048_S256x256_0_1536, dB2 m c t⟩,
    ⟨Rect.unit ![0, 512] ![256, 256] inb_S256x2048_S256x256_0_512, dA2 m c t⟩,
    ⟨Rect.unit ![0, 1280] ![256, 256] inb_S256x2048_S256x256_0_1280, dB1 m c t⟩,
    ⟨Rect.unit ![0, 256] ![256, 256] inb_S256x2048_S256x256_0_256, dA1 m c t⟩,
    ⟨Rect.unit ![0, 1024] ![256, 256] inb_S256x2048_S256x256_0_1024, dB0 m c t⟩,
    ⟨Rect.unit ![0, 0] ![256, 256] inb_S256x2048_S256x256_0_0, dA0 m c t⟩]

/-- Row `i` of the gates' gradient. -/
def gabRow (i : Fin 2048) (f : Fin 2048) : EReal := sides (n := 1024) (Dga m c i) (Dgb m c i) f

theorem gab_fill (y0 : Fin 256) (y1 : Fin 2048) : View.canon (gabs m c t) (ix2 y0 y1) = gabRow m c (rowOf t y0) y1 := by
  canon_tiles x h
  · exact pieceB (y := fun r => Dga m c (rowOf t r)) (y' := fun r => Dgb m c (rowOf t r)) 3 (dB3_at m c t) h0
      (h1.trans (by show 1792 + (x 1 : ℕ) = 1024 + (3 * 256 + (x 1 : ℕ)); omega))
  · exact pieceA (y := fun r => Dga m c (rowOf t r)) (y' := fun r => Dgb m c (rowOf t r)) 3 (dA3_at m c t) h0
      (h1.trans (by show 768 + (x 1 : ℕ) = 3 * 256 + (x 1 : ℕ); omega))
  · exact pieceB (y := fun r => Dga m c (rowOf t r)) (y' := fun r => Dgb m c (rowOf t r)) 2 (dB2_at m c t) h0
      (h1.trans (by show 1536 + (x 1 : ℕ) = 1024 + (2 * 256 + (x 1 : ℕ)); omega))
  · exact pieceA (y := fun r => Dga m c (rowOf t r)) (y' := fun r => Dgb m c (rowOf t r)) 2 (dA2_at m c t) h0
      (h1.trans (by show 512 + (x 1 : ℕ) = 2 * 256 + (x 1 : ℕ); omega))
  · exact pieceB (y := fun r => Dga m c (rowOf t r)) (y' := fun r => Dgb m c (rowOf t r)) 1 (dB1_at m c t) h0
      (h1.trans (by show 1280 + (x 1 : ℕ) = 1024 + (1 * 256 + (x 1 : ℕ)); omega))
  · exact pieceA (y := fun r => Dga m c (rowOf t r)) (y' := fun r => Dgb m c (rowOf t r)) 1 (dA1_at m c t) h0
      (h1.trans (by show 256 + (x 1 : ℕ) = 1 * 256 + (x 1 : ℕ); omega))
  · exact pieceB (y := fun r => Dga m c (rowOf t r)) (y' := fun r => Dgb m c (rowOf t r)) 0 (dB0_at m c t) h0
      (h1.trans (by show 1024 + (x 1 : ℕ) = 1024 + (0 * 256 + (x 1 : ℕ)); omega))
  · exact pieceA (y := fun r => Dga m c (rowOf t r)) (y' := fun r => Dgb m c (rowOf t r)) 0 (dA0_at m c t) h0
      (h1.trans (by show (x 1 : ℕ) = 0 * 256 + (x 1 : ℕ); omega))

theorem gab_final : (dats m 0 c).arrAt 9 (cfgs 0).N
    = MergeSpec.dgab (aD m c) (aAB m c) (aGAB m c) (aWA m c) (aWB m c) (aWO m c) (aG m c) := by
  refine (dats m 0 c).arrAt_eq_of_covers 9 _ (by decide +kernel) fun t _ y => ?_
  blk_simp
  rw [after0_9]
  idx_vars y
  refine Eq.trans (b := gabRow m c (rowOf t y0) y1) ?_ (congrArg₂ (gabRow m c) (Fin.ext ?_) (Fin.ext ?_))
  · by_cases h : t.val % 8 = 0
    · rw [outsAt0_A m c t h (by omega)]
      frame_out
      exact gab_fill m c t y0 y1
    · by_cases h' : t.val % 8 = 7
      · rw [outsAt0_C m c t h h']
        frame_out
        exact gab_fill m c t y0 y1
      · rw [outsAt0_B m c t h h']
        frame_out
        exact gab_fill m c t y0 y1
  · show t.val * 256 + (y0 : ℕ) = _
    blk_simp [idx t] <;> try omega
  · blk_simp [idx t] <;> try omega

/-- The two stores into a block of the branches' gradients. -/
abbrev abs : List (View.Piece (Elt Ideal) S256x1024 .f32) :=
  [⟨Rect.unit ![0, 512] ![256, 512] inb_S256x1024_S256x512_0_512, sB m c t⟩,
    ⟨Rect.unit ![0, 0] ![256, 512] inb_S256x1024_S256x512_0_0, sA m c t⟩]

/-- Row `i` of the branches' gradient. -/
def abRow (i : Fin 2048) (f : Fin 1024) : EReal := sides (n := 512) (Da m c i) (Db m c i) f

theorem ab_fill (y0 : Fin 256) (y1 : Fin 1024) : View.canon (abs m c t) (ix2 y0 y1) = abRow m c (rowOf t y0) y1 := by
  canon_tiles x h
  · idx_vars x
    obtain rfl : y0 = x0 := Fin.ext h0
    exact (sB_at m c t y0 x1).trans (sides_right h1)
  · idx_vars x
    obtain rfl : y0 = x0 := Fin.ext h0
    exact (sA_at m c t y0 x1).trans (sides_left h1)

theorem ab_final : (dats m 0 c).arrAt 10 (cfgs 0).N
    = MergeSpec.dab (aD m c) (aAB m c) (aGAB m c) (aWA m c) (aWB m c) (aWO m c) (aG m c) := by
  refine (dats m 0 c).arrAt_eq_of_covers 10 _ (by decide +kernel) fun t _ y => ?_
  blk_simp
  rw [after0_10]
  idx_vars y
  refine Eq.trans (b := abRow m c (rowOf t y0) y1) ?_ (congrArg₂ (abRow m c) (Fin.ext ?_) (Fin.ext ?_))
  · by_cases h : t.val % 8 = 0
    · rw [outsAt0_A m c t h (by omega)]
      frame_out
      exact ab_fill m c t y0 y1
    · by_cases h' : t.val % 8 = 7
      · rw [outsAt0_C m c t h h']
        frame_out
        exact ab_fill m c t y0 y1
      · rw [outsAt0_B m c t h h']
        frame_out
        exact ab_fill m c t y0 y1
  · show t.val * 256 + (y0 : ℕ) = _
    blk_simp [idx t] <;> try omega
  · blk_simp [idx t] <;> try omega

/-! ### The summed arrays -/

/-- The gradient at the gain. -/
theorem dg_final : (dats m 0 c).arrAt 11 (cfgs 0).N = MergeSpec.dg (aD m c) (aAB m c) (aGAB m c) (aWA m c) (aWB m c) (aWO m c) := by
  refine (dats m 0 c).arrAt_eq_of_after_last 11 t0_7 (by decide +kernel) _ fun j => ?_
  blk_simp
  idx_vars j
  rw [after0_11, Pipeline.eq_sum_fin_of_reset_step_apply_last (fun n h => (outsAt0 m c n h).2.2.1) 8 (fun _ => 0)
    (fun p j => ∑ r : Fin 256, aD m c (ix2 (rowOf p r) (j 1)) * nrm (Mx m c (rowOf p r)) (j 1))
    (fun t h j => by
      rw [outsAt0_A m c t h (by omega)]
      frame_out
      idx_vars j
      refine (dg_at m c t _ j0 j1).trans (congrArg (· + _) ?_)
      pointwise [k0_pay14])
    (fun t h j => by
      by_cases h' : t.val % 8 = 7
      · rw [outsAt0_C m c t h h']
        frame_out
        idx_vars j
        exact dg_at m c t _ j0 j1
      · rw [outsAt0_B m c t h h']
        frame_out
        idx_vars j
        exact dg_at m c t _ j0 j1)
    (le_of_eq N_0) t0_7 rfl, zero_add]
  exact Fin.sum_mul_add_congr fun t r hl => rfl

/-- The three carried sums after the last point. -/
theorem carryA (q : Fin 512) (k : Fin 1024) : (outsAt0 m c t0_7.val t0_7.isLt).2.2.2.2.2.2.1 (ix2 q k)
    = ∑ i : Fin 2048, La m c i q * Dya m c i k := by
  rw [Pipeline.eq_sum_fin_of_reset_step_apply_last (fun n h => (outsAt0 m c n h).2.2.2.2.2.2.1) 8 (fun _ => 0)
    (fun p j => ∑ r : Fin 256, La m c (rowOf p r) (j 0) * Dya m c (rowOf p r) (j 1))
    (fun t h j => by
      rw [outsAt0_A m c t h (by omega)]
      frame_out
      idx_vars j
      refine (accA_at m c t j0 _ j1).trans (congrArg (· + _) ?_)
      pointwise [k0_pay15])
    (fun t h j => by
      by_cases h' : t.val % 8 = 7
      · rw [outsAt0_C m c t h h']
        frame_out
        rw [read_unread_whole]
        idx_vars j
        exact accA_at m c t j0 _ j1
      · rw [outsAt0_B m c t h h']
        frame_out
        rw [read_unread_whole]
        idx_vars j
        exact accA_at m c t j0 _ j1)
    (le_of_eq N_0) t0_7 rfl, zero_add]
  exact Fin.sum_mul_add_congr fun t r hl => rfl
theorem carryB (q : Fin 512) (k : Fin 1024) : (outsAt0 m c t0_7.val t0_7.isLt).2.2.2.2.2.2.2.1 (ix2 q k)
    = ∑ i : Fin 2048, Lb m c i q * Dyb m c i k := by
  rw [Pipeline.eq_sum_fin_of_reset_step_apply_last (fun n h => (outsAt0 m c n h).2.2.2.2.2.2.2.1) 8 (fun _ => 0)
    (fun p j => ∑ r : Fin 256, Lb m c (rowOf p r) (j 0) * Dyb m c (rowOf p r) (j 1))
    (fun t h j => by
      rw [outsAt0_A m c t h (by omega)]
      frame_out
      idx_vars j
      refine (accB_at m c t j0 _ j1).trans (congrArg (· + _) ?_)
      pointwise [k0_pay16])
    (fun t h j => by
      by_cases h' : t.val % 8 = 7
      · rw [outsAt0_C m c t h h']
        frame_out
        rw [read_unread_whole]
        idx_vars j
        exact accB_at m c t j0 _ j1
      · rw [outsAt0_B m c t h h']
        frame_out
        rw [read_unread_whole]
        idx_vars j
        exact accB_at m c t j0 _ j1)
    (le_of_eq N_0) t0_7 rfl, zero_add]
  exact Fin.sum_mul_add_congr fun t r hl => rfl
theorem carryO (q : Fin 1024) (k : Fin 1024) : (outsAt0 m c t0_7.val t0_7.isLt).2.2.2.2.2.2.2.2 (ix2 q k)
    = ∑ i : Fin 2048, Mg m c i q * Dmx m c i k := by
  rw [Pipeline.eq_sum_fin_of_reset_step_apply_last (fun n h => (outsAt0 m c n h).2.2.2.2.2.2.2.2) 8 (fun _ => 0)
    (fun p j => ∑ r : Fin 256, Mg m c (rowOf p r) (j 0) * Dmx m c (rowOf p r) (j 1))
    (fun t h j => by
      rw [outsAt0_A m c t h (by omega)]
      frame_out
      idx_vars j
      refine (accO_at m c t _ j0 j1).trans (congrArg (· + _) ?_)
      pointwise [k0_pay17])
    (fun t h j => by
      by_cases h' : t.val % 8 = 7
      · rw [outsAt0_C m c t h h']
        frame_out
        rw [read_unread_whole]
        idx_vars j
        exact accO_at m c t _ j0 j1
      · rw [outsAt0_B m c t h h']
        frame_out
        rw [read_unread_whole]
        idx_vars j
        exact accO_at m c t _ j0 j1)
    (le_of_eq N_0) t0_7 rfl, zero_add]
  exact Fin.sum_mul_add_congr fun t r hl => rfl

/-- The last point's stores of the sums. -/
theorem pay8_at (v : Vec Ideal S1024x1024 .f32) (k k' : Fin 1024) : k0_pay8 (F := Ideal) v (ix2 k k') = v (ix2 k k') := by
  pointwise [k0_pay8]
theorem pay9_at (v : Vec Ideal S512x256 .f32) (z : Fin 1) (q : Fin 512) (f : Fin 256) :
    k0_pay9 (F := Ideal) v (ix3 z q f) = v (ix2 q f) := by
  pointwise [k0_pay9]
theorem pay10_at (v : Vec Ideal S512x256 .f32) (z : Fin 1) (q : Fin 512) (f : Fin 256) :
    k0_pay10 (F := Ideal) v (ix3 z q f) = v (ix2 q f) := by
  pointwise [k0_pay10]
theorem pay11_at (v : Vec Ideal S512x256 .f32) (z : Fin 1) (q : Fin 512) (f : Fin 256) :
    k0_pay11 (F := Ideal) v (ix3 z q f) = v (ix2 q f) := by
  pointwise [k0_pay11]
theorem pay12_at (v : Vec Ideal S512x256 .f32) (z : Fin 1) (q : Fin 512) (f : Fin 256) :
    k0_pay12 (F := Ideal) v (ix3 z q f) = v (ix2 q f) := by
  pointwise [k0_pay12]
theorem pay5_at (v : Vec Ideal S512x256 .f32) (z : Fin 1) (q : Fin 512) (f : Fin 256) :
    k0_pay5 (F := Ideal) v (ix3 z q f) = v (ix2 q f) := by
  pointwise [k0_pay5]
theorem pay6_at (v : Vec Ideal S512x256 .f32) (z : Fin 1) (q : Fin 512) (f : Fin 256) :
    k0_pay6 (F := Ideal) v (ix3 z q f) = v (ix2 q f) := by
  pointwise [k0_pay6]
theorem pay7_at (v : Vec Ideal S512x256 .f32) (z : Fin 1) (q : Fin 512) (f : Fin 256) :
    k0_pay7 (F := Ideal) v (ix3 z q f) = v (ix2 q f) := by
  pointwise [k0_pay7]
theorem pay4_at (v : Vec Ideal S512x256 .f32) (z : Fin 1) (q : Fin 512) (f : Fin 256) :
    k0_pay4 (F := Ideal) (k0_pay13 v) (ix3 z q f) = v (ix2 q f) := by
  pointwise [k0_pay4, k0_pay13]

/-- The gradient at the output weight. -/
theorem wo_last : (outsAt0 m c t0_7.val t0_7.isLt).2.2.2.2.2.1
    = k0_pay8 (F := Ideal) ((outsAt0 m c t0_7.val t0_7.isLt).2.2.2.2.2.2.2.2) := by
  rw [outsAt0_C m c t0_7 (by decide) (by decide)]
  frame_out

theorem wo_final : (dats m 0 c).arrAt 14 (cfgs 0).N
    = MergeSpec.dwo (aD m c) (aAB m c) (aGAB m c) (aWA m c) (aWB m c) (aWO m c) (aG m c) := by
  refine (dats m 0 c).arrAt_eq_of_after_last 14 t0_7 (by decide +kernel) _ fun j => ?_
  blk_simp
  idx_vars j
  rw [after0_14, wo_last]
  refine (pay8_at _ j0 j1).trans ((carryO m c j0 j1).trans ?_)
  rfl

/-- A store of the sum, read back part by part. -/
abbrev rdA (P : Vec Ideal S512x1024 .f32) (R : Rect S512x1024) :=
  (View.whole cc0_scratch0).readCov (Val := Elt Ideal) [⟨Rect.unit ![0, 0] ![512, 1024] inb_S512x1024_S512x1024_0_0, P⟩] R.toLoadRect
theorem rdA0 (P : Vec Ideal S512x1024 .f32) (q : Fin 512) (f : Fin 256) :
    rdA P (Rect.unit ![0, 0] ![512, 256] inb_S512x1024_S512x256_0_0) (ix2 q f) = P (ix2 q (lane 0 f)) := by
  rw [rdA, View.readCov_eq_canon', View.canon_cons_unit_lit' (S := S512x1024) _ _ _ (by decide)]
  pointwise [lane]
theorem rdA1 (P : Vec Ideal S512x1024 .f32) (q : Fin 512) (f : Fin 256) :
    rdA P (Rect.unit ![0, 256] ![512, 256] inb_S512x1024_S512x256_0_256) (ix2 q f) = P (ix2 q (lane 1 f)) := by
  rw [rdA, View.readCov_eq_canon', View.canon_cons_unit_lit' (S := S512x1024) _ _ _ (by decide)]
  pointwise [lane]
theorem rdA2 (P : Vec Ideal S512x1024 .f32) (q : Fin 512) (f : Fin 256) :
    rdA P (Rect.unit ![0, 512] ![512, 256] inb_S512x1024_S512x256_0_512) (ix2 q f) = P (ix2 q (lane 2 f)) := by
  rw [rdA, View.readCov_eq_canon', View.canon_cons_unit_lit' (S := S512x1024) _ _ _ (by decide)]
  pointwise [lane]
theorem rdA3 (P : Vec Ideal S512x1024 .f32) (q : Fin 512) (f : Fin 256) :
    rdA P (Rect.unit ![0, 768] ![512, 256] inb_S512x1024_S512x256_0_768) (ix2 q f) = P (ix2 q (lane 3 f)) := by
  rw [rdA, View.readCov_eq_canon', View.canon_cons_unit_lit' (S := S512x1024) _ _ _ (by decide)]
  pointwise [lane]
abbrev tilesA (P : Vec Ideal S512x1024 .f32) : List (View.Piece (Elt Ideal) S4x512x256 .bf16) :=
  [⟨Rect.unit ![3, 0, 0] ![1, 512, 256] inb_S4x512x256_S1x512x256_3_0_0,
      k0_pay6 (F := Ideal) (rdA P (Rect.unit ![0, 768] ![512, 256] inb_S512x1024_S512x256_0_768))⟩,
    ⟨Rect.unit ![2, 0, 0] ![1, 512, 256] inb_S4x512x256_S1x512x256_2_0_0,
      k0_pay4 (F := Ideal) (k0_pay13 (rdA P (Rect.unit ![0, 512] ![512, 256] inb_S512x1024_S512x256_0_512)))⟩,
    ⟨Rect.unit ![1, 0, 0] ![1, 512, 256] inb_S4x512x256_S1x512x256_1_0_0,
      k0_pay11 (F := Ideal) (rdA P (Rect.unit ![0, 256] ![512, 256] inb_S512x1024_S512x256_0_256))⟩,
    ⟨Rect.unit ![0, 0, 0] ![1, 512, 256] inb_S4x512x256_S1x512x256_0_0_0,
      k0_pay9 (F := Ideal) (rdA P (Rect.unit ![0, 0] ![512, 256] inb_S512x1024_S512x256_0_0))⟩]
/-- One stored part. -/
theorem tileA {v : FVec Ideal S1x512x256 .bf16} {P : Vec Ideal S512x1024 .f32} {y0 : Fin 4} {y1 : Fin 512} {y2 : Fin 256}
    {x : S1x512x256.Idx} (j : Fin 4) (hv : ∀ z q f, v (ix3 z q f) = P (ix2 q (lane j f))) (h0 : (y0 : ℕ) = j) (h1 : (y1 : ℕ) = x 1)
    (h2 : (y2 : ℕ) = x 2) : v x = P (ix2 y1 (lane y0 y2)) := by
  idx_vars x
  obtain rfl : y0 = j := Fin.ext h0
  obtain rfl : y1 = x1 := Fin.ext h1
  obtain rfl : y2 = x2 := Fin.ext h2
  exact hv _ _ _
theorem tilesA_at (P : Vec Ideal S512x1024 .f32) (y0 : Fin 4) (y1 : Fin 512) (y2 : Fin 256) :
    View.canon (tilesA P) (ix3 y0 y1 y2) = P (ix2 y1 (lane y0 y2)) := by
  canon_tiles x h
  · exact tileA 3 (fun z q f => (pay6_at _ z q f).trans (rdA3 P q f)) (h0.trans (by have hx : (x 0 : ℕ) < 1 := (x 0).isLt; omega)) h1 h2
  · exact tileA 2 (fun z q f => (pay4_at _ z q f).trans (rdA2 P q f)) (h0.trans (by have hx : (x 0 : ℕ) < 1 := (x 0).isLt; omega)) h1 h2
  · exact tileA 1 (fun z q f => (pay11_at _ z q f).trans (rdA1 P q f)) (h0.trans (by have hx : (x 0 : ℕ) < 1 := (x 0).isLt; omega)) h1 h2
  · exact tileA 0 (fun z q f => (pay9_at _ z q f).trans (rdA0 P q f)) (h0.trans (by have hx : (x 0 : ℕ) < 1 := (x 0).isLt; omega)) h1 h2
theorem wa_last : (outsAt0 m c t0_7.val t0_7.isLt).2.2.2.1
    = View.canon (tilesA ((outsAt0 m c t0_7.val t0_7.isLt).2.2.2.2.2.2.1)) := by
  rw [outsAt0_C m c t0_7 (by decide) (by decide)]
  frame_out

theorem wa_final : (dats m 0 c).arrAt 12 (cfgs 0).N
    = MergeSpec.dwa (aD m c) (aAB m c) (aGAB m c) (aWA m c) (aWB m c) (aWO m c) (aG m c) := by
  refine (dats m 0 c).arrAt_eq_of_after_last 12 t0_7 (by decide +kernel) _ fun j => ?_
  blk_simp
  idx_vars j
  rw [after0_12, wa_last]
  refine (tilesA_at _ j0 j1 j2).trans ((carryA m c j1 (lane j0 j2)).trans ?_)
  rfl

/-- A store of the sum, read back part by part. -/
abbrev rdB (P : Vec Ideal S512x1024 .f32) (R : Rect S512x1024) :=
  (View.whole cc0_scratch1).readCov (Val := Elt Ideal) [⟨Rect.unit ![0, 0] ![512, 1024] inb_S512x1024_S512x1024_0_0, P⟩] R.toLoadRect
theorem rdB0 (P : Vec Ideal S512x1024 .f32) (q : Fin 512) (f : Fin 256) :
    rdB P (Rect.unit ![0, 0] ![512, 256] inb_S512x1024_S512x256_0_0) (ix2 q f) = P (ix2 q (lane 0 f)) := by
  rw [rdB, View.readCov_eq_canon', View.canon_cons_unit_lit' (S := S512x1024) _ _ _ (by decide)]
  pointwise [lane]
theorem rdB1 (P : Vec Ideal S512x1024 .f32) (q : Fin 512) (f : Fin 256) :
    rdB P (Rect.unit ![0, 256] ![512, 256] inb_S512x1024_S512x256_0_256) (ix2 q f) = P (ix2 q (lane 1 f)) := by
  rw [rdB, View.readCov_eq_canon', View.canon_cons_unit_lit' (S := S512x1024) _ _ _ (by decide)]
  pointwise [lane]
theorem rdB2 (P : Vec Ideal S512x1024 .f32) (q : Fin 512) (f : Fin 256) :
    rdB P (Rect.unit ![0, 512] ![512, 256] inb_S512x1024_S512x256_0_512) (ix2 q f) = P (ix2 q (lane 2 f)) := by
  rw [rdB, View.readCov_eq_canon', View.canon_cons_unit_lit' (S := S512x1024) _ _ _ (by decide)]
  pointwise [lane]
theorem rdB3 (P : Vec Ideal S512x1024 .f32) (q : Fin 512) (f : Fin 256) :
    rdB P (Rect.unit ![0, 768] ![512, 256] inb_S512x1024_S512x256_0_768) (ix2 q f) = P (ix2 q (lane 3 f)) := by
  rw [rdB, View.readCov_eq_canon', View.canon_cons_unit_lit' (S := S512x1024) _ _ _ (by decide)]
  pointwise [lane]
abbrev tilesB (P : Vec Ideal S512x1024 .f32) : List (View.Piece (Elt Ideal) S4x512x256 .bf16) :=
  [⟨Rect.unit ![3, 0, 0] ![1, 512, 256] inb_S4x512x256_S1x512x256_3_0_0,
      k0_pay7 (F := Ideal) (rdB P (Rect.unit ![0, 768] ![512, 256] inb_S512x1024_S512x256_0_768))⟩,
    ⟨Rect.unit ![2, 0, 0] ![1, 512, 256] inb_S4x512x256_S1x512x256_2_0_0,
      k0_pay5 (F := Ideal) (rdB P (Rect.unit ![0, 512] ![512, 256] inb_S512x1024_S512x256_0_512))⟩,
    ⟨Rect.unit ![1, 0, 0] ![1, 512, 256] inb_S4x512x256_S1x512x256_1_0_0,
      k0_pay12 (F := Ideal) (rdB P (Rect.unit ![0, 256] ![512, 256] inb_S512x1024_S512x256_0_256))⟩,
    ⟨Rect.unit ![0, 0, 0] ![1, 512, 256] inb_S4x512x256_S1x512x256_0_0_0,
      k0_pay10 (F := Ideal) (rdB P (Rect.unit ![0, 0] ![512, 256] inb_S512x1024_S512x256_0_0))⟩]
theorem tilesB_at (P : Vec Ideal S512x1024 .f32) (y0 : Fin 4) (y1 : Fin 512) (y2 : Fin 256) :
    View.canon (tilesB P) (ix3 y0 y1 y2) = P (ix2 y1 (lane y0 y2)) := by
  canon_tiles x h
  · exact tileA 3 (fun z q f => (pay7_at _ z q f).trans (rdB3 P q f)) (h0.trans (by have hx : (x 0 : ℕ) < 1 := (x 0).isLt; omega)) h1 h2
  · exact tileA 2 (fun z q f => (pay5_at _ z q f).trans (rdB2 P q f)) (h0.trans (by have hx : (x 0 : ℕ) < 1 := (x 0).isLt; omega)) h1 h2
  · exact tileA 1 (fun z q f => (pay12_at _ z q f).trans (rdB1 P q f)) (h0.trans (by have hx : (x 0 : ℕ) < 1 := (x 0).isLt; omega)) h1 h2
  · exact tileA 0 (fun z q f => (pay10_at _ z q f).trans (rdB0 P q f)) (h0.trans (by have hx : (x 0 : ℕ) < 1 := (x 0).isLt; omega)) h1 h2
theorem wb_last : (outsAt0 m c t0_7.val t0_7.isLt).2.2.2.2.1
    = View.canon (tilesB ((outsAt0 m c t0_7.val t0_7.isLt).2.2.2.2.2.2.2.1)) := by
  rw [outsAt0_C m c t0_7 (by decide) (by decide)]
  frame_out

theorem wb_final : (dats m 0 c).arrAt 13 (cfgs 0).N
    = MergeSpec.dwb (aD m c) (aAB m c) (aGAB m c) (aWA m c) (aWB m c) (aWO m c) (aG m c) := by
  refine (dats m 0 c).arrAt_eq_of_after_last 13 t0_7 (by decide +kernel) _ fun j => ?_
  blk_simp
  idx_vars j
  rw [after0_13, wb_last]
  refine (tilesB_at _ j0 j1 j2).trans ((carryB m c j1 (lane j0 j2)).trans ?_)
  rfl

set_option maxHeartbeats 1000000 in
/-- Kernel and reference leave the same six arrays. -/
theorem algebraic : Cert.algebraic_Kernel6Ideal_Reference6Ideal := by
  pair_intro
  · run_from Cert.Kernel6Ideal.Value.run_blocks m g
  · refine Idealize.ShloMosaic.θ_run_mono (Cert.Reference6Ideal.Value.run m' g') fun r h c => ?_
    obtain ⟨e0, e1, e2, e3, e4, e5, e6⟩ := hagree c
    refine ⟨(h c).1.trans ((Cert.Reference6Ideal.Read.val_main_v79_eq m' c).trans ?_),
      (h c).2.1.trans ((Cert.Reference6Ideal.Read.val_main_v78_eq m' c).trans ?_),
      (h c).2.2.1.trans ((Cert.Reference6Ideal.Read.val_main_v45_eq m' c).trans ?_),
      (h c).2.2.2.1.trans ((Cert.Reference6Ideal.Read.val_main_v82_eq m' c).trans ?_),
      (h c).2.2.2.2.1.trans ((Cert.Reference6Ideal.Read.val_main_v85_eq m' c).trans ?_),
      (h c).2.2.2.2.2.1.trans ((Cert.Reference6Ideal.Read.val_main_v86_eq m' c).trans ?_),
      (h c).2.2.2.2.2.2⟩
    · rw [e0, e1, e2, e3, e4, e5, e6]
      exact (MergeSpec.v79_eq (aD m c) (aAB m c) (aGAB m c) (aWA m c) (aWB m c) (aWO m c) (aG m c)).trans (gab_final m c).symm
    · rw [e0, e1, e2, e3, e4, e5, e6]
      exact (MergeSpec.v78_eq (aD m c) (aAB m c) (aGAB m c) (aWA m c) (aWB m c) (aWO m c) (aG m c)).trans (ab_final m c).symm
    · rw [e0, e1, e2, e3, e4, e5]
      exact (MergeSpec.v45_eq (aD m c) (aAB m c) (aGAB m c) (aWA m c) (aWB m c) (aWO m c)).trans (dg_final m c).symm
    · rw [e0, e1, e2, e3, e4, e5, e6]
      exact (MergeSpec.v82_eq (aD m c) (aAB m c) (aGAB m c) (aWA m c) (aWB m c) (aWO m c) (aG m c)).trans (wa_final m c).symm
    · rw [e0, e1, e2, e3, e4, e5, e6]
      exact (MergeSpec.v85_eq (aD m c) (aAB m c) (aGAB m c) (aWA m c) (aWB m c) (aWO m c) (aG m c)).trans (wb_final m c).symm
    · rw [e0, e1, e2, e3, e4, e5, e6]
      exact (MergeSpec.v86_eq (aD m c) (aAB m c) (aGAB m c) (aWA m c) (aWB m c) (aWO m c) (aG m c)).trans (wo_final m c).symm

end Cert.Proof.MergeBwd
-- ==== Proof.AdamW.lean ====
/-
  The optimiser's step on one weight, entry by entry: the two running averages of the gradient and of its square, each
  corrected for the steps taken so far, and the change of the weight. The arrays of the step, written once for every
  shape, and the two forms in which a program writes them.
-/
module

public import proofs.«01_k».proof.Defs
public import Idealize.ShloMosaic.Lib.Pointwise

@[expose] public section

noncomputable section

namespace Cert.Proof.AdamW

open Idealize.ShloMosaic Idealize.ShloMosaic.TcCoe Idealize.SL.Sem StableHlo

variable {s : Shape}

/-- The constant of the given bits. -/
abbrev k (b : BitVec 32) : Ideal .f32 := Scalar.ofBits .f32 b

/-- The running average of the gradient: nine tenths of the last one and a tenth of the gradient. -/
def newM (g m : FVec Ideal s .f32) : FVec Ideal s .f32 :=
  addf (mulf (broadcast s (k 0x3F666666#32)) m) (mulf (broadcast s (k 0x3DCCCCCD#32)) g)

/-- The running average of the gradient's square. -/
def newV (g v : FVec Ideal s .f32) : FVec Ideal s .f32 :=
  addf (mulf (broadcast s (k 0x3F7FBE77#32)) v) (mulf (broadcast s (k 0x3A83126F#32)) (mulf g g))

/-- The change of the weight: the corrected average over the root of the corrected square, with a part of the weight. -/
def delta (w g m v : FVec Ideal s .f32) : FVec Ideal s .f32 :=
  mulf (broadcast s (k 0xBA83126F#32))
    (addf
      (divf (divf (newM g m) (broadcast s (k 0x3F26BD02#32)))
        (addf (sqrt (divf (newV g v) (broadcast s (k 0x3C231ACC#32)))) (broadcast s (k 0x322BCC77#32))))
      (mulf (broadcast s (k 0x3C23D70A#32)) w))

section At

variable {s' : Shape} {w g m v : FVec Ideal s .f32} {w' g' m' v' : FVec Ideal s' .f32} {i : s.Idx} {j : s'.Idx}

/-- The gradient's average at an index depends on its arguments there alone. -/
theorem newM_at (hg : g i = g' j) (hm : m i = m' j) : newM g m i = newM g' m' j := by
  simp only [newM, addf, mulf, broadcast, hg, hm]

/-- The square's average at an index depends on its arguments there alone. -/
theorem newV_at (hg : g i = g' j) (hv : v i = v' j) : newV g v i = newV g' v' j := by
  simp only [newV, addf, mulf, broadcast, hg, hv]

/-- The weight's change at an index depends on its arguments there alone. -/
theorem delta_at (hw : w i = w' j) (hg : g i = g' j) (hm : m i = m' j) (hv : v i = v' j) :
    delta w g m v i = delta w' g' m' v' j := by
  simp only [delta, addf, mulf, divf, sqrt, broadcast, hw, newM_at hg hm, newV_at hg hv]

end At

variable (h : Shape.BroadcastsInDim ⟨0, ![]⟩ s (![] : Fin 0 → Fin s.rank)) (w g m v : FVec Ideal s .f32)

/-- The host's spelling of the gradient's running average. -/
theorem host_newM :
    addf (mulf (broadcastInDim s ![] h (constant ⟨0, ![]⟩ .f32 0x3F666666#32)) m)
      (mulf (broadcastInDim s ![] h (constant ⟨0, ![]⟩ .f32 0x3DCCCCCD#32)) g) = newM g m := rfl

/-- The host's spelling of the square's running average. -/
theorem host_newV :
    addf (mulf (broadcastInDim s ![] h (constant ⟨0, ![]⟩ .f32 0x3F7FBE77#32)) v)
      (mulf (broadcastInDim s ![] h (constant ⟨0, ![]⟩ .f32 0x3A83126F#32)) (mulf g g)) = newV g v := rfl

/-- The host's spelling of the weight's change. -/
theorem host_delta :
    mulf (broadcastInDim s ![] h (constant ⟨0, ![]⟩ .f32 0xBA83126F#32))
      (addf
        (Host.divf (Host.divf (newM g m) (broadcastInDim s ![] h (constant ⟨0, ![]⟩ .f32 0x3F26BD02#32)))
          (addf (Host.sqrt (Host.divf (newV g v) (broadcastInDim s ![] h (constant ⟨0, ![]⟩ .f32 0x3C231ACC#32))))
            (broadcastInDim s ![] h (constant ⟨0, ![]⟩ .f32 0x322BCC77#32))))
        (mulf (broadcastInDim s ![] h (constant ⟨0, ![]⟩ .f32 0x3C23D70A#32)) w)) = delta w g m v := rfl

end Cert.Proof.AdamW
-- ==== Proof.AdamWLarge.lean ====
/-
  The optimiser on five large weights, each cut into eight blocks of rows: the kernel leaves the change and the two new
  averages that the plain formula gives of the whole weight.
-/
module

public import proofs.«01_k».proof.Defs
public import proofs.«01_k».proof.Proof.AdamW
public import proofs.«01_k».proof.Proof.Gen.Kernel7Ideal.Value
public import proofs.«01_k».proof.Proof.Gen.Reference7Ideal
public import proofs.«01_k».proof.Proof.Gen.Reference7Ideal.Read
public import proofs.«01_k».proof.Proof.Gen.Kernel8Ideal.Value
public import proofs.«01_k».proof.Proof.Gen.Reference8Ideal
public import proofs.«01_k».proof.Proof.Gen.Reference8Ideal.Read
public import Idealize.ShloMosaic.Lib.Pointwise
public import Idealize.ShloMosaic.Lib.Claim
public import Idealize.ShloMosaic.Lib.Pipeline.ValueKit

@[expose] public section

set_option maxRecDepth 16384

noncomputable section

namespace Cert.Proof.AdamWLarge

open Idealize.ShloMosaic Idealize.ShloMosaic.TcCoe Idealize.SL.Sem StableHlo
open Cert.Proof.AdamW

namespace Mixer

open Cert.Kernel7Ideal Cert.Kernel7Ideal.Gen

section Bodies

/-- The body's values on a block of the first weight. -/
theorem body0 (g w m v : Vec Ideal S64x256 .f32) :
    k0_pay3 g m = newM g m ∧ k0_pay4 g v = newV g v ∧ k0_pay5 g w m v = delta w g m v := by
  refine ⟨?_, ?_, ?_⟩ <;> simp only [k0_pay2, k0_pay3, k0_pay4, k0_pay5, shapeCast_self] <;> rfl

/-- The body's values on a block of the second weight. -/
theorem body1 (g w m v : Vec Ideal S64x256 .f32) :
    k0_pay7 g m = newM g m ∧ k0_pay8 g v = newV g v ∧ k0_pay9 g w m v = delta w g m v := by
  refine ⟨?_, ?_, ?_⟩ <;> simp only [k0_pay6, k0_pay7, k0_pay8, k0_pay9, shapeCast_self] <;> rfl

/-- The body's values on a block of the third weight. -/
theorem body2 (g w m v : Vec Ideal S32x1024 .f32) :
    k0_pay11 g m = newM g m ∧ k0_pay12 g v = newV g v ∧ k0_pay1 (k0_pay13 g m v) (k0_pay14 w) = delta w g m v := by
  refine ⟨?_, ?_, ?_⟩ <;> simp only [k0_pay1, k0_pay10, k0_pay11, k0_pay12, k0_pay13, k0_pay14, shapeCast_self] <;> rfl

end Bodies

variable (m : (ℓ : Loc nD τ sig) → Buf (Elt Ideal) ℓ) (c : Dev nD)

/-- The windows of the first weight move together, one block of rows at a grid point. -/
theorem idx0 : ∀ t : Fin cfg0.N, win0_0.index t = ![t.val, 0] ∧ win0_1.index t = ![t.val, 0] ∧ win0_2.index t = ![t.val, 0] ∧ win0_3.index t = ![t.val, 0]
    ∧ win0_13.index t = ![t.val, 0] ∧ win0_14.index t = ![t.val, 0] ∧ win0_15.index t = ![t.val, 0] :=
  (by decide +kernel : ∀ t : Fin grid0.N, _)

/-- What the call finds of the first weight: each argument without its leading axis. -/
theorem entry0 :
    V m c main_v0 = (shapeCast S512x256 (m ((c : Thread nD τ).loc main_arg0) : FVec Ideal S1x512x256 .f32) shapeCasts_S1x512x256_S512x256 : FVec Ideal S512x256 .f32)
    ∧ V m c main_v3 = (shapeCast S512x256 (m ((c : Thread nD τ).loc main_arg1) : FVec Ideal S1x512x256 .f32) shapeCasts_S1x512x256_S512x256 : FVec Ideal S512x256 .f32)
    ∧ V m c main_v6 = (shapeCast S512x256 (m ((c : Thread nD τ).loc main_arg2) : FVec Ideal S1x512x256 .f32) shapeCasts_S1x512x256_S512x256 : FVec Ideal S512x256 .f32)
    ∧ V m c main_v9 = (shapeCast S512x256 (m ((c : Thread nD τ).loc main_arg3) : FVec Ideal S1x512x256 .f32) shapeCasts_S1x512x256_S512x256 : FVec Ideal S512x256 .f32) := by
  refine ⟨?_, ?_, ?_, ?_⟩ <;> (entry_read; rfl)

set_option maxHeartbeats 2000000 in
/-- The arrays the kernel leaves of the first weight. -/
theorem final0 :
    (dats m 0 c).arrAt 13 (cfgs 0).N = (delta (V m c main_v0) (V m c main_v9) (V m c main_v3) (V m c main_v6) : FVec Ideal S512x256 .f32)
    ∧ (dats m 0 c).arrAt 14 (cfgs 0).N = (newM (V m c main_v9) (V m c main_v3) : FVec Ideal S512x256 .f32)
    ∧ (dats m 0 c).arrAt 15 (cfgs 0).N = (newV (V m c main_v9) (V m c main_v6) : FVec Ideal S512x256 .f32) := by
  refine ⟨(dats m 0 c).arrAt_eq_of_covers 13 _ (by decide +kernel) fun t _ y => ?_,
    (dats m 0 c).arrAt_eq_of_covers 14 _ (by decide +kernel) fun t _ y => ?_,
    (dats m 0 c).arrAt_eq_of_covers 15 _ (by decide +kernel) fun t _ y => ?_⟩ <;> blk_simp
  · rw [after0_13]
    frame_out
    rw [(body0 _ _ _ _).2.2]
    idx_vars y
    refine delta_at ?_ ?_ ?_ ?_ <;> blk_ext [iblk, idx0 t]
  · rw [after0_14]
    frame_out
    rw [(body0 _ 0 _ 0).1]
    idx_vars y
    refine newM_at ?_ ?_ <;> blk_ext [iblk, idx0 t]
  · rw [after0_15]
    frame_out
    rw [(body0 _ 0 0 _).2.1]
    idx_vars y
    refine newV_at ?_ ?_ <;> blk_ext [iblk, idx0 t]

/-- The windows of the second weight move together, one block of rows at a grid point. -/
theorem idx1 : ∀ t : Fin cfg0.N, win0_4.index t = ![t.val, 0] ∧ win0_5.index t = ![t.val, 0] ∧ win0_6.index t = ![t.val, 0] ∧ win0_7.index t = ![t.val, 0]
    ∧ win0_17.index t = ![t.val, 0] ∧ win0_18.index t = ![t.val, 0] ∧ win0_19.index t = ![t.val, 0] :=
  (by decide +kernel : ∀ t : Fin grid0.N, _)

/-- What the call finds of the second weight: each argument without its leading axis. -/
theorem entry1 :
    V m c main_v1 = (shapeCast S512x256 (m ((c : Thread nD τ).loc main_arg4) : FVec Ideal S1x512x256 .f32) shapeCasts_S1x512x256_S512x256 : FVec Ideal S512x256 .f32)
    ∧ V m c main_v4 = (shapeCast S512x256 (m ((c : Thread nD τ).loc main_arg5) : FVec Ideal S1x512x256 .f32) shapeCasts_S1x512x256_S512x256 : FVec Ideal S512x256 .f32)
    ∧ V m c main_v7 = (shapeCast S512x256 (m ((c : Thread nD τ).loc main_arg6) : FVec Ideal S1x512x256 .f32) shapeCasts_S1x512x256_S512x256 : FVec Ideal S512x256 .f32)
    ∧ V m c main_v10 = (shapeCast S512x256 (m ((c : Thread nD τ).loc main_arg7) : FVec Ideal S1x512x256 .f32) shapeCasts_S1x512x256_S512x256 : FVec Ideal S512x256 .f32) := by
  refine ⟨?_, ?_, ?_, ?_⟩ <;> (entry_read; rfl)

set_option maxHeartbeats 2000000 in
/-- The arrays the kernel leaves of the second weight. -/
theorem final1 :
    (dats m 0 c).arrAt 17 (cfgs 0).N = (delta (V m c main_v1) (V m c main_v10) (V m c main_v4) (V m c main_v7) : FVec Ideal S512x256 .f32)
    ∧ (dats m 0 c).arrAt 18 (cfgs 0).N = (newM (V m c main_v10) (V m c main_v4) : FVec Ideal S512x256 .f32)
    ∧ (dats m 0 c).arrAt 19 (cfgs 0).N = (newV (V m c main_v10) (V m c main_v7) : FVec Ideal S512x256 .f32) := by
  refine ⟨(dats m 0 c).arrAt_eq_of_covers 17 _ (by decide +kernel) fun t _ y => ?_,
    (dats m 0 c).arrAt_eq_of_covers 18 _ (by decide +kernel) fun t _ y => ?_,
    (dats m 0 c).arrAt_eq_of_covers 19 _ (by decide +kernel) fun t _ y => ?_⟩ <;> blk_simp
  · rw [after0_17]
    frame_out
    rw [(body1 _ _ _ _).2.2]
    idx_vars y
    refine delta_at ?_ ?_ ?_ ?_ <;> blk_ext [iblk, idx1 t]
  · rw [after0_18]
    frame_out
    rw [(body1 _ 0 _ 0).1]
    idx_vars y
    refine newM_at ?_ ?_ <;> blk_ext [iblk, idx1 t]
  · rw [after0_19]
    frame_out
    rw [(body1 _ 0 0 _).2.1]
    idx_vars y
    refine newV_at ?_ ?_ <;> blk_ext [iblk, idx1 t]

/-- The windows of the third weight move together, one block of rows at a grid point. -/
theorem idx2 : ∀ t : Fin cfg0.N, win0_8.index t = ![t.val, 0] ∧ win0_9.index t = ![t.val, 0] ∧ win0_10.index t = ![t.val, 0] ∧ win0_11.index t = ![t.val, 0]
    ∧ win0_21.index t = ![t.val, 0] ∧ win0_22.index t = ![t.val, 0] ∧ win0_23.index t = ![t.val, 0] :=
  (by decide +kernel : ∀ t : Fin grid0.N, _)

/-- What the call finds of the third weight: each argument without its leading axis. -/
theorem entry2 :
    V m c main_v2 = (shapeCast S256x1024 (m ((c : Thread nD τ).loc main_arg8) : FVec Ideal S1x256x1024 .f32) shapeCasts_S1x256x1024_S256x1024 : FVec Ideal S256x1024 .f32)
    ∧ V m c main_v5 = (shapeCast S256x1024 (m ((c : Thread nD τ).loc main_arg9) : FVec Ideal S1x256x1024 .f32) shapeCasts_S1x256x1024_S256x1024 : FVec Ideal S256x1024 .f32)
    ∧ V m c main_v8 = (shapeCast S256x1024 (m ((c : Thread nD τ).loc main_arg10) : FVec Ideal S1x256x1024 .f32) shapeCasts_S1x256x1024_S256x1024 : FVec Ideal S256x1024 .f32)
    ∧ V m c main_v11 = (shapeCast S256x1024 (m ((c : Thread nD τ).loc main_arg11) : FVec Ideal S1x256x1024 .f32) shapeCasts_S1x256x1024_S256x1024 : FVec Ideal S256x1024 .f32) := by
  refine ⟨?_, ?_, ?_, ?_⟩ <;> (entry_read; rfl)

set_option maxHeartbeats 2000000 in
/-- The arrays the kernel leaves of the third weight. -/
theorem final2 :
    (dats m 0 c).arrAt 21 (cfgs 0).N = (delta (V m c main_v2) (V m c main_v11) (V m c main_v5) (V m c main_v8) : FVec Ideal S256x1024 .f32)
    ∧ (dats m 0 c).arrAt 22 (cfgs 0).N = (newM (V m c main_v11) (V m c main_v5) : FVec Ideal S256x1024 .f32)
    ∧ (dats m 0 c).arrAt 23 (cfgs 0).N = (newV (V m c main_v11) (V m c main_v8) : FVec Ideal S256x1024 .f32) := by
  refine ⟨(dats m 0 c).arrAt_eq_of_covers 21 _ (by decide +kernel) fun t _ y => ?_,
    (dats m 0 c).arrAt_eq_of_covers 22 _ (by decide +kernel) fun t _ y => ?_,
    (dats m 0 c).arrAt_eq_of_covers 23 _ (by decide +kernel) fun t _ y => ?_⟩ <;> blk_simp
  · rw [after0_21]
    frame_out
    rw [(body2 _ _ _ _).2.2]
    idx_vars y
    refine delta_at ?_ ?_ ?_ ?_ <;> blk_ext [iblk, idx2 t]
  · rw [after0_22]
    frame_out
    rw [(body2 _ 0 _ 0).1]
    idx_vars y
    refine newM_at ?_ ?_ <;> blk_ext [iblk, idx2 t]
  · rw [after0_23]
    frame_out
    rw [(body2 _ 0 0 _).2.1]
    idx_vars y
    refine newV_at ?_ ?_ <;> blk_ext [iblk, idx2 t]

end Mixer

set_option maxHeartbeats 1000000 in
/-- Kernel and reference leave the same changes and averages of the mixer's three weights. -/
theorem algebraic_mixer : Cert.algebraic_Kernel7Ideal_Reference7Ideal := by
  pair_intro
  · run_from Cert.Kernel7Ideal.Value.run_blocks m g
  · refine Idealize.ShloMosaic.θ_run_mono (Cert.Reference7Ideal.Value.run m' g') fun r h c => ?_
    have h := h c
    obtain ⟨a0, a1, a2, a3, a4, a5, a6, a7, a8, a9, a10, a11⟩ := hagree c
    refine ⟨(h.1).trans (Eq.trans ?_ (Mixer.final0 m c).1.symm),
      (h.2.1).trans (Eq.trans ?_ (Mixer.final0 m c).2.1.symm),
      (h.2.2.1).trans (Eq.trans ?_ (Mixer.final0 m c).2.2.symm),
      (h.2.2.2.1).trans (Eq.trans ?_ (Mixer.final1 m c).1.symm),
      (h.2.2.2.2.1).trans (Eq.trans ?_ (Mixer.final1 m c).2.1.symm),
      (h.2.2.2.2.2.1).trans (Eq.trans ?_ (Mixer.final1 m c).2.2.symm),
      (h.2.2.2.2.2.2.1).trans (Eq.trans ?_ (Mixer.final2 m c).1.symm),
      (h.2.2.2.2.2.2.2.1).trans (Eq.trans ?_ (Mixer.final2 m c).2.1.symm),
      (h.2.2.2.2.2.2.2.2.1).trans (Eq.trans ?_ (Mixer.final2 m c).2.2.symm),
      h.2.2.2.2.2.2.2.2.2⟩ <;>
      simp only [Mixer.entry0 m c, Mixer.entry1 m c, Mixer.entry2 m c, a0, a1, a2, a3, a4, a5, a6, a7, a8, a9, a10, a11] <;> rfl

namespace Mlp

open Cert.Kernel8Ideal Cert.Kernel8Ideal.Gen

section Bodies

/-- The body's values on a block of the first weight. -/
theorem body0 (g w m v : Vec Ideal S128x1024 .f32) :
    k0_pay2 g m = newM g m ∧ k0_pay3 g v = newV g v ∧ k0_pay4 g w m v = delta w g m v := by
  refine ⟨?_, ?_, ?_⟩ <;> simp only [k0_pay1, k0_pay2, k0_pay3, k0_pay4, shapeCast_self] <;> rfl

/-- The body's values on a block of the second weight. -/
theorem body1 (g w m v : Vec Ideal S128x1024 .f32) :
    k0_pay6 g m = newM g m ∧ k0_pay7 g v = newV g v ∧ k0_pay8 g w m v = delta w g m v := by
  refine ⟨?_, ?_, ?_⟩ <;> simp only [k0_pay5, k0_pay6, k0_pay7, k0_pay8, shapeCast_self] <;> rfl

end Bodies

variable (m : (ℓ : Loc nD τ sig) → Buf (Elt Ideal) ℓ) (c : Dev nD)

/-- The windows of the first weight move together, one block of rows at a grid point. -/
theorem idx0 : ∀ t : Fin cfg0.N, win0_0.index t = ![t.val, 0] ∧ win0_1.index t = ![t.val, 0] ∧ win0_2.index t = ![t.val, 0] ∧ win0_3.index t = ![t.val, 0]
    ∧ win0_9.index t = ![t.val, 0] ∧ win0_10.index t = ![t.val, 0] ∧ win0_11.index t = ![t.val, 0] :=
  (by decide +kernel : ∀ t : Fin grid0.N, _)

/-- What the call finds of the first weight: each argument without its leading axis. -/
theorem entry0 :
    V m c main_v0 = (shapeCast S1024x1024 (m ((c : Thread nD τ).loc main_arg0) : FVec Ideal S1x1024x1024 .f32) shapeCasts_S1x1024x1024_S1024x1024 : FVec Ideal S1024x1024 .f32)
    ∧ V m c main_v2 = (shapeCast S1024x1024 (m ((c : Thread nD τ).loc main_arg1) : FVec Ideal S1x1024x1024 .f32) shapeCasts_S1x1024x1024_S1024x1024 : FVec Ideal S1024x1024 .f32)
    ∧ V m c main_v4 = (shapeCast S1024x1024 (m ((c : Thread nD τ).loc main_arg2) : FVec Ideal S1x1024x1024 .f32) shapeCasts_S1x1024x1024_S1024x1024 : FVec Ideal S1024x1024 .f32)
    ∧ V m c main_v6 = (shapeCast S1024x1024 (m ((c : Thread nD τ).loc main_arg3) : FVec Ideal S1x1024x1024 .f32) shapeCasts_S1x1024x1024_S1024x1024 : FVec Ideal S1024x1024 .f32) := by
  refine ⟨?_, ?_, ?_, ?_⟩ <;> (entry_read; rfl)

set_option maxHeartbeats 2000000 in
/-- The arrays the kernel leaves of the first weight. -/
theorem final0 :
    (dats m 0 c).arrAt 9 (cfgs 0).N = (delta (V m c main_v0) (V m c main_v6) (V m c main_v2) (V m c main_v4) : FVec Ideal S1024x1024 .f32)
    ∧ (dats m 0 c).arrAt 10 (cfgs 0).N = (newM (V m c main_v6) (V m c main_v2) : FVec Ideal S1024x1024 .f32)
    ∧ (dats m 0 c).arrAt 11 (cfgs 0).N = (newV (V m c main_v6) (V m c main_v4) : FVec Ideal S1024x1024 .f32) := by
  refine ⟨(dats m 0 c).arrAt_eq_of_covers 9 _ (by decide +kernel) fun t _ y => ?_,
    (dats m 0 c).arrAt_eq_of_covers 10 _ (by decide +kernel) fun t _ y => ?_,
    (dats m 0 c).arrAt_eq_of_covers 11 _ (by decide +kernel) fun t _ y => ?_⟩ <;> blk_simp
  · rw [after0_9]
    frame_out
    rw [(body0 _ _ _ _).2.2]
    idx_vars y
    refine delta_at ?_ ?_ ?_ ?_ <;> blk_ext [iblk, idx0 t]
  · rw [after0_10]
    frame_out
    rw [(body0 _ 0 _ 0).1]
    idx_vars y
    refine newM_at ?_ ?_ <;> blk_ext [iblk, idx0 t]
  · rw [after0_11]
    frame_out
    rw [(body0 _ 0 0 _).2.1]
    idx_vars y
    refine newV_at ?_ ?_ <;> blk_ext [iblk, idx0 t]

/-- The windows of the second weight move together, one block of rows at a grid point. -/
theorem idx1 : ∀ t : Fin cfg0.N, win0_4.index t = ![t.val, 0] ∧ win0_5.index t = ![t.val, 0] ∧ win0_6.index t = ![t.val, 0] ∧ win0_7.index t = ![t.val, 0]
    ∧ win0_13.index t = ![t.val, 0] ∧ win0_14.index t = ![t.val, 0] ∧ win0_15.index t = ![t.val, 0] :=
  (by decide +kernel : ∀ t : Fin grid0.N, _)

/-- What the call finds of the second weight: each argument without its leading axis. -/
theorem entry1 :
    V m c main_v1 = (shapeCast S1024x1024 (m ((c : Thread nD τ).loc main_arg4) : FVec Ideal S1x1024x1024 .f32) shapeCasts_S1x1024x1024_S1024x1024 : FVec Ideal S1024x1024 .f32)
    ∧ V m c main_v3 = (shapeCast S1024x1024 (m ((c : Thread nD τ).loc main_arg5) : FVec Ideal S1x1024x1024 .f32) shapeCasts_S1x1024x1024_S1024x1024 : FVec Ideal S1024x1024 .f32)
    ∧ V m c main_v5 = (shapeCast S1024x1024 (m ((c : Thread nD τ).loc main_arg6) : FVec Ideal S1x1024x1024 .f32) shapeCasts_S1x1024x1024_S1024x1024 : FVec Ideal S1024x1024 .f32)
    ∧ V m c main_v7 = (shapeCast S1024x1024 (m ((c : Thread nD τ).loc main_arg7) : FVec Ideal S1x1024x1024 .f32) shapeCasts_S1x1024x1024_S1024x1024 : FVec Ideal S1024x1024 .f32) := by
  refine ⟨?_, ?_, ?_, ?_⟩ <;> (entry_read; rfl)

set_option maxHeartbeats 2000000 in
/-- The arrays the kernel leaves of the second weight. -/
theorem final1 :
    (dats m 0 c).arrAt 13 (cfgs 0).N = (delta (V m c main_v1) (V m c main_v7) (V m c main_v3) (V m c main_v5) : FVec Ideal S1024x1024 .f32)
    ∧ (dats m 0 c).arrAt 14 (cfgs 0).N = (newM (V m c main_v7) (V m c main_v3) : FVec Ideal S1024x1024 .f32)
    ∧ (dats m 0 c).arrAt 15 (cfgs 0).N = (newV (V m c main_v7) (V m c main_v5) : FVec Ideal S1024x1024 .f32) := by
  refine ⟨(dats m 0 c).arrAt_eq_of_covers 13 _ (by decide +kernel) fun t _ y => ?_,
    (dats m 0 c).arrAt_eq_of_covers 14 _ (by decide +kernel) fun t _ y => ?_,
    (dats m 0 c).arrAt_eq_of_covers 15 _ (by decide +kernel) fun t _ y => ?_⟩ <;> blk_simp
  · rw [after0_13]
    frame_out
    rw [(body1 _ _ _ _).2.2]
    idx_vars y
    refine delta_at ?_ ?_ ?_ ?_ <;> blk_ext [iblk, idx1 t]
  · rw [after0_14]
    frame_out
    rw [(body1 _ 0 _ 0).1]
    idx_vars y
    refine newM_at ?_ ?_ <;> blk_ext [iblk, idx1 t]
  · rw [after0_15]
    frame_out
    rw [(body1 _ 0 0 _).2.1]
    idx_vars y
    refine newV_at ?_ ?_ <;> blk_ext [iblk, idx1 t]

end Mlp

set_option maxHeartbeats 1000000 in
/-- Kernel and reference leave the same changes and averages of the MLP's two weights. -/
theorem algebraic_mlp : Cert.algebraic_Kernel8Ideal_Reference8Ideal := by
  pair_intro
  · run_from Cert.Kernel8Ideal.Value.run_blocks m g
  · refine Idealize.ShloMosaic.θ_run_mono (Cert.Reference8Ideal.Value.run m' g') fun r h c => ?_
    have h := h c
    obtain ⟨a0, a1, a2, a3, a4, a5, a6, a7⟩ := hagree c
    refine ⟨(h.1).trans (Eq.trans ?_ (Mlp.final0 m c).1.symm),
      (h.2.1).trans (Eq.trans ?_ (Mlp.final0 m c).2.1.symm),
      (h.2.2.1).trans (Eq.trans ?_ (Mlp.final0 m c).2.2.symm),
      (h.2.2.2.1).trans (Eq.trans ?_ (Mlp.final1 m c).1.symm),
      (h.2.2.2.2.1).trans (Eq.trans ?_ (Mlp.final1 m c).2.1.symm),
      (h.2.2.2.2.2.1).trans (Eq.trans ?_ (Mlp.final1 m c).2.2.symm),
      h.2.2.2.2.2.2⟩ <;>
      simp only [Mlp.entry0 m c, Mlp.entry1 m c, a0, a1, a2, a3, a4, a5, a6, a7] <;> rfl

end Cert.Proof.AdamWLarge
-- ==== Proof.AdamWSmall.lean ====
/-
  The optimiser on the small weights, each held whole: the kernel leaves the change and the two new averages that the
  plain formula gives.
-/
module

public import proofs.«01_k».proof.Defs
public import proofs.«01_k».proof.Proof.AdamW
public import proofs.«01_k».proof.Proof.Gen.Kernel9Ideal.Value
public import proofs.«01_k».proof.Proof.Gen.Reference9Ideal
public import proofs.«01_k».proof.Proof.Gen.Reference9Ideal.Read
public import proofs.«01_k».proof.Proof.Gen.Kernel10Ideal.Value
public import proofs.«01_k».proof.Proof.Gen.Reference10Ideal
public import proofs.«01_k».proof.Proof.Gen.Reference10Ideal.Read
public import proofs.«01_k».proof.Proof.Gen.Kernel11Ideal.Value
public import proofs.«01_k».proof.Proof.Gen.Reference11Ideal
public import proofs.«01_k».proof.Proof.Gen.Reference11Ideal.Read
public import Idealize.ShloMosaic.Lib.Pointwise
public import Idealize.ShloMosaic.Lib.Claim
public import Idealize.ShloMosaic.Lib.Pipeline.ValueKit

@[expose] public section

set_option maxRecDepth 16384

noncomputable section

namespace Cert.Proof.AdamWSmall

open Idealize.ShloMosaic Idealize.ShloMosaic.TcCoe Idealize.SL.Sem StableHlo
open Cert.Proof.AdamW

set_option maxHeartbeats 1000000 in
/-- Kernel and reference leave the same changes and averages of `g_pre_mix`, `b_a_up`, `g_gla_norm` and `conv_b`. -/
theorem algebraic9 : Cert.algebraic_Kernel9Ideal_Reference9Ideal := by
  pair_intro
  · run_from Cert.Kernel9Ideal.Value.run m g
  · refine Idealize.ShloMosaic.θ_run_mono (Cert.Reference9Ideal.Value.run m' g') fun r h c => ?_
    have h := h c
    obtain ⟨e0, e1, e2, e3, e4, e5, e6, e7, e8, e9, e10, e11, e12, e13, e14, e15⟩ := hagree c
    refine ⟨h.1.trans ?_,
      h.2.1.trans ?_,
      h.2.2.1.trans ?_,
      h.2.2.2.1.trans ?_,
      h.2.2.2.2.1.trans ?_,
      h.2.2.2.2.2.1.trans ?_,
      h.2.2.2.2.2.2.1.trans ?_,
      h.2.2.2.2.2.2.2.1.trans ?_,
      h.2.2.2.2.2.2.2.2.1.trans ?_,
      h.2.2.2.2.2.2.2.2.2.1.trans ?_,
      h.2.2.2.2.2.2.2.2.2.2.1.trans ?_,
      h.2.2.2.2.2.2.2.2.2.2.2.1.trans ?_, h.2.2.2.2.2.2.2.2.2.2.2.2⟩ <;>
      simp only [e0, e1, e2, e3, e4, e5, e6, e7, e8, e9, e10, e11, e12, e13, e14, e15] <;> rfl

set_option maxHeartbeats 1000000 in
/-- Kernel and reference leave the same changes and averages of `b_if`, `ml_skip`, `g_ml_norm` and `g_post_mix`. -/
theorem algebraic10 : Cert.algebraic_Kernel10Ideal_Reference10Ideal := by
  pair_intro
  · run_from Cert.Kernel10Ideal.Value.run m g
  · refine Idealize.ShloMosaic.θ_run_mono (Cert.Reference10Ideal.Value.run m' g') fun r h c => ?_
    have h := h c
    obtain ⟨e0, e1, e2, e3, e4, e5, e6, e7, e8, e9, e10, e11, e12, e13, e14, e15⟩ := hagree c
    refine ⟨h.1.trans ?_,
      h.2.1.trans ?_,
      h.2.2.1.trans ?_,
      h.2.2.2.1.trans ?_,
      h.2.2.2.2.1.trans ?_,
      h.2.2.2.2.2.1.trans ?_,
      h.2.2.2.2.2.2.1.trans ?_,
      h.2.2.2.2.2.2.2.1.trans ?_,
      h.2.2.2.2.2.2.2.2.1.trans ?_,
      h.2.2.2.2.2.2.2.2.2.1.trans ?_,
      h.2.2.2.2.2.2.2.2.2.2.1.trans ?_,
      h.2.2.2.2.2.2.2.2.2.2.2.1.trans ?_, h.2.2.2.2.2.2.2.2.2.2.2.2⟩ <;>
      simp only [e0, e1, e2, e3, e4, e5, e6, e7, e8, e9, e10, e11, e12, e13, e14, e15] <;> rfl

set_option maxHeartbeats 1000000 in
/-- Kernel and reference leave the same changes and averages of `g_pre_mlp`, `g_post_mlp`, `w_a_up` and `conv_w`. -/
theorem algebraic11 : Cert.algebraic_Kernel11Ideal_Reference11Ideal := by
  pair_intro
  · run_from Cert.Kernel11Ideal.Value.run m g
  · refine Idealize.ShloMosaic.θ_run_mono (Cert.Reference11Ideal.Value.run m' g') fun r h c => ?_
    have h := h c
    obtain ⟨e0, e1, e2, e3, e4, e5, e6, e7, e8, e9, e10, e11, e12, e13, e14, e15⟩ := hagree c
    refine ⟨h.1.trans ?_,
      h.2.1.trans ?_,
      h.2.2.1.trans ?_,
      h.2.2.2.1.trans ?_,
      h.2.2.2.2.1.trans ?_,
      h.2.2.2.2.2.1.trans ?_,
      h.2.2.2.2.2.2.1.trans ?_,
      h.2.2.2.2.2.2.2.1.trans ?_,
      h.2.2.2.2.2.2.2.2.1.trans ?_,
      h.2.2.2.2.2.2.2.2.2.1.trans ?_,
      h.2.2.2.2.2.2.2.2.2.2.1.trans ?_,
      h.2.2.2.2.2.2.2.2.2.2.2.1.trans ?_, h.2.2.2.2.2.2.2.2.2.2.2.2⟩ <;>
      simp only [e0, e1, e2, e3, e4, e5, e6, e7, e8, e9, e10, e11, e12, e13, e14, e15] <;> rfl

end Cert.Proof.AdamWSmall
-- ==== Proof.AdamWStored.lean ====
/-
  The optimiser on the four small weights that are stored with their axes exchanged: the kernel takes each weight, its
  gradient and its averages as stored, and leaves what the plain formula gives of them before the exchange.
-/
module

public import proofs.«01_k».proof.Defs
public import proofs.«01_k».proof.Proof.AdamW
public import proofs.«01_k».proof.Proof.Gen.Kernel12Ideal.Value
public import proofs.«01_k».proof.Proof.Gen.Reference12Ideal
public import proofs.«01_k».proof.Proof.Gen.Reference12Ideal.Read
public import proofs.«01_k».proof.Proof.Gen.Kernel13Ideal.Value
public import proofs.«01_k».proof.Proof.Gen.Reference13Ideal
public import proofs.«01_k».proof.Proof.Gen.Reference13Ideal.Read
public import Idealize.ShloMosaic.Lib.Pointwise
public import Idealize.ShloMosaic.Lib.Claim
public import Idealize.ShloMosaic.Lib.Pipeline.ValueKit

@[expose] public section

set_option maxRecDepth 16384

noncomputable section

namespace Cert.Proof.AdamWStored

open Idealize.ShloMosaic Idealize.ShloMosaic.TcCoe Idealize.SL.Sem StableHlo
open Cert.Proof.AdamW

/-- A block-diagonal weight as it is stored: the blocks' axis last. -/
def blocks (x : FVec Ideal ⟨4, ![1, 128, 4, 4]⟩ .f32) : FVec Ideal ⟨2, ![16, 128]⟩ .f32 :=
  shapeCast _ (transpose Cert.Kernel13Ideal.S1x4x4x128 [0, 2, 3, 1] x Cert.Kernel13Ideal.Gen.transposes_S1x128x4x4_S1x4x4x128_0_2_3_1)
    Cert.Kernel13Ideal.Gen.shapeCasts_S1x4x4x128_S16x128

/-- The gates' weight as it is stored: the gates' axis first. -/
def gates (x : FVec Ideal ⟨3, ![1, 384, 8]⟩ .f32) : FVec Ideal ⟨2, ![8, 384]⟩ .f32 :=
  shapeCast _ (transpose Cert.Kernel13Ideal.S1x8x384 [0, 2, 1] x Cert.Kernel13Ideal.Gen.transposes_S1x384x8_S1x8x384_0_2_1)
    Cert.Kernel13Ideal.Gen.shapeCasts_S1x8x384_S8x384

namespace Queries

open Cert.Kernel12Ideal Cert.Kernel12Ideal.Gen

/-- The body's values for `w_q_ml`. -/
theorem body0 (w g m v : Vec Ideal S16x128 .f32) :
    k0_pay2 g m = newM g m ∧ k0_pay3 g v = newV g v ∧ k0_pay4 w g m v = delta w g m v := by
  refine ⟨?_, ?_, ?_⟩ <;> simp only [k0_pay1, k0_pay2, k0_pay3, k0_pay4, shapeCast_self] <;> rfl

/-- The body's values for `w_k_ml`. -/
theorem body1 (w g m v : Vec Ideal S16x128 .f32) :
    k0_pay6 g m = newM g m ∧ k0_pay7 g v = newV g v ∧ k0_pay8 w g m v = delta w g m v := by
  refine ⟨?_, ?_, ?_⟩ <;> simp only [k0_pay5, k0_pay6, k0_pay7, k0_pay8, shapeCast_self] <;> rfl

variable (m : (ℓ : Loc nD τ sig) → Buf (Elt Ideal) ℓ) (c : Dev nD)

/-- The windows of `w_q_ml` hold the whole arrays. -/
theorem idx0 : ∀ t : Fin cfg0.N, win0_0.index t = ![0, 0] ∧ win0_2.index t = ![0, 0] ∧ win0_4.index t = ![0, 0] ∧ win0_6.index t = ![0, 0]
    ∧ win0_8.index t = ![0, 0] ∧ win0_10.index t = ![0, 0] ∧ win0_12.index t = ![0, 0] :=
  (by decide +kernel : ∀ t : Fin grid0.N, _)

/-- What the call finds of `w_q_ml`. -/
theorem entry0 :
    V m c main_v1 = (blocks (m ((c : Thread nD τ).loc main_arg0)) : FVec Ideal S16x128 .f32)
    ∧ V m c main_v5 = (blocks (m ((c : Thread nD τ).loc main_arg2)) : FVec Ideal S16x128 .f32)
    ∧ V m c main_v9 = (blocks (m ((c : Thread nD τ).loc main_arg4)) : FVec Ideal S16x128 .f32)
    ∧ V m c main_v13 = (blocks (m ((c : Thread nD τ).loc main_arg6)) : FVec Ideal S16x128 .f32) := by
  refine ⟨?_, ?_, ?_, ?_⟩ <;> (entry_read; rfl)

set_option maxHeartbeats 2000000 in
/-- The arrays the kernel leaves of `w_q_ml`. -/
theorem final0 :
    (dats m 0 c).arrAt 8 (cfgs 0).N = (delta (V m c main_v1) (V m c main_v5) (V m c main_v9) (V m c main_v13) : FVec Ideal S16x128 .f32)
    ∧ (dats m 0 c).arrAt 10 (cfgs 0).N = (newM (V m c main_v5) (V m c main_v9) : FVec Ideal S16x128 .f32)
    ∧ (dats m 0 c).arrAt 12 (cfgs 0).N = (newV (V m c main_v5) (V m c main_v13) : FVec Ideal S16x128 .f32) := by
  refine ⟨(dats m 0 c).arrAt_eq_of_covers 8 _ (by decide +kernel) fun t _ y => ?_,
    (dats m 0 c).arrAt_eq_of_covers 10 _ (by decide +kernel) fun t _ y => ?_,
    (dats m 0 c).arrAt_eq_of_covers 12 _ (by decide +kernel) fun t _ y => ?_⟩ <;> blk_simp
  · rw [after0_8]
    frame_out
    rw [(body0 _ _ _ _).2.2]
    idx_vars y
    refine delta_at ?_ ?_ ?_ ?_ <;> blk_ext [iblk, idx0 t]
  · rw [after0_10]
    frame_out
    rw [(body0 0 _ _ 0).1]
    idx_vars y
    refine newM_at ?_ ?_ <;> blk_ext [iblk, idx0 t]
  · rw [after0_12]
    frame_out
    rw [(body0 0 _ 0 _).2.1]
    idx_vars y
    refine newV_at ?_ ?_ <;> blk_ext [iblk, idx0 t]

/-- The windows of `w_k_ml` hold the whole arrays. -/
theorem idx1 : ∀ t : Fin cfg0.N, win0_1.index t = ![0, 0] ∧ win0_3.index t = ![0, 0] ∧ win0_5.index t = ![0, 0] ∧ win0_7.index t = ![0, 0]
    ∧ win0_9.index t = ![0, 0] ∧ win0_11.index t = ![0, 0] ∧ win0_13.index t = ![0, 0] :=
  (by decide +kernel : ∀ t : Fin grid0.N, _)

/-- What the call finds of `w_k_ml`. -/
theorem entry1 :
    V m c main_v3 = (blocks (m ((c : Thread nD τ).loc main_arg1)) : FVec Ideal S16x128 .f32)
    ∧ V m c main_v7 = (blocks (m ((c : Thread nD τ).loc main_arg3)) : FVec Ideal S16x128 .f32)
    ∧ V m c main_v11 = (blocks (m ((c : Thread nD τ).loc main_arg5)) : FVec Ideal S16x128 .f32)
    ∧ V m c main_v15 = (blocks (m ((c : Thread nD τ).loc main_arg7)) : FVec Ideal S16x128 .f32) := by
  refine ⟨?_, ?_, ?_, ?_⟩ <;> (entry_read; rfl)

set_option maxHeartbeats 2000000 in
/-- The arrays the kernel leaves of `w_k_ml`. -/
theorem final1 :
    (dats m 0 c).arrAt 9 (cfgs 0).N = (delta (V m c main_v3) (V m c main_v7) (V m c main_v11) (V m c main_v15) : FVec Ideal S16x128 .f32)
    ∧ (dats m 0 c).arrAt 11 (cfgs 0).N = (newM (V m c main_v7) (V m c main_v11) : FVec Ideal S16x128 .f32)
    ∧ (dats m 0 c).arrAt 13 (cfgs 0).N = (newV (V m c main_v7) (V m c main_v15) : FVec Ideal S16x128 .f32) := by
  refine ⟨(dats m 0 c).arrAt_eq_of_covers 9 _ (by decide +kernel) fun t _ y => ?_,
    (dats m 0 c).arrAt_eq_of_covers 11 _ (by decide +kernel) fun t _ y => ?_,
    (dats m 0 c).arrAt_eq_of_covers 13 _ (by decide +kernel) fun t _ y => ?_⟩ <;> blk_simp
  · rw [after0_9]
    frame_out
    rw [(body1 _ _ _ _).2.2]
    idx_vars y
    refine delta_at ?_ ?_ ?_ ?_ <;> blk_ext [iblk, idx1 t]
  · rw [after0_11]
    frame_out
    rw [(body1 0 _ _ 0).1]
    idx_vars y
    refine newM_at ?_ ?_ <;> blk_ext [iblk, idx1 t]
  · rw [after0_13]
    frame_out
    rw [(body1 0 _ 0 _).2.1]
    idx_vars y
    refine newV_at ?_ ?_ <;> blk_ext [iblk, idx1 t]

end Queries

set_option maxHeartbeats 1000000 in
/-- Kernel and reference leave the same changes and averages of `w_q_ml` and `w_k_ml`. -/
theorem algebraic12 : Cert.algebraic_Kernel12Ideal_Reference12Ideal := by
  pair_intro
  · run_from Cert.Kernel12Ideal.Value.run_blocks m g
  · refine Idealize.ShloMosaic.θ_run_mono (Cert.Reference12Ideal.Value.run m' g') fun r h c => ?_
    have h := h c
    obtain ⟨e0, e1, e2, e3, e4, e5, e6, e7⟩ := hagree c
    refine ⟨h.1.trans (Eq.trans ?_ (Queries.final0 m c).1.symm),
      h.2.1.trans (Eq.trans ?_ (Queries.final1 m c).1.symm),
      h.2.2.1.trans (Eq.trans ?_ (Queries.final0 m c).2.1.symm),
      h.2.2.2.1.trans (Eq.trans ?_ (Queries.final1 m c).2.1.symm),
      h.2.2.2.2.1.trans (Eq.trans ?_ (Queries.final0 m c).2.2.symm),
      h.2.2.2.2.2.1.trans (Eq.trans ?_ (Queries.final1 m c).2.2.symm),
      h.2.2.2.2.2.2⟩ <;>
      simp only [Queries.entry0 m c, Queries.entry1 m c, e0, e1, e2, e3, e4, e5, e6, e7] <;> rfl

namespace Values

open Cert.Kernel13Ideal Cert.Kernel13Ideal.Gen

/-- The body's values for `w_v_ml`. -/
theorem body0 (w g m v : Vec Ideal S16x128 .f32) :
    k0_pay2 g m = newM g m ∧ k0_pay3 g v = newV g v ∧ k0_pay4 w g m v = delta w g m v := by
  refine ⟨?_, ?_, ?_⟩ <;> simp only [k0_pay1, k0_pay2, k0_pay3, k0_pay4, shapeCast_self] <;> rfl

/-- The body's values for `w_if`. -/
theorem body1 (w g m v : Vec Ideal S8x384 .f32) :
    k0_pay6 g m = newM g m ∧ k0_pay7 g v = newV g v ∧ k0_pay8 w g m v = delta w g m v := by
  refine ⟨?_, ?_, ?_⟩ <;> simp only [k0_pay5, k0_pay6, k0_pay7, k0_pay8, shapeCast_self] <;> rfl

variable (m : (ℓ : Loc nD τ sig) → Buf (Elt Ideal) ℓ) (c : Dev nD)

/-- The windows of `w_v_ml` hold the whole arrays. -/
theorem idx0 : ∀ t : Fin cfg0.N, win0_0.index t = ![0, 0] ∧ win0_2.index t = ![0, 0] ∧ win0_4.index t = ![0, 0] ∧ win0_6.index t = ![0, 0]
    ∧ win0_8.index t = ![0, 0] ∧ win0_10.index t = ![0, 0] ∧ win0_12.index t = ![0, 0] :=
  (by decide +kernel : ∀ t : Fin grid0.N, _)

/-- What the call finds of `w_v_ml`. -/
theorem entry0 :
    V m c main_v1 = (blocks (m ((c : Thread nD τ).loc main_arg0)) : FVec Ideal S16x128 .f32)
    ∧ V m c main_v5 = (blocks (m ((c : Thread nD τ).loc main_arg2)) : FVec Ideal S16x128 .f32)
    ∧ V m c main_v9 = (blocks (m ((c : Thread nD τ).loc main_arg4)) : FVec Ideal S16x128 .f32)
    ∧ V m c main_v13 = (blocks (m ((c : Thread nD τ).loc main_arg6)) : FVec Ideal S16x128 .f32) := by
  refine ⟨?_, ?_, ?_, ?_⟩ <;> (entry_read; rfl)

set_option maxHeartbeats 2000000 in
/-- The arrays the kernel leaves of `w_v_ml`. -/
theorem final0 :
    (dats m 0 c).arrAt 8 (cfgs 0).N = (delta (V m c main_v1) (V m c main_v5) (V m c main_v9) (V m c main_v13) : FVec Ideal S16x128 .f32)
    ∧ (dats m 0 c).arrAt 10 (cfgs 0).N = (newM (V m c main_v5) (V m c main_v9) : FVec Ideal S16x128 .f32)
    ∧ (dats m 0 c).arrAt 12 (cfgs 0).N = (newV (V m c main_v5) (V m c main_v13) : FVec Ideal S16x128 .f32) := by
  refine ⟨(dats m 0 c).arrAt_eq_of_covers 8 _ (by decide +kernel) fun t _ y => ?_,
    (dats m 0 c).arrAt_eq_of_covers 10 _ (by decide +kernel) fun t _ y => ?_,
    (dats m 0 c).arrAt_eq_of_covers 12 _ (by decide +kernel) fun t _ y => ?_⟩ <;> blk_simp
  · rw [after0_8]
    frame_out
    rw [(body0 _ _ _ _).2.2]
    idx_vars y
    refine delta_at ?_ ?_ ?_ ?_ <;> blk_ext [iblk, idx0 t]
  · rw [after0_10]
    frame_out
    rw [(body0 0 _ _ 0).1]
    idx_vars y
    refine newM_at ?_ ?_ <;> blk_ext [iblk, idx0 t]
  · rw [after0_12]
    frame_out
    rw [(body0 0 _ 0 _).2.1]
    idx_vars y
    refine newV_at ?_ ?_ <;> blk_ext [iblk, idx0 t]

/-- The windows of `w_if` hold the whole arrays. -/
theorem idx1 : ∀ t : Fin cfg0.N, win0_1.index t = ![0, 0] ∧ win0_3.index t = ![0, 0] ∧ win0_5.index t = ![0, 0] ∧ win0_7.index t = ![0, 0]
    ∧ win0_9.index t = ![0, 0] ∧ win0_11.index t = ![0, 0] ∧ win0_13.index t = ![0, 0] :=
  (by decide +kernel : ∀ t : Fin grid0.N, _)

/-- What the call finds of `w_if`. -/
theorem entry1 :
    V m c main_v3 = (gates (m ((c : Thread nD τ).loc main_arg1)) : FVec Ideal S8x384 .f32)
    ∧ V m c main_v7 = (gates (m ((c : Thread nD τ).loc main_arg3)) : FVec Ideal S8x384 .f32)
    ∧ V m c main_v11 = (gates (m ((c : Thread nD τ).loc main_arg5)) : FVec Ideal S8x384 .f32)
    ∧ V m c main_v15 = (gates (m ((c : Thread nD τ).loc main_arg7)) : FVec Ideal S8x384 .f32) := by
  refine ⟨?_, ?_, ?_, ?_⟩ <;> (entry_read; rfl)

set_option maxHeartbeats 2000000 in
/-- The arrays the kernel leaves of `w_if`. -/
theorem final1 :
    (dats m 0 c).arrAt 9 (cfgs 0).N = (delta (V m c main_v3) (V m c main_v7) (V m c main_v11) (V m c main_v15) : FVec Ideal S8x384 .f32)
    ∧ (dats m 0 c).arrAt 11 (cfgs 0).N = (newM (V m c main_v7) (V m c main_v11) : FVec Ideal S8x384 .f32)
    ∧ (dats m 0 c).arrAt 13 (cfgs 0).N = (newV (V m c main_v7) (V m c main_v15) : FVec Ideal S8x384 .f32) := by
  refine ⟨(dats m 0 c).arrAt_eq_of_covers 9 _ (by decide +kernel) fun t _ y => ?_,
    (dats m 0 c).arrAt_eq_of_covers 11 _ (by decide +kernel) fun t _ y => ?_,
    (dats m 0 c).arrAt_eq_of_covers 13 _ (by decide +kernel) fun t _ y => ?_⟩ <;> blk_simp
  · rw [after0_9]
    frame_out
    rw [(body1 _ _ _ _).2.2]
    idx_vars y
    refine delta_at ?_ ?_ ?_ ?_ <;> blk_ext [iblk, idx1 t]
  · rw [after0_11]
    frame_out
    rw [(body1 0 _ _ 0).1]
    idx_vars y
    refine newM_at ?_ ?_ <;> blk_ext [iblk, idx1 t]
  · rw [after0_13]
    frame_out
    rw [(body1 0 _ 0 _).2.1]
    idx_vars y
    refine newV_at ?_ ?_ <;> blk_ext [iblk, idx1 t]

end Values

set_option maxHeartbeats 1000000 in
/-- Kernel and reference leave the same changes and averages of `w_v_ml` and `w_if`. -/
theorem algebraic13 : Cert.algebraic_Kernel13Ideal_Reference13Ideal := by
  pair_intro
  · run_from Cert.Kernel13Ideal.Value.run_blocks m g
  · refine Idealize.ShloMosaic.θ_run_mono (Cert.Reference13Ideal.Value.run m' g') fun r h c => ?_
    have h := h c
    obtain ⟨e0, e1, e2, e3, e4, e5, e6, e7⟩ := hagree c
    refine ⟨h.1.trans (Eq.trans ?_ (Values.final0 m c).1.symm),
      h.2.1.trans (Eq.trans ?_ (Values.final1 m c).1.symm),
      h.2.2.1.trans (Eq.trans ?_ (Values.final0 m c).2.1.symm),
      h.2.2.2.1.trans (Eq.trans ?_ (Values.final1 m c).2.1.symm),
      h.2.2.2.2.1.trans (Eq.trans ?_ (Values.final0 m c).2.2.symm),
      h.2.2.2.2.2.1.trans (Eq.trans ?_ (Values.final1 m c).2.2.symm),
      h.2.2.2.2.2.2⟩ <;>
      simp only [Values.entry0 m c, Values.entry1 m c, e0, e1, e2, e3, e4, e5, e6, e7] <;> rfl

end Cert.Proof.AdamWStored
-- ==== Proof.AdamWEdge.lean ====
/-
  The optimiser's step on `w_in`, which the call takes with its inner axis cut into rows of 128. The weight's 1156 rows are cut
  into eight blocks of 152, the last of which overhangs the array: past the array's end a buffer holds nothing that can be
  named. Inside the array what the body computes depends on entries inside the array alone, and only those are written back.
  Here the program as it computes: it ends, and its arguments end as they began.
-/
module

public import proofs.«01_k».proof.Defs
public import proofs.«01_k».proof.Proof.Gen.Kernel14
public import proofs.«01_k».proof.Proof.Gen.Kernel14.Frame
public import proofs.«01_k».proof.Proof.Gen.Kernel14.Skeleton
public import Idealize.ShloMosaic.Lib.Pipeline.FrameBody
public import Idealize.ShloMosaic.Lib.Pipeline.ValueKit
public import Idealize.ShloMosaic.Lib.Pointwise
public import Idealize.ShloMosaic.Lib.Claim
public import Idealize.ShloMosaic.Lib.Tactic

@[expose] public section

set_option maxRecDepth 16384

noncomputable section

namespace Cert.Proof.AdamWEdge

open Cert.Kernel14 Cert.Kernel14.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

/-! ## The body's values on the rows inside the array -/

section Rows

variable (i : grid0.Coords)

/-- Where an entry of the weight's block lies in the gradient's block: the same row, the two inner axes run together. -/
def col (y : (win0_4.xblock i).Idx) : (win0_0.xblock i).Idx
  | ⟨0, _⟩ => ⟨(y 0).val, (y 0).isLt⟩
  | ⟨1, _⟩ => ⟨(y 1).val * 128 + (y 2).val, by
      have h1 : (y 1).val < 8 := (y 1).isLt
      have h2 : (y 2).val < 128 := (y 2).isLt
      show _ < 1024
      omega⟩

/-- The gradient as the body reads it, at an entry inside the array. -/
theorem grad_at (d : S152x1024.Idx → Elt F .f32) (X : (win0_0.xblock i).Idx → Elt F .f32) (y : (win0_4.xblock i).Idx) :
    k0_pay1 (win0_0.fill i d X) (win0_4.xinj i y) = X (col i y) := by
  simp only [k0_pay1, shapeCast_self]
  refine (shapeCast_apply _ _ _ (win0_0.xinj i (col i y)) ?_).trans (win0_0.fill_xinj i d X (col i y))
  refine (rowMajor_val2 _ 1024 rfl).trans (Eq.trans ?_ (rowMajor_val3 _ 1024 128 rfl rfl).symm)
  show (y 0).val * 1024 + ((y 1).val * 128 + (y 2).val) = (y 0).val * 1024 + (y 1).val * 128 + (y 2).val
  omega

variable (d0 : S152x1024.Idx → Elt F .f32) (d1 d2 d3 : S152x8x128.Idx → Elt F .f32)
variable (e0 : S152x1024.Idx → Elt F .f32) (e1 e2 e3 : S152x8x128.Idx → Elt F .f32)
variable (X0 : (win0_0.xblock i).Idx → Elt F .f32) (X1 X2 X3 : (win0_4.xblock i).Idx → Elt F .f32)

/-- Inside the array the new average of the gradient does not depend on what lies past the array's end. -/
theorem rows2 (y : (win0_4.xblock i).Idx) :
    k0_pay2 (win0_0.fill i d0 X0) (win0_4.fill i d2 X2) (win0_4.xinj i y)
      = k0_pay2 (win0_0.fill i e0 X0) (win0_4.fill i e2 X2) (win0_4.xinj i y) := by
  simp only [k0_pay2, addf, mulf, broadcast, shapeCast_self, Window.fill_xinj]
  rw [grad_at i d0 X0 y, grad_at i e0 X0 y]

/-- Nor the new average of its square. -/
theorem rows3 (y : (win0_4.xblock i).Idx) :
    k0_pay3 (win0_0.fill i d0 X0) (win0_4.fill i d3 X3) (win0_4.xinj i y)
      = k0_pay3 (win0_0.fill i e0 X0) (win0_4.fill i e3 X3) (win0_4.xinj i y) := by
  simp only [k0_pay3, addf, mulf, broadcast, shapeCast_self, Window.fill_xinj]
  rw [grad_at i d0 X0 y, grad_at i e0 X0 y]

/-- Nor the change of the weight. -/
theorem rows4 (y : (win0_4.xblock i).Idx) :
    k0_pay4 (win0_0.fill i d0 X0) (win0_4.fill i d1 X1) (win0_4.fill i d2 X2) (win0_4.fill i d3 X3) (win0_4.xinj i y)
      = k0_pay4 (win0_0.fill i e0 X0) (win0_4.fill i e1 X1) (win0_4.fill i e2 X2) (win0_4.fill i e3 X3) (win0_4.xinj i y) := by
  have h2 := rows2 i d0 d2 e0 e2 X0 X2 y
  have h3 := rows3 i d0 d3 e0 e3 X0 X3 y
  simp only [k0_pay4, addf, mulf, divf, sqrt, broadcast, shapeCast_self, Window.fill_xinj, h2, h3]

end Rows

/-! ## The body's triple -/

/-- The whole of the gradient's block, and the whole of a block of the weight's shape. -/
abbrev rG : Rect S152x1024 := Rect.unit (s := S152x1024) ![0, 0] S152x1024.size inb_S152x1024_S152x1024_0_0
abbrev rW : Rect S152x8x128 := Rect.unit (s := S152x8x128) ![0, 0, 0] S152x8x128.size inb_S152x8x128_S152x8x128_0_0_0

/-- One store to the whole block covers it. -/
theorem cover (p : Vec F S152x8x128 .f32) (y : S152x8x128.Idx) :
    ∃ pc ∈ ([⟨rW, p⟩] : List (View.Piece (Elt F) S152x8x128 .f32)), y ∈ pc.1.set :=
  View.cover_of_tiled [⟨rW, p⟩] S152x8x128.size (by rfl) y

/-- What the one store leaves is what it stored, and what a whole load reads is what the buffer holds. -/
theorem canon_eq (p : Vec F S152x8x128 .f32) : View.canon [⟨rW, p⟩] = p := by
  simp (disch := decide) only [View.canon_cons_unit_lit']

theorem ld_G (x : Vec F S152x1024 .f32) : View.ld x rG = x := by
  simp (disch := decide) only [View.ld_unit_lit']

theorem ld_W (x : Vec F S152x8x128 .f32) : View.ld x rW = x := by
  simp (disch := decide) only [View.ld_unit_lit']

set_option maxHeartbeats 2000000 in
/-- The body on any buffers: the four inputs are read and kept, the four results are the body's values of them. -/
theorem sound_kernel (c : Dev nD) (E : Set ℕ) (i : grid0.Coords)
    (arg1 : Memref sig .tc .vmem S152x1024 .f32) (harg1 : arg1.IsWhole) (arg2 : Memref sig .tc .vmem S152x8x128 .f32) (harg2 : arg2.IsWhole)
    (arg3 : Memref sig .tc .vmem S152x8x128 .f32) (harg3 : arg3.IsWhole) (arg4 : Memref sig .tc .vmem S152x8x128 .f32) (harg4 : arg4.IsWhole)
    (arg5 : Memref sig .tc .vmem S152x8x128 .f32) (harg5 : arg5.IsWhole) (arg6 : Memref sig .tc .vmem S152x8x128 .f32) (harg6 : arg6.IsWhole)
    (arg7 : Memref sig .tc .vmem S152x8x128 .f32) (harg7 : arg7.IsWhole) (arg8 : Memref sig .tc .vmem S152x8x128 .f32) (harg8 : arg8.IsWhole)
    (x0 : Vec F S152x1024 .f32) (x1 x2 x3 : Vec F S152x8x128 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay1 x0) ∗ owns (c : Thread nD τ) arg6 fullShare (k0_pay4 x0 x1 x2 x3)
            ∗ owns (c : Thread nD τ) arg7 fullShare (k0_pay2 x0 x2) ∗ owns (c : Thread nD τ) arg8 fullShare (k0_pay3 x0 x3)) -∗ K ⟨⟩))
      ⊢ wp frame (wpE (defs₀ (F := F)) Variants.none c none) E (cc0_adamw_big i arg1 harg1 arg2 harg2 arg3 harg3 arg4 harg4 arg5 harg5 arg6 harg6 arg7 harg7 arg8 harg8) K := by
  simp only [cc0_adamw_big_eq_skeleton]; unfold cc0_adamw_big_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover _)).trans ((canon_eq _).trans ?_)
    exact congrArg k0_pay1 (ld_G _)
  isplitl [H5]
  · iexists _; isplitr
    swap; · iexact H5
    ipureintro
    refine (View.read_writes_eq_canon _ _ _ (cover _)).trans ((canon_eq _).trans ?_)
    exact congr (congr (congr (congrArg k0_pay4 (ld_G _)) (ld_W _)) (ld_W _)) (ld_W _)
  isplitl [H6]
  · iexists _; isplitr
    swap; · iexact H6
    ipureintro
    refine (View.read_writes_eq_canon _ _ _ (cover _)).trans ((canon_eq _).trans ?_)
    exact congr (congrArg k0_pay2 (ld_G _)) (ld_W _)
  iexists _; isplitr
  swap; · iexact H7
  ipureintro
  refine (View.read_writes_eq_canon _ _ _ (cover _)).trans ((canon_eq _).trans ?_)
  exact congr (congrArg k0_pay3 (ld_G _)) (ld_W _)

/-! ## The run -/

variable (m : (ℓ : Loc nD τ sig) → Buf (Elt F) ℓ) (ρ : Dev nD → PrngReg) (c : Dev nD) (t : Fin cfg0.N)

/-- What fills a buffer past the array's end: zero, which nothing reads. -/
abbrev zG : S152x1024.Idx → Elt F .f32 := fun _ => Scalar.ofBits .f32 0#32
abbrev zW : S152x8x128.Idx → Elt F .f32 := fun _ => Scalar.ofBits .f32 0#32

/-- The block of the gradient at a grid point, and those of the weight and of its two averages. -/
def blkG : (win0_0.xblock (grid0.coords t)).Idx → Elt F .f32 := iblk m c 0 t
def blkW : (win0_4.xblock (grid0.coords t)).Idx → Elt F .f32 := iblk m c 1 t
def blkM : (win0_4.xblock (grid0.coords t)).Idx → Elt F .f32 := iblk m c 2 t
def blkV : (win0_4.xblock (grid0.coords t)).Idx → Elt F .f32 := iblk m c 3 t

/-- The same, filled up past the array's end. -/
def bufG : S152x1024.Idx → Elt F .f32 := win0_0.fill (grid0.coords t) zG (blkG m c t)
def bufW : S152x8x128.Idx → Elt F .f32 := win0_4.fill (grid0.coords t) zW (blkW m c t)
def bufM : S152x8x128.Idx → Elt F .f32 := win0_4.fill (grid0.coords t) zW (blkM m c t)
def bufV : S152x8x128.Idx → Elt F .f32 := win0_4.fill (grid0.coords t) zW (blkV m c t)

/-- What each window's buffer holds after the body, on the rows inside the array. -/
def dats (_ : Fin 1) (c : Dev nD) : Dat τ (Elt F) Unit ℕ (UR sig nD τ) ℕ cfg0 c where
  A w := V m c (Pipeline.arrRef spec0 w)
  after w t := match w with
    | ⟨0, _⟩ => bufG m c t
    | ⟨1, _⟩ => bufW m c t
    | ⟨2, _⟩ => bufM m c t
    | ⟨3, _⟩ => bufV m c t
    | ⟨4, _⟩ => k0_pay1 (bufG m c t)
    | ⟨5, _⟩ => k0_pay4 (bufG m c t) (bufW m c t) (bufM m c t) (bufV m c t)
    | ⟨6, _⟩ => k0_pay2 (bufG m c t) (bufM m c t)
    | ⟨7, _⟩ => k0_pay3 (bufG m c t) (bufV m c t)
    | ⟨_ + 8, h⟩ => absurd h (Nat.not_lt.2 (Nat.le_add_left _ _))
  Φ _ := Pipeline.ΦA spec0 c
  q _ := fullShare
  owed _ := 0

/-- The arrays begin as launched. -/
theorem A_eq (w : Fin cfg0.W) : (dats m 0 c).A w = V m c (Pipeline.arrRef spec0 w) := by dsimp only [dats]

/-- The buffers after the body, window by window. -/
theorem after0_0 : (dats m 0 c).after 0 t = bufG m c t := by dsimp only [dats]
theorem after0_1 : (dats m 0 c).after 1 t = bufW m c t := by dsimp only [dats]
theorem after0_2 : (dats m 0 c).after 2 t = bufM m c t := by dsimp only [dats]
theorem after0_3 : (dats m 0 c).after 3 t = bufV m c t := by dsimp only [dats]
theorem after0_4 : (dats m 0 c).after 4 t = k0_pay1 (bufG m c t) := by dsimp only [dats]
theorem after0_5 : (dats m 0 c).after 5 t = k0_pay4 (bufG m c t) (bufW m c t) (bufM m c t) (bufV m c t) := by dsimp only [dats]
theorem after0_6 : (dats m 0 c).after 6 t = k0_pay2 (bufG m c t) (bufM m c t) := by dsimp only [dats]
theorem after0_7 : (dats m 0 c).after 7 t = k0_pay3 (bufG m c t) (bufV m c t) := by dsimp only [dats]

/-- What the body finds of each input: its block just fetched, and past the array's end anything. -/
theorem before0_0 (d) : (dats m 0 c).before 0 t d = win0_0.fill (grid0.coords t) d (blkG m c t) := by
  unfold Dat.before; rw [if_pos (fetch0_0 t)]; rfl
theorem before0_1 (d) : (dats m 0 c).before 1 t d = win0_4.fill (grid0.coords t) d (blkW m c t) := by
  unfold Dat.before; rw [if_pos (fetch0_1 t)]; rfl
theorem before0_2 (d) : (dats m 0 c).before 2 t d = win0_4.fill (grid0.coords t) d (blkM m c t) := by
  unfold Dat.before; rw [if_pos (fetch0_2 t)]; rfl
theorem before0_3 (d) : (dats m 0 c).before 3 t d = win0_4.fill (grid0.coords t) d (blkV m c t) := by
  unfold Dat.before; rw [if_pos (fetch0_3 t)]; rfl

/-- A buffer handed back needs to agree with what is promised on the rows inside the array alone. -/
theorem keep {w : Window sig grid0} {i : grid0.Coords} {X Y : w.block.Idx → Elt F w.elt} {sp : Space} {s : Memref sig .tc sp w.block w.elt}
    (h : w.cut i X = w.cut i Y) : owns (c : Thread nD τ) s fullShare X ⊢ (iprop(∃ d, owns (c : Thread nD τ) s fullShare (w.fill i d (w.cut i Y))) : sProp (MT nD τ sig Unit (Elt F) ℕ (UR sig nD τ) ℕ)) := by
  iintro H
  iexists X
  rw [w.fill_congr_cut i h]
  iexact H

/-- The body at a grid point: the inputs arrive filled past the array's end with anything, and on the rows inside the array
    the results are those of the blocks filled with zeros. -/
theorem body_obligation : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0 m c t d0, before0_1 m c t d1, before0_2 m c t d2, before0_3 m c t d3]
  iapply (sound_kernel (F := F) c Set.univ (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (hstage0_4 ((cfg0.slots t 4).cast nbuf0_4))
    _ (hstage0_5 ((cfg0.slots t 5).cast nbuf0_5)) _ (hstage0_6 ((cfg0.slots t 6).cast nbuf0_6)) _ (hstage0_7 ((cfg0.slots t 7).cast nbuf0_7))
    (win0_0.fill (grid0.coords t) d0 (blkG m c t)) (win0_4.fill (grid0.coords t) d1 (blkW m c t))
    (win0_4.fill (grid0.coords t) d2 (blkM m c t)) (win0_4.fill (grid0.coords t) d3 (blkV m c t)) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  rw [after0_0, after0_1, after0_2, after0_3, after0_4, after0_5, after0_6, after0_7]
  isplitl [H0]
  · iapply (keep (w := win0_0) (i := grid0.coords t) c ((win0_0.cut_fill _ _ _).trans (win0_0.cut_fill _ _ _).symm)) $$ H0
  isplitl [H1]
  · iapply (keep (w := win0_4) (i := grid0.coords t) c ((win0_4.cut_fill _ _ _).trans (win0_4.cut_fill _ _ _).symm)) $$ H1
  isplitl [H2]
  · iapply (keep (w := win0_4) (i := grid0.coords t) c ((win0_4.cut_fill _ _ _).trans (win0_4.cut_fill _ _ _).symm)) $$ H2
  isplitl [H3]
  · iapply (keep (w := win0_4) (i := grid0.coords t) c ((win0_4.cut_fill _ _ _).trans (win0_4.cut_fill _ _ _).symm)) $$ H3
  isplitl [H4]
  · iapply (keep (w := win0_4) (i := grid0.coords t) c (funext fun y => (grad_at _ d0 _ y).trans (grad_at _ zG _ y).symm)) $$ H4
  isplitl [H5]
  · iapply (keep (w := win0_4) (i := grid0.coords t) c (funext fun y => rows4 _ d0 d1 d2 d3 zG zW zW zW _ _ _ _ y)) $$ H5
  isplitl [H6]
  · iapply (keep (w := win0_4) (i := grid0.coords t) c (funext fun y => rows2 _ d0 d2 zG zW _ _ y)) $$ H6
  iapply (keep (w := win0_4) (i := grid0.coords t) c (funext fun y => rows3 _ d0 d3 zG zW _ _ y)) $$ H7

set_option backward.isDefEq.respectTransparency.types false in
set_option maxHeartbeats 800000 in
/-- The run: every array ends at what the pipeline writes back, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The run, of the arrays alone. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.AdamWEdge
-- ==== Proof.AdamWEdgeIdeal.lean ====
/-
  The optimiser's step on `w_in`, which the call takes with its inner axis cut into rows of 128. The weight's 1156 rows are cut
  into eight blocks of 152, the last of which overhangs the array: past the array's end a buffer holds nothing that can be
  named. Inside the array what the body computes depends on entries inside the array alone, and only those are written back.
  Here the program over exact numbers: the same run, and the arrays it leaves are the plain formula's of the whole weight.
-/
module

public import proofs.«01_k».proof.Defs
public import proofs.«01_k».proof.Proof.AdamW
public import proofs.«01_k».proof.Proof.Gen.Kernel14Ideal
public import proofs.«01_k».proof.Proof.Gen.Kernel14Ideal.Frame
public import proofs.«01_k».proof.Proof.Gen.Kernel14Ideal.Skeleton
public import proofs.«01_k».proof.Proof.Gen.Reference14Ideal
public import proofs.«01_k».proof.Proof.Gen.Reference14Ideal.Run
public import proofs.«01_k».proof.Proof.Gen.Reference14Ideal.Read
public import Idealize.ShloMosaic.Lib.Pipeline.FrameBody
public import Idealize.ShloMosaic.Lib.Pipeline.ValueKit
public import Idealize.ShloMosaic.Lib.Pointwise
public import Idealize.ShloMosaic.Lib.Claim
public import Idealize.ShloMosaic.Lib.Tactic

@[expose] public section

set_option maxRecDepth 16384

noncomputable section

namespace Cert.Proof.AdamWEdgeIdeal

open Cert.Kernel14Ideal Cert.Kernel14Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

/-! ## The body's values on the rows inside the array -/

section Rows

variable (i : grid0.Coords)

/-- Where an entry of the weight's block lies in the gradient's block: the same row, the two inner axes run together. -/
def col (y : (win0_4.xblock i).Idx) : (win0_0.xblock i).Idx
  | ⟨0, _⟩ => ⟨(y 0).val, (y 0).isLt⟩
  | ⟨1, _⟩ => ⟨(y 1).val * 128 + (y 2).val, by
      have h1 : (y 1).val < 8 := (y 1).isLt
      have h2 : (y 2).val < 128 := (y 2).isLt
      show _ < 1024
      omega⟩

/-- The gradient as the body reads it, at an entry inside the array. -/
theorem grad_at (d : S152x1024.Idx → Elt F .f32) (X : (win0_0.xblock i).Idx → Elt F .f32) (y : (win0_4.xblock i).Idx) :
    k0_pay1 (win0_0.fill i d X) (win0_4.xinj i y) = X (col i y) := by
  simp only [k0_pay1, shapeCast_self]
  refine (shapeCast_apply _ _ _ (win0_0.xinj i (col i y)) ?_).trans (win0_0.fill_xinj i d X (col i y))
  refine (rowMajor_val2 _ 1024 rfl).trans (Eq.trans ?_ (rowMajor_val3 _ 1024 128 rfl rfl).symm)
  show (y 0).val * 1024 + ((y 1).val * 128 + (y 2).val) = (y 0).val * 1024 + (y 1).val * 128 + (y 2).val
  omega

variable (d0 : S152x1024.Idx → Elt F .f32) (d1 d2 d3 : S152x8x128.Idx → Elt F .f32)
variable (e0 : S152x1024.Idx → Elt F .f32) (e1 e2 e3 : S152x8x128.Idx → Elt F .f32)
variable (X0 : (win0_0.xblock i).Idx → Elt F .f32) (X1 X2 X3 : (win0_4.xblock i).Idx → Elt F .f32)

/-- Inside the array the new average of the gradient does not depend on what lies past the array's end. -/
theorem rows2 (y : (win0_4.xblock i).Idx) :
    k0_pay2 (win0_0.fill i d0 X0) (win0_4.fill i d2 X2) (win0_4.xinj i y)
      = k0_pay2 (win0_0.fill i e0 X0) (win0_4.fill i e2 X2) (win0_4.xinj i y) := by
  simp only [k0_pay2, addf, mulf, broadcast, shapeCast_self, Window.fill_xinj]
  rw [grad_at i d0 X0 y, grad_at i e0 X0 y]

/-- Nor the new average of its square. -/
theorem rows3 (y : (win0_4.xblock i).Idx) :
    k0_pay3 (win0_0.fill i d0 X0) (win0_4.fill i d3 X3) (win0_4.xinj i y)
      = k0_pay3 (win0_0.fill i e0 X0) (win0_4.fill i e3 X3) (win0_4.xinj i y) := by
  simp only [k0_pay3, addf, mulf, broadcast, shapeCast_self, Window.fill_xinj]
  rw [grad_at i d0 X0 y, grad_at i e0 X0 y]

/-- Nor the change of the weight. -/
theorem rows4 (y : (win0_4.xblock i).Idx) :
    k0_pay4 (win0_0.fill i d0 X0) (win0_4.fill i d1 X1) (win0_4.fill i d2 X2) (win0_4.fill i d3 X3) (win0_4.xinj i y)
      = k0_pay4 (win0_0.fill i e0 X0) (win0_4.fill i e1 X1) (win0_4.fill i e2 X2) (win0_4.fill i e3 X3) (win0_4.xinj i y) := by
  have h2 := rows2 i d0 d2 e0 e2 X0 X2 y
  have h3 := rows3 i d0 d3 e0 e3 X0 X3 y
  simp only [k0_pay4, addf, mulf, divf, sqrt, broadcast, shapeCast_self, Window.fill_xinj, h2, h3]

end Rows

/-! ## The body's triple -/

/-- The whole of the gradient's block, and the whole of a block of the weight's shape. -/
abbrev rG : Rect S152x1024 := Rect.unit (s := S152x1024) ![0, 0] S152x1024.size inb_S152x1024_S152x1024_0_0
abbrev rW : Rect S152x8x128 := Rect.unit (s := S152x8x128) ![0, 0, 0] S152x8x128.size inb_S152x8x128_S152x8x128_0_0_0

/-- One store to the whole block covers it. -/
theorem cover (p : Vec F S152x8x128 .f32) (y : S152x8x128.Idx) :
    ∃ pc ∈ ([⟨rW, p⟩] : List (View.Piece (Elt F) S152x8x128 .f32)), y ∈ pc.1.set :=
  View.cover_of_tiled [⟨rW, p⟩] S152x8x128.size (by rfl) y

/-- What the one store leaves is what it stored, and what a whole load reads is what the buffer holds. -/
theorem canon_eq (p : Vec F S152x8x128 .f32) : View.canon [⟨rW, p⟩] = p := by
  simp (disch := decide) only [View.canon_cons_unit_lit']

theorem ld_G (x : Vec F S152x1024 .f32) : View.ld x rG = x := by
  simp (disch := decide) only [View.ld_unit_lit']

theorem ld_W (x : Vec F S152x8x128 .f32) : View.ld x rW = x := by
  simp (disch := decide) only [View.ld_unit_lit']

set_option maxHeartbeats 2000000 in
/-- The body on any buffers: the four inputs are read and kept, the four results are the body's values of them. -/
theorem sound_kernel (c : Dev nD) (E : Set ℕ) (i : grid0.Coords)
    (arg1 : Memref sig .tc .vmem S152x1024 .f32) (harg1 : arg1.IsWhole) (arg2 : Memref sig .tc .vmem S152x8x128 .f32) (harg2 : arg2.IsWhole)
    (arg3 : Memref sig .tc .vmem S152x8x128 .f32) (harg3 : arg3.IsWhole) (arg4 : Memref sig .tc .vmem S152x8x128 .f32) (harg4 : arg4.IsWhole)
    (arg5 : Memref sig .tc .vmem S152x8x128 .f32) (harg5 : arg5.IsWhole) (arg6 : Memref sig .tc .vmem S152x8x128 .f32) (harg6 : arg6.IsWhole)
    (arg7 : Memref sig .tc .vmem S152x8x128 .f32) (harg7 : arg7.IsWhole) (arg8 : Memref sig .tc .vmem S152x8x128 .f32) (harg8 : arg8.IsWhole)
    (x0 : Vec F S152x1024 .f32) (x1 x2 x3 : Vec F S152x8x128 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay1 x0) ∗ owns (c : Thread nD τ) arg6 fullShare (k0_pay4 x0 x1 x2 x3)
            ∗ owns (c : Thread nD τ) arg7 fullShare (k0_pay2 x0 x2) ∗ owns (c : Thread nD τ) arg8 fullShare (k0_pay3 x0 x3)) -∗ K ⟨⟩))
      ⊢ wp frame (wpE (defs₀ (F := F)) Variants.none c none) E (cc0_adamw_big i arg1 harg1 arg2 harg2 arg3 harg3 arg4 harg4 arg5 harg5 arg6 harg6 arg7 harg7 arg8 harg8) K := by
  simp only [cc0_adamw_big_eq_skeleton]; unfold cc0_adamw_big_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover _)).trans ((canon_eq _).trans ?_)
    exact congrArg k0_pay1 (ld_G _)
  isplitl [H5]
  · iexists _; isplitr
    swap; · iexact H5
    ipureintro
    refine (View.read_writes_eq_canon _ _ _ (cover _)).trans ((canon_eq _).trans ?_)
    exact congr (congr (congr (congrArg k0_pay4 (ld_G _)) (ld_W _)) (ld_W _)) (ld_W _)
  isplitl [H6]
  · iexists _; isplitr
    swap; · iexact H6
    ipureintro
    refine (View.read_writes_eq_canon _ _ _ (cover _)).trans ((canon_eq _).trans ?_)
    exact congr (congrArg k0_pay2 (ld_G _)) (ld_W _)
  iexists _; isplitr
  swap; · iexact H7
  ipureintro
  refine (View.read_writes_eq_canon _ _ _ (cover _)).trans ((canon_eq _).trans ?_)
  exact congr (congrArg k0_pay3 (ld_G _)) (ld_W _)

/-! ## The run -/

variable (m : (ℓ : Loc nD τ sig) → Buf (Elt F) ℓ) (ρ : Dev nD → PrngReg) (c : Dev nD) (t : Fin cfg0.N)

/-- What fills a buffer past the array's end: zero, which nothing reads. -/
abbrev zG : S152x1024.Idx → Elt F .f32 := fun _ => Scalar.ofBits .f32 0#32
abbrev zW : S152x8x128.Idx → Elt F .f32 := fun _ => Scalar.ofBits .f32 0#32

/-- The block of the gradient at a grid point, and those of the weight and of its two averages. -/
def blkG : (win0_0.xblock (grid0.coords t)).Idx → Elt F .f32 := iblk m c 0 t
def blkW : (win0_4.xblock (grid0.coords t)).Idx → Elt F .f32 := iblk m c 1 t
def blkM : (win0_4.xblock (grid0.coords t)).Idx → Elt F .f32 := iblk m c 2 t
def blkV : (win0_4.xblock (grid0.coords t)).Idx → Elt F .f32 := iblk m c 3 t

/-- The same, filled up past the array's end. -/
def bufG : S152x1024.Idx → Elt F .f32 := win0_0.fill (grid0.coords t) zG (blkG m c t)
def bufW : S152x8x128.Idx → Elt F .f32 := win0_4.fill (grid0.coords t) zW (blkW m c t)
def bufM : S152x8x128.Idx → Elt F .f32 := win0_4.fill (grid0.coords t) zW (blkM m c t)
def bufV : S152x8x128.Idx → Elt F .f32 := win0_4.fill (grid0.coords t) zW (blkV m c t)

/-- What each window's buffer holds after the body, on the rows inside the array. -/
def dats (_ : Fin 1) (c : Dev nD) : Dat τ (Elt F) Unit ℕ (UR sig nD τ) ℕ cfg0 c where
  A w := V m c (Pipeline.arrRef spec0 w)
  after w t := match w with
    | ⟨0, _⟩ => bufG m c t
    | ⟨1, _⟩ => bufW m c t
    | ⟨2, _⟩ => bufM m c t
    | ⟨3, _⟩ => bufV m c t
    | ⟨4, _⟩ => k0_pay1 (bufG m c t)
    | ⟨5, _⟩ => k0_pay4 (bufG m c t) (bufW m c t) (bufM m c t) (bufV m c t)
    | ⟨6, _⟩ => k0_pay2 (bufG m c t) (bufM m c t)
    | ⟨7, _⟩ => k0_pay3 (bufG m c t) (bufV m c t)
    | ⟨_ + 8, h⟩ => absurd h (Nat.not_lt.2 (Nat.le_add_left _ _))
  Φ _ := Pipeline.ΦA spec0 c
  q _ := fullShare
  owed _ := 0

/-- The arrays begin as launched. -/
theorem A_eq (w : Fin cfg0.W) : (dats m 0 c).A w = V m c (Pipeline.arrRef spec0 w) := by dsimp only [dats]

/-- The buffers after the body, window by window. -/
theorem after0_0 : (dats m 0 c).after 0 t = bufG m c t := by dsimp only [dats]
theorem after0_1 : (dats m 0 c).after 1 t = bufW m c t := by dsimp only [dats]
theorem after0_2 : (dats m 0 c).after 2 t = bufM m c t := by dsimp only [dats]
theorem after0_3 : (dats m 0 c).after 3 t = bufV m c t := by dsimp only [dats]
theorem after0_4 : (dats m 0 c).after 4 t = k0_pay1 (bufG m c t) := by dsimp only [dats]
theorem after0_5 : (dats m 0 c).after 5 t = k0_pay4 (bufG m c t) (bufW m c t) (bufM m c t) (bufV m c t) := by dsimp only [dats]
theorem after0_6 : (dats m 0 c).after 6 t = k0_pay2 (bufG m c t) (bufM m c t) := by dsimp only [dats]
theorem after0_7 : (dats m 0 c).after 7 t = k0_pay3 (bufG m c t) (bufV m c t) := by dsimp only [dats]

/-- What the body finds of each input: its block just fetched, and past the array's end anything. -/
theorem before0_0 (d) : (dats m 0 c).before 0 t d = win0_0.fill (grid0.coords t) d (blkG m c t) := by
  unfold Dat.before; rw [if_pos (fetch0_0 t)]; rfl
theorem before0_1 (d) : (dats m 0 c).before 1 t d = win0_4.fill (grid0.coords t) d (blkW m c t) := by
  unfold Dat.before; rw [if_pos (fetch0_1 t)]; rfl
theorem before0_2 (d) : (dats m 0 c).before 2 t d = win0_4.fill (grid0.coords t) d (blkM m c t) := by
  unfold Dat.before; rw [if_pos (fetch0_2 t)]; rfl
theorem before0_3 (d) : (dats m 0 c).before 3 t d = win0_4.fill (grid0.coords t) d (blkV m c t) := by
  unfold Dat.before; rw [if_pos (fetch0_3 t)]; rfl

/-- A buffer handed back needs to agree with what is promised on the rows inside the array alone. -/
theorem keep {w : Window sig grid0} {i : grid0.Coords} {X Y : w.block.Idx → Elt F w.elt} {sp : Space} {s : Memref sig .tc sp w.block w.elt}
    (h : w.cut i X = w.cut i Y) : owns (c : Thread nD τ) s fullShare X ⊢ (iprop(∃ d, owns (c : Thread nD τ) s fullShare (w.fill i d (w.cut i Y))) : sProp (MT nD τ sig Unit (Elt F) ℕ (UR sig nD τ) ℕ)) := by
  iintro H
  iexists X
  rw [w.fill_congr_cut i h]
  iexact H

/-- The body at a grid point: the inputs arrive filled past the array's end with anything, and on the rows inside the array
    the results are those of the blocks filled with zeros. -/
theorem body_obligation : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0 m c t d0, before0_1 m c t d1, before0_2 m c t d2, before0_3 m c t d3]
  iapply (sound_kernel (F := F) c Set.univ (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (hstage0_4 ((cfg0.slots t 4).cast nbuf0_4))
    _ (hstage0_5 ((cfg0.slots t 5).cast nbuf0_5)) _ (hstage0_6 ((cfg0.slots t 6).cast nbuf0_6)) _ (hstage0_7 ((cfg0.slots t 7).cast nbuf0_7))
    (win0_0.fill (grid0.coords t) d0 (blkG m c t)) (win0_4.fill (grid0.coords t) d1 (blkW m c t))
    (win0_4.fill (grid0.coords t) d2 (blkM m c t)) (win0_4.fill (grid0.coords t) d3 (blkV m c t)) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  rw [after0_0, after0_1, after0_2, after0_3, after0_4, after0_5, after0_6, after0_7]
  isplitl [H0]
  · iapply (keep (w := win0_0) (i := grid0.coords t) c ((win0_0.cut_fill _ _ _).trans (win0_0.cut_fill _ _ _).symm)) $$ H0
  isplitl [H1]
  · iapply (keep (w := win0_4) (i := grid0.coords t) c ((win0_4.cut_fill _ _ _).trans (win0_4.cut_fill _ _ _).symm)) $$ H1
  isplitl [H2]
  · iapply (keep (w := win0_4) (i := grid0.coords t) c ((win0_4.cut_fill _ _ _).trans (win0_4.cut_fill _ _ _).symm)) $$ H2
  isplitl [H3]
  · iapply (keep (w := win0_4) (i := grid0.coords t) c ((win0_4.cut_fill _ _ _).trans (win0_4.cut_fill _ _ _).symm)) $$ H3
  isplitl [H4]
  · iapply (keep (w := win0_4) (i := grid0.coords t) c (funext fun y => (grad_at _ d0 _ y).trans (grad_at _ zG _ y).symm)) $$ H4
  isplitl [H5]
  · iapply (keep (w := win0_4) (i := grid0.coords t) c (funext fun y => rows4 _ d0 d1 d2 d3 zG zW zW zW _ _ _ _ y)) $$ H5
  isplitl [H6]
  · iapply (keep (w := win0_4) (i := grid0.coords t) c (funext fun y => rows2 _ d0 d2 zG zW _ _ y)) $$ H6
  iapply (keep (w := win0_4) (i := grid0.coords t) c (funext fun y => rows3 _ d0 d3 zG zW _ _ y)) $$ H7

set_option backward.isDefEq.respectTransparency.types false in
set_option maxHeartbeats 800000 in
/-- The run: every array ends at what the pipeline writes back, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The run, of the arrays alone. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-! ## The arrays the call leaves -/

section Values

open StableHlo Cert.Proof.AdamW

variable (m : (ℓ : Loc nD τ sig) → Buf (Elt Ideal) ℓ) (c : Dev nD)

/-- The body's values are the formula's, of the gradient with its inner axis split. -/
theorem body (g : Vec Ideal S152x1024 .f32) (w m v : Vec Ideal S152x8x128 .f32) :
    k0_pay2 g m = newM (k0_pay1 g) m ∧ k0_pay3 g v = newV (k0_pay1 g) v ∧ k0_pay4 g w m v = delta w (k0_pay1 g) m v := by
  refine ⟨?_, ?_, ?_⟩ <;> simp only [k0_pay2, k0_pay3, k0_pay4, shapeCast_self] <;> rfl

/-- What the call finds: each argument with its columns first, the weight and its averages cut into rows of 128. -/
theorem entry :
    V m c main_v1 = (shapeCast S1156x8x128 (transpose S1156x1x1024 [2, 0, 1] (m ((c : Thread nD τ).loc main_arg0) : FVec Ideal S1x1024x1156 .f32) transposes_S1x1024x1156_S1156x1x1024_2_0_1) shapeCasts_S1156x1x1024_S1156x8x128 : FVec Ideal S1156x8x128 .f32)
    ∧ V m c main_v3 = (shapeCast S1156x8x128 (transpose S1156x1x1024 [2, 0, 1] (m ((c : Thread nD τ).loc main_arg1) : FVec Ideal S1x1024x1156 .f32) transposes_S1x1024x1156_S1156x1x1024_2_0_1) shapeCasts_S1156x1x1024_S1156x8x128 : FVec Ideal S1156x8x128 .f32)
    ∧ V m c main_v5 = (shapeCast S1156x8x128 (transpose S1156x1x1024 [2, 0, 1] (m ((c : Thread nD τ).loc main_arg2) : FVec Ideal S1x1024x1156 .f32) transposes_S1x1024x1156_S1156x1x1024_2_0_1) shapeCasts_S1156x1x1024_S1156x8x128 : FVec Ideal S1156x8x128 .f32)
    ∧ V m c main_v7 = (shapeCast S1156x1024 (transpose S1156x1x1024 [2, 0, 1] (m ((c : Thread nD τ).loc main_arg3) : FVec Ideal S1x1024x1156 .f32) transposes_S1x1024x1156_S1156x1x1024_2_0_1) shapeCasts_S1156x1x1024_S1156x1024 : FVec Ideal S1156x1024 .f32) := by
  refine ⟨?_, ?_, ?_, ?_⟩ <;> (entry_read; rfl)

/-- Splitting the inner axis keeps the number of entries. -/
theorem casts : S1156x1024.ShapeCasts S1156x8x128 := by decide +kernel

/-- The gradient with its inner axis split. -/
def grad : FVec Ideal S1156x8x128 .f32 :=
  shapeCast S1156x8x128 (V m c main_v7 : FVec Ideal S1156x1024 .f32) casts

/-- It is the argument with its columns first, cut as the weight is. -/
theorem grad_eq : grad m c
    = shapeCast S1156x8x128 (transpose S1156x1x1024 [2, 0, 1] (m ((c : Thread nD τ).loc main_arg3) : FVec Ideal S1x1024x1156 .f32) transposes_S1x1024x1156_S1156x1x1024_2_0_1) shapeCasts_S1156x1x1024_S1156x8x128 :=
  (congrArg (fun x => shapeCast S1156x8x128 x casts) (entry m c).2.2.2).trans (shapeCast_comp _ _ _)

/-- The gradient's blocks and the weight's move together, one block of rows at a grid point. -/
theorem idx : ∀ t : Fin cfg0.N, win0_0.index t = ![t.val, 0] ∧ win0_4.index t = ![t.val, 0, 0] :=
  (by decide +kernel : ∀ t : Fin grid0.N, _)

variable (t : Fin cfg0.N) (y : (win0_4.xblock (grid0.coords t)).Idx)

/-- The gradient the body reads at an entry of a block is the split gradient's at the entry's place in the array. -/
theorem read_grad : k0_pay1 (bufG m c t) (win0_4.xinj _ y) = grad m c ((win0_4.blk t).view.emb y) := by
  refine (grad_at _ _ _ y).trans (shapeCast_apply (V m c main_v7 : FVec Ideal S1156x1024 .f32) casts _ ((win0_0.blk t).view.emb (col _ y)) ?_).symm
  refine (rowMajor_val2 _ 1024 rfl).trans (Eq.trans ?_ (rowMajor_val3 _ 1024 128 rfl rfl).symm)
  obtain ⟨i0, i4⟩ := idx t
  blk_simp
  rw [i0, i4]
  show (t.val * 152 + (y 0).val) * 1024 + (0 * 1024 + ((y 1).val * 128 + (y 2).val))
    = (t.val * 152 + (y 0).val) * 1024 + (0 * 8 + (y 1).val) * 128 + (0 * 128 + (y 2).val)
  omega

/-- So are the weight and its two averages. -/
theorem read_W : bufW m c t (win0_4.xinj _ y) = (V m c main_v1 : FVec Ideal S1156x8x128 .f32) ((win0_4.blk t).view.emb y) :=
  (win0_4.fill_xinj _ _ _ y).trans rfl
theorem read_M : bufM m c t (win0_4.xinj _ y) = (V m c main_v3 : FVec Ideal S1156x8x128 .f32) ((win0_4.blk t).view.emb y) :=
  (win0_4.fill_xinj _ _ _ y).trans rfl
theorem read_V : bufV m c t (win0_4.xinj _ y) = (V m c main_v5 : FVec Ideal S1156x8x128 .f32) ((win0_4.blk t).view.emb y) :=
  (win0_4.fill_xinj _ _ _ y).trans rfl

omit t y

set_option maxHeartbeats 2000000 in
/-- The arrays the call leaves are the formula's of the whole weight. -/
theorem final :
    (dats m 0 c).arrAt 5 (cfgs 0).N = (delta (V m c main_v1) (grad m c) (V m c main_v3) (V m c main_v5) : FVec Ideal S1156x8x128 .f32)
    ∧ (dats m 0 c).arrAt 6 (cfgs 0).N = (newM (grad m c) (V m c main_v3) : FVec Ideal S1156x8x128 .f32)
    ∧ (dats m 0 c).arrAt 7 (cfgs 0).N = (newV (grad m c) (V m c main_v5) : FVec Ideal S1156x8x128 .f32) := by
  refine ⟨(dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩
  · rw [after0_5, (body _ _ _ _).2.2]
    exact delta_at (read_W m c t y) (read_grad m c t y) (read_M m c t y) (read_V m c t y)
  · rw [after0_6, (body _ 0 _ 0).1]
    exact newM_at (read_grad m c t y) (read_M m c t y)
  · rw [after0_7, (body _ 0 0 _).2.1]
    exact newV_at (read_grad m c t y) (read_V m c t y)

end Values

/-- The run with the three results named, the arguments as they began. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8_1) = (dats m 0 c).arrAt 5 cfg0.N
      ∧ r.2.mem ((c.tc : Thread nD τ).loc main_v8_2) = (dats m 0 c).arrAt 6 cfg0.N
      ∧ r.2.mem ((c.tc : Thread nD τ).loc main_v8_3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1 5, (h.1 c).1 6, (h.1 c).1 7, h.2 c⟩)
    (θ_run_and (run_main m ρ) (frame_of m ρ (dats m) (A_eq m) (run_main m ρ)))

set_option maxHeartbeats 1000000 in
/-- Kernel and reference leave the same change and averages of `w_in`. -/
theorem algebraic14 : Cert.algebraic_Kernel14Ideal_Reference14Ideal := by
  pair_intro
  · run_from run_results m g
  · refine Idealize.ShloMosaic.θ_run_mono (Cert.Reference14Ideal.Value.run m' g') fun r h c => ?_
    have h := h c
    obtain ⟨e0, e1, e2, e3⟩ := hagree c
    refine ⟨h.1.trans (Eq.trans ?_ (final m c).1.symm),
      h.2.1.trans (Eq.trans ?_ (final m c).2.1.symm),
      h.2.2.1.trans (Eq.trans ?_ (final m c).2.2.symm),
      h.2.2.2⟩ <;>
      simp only [entry m c, grad_eq m c, e0, e1, e2, e3] <;> rfl

end Cert.Proof.AdamWEdgeIdeal
-- ==== Proof.DwIn.lean ====
/-
  The call that forms the gradient of the input projection's weight: its run. The result's window is written back once, after
  the last grid point, and each point stores some of its rows; of what it holds this module says nothing.
-/
module

public import proofs.«01_k».proof.Proof.Gen.Kernel15.Frame
public import proofs.«01_k».proof.Proof.Gen.Kernel15.Skeleton
public import proofs.«01_k».proof.Proof.Gen.Kernel15.Points
public import proofs.«01_k».proof.Proof.Gen.Kernel15.Launch

@[expose] public section

set_option maxRecDepth 16384

noncomputable section

namespace Cert.Proof.DwIn

open Cert.Kernel15 Cert.Kernel15.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The body's triple -/

/-- At any point of the grid the body runs from the inputs' buffers at their contents, the output's and the scratch at
    anything, to the inputs' as they were and the other two at something. -/
theorem run (c : Dev nD) (t : Fin cfg0.N)
    (arg1 : Memref sig .tc .vmem S2048x512 .bf16) (harg1 : arg1.IsWhole)
    (arg2 : Memref sig .tc .vmem S2048x512 .bf16) (harg2 : arg2.IsWhole)
    (arg3 : Memref sig .tc .vmem S2048x128 .bf16) (harg3 : arg3.IsWhole)
    (arg4 : Memref sig .tc .vmem S2048x1024 .bf16) (harg4 : arg4.IsWhole)
    (arg5 : Memref sig .tc .vmem S4x1156x1024 .bf16) (harg5 : arg5.IsWhole)
    (arg6 : Memref sig .tc .vmem S512x1024 .bf16) (harg6 : arg6.IsWhole)
    (x1 : Vec F S2048x512 .bf16) (x2 : Vec F S2048x512 .bf16) (x3 : Vec F S2048x128 .bf16)
    (x4 : Vec F S2048x1024 .bf16) (E : Set ℕ) (K : PUnit → sProp (MT nD τ sig Unit (Elt F) ℕ (UR sig nD τ) ℕ)) :
    iprop(owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ (∃ d, owns (c : Thread nD τ) arg5 fullShare d) ∗ (∃ d, owns (c : Thread nD τ) arg6 fullShare d)) -∗ K ⟨⟩))
      ⊢ wp frame (wpE (defs₀ (F := F)) Variants.none c none) E
          (cc0_dw_in (grid0.coords t) arg1 harg1 arg2 harg2 arg3 harg3 arg4 harg4 arg5 harg5 arg6 harg6) K := by
  simp only [cc0_dw_in_eq_skeleton]; unfold cc0_dw_in_skel
  simp only [k0_part1_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl | rfl | rfl | rfl | rfl | rfl | rfl | rfl | rfl := fin_N0 t
  all_goals
    sl_exec (disch := decide)
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _, _; isplitr; swap; · iexact H5
      ipureintro; rfl
    iexists _, _; isplitr; swap; · iexact H6
    ipureintro; rfl

/-! ## The run -/

variable (m : (ℓ : Loc nD τ sig) → Buf (Elt F) ℓ) (ρ : Dev nD → PrngReg) (c : Dev nD) (t : Fin cfg0.N)

/-- The result's window is the one of which nothing is said. -/
def forgets : Fin 5 → Bool := fun | 0 => false | 1 => false | 2 => false | 3 => false | 4 => true

/-- The inputs' buffers hold their blocks at every point; two windows read one array and share it. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => Dat.unnamed (cfg := cfg0) 4 t
    | ⟨_ + 5, h⟩ => absurd h (Nat.not_lt.2 (Nat.le_add_left _ _))
  Φ _ := Pipeline.ΦA spec0 c
  q w := Pipeline.shareOf spec0 w
  owed _ := 0

/-- The arrays begin as launched. -/
theorem A_eq (w : Fin cfg0.W) : (dats m 0 c).A w = V m c (Pipeline.arrRef spec0 w) := by dsimp only [dats]

/-- The inputs' buffers after the body, and before it. -/
theorem after0_0 : (dats m 0 c).after 0 t = X0_0 m c t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem before0_0 (d) : (dats m 0 c).before 0 t d = X0_0 m c t := before0_0_of m (dats m 0 c) (A_eq m c 0) (after0_0 m c) t d
theorem before0_1 (d) : (dats m 0 c).before 1 t d = iblk m c 1 t := before0_1_of m (dats m 0 c) (A_eq m c 1) (after0_1 m c) t d
theorem before0_2 (d) : (dats m 0 c).before 2 t d = iblk m c 2 t := before0_2_of m (dats m 0 c) (A_eq m c 2) (after0_2 m c) t d
theorem before0_3 (d) : (dats m 0 c).before 3 t d = iblk m c 3 t := before0_3_of m (dats m 0 c) (A_eq m c 3) (after0_3 m c) t d

/-- What passes between the points: the scratch at something, and the generator's register. -/
theorem PhiA_eq : (Pipeline.ΦA spec0 c : sProp (MT nD τ sig Unit (Elt F) ℕ (UR sig nD τ) ℕ))
    = iprop(iprop((∃ d, owns (c : Thread nD τ) (Memref.whole cc0_scratch0) fullShare d)) ∗ (∃ r, prngReg c r)) := by
  unfold Pipeline.ΦA; rw [scopedRest0_eq]; simp only [owns_whole]; try rfl

/-- The body at a grid point. -/
theorem body_obligation : BodyObligationLoose (dats (F := F) m 0 c) (defs₀ (F := F)) Variants.none () Set.univ forgets := fun t => by
  rw [bigSep_W0, bigSep_W0]
  simp only [forgets]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq]
  iintro ⟨⟨HS, Hg⟩, Ho, ⟨%d0, H0⟩, ⟨%d1, H1⟩, ⟨%d2, H2⟩, ⟨%d3, H3⟩, H4⟩
  rw [before0_0 m c t d0, before0_1 m c t d1, before0_2 m c t d2, before0_3 m c t d3]
  iapply (run (F := F) c t _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (hstage0_4 ((cfg0.slots t 4).cast nbuf0_4))
    _ (Memref.isWhole_whole _) (X0_0 m c t) (iblk m c 1 t) (iblk m c 2 t) (iblk m c 3 t) Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]; · iexact HS
    iexact Hg
  isplitl [Ho]; · iexact Ho
  rw [after0_0, after0_1, after0_2, after0_3]
  isplitl [H0]
  · iexists (X0_0 m c t)
    rw [Window.fill_cut]
    iexact H0
  isplitl [H1]; · iexact H1
  isplitl [H2]; · iexact H2
  isplitl [H3]; · iexact H3
  iexact H4

set_option backward.isDefEq.respectTransparency.types false in
/-- The run: every array the call does not write ends as it began, every counter at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => body_obligation m c) (hq := fun _ _ _ => rfl)
    (howed := fun _ _ => rfl) (V := V m) (hmain := hmain m Variants.none) (hA := A_eq m) (hΦ := fun _ _ => rfl)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.Proof.DwIn

end
-- ==== Proof.DwInIdeal.lean ====
/-
  The call that forms the gradient of the input projection's weight. Each grid point forms some rows of the gradient and stores
  them where the four shards have them, in pieces where its rows cross from one shard to the next; the result's window is written
  back once, after the last point. So the run carries which rows of the window are filled so far, and the last point fills the last.
-/
module

public import proofs.«01_k».proof.Defs
public import proofs.«01_k».proof.Proof.Gen.Kernel15Ideal.Frame
public import proofs.«01_k».proof.Proof.Gen.Kernel15Ideal.Skeleton
public import proofs.«01_k».proof.Proof.Gen.Kernel15Ideal.Points
public import proofs.«01_k».proof.Proof.Gen.Kernel15Ideal.Launch
public import proofs.«01_k».proof.Proof.Gen.Reference15Ideal
public import proofs.«01_k».proof.Proof.Gen.Reference15Ideal.Read
public import Idealize.ShloMosaic.Lib.Pointwise
public import Idealize.ShloMosaic.Lib.Claim
public import Idealize.ShloMosaic.Lib.Pipeline.ValueKit
public import Idealize.ShloMosaic.Lib.Pipeline.DatRel
public import Idealize.ShloMosaic.Lib.Pipeline.ArrRel
public import Idealize.ShloMosaic.Lib.Writes
public import Idealize.ShloMosaic.Lib.VecWindow

@[expose] public section

set_option maxRecDepth 16384

noncomputable section

namespace Cert.Proof.DwInIdeal

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## Stores of rows -/

/-- The row of the whole gradient that an index of the four shards names. -/
abbrev rowOf (j : S4x1156x1024.Idx) : ℕ := (j 0).val * 1156 + (j 1).val

/-- One store of `n` rows of a shard: where the rows of `D` held `G` and the payload is `G`'s, the rows of `D` and the stored ones do. -/
theorem store_rows (v : View sig .tc .vmem S4x1156x1024 .bf16) (f : v.ty.Contents (Elt F)) (s o n : ℕ)
    (inb : ∀ a, (![s, o, 0] : Fin 3 → ℕ) a + (![1, n, 1024] : Fin 3 → ℕ) a ≤ S4x1156x1024.size a)
    (w : (⟨3, ![1, n, 1024]⟩ : Shape).Idx → Elt F .bf16) (L : List (View.Piece (Elt F) S4x1156x1024 .bf16))
    (G : ℕ → Fin 1024 → Elt F .bf16) (hw : ∀ (a : Fin n) (b : Fin 1024), w (ix3 0 a b) = G (s * 1156 + o + a) b)
    (D D' : ℕ → Prop) (hold : ∀ j, D (rowOf j) → v.read (Elt F) (v.writes (Elt F) f L) j = G (rowOf j) (j 2))
    (hD : ∀ r, D' r → D r ∨ (s * 1156 + o ≤ r ∧ r < s * 1156 + o + n)) :
    ∀ j, D' (rowOf j) → v.read (Elt F) (v.writes (Elt F) f ((⟨Rect.unit ![s, o, 0] ![1, n, 1024] inb, w⟩ : View.Piece (Elt F) S4x1156x1024 .bf16) :: L)) j
      = G (rowOf j) (j 2) := by
  intro j hj
  have h1 : (j 1).val < 1156 := (j 1).isLt
  have hn : o + n ≤ 1156 := inb 1
  by_cases h : s * 1156 + o ≤ rowOf j ∧ rowOf j < s * 1156 + o + n
  · have hs : (j 0).val = s := by unfold rowOf at h; omega
    have ho : o ≤ (j 1).val ∧ (j 1).val - o < n := by unfold rowOf at h; omega
    refine (View.read_writes_cons_hit_of_coords v f (Rect.unit ![s, o, 0] ![1, n, 1024] inb) w L (ix3 0 ⟨(j 1).val - o, ho.2⟩ (j 2)) j ?_).trans ?_
    · intro a
      match a with
      | ⟨0, _⟩ => show (j 0).val = s + 1 * 0; omega
      | ⟨1, _⟩ => show (j 1).val = o + 1 * ((j 1).val - o); omega
      | ⟨2, _⟩ => show (j 2).val = 0 + 1 * (j 2).val; omega
    · refine (hw ⟨(j 1).val - o, ho.2⟩ (j 2)).trans (congrArg (fun r => G r (j 2)) ?_)
      show s * 1156 + o + ((j 1).val - o) = rowOf j
      unfold rowOf; omega
  · have hD' : D (rowOf j) := (hD _ hj).resolve_right h
    refine Eq.trans ?_ (hold j hD')
    by_cases hs : (j 0).val = s
    · refine View.read_writes_cons_miss_of_axis v f _ L j 1 o n rfl rfl rfl ?_
      unfold rowOf at h; omega
    · refine View.read_writes_cons_miss_of_axis v f _ L j 0 s 1 rfl rfl rfl ?_
      omega

/-- Rows of the scratch, read back after the one store that filled it and given the shard's axis. -/
theorem scratch_rows (v : View sig .tc .vmem S512x1024 .bf16) (P : Vec F S512x1024 .bf16) (k n : ℕ)
    (inb₀ : ∀ a, (![0, 0] : Fin 2 → ℕ) a + S512x1024.size a ≤ S512x1024.size a)
    (inb : ∀ a, (![k, 0] : Fin 2 → ℕ) a + (![n, 1024] : Fin 2 → ℕ) a ≤ S512x1024.size a)
    (h : (⟨2, ![n, 1024]⟩ : Shape).ShapeCasts ⟨3, ![1, n, 1024]⟩) (G : ℕ → Fin 1024 → Elt F .bf16) (base r : ℕ)
    (hP : ∀ (a : Fin 512) (b : Fin 1024), P (ix2 a b) = G (base + a) b) (hr : base + k = r) (a : Fin n) (b : Fin 1024) :
    shapeCast ⟨3, ![1, n, 1024]⟩ (v.readCov [(⟨Rect.unit ![0, 0] S512x1024.size inb₀, P⟩ : View.Piece (Elt F) S512x1024 .bf16)]
      (Rect.unit (s := S512x1024) ![k, 0] ![n, 1024] inb).toLoadRect : (⟨2, ![n, 1024]⟩ : Shape).Idx → Elt F .bf16) h (ix3 0 a b) = G (r + a) b := by
  have hk : k + n ≤ 512 := inb 0
  refine (shapeCast_apply _ h (ix3 0 a b) (ix2 a b) ?_).trans ?_
  · refine (rowMajor_val2 _ 1024 rfl).trans (Eq.trans ?_ (rowMajor_val3 _ (n * 1024) 1024 rfl rfl).symm)
    show a.val * 1024 + b.val = 0 * (n * 1024) + a.val * 1024 + b.val
    omega
  · rw [View.readCov_eq_canon', View.canon_cons_unit_lit' _ _ _ (by decide)]
    refine Eq.trans ?_ ((hP ⟨k + a, by omega⟩ b).trans (congrArg (fun r => G r b) (by show base + (k + a.val) = r + a.val; omega)))
    refine congrArg P (funext fun x => Fin.ext ?_)
    match x with
    | ⟨0, _⟩ => show k + 1 * a.val = k + a.val; omega
    | ⟨1, _⟩ => show 0 + 1 * b.val = b.val; omega

/-- The rows that the first `n` grid points store. -/
def filled (n r : ℕ) : Prop := (r < 512 * n ∧ r < 1536) ∨ (0 < n ∧ 1536 ≤ r ∧ r < 1552) ∨ (1552 ≤ r ∧ r < 512 * n + 16)

/-- The first row that a grid point's product forms. -/
def base (t : ℕ) : ℕ := if t < 3 then 512 * t else 512 * t + 16

/-! ## The body's triple -/

/-- At a point of the grid the body runs from the inputs' buffers at their contents, the scratch at anything and the output's
    buffer at `G` on the rows of the points before, to the inputs' as they were and the output's at `G` on this point's rows also. -/
theorem run (c : Dev nD) (t : Fin cfg0.N)
    (arg1 : Memref sig .tc .vmem S2048x512 .bf16) (harg1 : arg1.IsWhole)
    (arg2 : Memref sig .tc .vmem S2048x512 .bf16) (harg2 : arg2.IsWhole)
    (arg3 : Memref sig .tc .vmem S2048x128 .bf16) (harg3 : arg3.IsWhole)
    (arg4 : Memref sig .tc .vmem S2048x1024 .bf16) (harg4 : arg4.IsWhole)
    (arg5 : Memref sig .tc .vmem S4x1156x1024 .bf16) (harg5 : arg5.IsWhole)
    (arg6 : Memref sig .tc .vmem S512x1024 .bf16) (harg6 : arg6.IsWhole)
    (x1 : Vec F S2048x512 .bf16) (x2 : Vec F S2048x512 .bf16) (x3 : Vec F S2048x128 .bf16)
    (x4 : Vec F S2048x1024 .bf16) (G : ℕ → Fin 1024 → Elt F .bf16)
    (h4 : t.val < 5 → ∀ (a : Fin 512) (b : Fin 1024), k0_pay4 x1 x4 (ix2 a b) = G (base t.val + a) b)
    (h5 : ¬t.val < 5 → ∀ (a : Fin 512) (b : Fin 1024), k0_pay5 x2 x4 (ix2 a b) = G (base t.val + a) b)
    (h3 : ∀ (a : Fin 16) (b : Fin 1024), k0_pay3 x3 x4 (ix3 0 a b) = G (1536 + a) b) (E : Set ℕ) (K : PUnit → sProp (MT nD τ sig Unit (Elt F) ℕ (UR sig nD τ) ℕ)) :
    iprop(owns (c : Thread nD τ) arg1 fullShare x1 ∗ owns (c : Thread nD τ) arg2 fullShare x2
        ∗ owns (c : Thread nD τ) arg3 fullShare x3 ∗ owns (c : Thread nD τ) arg4 fullShare x4
        ∗ (∃ d, ⌜∀ j, filled t.val (rowOf j) → d j = G (rowOf j) (j 2)⌝ ∗ owns (c : Thread nD τ) arg5 fullShare d) ∗ (∃ d, owns (c : Thread nD τ) arg6 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ (∃ d, ⌜∀ j, filled (t.val + 1) (rowOf j) → d j = G (rowOf j) (j 2)⌝ ∗ owns (c : Thread nD τ) arg5 fullShare d) ∗ (∃ d, owns (c : Thread nD τ) arg6 fullShare d)) -∗ K ⟨⟩))
      ⊢ wp frame (wpE (defs₀ (F := F)) Variants.none c none) E
          (cc0_dw_in (grid0.coords t) arg1 harg1 arg2 harg2 arg3 harg3 arg4 harg4 arg5 harg5 arg6 harg6) K := by
  simp only [cc0_dw_in_eq_skeleton]; unfold cc0_dw_in_skel
  simp only [k0_part1_eq_skeleton]
  unfold owns
  iintro ⟨⟨%f1, %hf1, H1⟩, ⟨%f2, %hf2, H2⟩, ⟨%f3, %hf3, H3⟩, ⟨%f4, %hf4, H4⟩, ⟨%d5, %hold, %f5, %hf5, H5⟩, ⟨%d6, %f6, -, H6⟩, Hk⟩
  have hold' : ∀ j, filled t.val (rowOf j) → arg5.view.read (Elt F) (arg5.view.writes (Elt F) f5 []) j = G (rowOf j) (j 2) :=
    fun j hj => (congrFun hf5 j).trans (hold j hj)
  have p4 : t.val < 5 → ∀ (a : Fin 512) (b : Fin 1024),
      k0_pay4 (arg1.view.readAt (Elt F) (Rect.unit ![0, 0] S2048x512.size inb_S2048x512_S2048x512_0_0).toLoadRect f1)
        (arg4.view.readAt (Elt F) (Rect.unit ![0, 0] S2048x1024.size inb_S2048x1024_S2048x1024_0_0).toLoadRect f4) (ix2 a b) = G (base t.val + a) b := by
    rw [View.readAt_full, View.readAt_full, hf1, hf4]; exact h4
  have p5 : ¬t.val < 5 → ∀ (a : Fin 512) (b : Fin 1024),
      k0_pay5 (arg2.view.readAt (Elt F) (Rect.unit ![0, 0] S2048x512.size inb_S2048x512_S2048x512_0_0).toLoadRect f2)
        (arg4.view.readAt (Elt F) (Rect.unit ![0, 0] S2048x1024.size inb_S2048x1024_S2048x1024_0_0).toLoadRect f4) (ix2 a b) = G (base t.val + a) b := by
    rw [View.readAt_full, View.readAt_full, hf2, hf4]; exact h5
  have p3 : ∀ (a : Fin 16) (b : Fin 1024),
      k0_pay3 (arg3.view.readAt (Elt F) (Rect.unit ![0, 0] S2048x128.size inb_S2048x128_S2048x128_0_0).toLoadRect f3)
        (arg4.view.readAt (Elt F) (Rect.unit ![0, 0] S2048x1024.size inb_S2048x1024_S2048x1024_0_0).toLoadRect f4) (ix3 0 a b) = G (1536 + a) b := by
    rw [View.readAt_full, View.readAt_full, hf3, hf4]; exact h3
  clear h3 h4 h5 hold
  obtain rfl | rfl | rfl | rfl | rfl | rfl | rfl | rfl | rfl := fin_N0 t
  all_goals sl_exec (disch := decide)
  · sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap
      · iexists _; isplitr; swap; · iexact H5
        ipureintro; rfl
      ipureintro
      refine store_rows arg5.view f5 1 380 16 _ _ _ G p3 (fun r => filled 0 r ∨ (0 ≤ r ∧ r < 512)) (filled 1) ?_ (by simp only [filled]; omega)
      exact store_rows arg5.view f5 0 0 512 _ _ _ G (scratch_rows arg6.view _ 0 512 _ _ _ G 0 0 (p4 (by decide)) rfl) (filled 0) (fun r => filled 0 r ∨ (0 ≤ r ∧ r < 512)) hold' (by simp only [filled]; omega)
    iexists _, _; isplitr; swap; · iexact H6
    ipureintro; rfl
  · sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap
      · iexists _; isplitr; swap; · iexact H5
        ipureintro; rfl
      ipureintro
      exact store_rows arg5.view f5 0 512 512 _ _ _ G (scratch_rows arg6.view _ 0 512 _ _ _ G 512 512 (p4 (by decide)) rfl) (filled 1) (filled 2) hold' (by simp only [filled]; omega)
    iexists _, _; isplitr; swap; · iexact H6
    ipureintro; rfl
  · sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap
      · iexists _; isplitr; swap; · iexact H5
        ipureintro; rfl
      ipureintro
      refine store_rows arg5.view f5 1 0 380 _ _ _ G (scratch_rows arg6.view _ 132 380 _ _ _ G 1024 1156 (p4 (by decide)) rfl) (fun r => filled 2 r ∨ (1024 ≤ r ∧ r < 1156)) (filled 3) ?_ (by simp only [filled]; omega)
      exact store_rows arg5.view f5 0 1024 132 _ _ _ G (scratch_rows arg6.view _ 0 132 _ _ _ G 1024 1024 (p4 (by decide)) rfl) (filled 2) (fun r => filled 2 r ∨ (1024 ≤ r ∧ r < 1156)) hold' (by simp only [filled]; omega)
    iexists _, _; isplitr; swap; · iexact H6
    ipureintro; rfl
  · sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap
      · iexists _; isplitr; swap; · iexact H5
        ipureintro; rfl
      ipureintro
      exact store_rows arg5.view f5 1 396 512 _ _ _ G (scratch_rows arg6.view _ 0 512 _ _ _ G 1552 1552 (p4 (by decide)) rfl) (filled 3) (filled 4) hold' (by simp only [filled]; omega)
    iexists _, _; isplitr; swap; · iexact H6
    ipureintro; rfl
  · sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap
      · iexists _; isplitr; swap; · iexact H5
        ipureintro; rfl
      ipureintro
      refine store_rows arg5.view f5 2 0 264 _ _ _ G (scratch_rows arg6.view _ 248 264 _ _ _ G 2064 2312 (p4 (by decide)) rfl) (fun r => filled 4 r ∨ (2064 ≤ r ∧ r < 2312)) (filled 5) ?_ (by simp only [filled]; omega)
      exact store_rows arg5.view f5 1 908 248 _ _ _ G (scratch_rows arg6.view _ 0 248 _ _ _ G 2064 2064 (p4 (by decide)) rfl) (filled 4) (fun r => filled 4 r ∨ (2064 ≤ r ∧ r < 2312)) hold' (by simp only [filled]; omega)
    iexists _, _; isplitr; swap; · iexact H6
    ipureintro; rfl
  · sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap
      · iexists _; isplitr; swap; · iexact H5
        ipureintro; rfl
      ipureintro
      exact store_rows arg5.view f5 2 264 512 _ _ _ G (scratch_rows arg6.view _ 0 512 _ _ _ G 2576 2576 (p5 (by decide)) rfl) (filled 5) (filled 6) hold' (by simp only [filled]; omega)
    iexists _, _; isplitr; swap; · iexact H6
    ipureintro; rfl
  · sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap
      · iexists _; isplitr; swap; · iexact H5
        ipureintro; rfl
      ipureintro
      refine store_rows arg5.view f5 3 0 132 _ _ _ G (scratch_rows arg6.view _ 380 132 _ _ _ G 3088 3468 (p5 (by decide)) rfl) (fun r => filled 6 r ∨ (3088 ≤ r ∧ r < 3468)) (filled 7) ?_ (by simp only [filled]; omega)
      exact store_rows arg5.view f5 2 776 380 _ _ _ G (scratch_rows arg6.view _ 0 380 _ _ _ G 3088 3088 (p5 (by decide)) rfl) (filled 6) (fun r => filled 6 r ∨ (3088 ≤ r ∧ r < 3468)) hold' (by simp only [filled]; omega)
    iexists _, _; isplitr; swap; · iexact H6
    ipureintro; rfl
  · sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap
      · iexists _; isplitr; swap; · iexact H5
        ipureintro; rfl
      ipureintro
      exact store_rows arg5.view f5 3 132 512 _ _ _ G (scratch_rows arg6.view _ 0 512 _ _ _ G 3600 3600 (p5 (by decide)) rfl) (filled 7) (filled 8) hold' (by simp only [filled]; omega)
    iexists _, _; isplitr; swap; · iexact H6
    ipureintro; rfl
  · sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap
      · iexists _; isplitr; swap; · iexact H5
        ipureintro; rfl
      ipureintro
      exact store_rows arg5.view f5 3 644 512 _ _ _ G (scratch_rows arg6.view _ 0 512 _ _ _ G 4112 4112 (p5 (by decide)) rfl) (filled 8) (filled 9) hold' (by simp only [filled]; omega)
    iexists _, _; isplitr; swap; · iexact H6
    ipureintro; rfl

/-! ## The values -/

section Values

open StableHlo
open scoped BigOperators

variable (m : (ℓ : Loc nD τ sig) → Buf (Elt Ideal) ℓ) (c : Dev nD)

/-- The normalised input and the four cotangents that the mixer and the gates leave. -/
abbrev hid (i : Fin 2048) (k : Fin 1024) : EReal := (m ((c : Thread nD τ).loc main_arg0) : FVec Ideal S2048x1024 .f32) (ix2 i k)
abbrev dq (i : Fin 2048) (q : Fin 1536) : EReal := (m ((c : Thread nD τ).loc main_arg2) : FVec Ideal S2048x1536 .f32) (ix2 i q)
abbrev dxo (i : Fin 2048) (q : Fin 1024) : EReal := (m ((c : Thread nD τ).loc main_arg3) : FVec Ideal S2048x1024 .f32) (ix2 i q)
abbrev dlow (i : Fin 2048) (q : Fin 16) : EReal := (m ((c : Thread nD τ).loc main_arg4) : FVec Ideal S2048x16 .f32) (ix2 i q)
abbrev dgate (i : Fin 2048) (q : Fin 2048) : EReal := (m ((c : Thread nD τ).loc main_arg5) : FVec Ideal S2048x2048 .f32) (ix2 i q)

/-- Their columns in the order of the weight's. -/
def cot (i : Fin 2048) (r : ℕ) : EReal :=
  if h : r < 1536 then dq m c i ⟨r, h⟩ else if h' : r - 1536 < 16 then dlow m c i ⟨r - 1536, h'⟩
  else if h'' : r - 1536 - 16 < 1024 then dxo m c i ⟨r - 1536 - 16, h''⟩
  else if h3 : r - 1536 - 16 - 1024 < 2048 then dgate m c i ⟨r - 1536 - 16 - 1024, h3⟩ else 0

/-- Row `r` of the gradient, columns of the weight first: one product over the tokens. -/
def dwIn (r : ℕ) (k : Fin 1024) : EReal := ∑ i : Fin 2048, cot m c i r * hid m c i k

/-- The low-rank cotangent padded by zeros. -/
def lowPad (i : Fin 2048) (q : Fin 128) : EReal := if h : (q : ℕ) < 16 then dlow m c i ⟨q, h⟩ else 0

/-- The three cotangents of the mixer laid side by side. -/
def pmRow (i : Fin 2048) (j : Fin 2688) : EReal :=
  if h : (j : ℕ) < 1536 then dq m c i ⟨j, h⟩ else if h' : (j : ℕ) - 1536 < 1024 then dxo m c i ⟨j - 1536, h'⟩
  else lowPad m c i ⟨(j : ℕ) - 1536 - 1024, by omega⟩

theorem low_host (i : Fin 2048) (q : Fin 128) :
    (V m c main_v0 : Vec Ideal S2048x128 .f32) (ix2 i q) = lowPad m c i q := by
  simp only [V, List.flatten_cons, List.flatten_nil, List.cons_append, List.nil_append]
  entry_read
  show (pad S2048x128 ![0, 0] ![0, 112] ![0, 0] (m ((c : Thread nD τ).loc main_arg4) : FVec Ideal S2048x16 .f32)
    (sitofp (F := Ideal) .f32 (constantI S_ 32 0#32)) pads_S2048x16_S2048x128_000_01120 h_S_ : FVec Ideal S2048x128 .f32) (ix2 i q) = _
  pointwise [lowPad]
  have hz : (FloatOps.sitofp (F := Ideal) FTy.f32 0#32 : EReal) = 0 := by
    show (((0#32 : BitVec 32).toInt : ℝ) : EReal) = 0
    simp
  by_cases h : (q : ℕ) < 16
  · rw [dif_pos h, dif_pos fun a => ?_]
    match a with
    | ⟨0, _⟩ => exact ⟨Nat.zero_le _, by show ((i : ℕ) - 0) % 1 = 0; omega, by show ((i : ℕ) - 0) / 1 < 2048; omega⟩
    | ⟨1, _⟩ => exact ⟨Nat.zero_le _, by show ((q : ℕ) - 0) % 1 = 0; omega, by show ((q : ℕ) - 0) / 1 < 16; omega⟩
  · rw [dif_neg h, dif_neg fun H => ?_]
    · exact hz
    · have h2 : ((q : ℕ) - 0) / 1 < 16 := (H 1).2.2
      omega

/-- What the host leaves before the concatenation. -/
abbrev mid : Valuation τ sig (Elt Ideal) :=
  StableHlo.after (hostOps0 (F := Ideal) ++ hostOps0_1) (fun b => m (c, b))

theorem mid_arg2 : mid m c main_arg2 = m ((c : Thread nD τ).loc main_arg2) := by
  simp only [mid, List.cons_append, List.nil_append]
  entry_read
  rfl
theorem mid_arg3 : mid m c main_arg3 = m ((c : Thread nD τ).loc main_arg3) := by
  simp only [mid, List.cons_append, List.nil_append]
  entry_read
  rfl
theorem mid_v0 (i : Fin 2048) (q : Fin 128) :
    (mid m c main_v0 : Vec Ideal S2048x128 .f32) (ix2 i q) = lowPad m c i q := by
  refine Eq.trans ?_ (low_host m c i q)
  simp only [V, mid, List.flatten_cons, List.flatten_nil, List.cons_append, List.nil_append]
  entry_read
  rfl

/-- The concatenation over any contents. -/
theorem pm_after (σ : Valuation τ sig (Elt Ideal)) (i : Fin 2048) (j : Fin 2688) :
    (StableHlo.after hostOps0_2 σ main_v2 : Vec Ideal S2048x2688 .bf16) (ix2 i j) =
    (if h : (j : ℕ) < 1536 then (σ main_arg2 : FVec Ideal S2048x1536 .f32) (ix2 i ⟨j, h⟩)
     else if h' : (j : ℕ) - 1536 < 1024 then (σ main_arg3 : FVec Ideal S2048x1024 .f32) (ix2 i ⟨j - 1536, h'⟩)
     else (σ main_v0 : FVec Ideal S2048x128 .f32) (ix2 i ⟨(j : ℕ) - 1536 - 1024, by omega⟩) : EReal) := by
  entry_read
  pointwise

theorem pm_host (i : Fin 2048) (j : Fin 2688) :
    (V m c main_v2 : Vec Ideal S2048x2688 .bf16) (ix2 i j) = pmRow m c i j := by
  refine (pm_after (mid m c) i j).trans ?_
  unfold pmRow
  split
  · exact congrFun (mid_arg2 m c) _
  split
  · exact congrFun (mid_arg3 m c) _
  · exact mid_v0 m c i _

theorem gate_host (i : Fin 2048) (j : Fin 2048) : (V m c main_v3 : Vec Ideal S2048x2048 .bf16) (ix2 i j) = dgate m c i j := by
  simp only [V, List.flatten_cons, List.flatten_nil, List.cons_append, List.nil_append]
  entry_read
  pointwise
theorem hid_host (i : Fin 2048) (k : Fin 1024) : (V m c main_v4 : Vec Ideal S2048x1024 .bf16) (ix2 i k) = hid m c i k := by
  simp only [V, List.flatten_cons, List.flatten_nil, List.cons_append, List.nil_append]
  entry_read
  pointwise

/-- The windows' block indices. -/
theorem idx : ∀ t : Fin cfg0.N, (t.val < 5 → win0_0.index t = ![0, t.val]) ∧ (¬t.val < 5 → win0_1.index t = ![0, t.val - 5])
    ∧ win0_2.index t = ![0, 20] ∧ win0_3.index t = ![0, 0] :=
  (by decide +kernel : ∀ t : Fin grid0.N, _)

variable (t : Fin cfg0.N)

/-- The blocks' entries. -/
theorem pm_at (ht : t.val < 5) (i : Fin 2048) (a : Fin 512) (j : Fin 2688) (hj : (j : ℕ) = t.val * 512 + a) :
    (X0_0 m c t : Vec Ideal S2048x512 .bf16) (ix2 i a) = pmRow m c i j := by
  refine Eq.trans ?_ (pm_host m c i j)
  unfold X0_0 Pipeline.Window.fill
  rw [dif_pos (moved0_0 t _)]
  blk_ext [iblk, (idx t).1 ht]
theorem gate_at (ht : ¬t.val < 5) (i : Fin 2048) (a : Fin 512) (j : Fin 2048) (hj : (j : ℕ) = (t.val - 5) * 512 + a) :
    (iblk m c 1 t : Vec Ideal S2048x512 .bf16) (ix2 i a) = dgate m c i j := by
  refine Eq.trans ?_ (gate_host m c i j)
  blk_ext [iblk, (idx t).2.1 ht]
theorem low_at (i : Fin 2048) (a : Fin 128) (j : Fin 2688) (hj : (j : ℕ) = 2560 + a) :
    (iblk m c 2 t : Vec Ideal S2048x128 .bf16) (ix2 i a) = pmRow m c i j := by
  refine Eq.trans ?_ (pm_host m c i j)
  blk_ext [iblk, (idx t).2.2.1]
theorem hid_at (i : Fin 2048) (k : Fin 1024) : (iblk m c 3 t : Vec Ideal S2048x1024 .bf16) (ix2 i k) = hid m c i k := by
  refine Eq.trans ?_ (hid_host m c i k)
  blk_ext [iblk, (idx t).2.2.2]

omit t

/-- The body's products at an index. -/
theorem pay4_at (x : Vec Ideal S2048x512 .bf16) (y : Vec Ideal S2048x1024 .bf16) (a : Fin 512) (b : Fin 1024) :
    k0_pay4 x y (ix2 a b) = ∑ i : Fin 2048, x (ix2 i a) * y (ix2 i b) := by
  pointwise [k0_pay4]
theorem pay5_at (x : Vec Ideal S2048x512 .bf16) (y : Vec Ideal S2048x1024 .bf16) (a : Fin 512) (b : Fin 1024) :
    k0_pay5 x y (ix2 a b) = ∑ i : Fin 2048, x (ix2 i a) * y (ix2 i b) := by
  pointwise [k0_pay5]
theorem pay3_at (x : Vec Ideal S2048x128 .bf16) (y : Vec Ideal S2048x1024 .bf16) (a : Fin 16) (b : Fin 1024) :
    k0_pay3 x y (ix3 0 a b) = ∑ i : Fin 2048, x (ix2 i ⟨a, by omega⟩) * y (ix2 i b) := by
  pointwise [k0_pay3]

/-- A column of the mixer's three cotangents, in the order of the weight's columns. -/
theorem pm_cot (i : Fin 2048) (t : ℕ) (ht : t < 5) (a : Fin 512) :
    pmRow m c i ⟨t * 512 + a, by omega⟩ = cot m c i (base t + a) := by
  unfold pmRow cot base
  by_cases h : t < 3
  · rw [if_pos h, dif_pos (by show t * 512 + a.val < 1536; omega), dif_pos (by omega)]
    exact congrArg (dq m c i) (Fin.ext (by show t * 512 + a.val = 512 * t + a.val; omega))
  · rw [if_neg h, dif_neg (by show ¬t * 512 + a.val < 1536; omega), dif_pos (by show t * 512 + a.val - 1536 < 1024; omega),
      dif_neg (by omega), dif_neg (by omega), dif_pos (by omega)]
    exact congrArg (dxo m c i) (Fin.ext (by show t * 512 + a.val - 1536 = 512 * t + 16 + a.val - 1536 - 16; omega))
theorem low_cot (i : Fin 2048) (a : Fin 16) : pmRow m c i ⟨2560 + a, by omega⟩ = cot m c i (1536 + a) := by
  unfold pmRow cot lowPad
  rw [dif_neg (by show ¬2560 + a.val < 1536; omega), dif_neg (by show ¬2560 + a.val - 1536 < 1024; omega),
    dif_pos (by show 2560 + a.val - 1536 - 1024 < 16; omega), dif_neg (by omega), dif_pos (by omega)]
  exact congrArg (dlow m c i) (Fin.ext (by show 2560 + a.val - 1536 - 1024 = 1536 + a.val - 1536; omega))
theorem gate_cot (i : Fin 2048) (t : ℕ) (ht : ¬t < 5) (ht' : t < 9) (a : Fin 512) :
    dgate m c i ⟨(t - 5) * 512 + a, by omega⟩ = cot m c i (base t + a) := by
  unfold cot base
  rw [if_neg (by omega), dif_neg (by omega), dif_neg (by omega), dif_neg (by omega), dif_pos (by omega)]
  exact congrArg (dgate m c i) (Fin.ext (by show (t - 5) * 512 + a.val = 512 * t + 16 + a.val - 1536 - 16 - 1024; omega))

variable (t : Fin cfg0.N)

/-- The products of a grid point are rows of the gradient. -/
theorem rows4 (ht : t.val < 5) (a : Fin 512) (b : Fin 1024) :
    k0_pay4 (X0_0 m c t) (iblk m c 3 t) (ix2 a b) = dwIn m c (base t.val + a) b :=
  (pay4_at _ _ a b).trans (Finset.sum_congr rfl fun i _ => congrArg₂ (· * ·)
    ((pm_at m c t ht i a ⟨t.val * 512 + a, by omega⟩ rfl).trans (pm_cot m c i t.val ht a)) (hid_at m c t i b))
theorem rows5 (ht : ¬t.val < 5) (a : Fin 512) (b : Fin 1024) :
    k0_pay5 (iblk m c 1 t) (iblk m c 3 t) (ix2 a b) = dwIn m c (base t.val + a) b :=
  have ht' : t.val < 9 := t.isLt
  (pay5_at _ _ a b).trans (Finset.sum_congr rfl fun i _ => congrArg₂ (· * ·)
    ((gate_at m c t ht i a ⟨(t.val - 5) * 512 + a, by omega⟩ rfl).trans (gate_cot m c i t.val ht ht' a)) (hid_at m c t i b))
theorem rows3 (a : Fin 16) (b : Fin 1024) :
    k0_pay3 (iblk m c 2 t) (iblk m c 3 t) (ix3 0 a b) = dwIn m c (1536 + a) b :=
  (pay3_at _ _ a b).trans (Finset.sum_congr rfl fun i _ => congrArg₂ (· * ·)
    ((low_at m c t i ⟨a, by omega⟩ ⟨2560 + a, by omega⟩ rfl).trans (low_cot m c i a)) (hid_at m c t i b))

end Values

/-! ## The run -/

variable (m : (ℓ : Loc nD τ sig) → Buf (Elt Ideal) ℓ) (ρ : Dev nD → PrngReg) (c : Dev nD) (t : Fin cfg0.N)

/-- The result's window is the one known by its filled rows alone. -/
def forgets : Fin 5 → Bool := fun | 0 => false | 1 => false | 2 => false | 3 => false | 4 => true

/-- What a grid point leaves in the result's window: the gradient's rows, of this point and the points before. -/
def left (c : Dev nD) : (w : Fin cfg0.W) → Fin cfg0.N → ((cfg0.win w).block.Idx → Elt Ideal (cfg0.win w).elt) → Prop := fun
  | 0 => fun _ _ => True
  | 1 => fun _ _ => True
  | 2 => fun _ _ => True
  | 3 => fun _ _ => True
  | 4 => fun t X => ∀ j : S4x1156x1024.Idx, filled (t.val + 1) (rowOf j) → X j = dwIn m c (rowOf j) (j 2)

/-- The inputs' buffers hold their blocks at every point; two windows read one array and share it. -/
def dats (_ : Fin 1) (c : Dev nD) : Dat τ (Elt Ideal) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => Dat.unnamed (cfg := cfg0) 4 t
    | ⟨_ + 5, h⟩ => absurd h (Nat.not_lt.2 (Nat.le_add_left _ _))
  Φ _ := Pipeline.ΦA spec0 c
  q w := Pipeline.shareOf spec0 w
  owed _ := 0

/-- The arrays begin as launched. -/
theorem A_eq (w : Fin cfg0.W) : (dats m 0 c).A w = V m c (Pipeline.arrRef spec0 w) := by dsimp only [dats]

/-- The inputs' buffers after the body, and before it. -/
theorem after0_0 : (dats m 0 c).after 0 t = X0_0 m c t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem before0_0 (d) : (dats m 0 c).before 0 t d = X0_0 m c t := before0_0_of m (dats m 0 c) (A_eq m c 0) (after0_0 m c) t d
theorem before0_1 (d) : (dats m 0 c).before 1 t d = iblk m c 1 t := before0_1_of m (dats m 0 c) (A_eq m c 1) (after0_1 m c) t d
theorem before0_2 (d) : (dats m 0 c).before 2 t d = iblk m c 2 t := before0_2_of m (dats m 0 c) (A_eq m c 2) (after0_2 m c) t d
theorem before0_3 (d) : (dats m 0 c).before 3 t d = iblk m c 3 t := before0_3_of m (dats m 0 c) (A_eq m c 3) (after0_3 m c) t d

/-- What passes between the points: the scratch at something, and the generator's register. -/
theorem PhiA_eq : (Pipeline.ΦA spec0 c : sProp (MT nD τ sig Unit (Elt Ideal) ℕ (UR sig nD τ) ℕ))
    = iprop(iprop((∃ d, owns (c : Thread nD τ) (Memref.whole cc0_scratch0) fullShare d)) ∗ (∃ r, prngReg c r)) := by
  unfold Pipeline.ΦA; rw [scopedRest0_eq]; simp only [owns_whole]; try rfl

/-- Before a grid point it holds the rows of the points before. -/
theorem found (Y : (cfg0.win 4).block.Idx → Elt Ideal (cfg0.win 4).elt) (h : ((dats m 0 c).toRRel forgets (left m c)).Finds 4 t Y)
    (j : S4x1156x1024.Idx) (hj : filled t.val (rowOf j)) : Y j = dwIn m c (rowOf j) (j 2) := by
  by_cases h0 : t.val = 0
  · exfalso
    unfold filled at hj
    omega
  · have ht : t.val < 9 := t.isLt
    have hl := ((Pipeline.RDat.finds_of_pos _ (t := t) rfl h0 Y).mp h).resolve_left fun hf => by
      have h8 := (flush0_4 _).mp hf
      have h8' : (t.val - 1) % 9 = 8 := h8
      omega
    have h1 : ∀ j : S4x1156x1024.Idx, filled (t.val - 1 + 1) (rowOf j) → Y j = dwIn m c (rowOf j) (j 2) :=
      (dats m 0 c).toRRel_leaves (fgt := forgets) (Rl := left m c) (w := 4) rfl hl
    exact h1 j (by rwa [Nat.sub_add_cancel (Nat.pos_of_ne_zero h0)])

/-- The body at a grid point. -/
theorem body_obligation : Pipeline.BodyObligationRel (dats m 0 c) (defs₀ (F := Ideal)) Variants.none () Set.univ forgets (left m c) := fun t => by
  rw [bigSep_W0, bigSep_W0]
  simp only [forgets]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq]
  iintro ⟨⟨HS, Hg⟩, Ho, ⟨%d0, H0⟩, ⟨%d1, H1⟩, ⟨%d2, H2⟩, ⟨%d3, H3⟩, ⟨%d4, %h4, H4⟩⟩
  rw [before0_0 m c t d0, before0_1 m c t d1, before0_2 m c t d2, before0_3 m c t d3]
  iapply (run (F := Ideal) c t _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (hstage0_4 ((cfg0.slots t 4).cast nbuf0_4))
    _ (Memref.isWhole_whole _) (X0_0 m c t) (iblk m c 1 t) (iblk m c 2 t) (iblk m c 3 t) (dwIn m c)
    (rows4 m c t) (rows5 m c t) (rows3 m c t) Set.univ _)
  isplitl [H0]; · iexact H0
  isplitl [H1]; · iexact H1
  isplitl [H2]; · iexact H2
  isplitl [H3]; · iexact H3
  isplitl [H4]
  · iexists d4; isplitr
    · ipureintro; exact found m c t d4 h4
    iexact H4
  isplitl [HS]; · iexact HS
  iintro ⟨H0, H1, H2, H3, ⟨%d5, %h5, H4⟩, HS⟩
  isplitl [HS Hg]
  · isplitl [HS]; · iexact HS
    iexact Hg
  isplitl [Ho]; · iexact Ho
  rw [after0_0, after0_1, after0_2, after0_3]
  isplitl [H0]
  · iexists (X0_0 m c t)
    rw [Window.fill_cut]
    iexact H0
  isplitl [H1]; · iexact H1
  isplitl [H2]; · iexact H2
  isplitl [H3]; · iexact H3
  iexists d5; isplitr
  · ipureintro; exact h5
  iexact H4

set_option backward.isDefEq.respectTransparency.types false in
/-- The run: the result's array ends as the last grid point leaves its window, every other as it began, every counter at zero. -/
theorem run_main : θ_run defs (onTc (τ := τ) (main (F := Ideal))) (s₀ m ρ)
    (fun r => Pipeline.RDat.FramePost (cfgs 0) (fun c => (dats m 0 c).toRRel forgets (left m c)) (V m) r ∧ r.2.sem = fun _ => 0) :=
  Pipeline.RDat.θ_run_frame_track_shared (Q' := _) cfgs (0 : Fin 1) launch₀0 defs₀ Variants.none (fun c => (dats m 0 c).toRRel forgets (left m c)) m ρ main
    (hbody := fun c => (body_obligation m c).toRRel) (hq := fun _ _ _ => rfl)
    (howed := fun _ _ => rfl) (V := V m) (hmain := hmain m Variants.none) (hA := A_eq m) (hin := fun _ => .rfl) (hout := fun _ => .rfl)
    (hQ' := fun _ h => h)

/-- The arguments end as they began, and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

/-- The array the call leaves is the gradient. -/
theorem final (X : FVec Ideal S4x1156x1024 .bf16) (h : ((dats m 0 c).toRRel forgets (left m c)).ArrAt 4 cfg0.N X) (j : S4x1156x1024.Idx) :
    X j = dwIn m c (rowOf j) (j 2) := by
  obtain ⟨Y, hY, hX⟩ := Pipeline.RDat.ArrAt.emb_eq_of_wholeAt (w := 4) h (t₀ := t0_8) (by decide +kernel)
  have hl : ∀ j : S4x1156x1024.Idx, filled (8 + 1) (rowOf j) → Y j = dwIn m c (rowOf j) (j 2) :=
    (dats m 0 c).toRRel_leaves (fgt := forgets) (Rl := left m c) (w := 4) rfl hY
  refine (hX j).trans (hl j ?_)
  have h0 : (j 0).val < 4 := (j 0).isLt
  have h1 : (j 1).val < 1156 := (j 1).isLt
  unfold filled rowOf
  omega

/-- The run with the result named, the arguments as they began. -/
theorem run_results : θ_run defs (onTc (τ := τ) (main (F := Ideal))) ⟨m, fun _ => 0, ρ⟩ fun r => ∀ c : Dev nD,
      r.2.mem ((c.tc : Thread nD τ).loc main_v5) = (fun j : S4x1156x1024.Idx => dwIn m c (rowOf j) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨funext (final m c (r.2.mem ((c.tc : Thread nD τ).loc main_v5)) ((h.1.1 c).1 4)), h.2.1 c⟩)
    (θ_run_and (run_main m ρ) (frame m ρ))

/-- Kernel and reference leave the same gradient of `w_in`. -/
theorem algebraic15 : Cert.algebraic_Kernel15Ideal_Reference15Ideal := by
  pair_intro
  · run_from run_results m g
  · run_from Cert.Reference15Ideal.Value.run m' g'
    funext j; idx_vars j
    pointwise
    obtain ⟨-, -, e2, e3, e4, e5⟩ := hagree c
    rw [e2, e3, e4, e5]
    refine Finset.sum_congr rfl fun i _ => congrArg (· * hid m c i j2) ?_
    refine dite_congr rfl (fun _ => rfl) fun _ => dite_congr rfl (fun _ => rfl) fun _ => dite_congr rfl (fun _ => rfl) fun _ =>
      ?_
    have under : rowOf (ix3 j0 j1 j2) - 1536 - 16 - 1024 < 2048 := by
      show j0.val * 1156 + j1.val - 1536 - 16 - 1024 < 2048
      omega
    rw [dif_pos under]
    rfl

end Cert.Proof.DwInIdeal

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Mixer
public import proofs.«01_k».proof.Proof.MixerIdeal
public import proofs.«01_k».proof.Proof.MlpClaim
public import proofs.«01_k».proof.Proof.MlpWeights
public import proofs.«01_k».proof.Proof.InProj
public import proofs.«01_k».proof.Proof.InProjBwd
public import proofs.«01_k».proof.Proof.MergeBwd
public import proofs.«01_k».proof.Proof.AdamWLarge
public import proofs.«01_k».proof.Proof.AdamWSmall
public import proofs.«01_k».proof.Proof.AdamWStored
public import proofs.«01_k».proof.Proof.AdamWEdge
public import proofs.«01_k».proof.Proof.AdamWEdgeIdeal
public import proofs.«01_k».proof.Proof.DwIn
public import proofs.«01_k».proof.Proof.DwInIdeal
public import Idealize.ShloMosaic.Lib.Claim

/-! The certificate's claims, each from the module that proves it. -/

@[expose] public section

noncomputable section

namespace Cert.Proof

open Idealize.ShloMosaic Idealize.SL.Sem

/-- The reference ends and leaves its arguments as they were. -/
theorem frame_reference : Cert.quiescent_ReferenceIdeal := fun m g _ =>
  (θ_run Cert.ReferenceIdeal.defs _ _).mono
    (fun r h => ⟨fun c => (h c).2.2.2.2.2.2.2.2, sem_eq_zero_of_no_sems (by decide) r.2⟩)
    (Cert.ReferenceIdeal.Value.run (F := Ideal) m g)

/-- The reference of the gradient of the up-projection ends and leaves its arguments as they were. -/
theorem frame_reference2 : Cert.quiescent_Reference2Ideal := fun m g _ =>
  (θ_run Cert.Reference2Ideal.defs _ _).mono
    (fun r h => ⟨fun c => (h c).2, sem_eq_zero_of_no_sems (by decide) r.2⟩)
    (Cert.Reference2Ideal.Value.run (F := Ideal) m g)

/-- The reference of the gradient of the down-projection ends and leaves its arguments as they were. -/
theorem frame_reference3 : Cert.quiescent_Reference3Ideal := fun m g _ =>
  (θ_run Cert.Reference3Ideal.defs _ _).mono
    (fun r h => ⟨fun c => (h c).2, sem_eq_zero_of_no_sems (by decide) r.2⟩)
    (Cert.Reference3Ideal.Value.run (F := Ideal) m g)

/-- The reference of the input projection ends and leaves its arguments as they were. -/
theorem frame_reference4 : Cert.quiescent_Reference4Ideal := fun m g _ =>
  (θ_run Cert.Reference4Ideal.defs _ _).mono
    (fun r h => ⟨fun c => (h c).2.2.2, sem_eq_zero_of_no_sems (by decide) r.2⟩)
    (Cert.Reference4Ideal.Value.run (F := Ideal) m g)

/-- The reference of the gradient through the input projection ends and leaves its arguments as they were. -/
theorem frame_reference5 : Cert.quiescent_Reference5Ideal := fun m g _ =>
  (θ_run Cert.Reference5Ideal.defs _ _).mono
    (fun r h => ⟨fun c => (h c).2.2, sem_eq_zero_of_no_sems (by decide) r.2⟩)
    (Cert.Reference5Ideal.Value.run (F := Ideal) m g)

/-- The reference of the gradient through the merge of the branches ends and leaves its arguments as they were. -/
theorem frame_reference6 : Cert.quiescent_Reference6Ideal := fun m g _ =>
  (θ_run Cert.Reference6Ideal.defs _ _).mono
    (fun r h => ⟨fun c => (h c).2.2.2.2.2.2, sem_eq_zero_of_no_sems (by decide) r.2⟩)
    (Cert.Reference6Ideal.Value.run (F := Ideal) m g)

/-- The reference of the optimiser on the mixer's three large weights ends and leaves its arguments as they were. -/
theorem frame_reference7 : Cert.quiescent_Reference7Ideal := fun m g _ =>
  (θ_run Cert.Reference7Ideal.defs _ _).mono
    (fun r h => ⟨fun c => (h c).2.2.2.2.2.2.2.2.2, sem_eq_zero_of_no_sems (by decide) r.2⟩)
    (Cert.Reference7Ideal.Value.run (F := Ideal) m g)

/-- The reference of the optimiser on the MLP's two weights ends and leaves its arguments as they were. -/
theorem frame_reference8 : Cert.quiescent_Reference8Ideal := fun m g _ =>
  (θ_run Cert.Reference8Ideal.defs _ _).mono
    (fun r h => ⟨fun c => (h c).2.2.2.2.2.2, sem_eq_zero_of_no_sems (by decide) r.2⟩)
    (Cert.Reference8Ideal.Value.run (F := Ideal) m g)

/-- The reference of the optimiser on the first four small weights ends and leaves its arguments as they were. -/
theorem frame_reference9 : Cert.quiescent_Reference9Ideal := fun m g _ =>
  (θ_run Cert.Reference9Ideal.defs _ _).mono
    (fun r h => ⟨fun c => (h c).2.2.2.2.2.2.2.2.2.2.2.2, sem_eq_zero_of_no_sems (by decide) r.2⟩)
    (Cert.Reference9Ideal.Value.run (F := Ideal) m g)

/-- The reference of the optimiser on the next four small weights ends and leaves its arguments as they were. -/
theorem frame_reference10 : Cert.quiescent_Reference10Ideal := fun m g _ =>
  (θ_run Cert.Reference10Ideal.defs _ _).mono
    (fun r h => ⟨fun c => (h c).2.2.2.2.2.2.2.2.2.2.2.2, sem_eq_zero_of_no_sems (by decide) r.2⟩)
    (Cert.Reference10Ideal.Value.run (F := Ideal) m g)

/-- The reference of the optimiser on the last four small weights that are stored as they are ends and leaves its arguments as they were. -/
theorem frame_reference11 : Cert.quiescent_Reference11Ideal := fun m g _ =>
  (θ_run Cert.Reference11Ideal.defs _ _).mono
    (fun r h => ⟨fun c => (h c).2.2.2.2.2.2.2.2.2.2.2.2, sem_eq_zero_of_no_sems (by decide) r.2⟩)
    (Cert.Reference11Ideal.Value.run (F := Ideal) m g)

/-- The reference of the optimiser on the weights of the queries and keys ends and leaves its arguments as they were. -/
theorem frame_reference12 : Cert.quiescent_Reference12Ideal := fun m g _ =>
  (θ_run Cert.Reference12Ideal.defs _ _).mono
    (fun r h => ⟨fun c => (h c).2.2.2.2.2.2, sem_eq_zero_of_no_sems (by decide) r.2⟩)
    (Cert.Reference12Ideal.Value.run (F := Ideal) m g)

/-- The reference of the optimiser on the weights of the values and gates ends and leaves its arguments as they were. -/
theorem frame_reference13 : Cert.quiescent_Reference13Ideal := fun m g _ =>
  (θ_run Cert.Reference13Ideal.defs _ _).mono
    (fun r h => ⟨fun c => (h c).2.2.2.2.2.2, sem_eq_zero_of_no_sems (by decide) r.2⟩)
    (Cert.Reference13Ideal.Value.run (F := Ideal) m g)

/-- The reference of the optimiser on the input projection's weight ends and leaves its arguments as they were. -/
theorem frame_reference14 : Cert.quiescent_Reference14Ideal := fun m g _ =>
  (θ_run Cert.Reference14Ideal.defs _ _).mono
    (fun r h => ⟨fun c => (h c).2.2.2, sem_eq_zero_of_no_sems (by decide) r.2⟩)
    (Cert.Reference14Ideal.Value.run (F := Ideal) m g)

/-- The reference of the gradient of the input projection's weight ends and leaves its arguments as they were. -/
theorem frame_reference15 : Cert.quiescent_Reference15Ideal := fun m g _ =>
  (θ_run Cert.Reference15Ideal.defs _ _).mono
    (fun r h => ⟨fun c => (h c).2, sem_eq_zero_of_no_sems (by decide) r.2⟩)
    (Cert.Reference15Ideal.Value.run (F := Ideal) m g)

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => AdamWEdge.frame m ρ, fun m ρ _ => AdamWEdgeIdeal.frame m ρ, frame_reference14,
    fun m ρ _ => DwIn.frame m ρ, fun m ρ _ => DwInIdeal.frame m ρ, frame_reference15,
    fun m ρ _ => Mixer.frame m ρ, fun m ρ _ => MixerIdeal.frame m ρ,
    trivial, MlpClaim.algebraic,
    trivial, MlpWeights.algebraic_up,
    trivial, MlpWeights.algebraic_down,
    trivial, InProj.algebraic,
    trivial, InProjBwd.algebraic,
    trivial, MergeBwd.algebraic,
    trivial, AdamWLarge.algebraic_mixer,
    trivial, AdamWLarge.algebraic_mlp,
    trivial, AdamWSmall.algebraic9,
    trivial, AdamWSmall.algebraic10,
    trivial, AdamWSmall.algebraic11,
    trivial, AdamWStored.algebraic12,
    trivial, AdamWStored.algebraic13,
    trivial, AdamWEdgeIdeal.algebraic14,
    trivial, DwInIdeal.algebraic15,
    trivial⟩

end Cert.Proof
